-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_qk [hPre_finite_qk : Cert.Pre_finite_qk.Facts] (m : (ℓ : Loc Cert.FlashIdeal.nD Cert.FlashIdeal.τ Cert.FlashIdeal.sig) → Buf (Elt Ideal) ℓ) : Prop :=
  ∀ c : Dev Cert.FlashIdeal.nD,
    (Cert.Pre_finite_qk.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))).1 = (fun _ => 1#1)
    ∧ (Cert.Pre_finite_qk.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))).2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_qk [hPre_finite_qk : Cert.Pre_finite_qk.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_qk.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))).1 = (fun _ => 1#1)
    ∧ (Cert.Pre_finite_qk.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))).2 = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_gains [hPre_finite_gains : Cert.Pre_finite_gains.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_gains.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).1 = (fun _ => 1#1)
    ∧ (Cert.Pre_finite_gains.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_gains [hPre_finite_gains : Cert.Pre_finite_gains.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_gains.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))).1 = (fun _ => 1#1)
    ∧ (Cert.Pre_finite_gains.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))).2 = (fun _ => 1#1)

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite_qk [hFlashIdeal : Cert.FlashIdeal.Facts] [hPre_finite_qk : Cert.Pre_finite_qk.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_qk m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_finite_qk [hFlashRefIdeal : Cert.FlashRefIdeal.Facts] [hPre_finite_qk : Cert.Pre_finite_qk.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_qk m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnIdeal_pre_finite_gains [hMemAttnIdeal : Cert.MemAttnIdeal.Facts] [hPre_finite_gains : Cert.Pre_finite_gains.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_gains m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_MemAttnRefIdeal_pre_finite_gains [hMemAttnRefIdeal : Cert.MemAttnRefIdeal.Facts] [hPre_finite_gains : Cert.Pre_finite_gains.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_gains m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3)
      ∧ r.2.mem ((c.tc : Thread Cert.QProj.nD Cert.QProj.τ).loc Cert.QProj.main_arg4) = m ((c.tc : Thread Cert.QProj.nD Cert.QProj.τ).loc Cert.QProj.main_arg4)
      ∧ r.2.mem ((c.tc : Thread Cert.QProj.nD Cert.QProj.τ).loc Cert.QProj.main_arg5) = m ((c.tc : Thread Cert.QProj.nD Cert.QProj.τ).loc Cert.QProj.main_arg5))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
      ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4)
      ∧ r.2.mem ((c.tc : Thread Cert.QProjIdeal.nD Cert.QProjIdeal.τ).loc Cert.QProjIdeal.main_arg5) = m ((c.tc : Thread Cert.QProjIdeal.nD Cert.QProjIdeal.τ).loc Cert.QProjIdeal.main_arg5))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3)
      ∧ r.2.mem ((c.tc : Thread Cert.QProjRefIdeal.nD Cert.QProjRefIdeal.τ).loc Cert.QProjRefIdeal.main_arg4) = m ((c.tc : Thread Cert.QProjRefIdeal.nD Cert.QProjRefIdeal.τ).loc Cert.QProjRefIdeal.main_arg4)
      ∧ r.2.mem ((c.tc : Thread Cert.QProjRefIdeal.nD Cert.QProjRefIdeal.τ).loc Cert.QProjRefIdeal.main_arg5) = m ((c.tc : Thread Cert.QProjRefIdeal.nD Cert.QProjRefIdeal.τ).loc Cert.QProjRefIdeal.main_arg5))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3)
      ∧ r.2.mem ((c.tc : Thread Cert.KvProj.nD Cert.KvProj.τ).loc Cert.KvProj.main_arg4) = m ((c.tc : Thread Cert.KvProj.nD Cert.KvProj.τ).loc Cert.KvProj.main_arg4)
      ∧ r.2.mem ((c.tc : Thread Cert.KvProj.nD Cert.KvProj.τ).loc Cert.KvProj.main_arg5) = m ((c.tc : Thread Cert.KvProj.nD Cert.KvProj.τ).loc Cert.KvProj.main_arg5))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
      ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4)
      ∧ r.2.mem ((c.tc : Thread Cert.KvProjIdeal.nD Cert.KvProjIdeal.τ).loc Cert.KvProjIdeal.main_arg5) = m ((c.tc : Thread Cert.KvProjIdeal.nD Cert.KvProjIdeal.τ).loc Cert.KvProjIdeal.main_arg5))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3)
      ∧ r.2.mem ((c.tc : Thread Cert.KvProjRefIdeal.nD Cert.KvProjRefIdeal.τ).loc Cert.KvProjRefIdeal.main_arg4) = m ((c.tc : Thread Cert.KvProjRefIdeal.nD Cert.KvProjRefIdeal.τ).loc Cert.KvProjRefIdeal.main_arg4)
      ∧ r.2.mem ((c.tc : Thread Cert.KvProjRefIdeal.nD Cert.KvProjRefIdeal.τ).loc Cert.KvProjRefIdeal.main_arg5) = m ((c.tc : Thread Cert.KvProjRefIdeal.nD Cert.KvProjRefIdeal.τ).loc Cert.KvProjRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Flash_FlashIdeal : Prop :=
  True

def algebraic_FlashIdeal_FlashRefIdeal_pre_finite_qk [hFlashIdeal : Cert.FlashIdeal.Facts] [hFlashRefIdeal : Cert.FlashRefIdeal.Facts] [hPre_finite_qk : Cert.Pre_finite_qk.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_qk m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v8)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v8) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v29) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_Latent_LatentIdeal : Prop :=
  True

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)) →
    ∃ (v0 : (c : Dev Cert.LatentIdeal.nD) → Buf (Elt Ideal) ((c.tc : Thread Cert.LatentIdeal.nD Cert.LatentIdeal.τ).loc Cert.LatentIdeal.main_v7)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v7) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v10) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v3)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v3) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v15) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_MemAttn_MemAttnIdeal : Prop :=
  True

def algebraic_MemAttnIdeal_MemAttnRefIdeal_pre_finite_gains [hMemAttnIdeal : Cert.MemAttnIdeal.Facts] [hMemAttnRefIdeal : Cert.MemAttnRefIdeal.Facts] [hPre_finite_gains : Cert.Pre_finite_gains.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_gains m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)) →
    ∃ (v0 : (c : Dev Cert.MemAttnIdeal.nD) → Buf (Elt Ideal) ((c.tc : Thread Cert.MemAttnIdeal.nD Cert.MemAttnIdeal.τ).loc Cert.MemAttnIdeal.main_v4)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v4) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v54) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)
      ∧ m' ((c.tc : Thread Cert.QProjRefIdeal.nD Cert.QProjRefIdeal.τ).loc Cert.QProjRefIdeal.main_arg4) = m ((c.tc : Thread Cert.QProjIdeal.nD Cert.QProjIdeal.τ).loc Cert.QProjIdeal.main_arg4)
      ∧ m' ((c.tc : Thread Cert.QProjRefIdeal.nD Cert.QProjRefIdeal.τ).loc Cert.QProjRefIdeal.main_arg5) = m ((c.tc : Thread Cert.QProjIdeal.nD Cert.QProjIdeal.τ).loc Cert.QProjIdeal.main_arg5)) →
    ∃ (v0 : (c : Dev Cert.QProjIdeal.nD) → Buf (Elt Ideal) ((c.tc : Thread Cert.QProjIdeal.nD Cert.QProjIdeal.τ).loc Cert.QProjIdeal.main_v39)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v39) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
          ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4)
          ∧ r.2.mem ((c.tc : Thread Cert.QProjIdeal.nD Cert.QProjIdeal.τ).loc Cert.QProjIdeal.main_arg5) = m ((c.tc : Thread Cert.QProjIdeal.nD Cert.QProjIdeal.τ).loc Cert.QProjIdeal.main_arg5))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v87) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3)
          ∧ r.2.mem ((c.tc : Thread Cert.QProjRefIdeal.nD Cert.QProjRefIdeal.τ).loc Cert.QProjRefIdeal.main_arg4) = m' ((c.tc : Thread Cert.QProjRefIdeal.nD Cert.QProjRefIdeal.τ).loc Cert.QProjRefIdeal.main_arg4)
          ∧ r.2.mem ((c.tc : Thread Cert.QProjRefIdeal.nD Cert.QProjRefIdeal.τ).loc Cert.QProjRefIdeal.main_arg5) = m' ((c.tc : Thread Cert.QProjRefIdeal.nD Cert.QProjRefIdeal.τ).loc Cert.QProjRefIdeal.main_arg5))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)
      ∧ m' ((c.tc : Thread Cert.KvProjRefIdeal.nD Cert.KvProjRefIdeal.τ).loc Cert.KvProjRefIdeal.main_arg4) = m ((c.tc : Thread Cert.KvProjIdeal.nD Cert.KvProjIdeal.τ).loc Cert.KvProjIdeal.main_arg4)
      ∧ m' ((c.tc : Thread Cert.KvProjRefIdeal.nD Cert.KvProjRefIdeal.τ).loc Cert.KvProjRefIdeal.main_arg5) = m ((c.tc : Thread Cert.KvProjIdeal.nD Cert.KvProjIdeal.τ).loc Cert.KvProjIdeal.main_arg5)) →
    ∃ (v0 : (c : Dev Cert.KvProjIdeal.nD) → Buf (Elt Ideal) ((c.tc : Thread Cert.KvProjIdeal.nD Cert.KvProjIdeal.τ).loc Cert.KvProjIdeal.main_v40_0)) (v1 : (c : Dev Cert.KvProjIdeal.nD) → Buf (Elt Ideal) ((c.tc : Thread Cert.KvProjIdeal.nD Cert.KvProjIdeal.τ).loc Cert.KvProjIdeal.main_v40_1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v40_0) = v0 c
          ∧ r.2.mem ((c.tc : Thread Cert.KvProjIdeal.nD Cert.KvProjIdeal.τ).loc Cert.KvProjIdeal.main_v40_1) = v1 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
          ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4)
          ∧ r.2.mem ((c.tc : Thread Cert.KvProjIdeal.nD Cert.KvProjIdeal.τ).loc Cert.KvProjIdeal.main_arg5) = m ((c.tc : Thread Cert.KvProjIdeal.nD Cert.KvProjIdeal.τ).loc Cert.KvProjIdeal.main_arg5))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v84) = v0 c
          ∧ r.2.mem ((c.tc : Thread Cert.KvProjRefIdeal.nD Cert.KvProjRefIdeal.τ).loc Cert.KvProjRefIdeal.main_v86) = v1 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3)
          ∧ r.2.mem ((c.tc : Thread Cert.KvProjRefIdeal.nD Cert.KvProjRefIdeal.τ).loc Cert.KvProjRefIdeal.main_arg4) = m' ((c.tc : Thread Cert.KvProjRefIdeal.nD Cert.KvProjRefIdeal.τ).loc Cert.KvProjRefIdeal.main_arg4)
          ∧ r.2.mem ((c.tc : Thread Cert.KvProjRefIdeal.nD Cert.KvProjRefIdeal.τ).loc Cert.KvProjRefIdeal.main_arg5) = m' ((c.tc : Thread Cert.KvProjRefIdeal.nD Cert.KvProjRefIdeal.τ).loc Cert.KvProjRefIdeal.main_arg5))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFlash : Cert.Flash.Facts) (hFlashIdeal : Cert.FlashIdeal.Facts) (hFlashRefIdeal : Cert.FlashRefIdeal.Facts) (hLatent : Cert.Latent.Facts) (hLatentIdeal : Cert.LatentIdeal.Facts) (hLatentRefIdeal : Cert.LatentRefIdeal.Facts) (hNorm : Cert.Norm.Facts) (hNormIdeal : Cert.NormIdeal.Facts) (hNormRefIdeal : Cert.NormRefIdeal.Facts) (hMemNorm : Cert.MemNorm.Facts) (hMemNormIdeal : Cert.MemNormIdeal.Facts) (hMemNormRefIdeal : Cert.MemNormRefIdeal.Facts) (hMemKv : Cert.MemKv.Facts) (hMemKvIdeal : Cert.MemKvIdeal.Facts) (hMemKvRefIdeal : Cert.MemKvRefIdeal.Facts) (hConv : Cert.Conv.Facts) (hConvIdeal : Cert.ConvIdeal.Facts) (hConvRefIdeal : Cert.ConvRefIdeal.Facts) (hMemAttn : Cert.MemAttn.Facts) (hMemAttnIdeal : Cert.MemAttnIdeal.Facts) (hMemAttnRefIdeal : Cert.MemAttnRefIdeal.Facts) (hQProj : Cert.QProj.Facts) (hQProjIdeal : Cert.QProjIdeal.Facts) (hQProjRefIdeal : Cert.QProjRefIdeal.Facts) (hKvProj : Cert.KvProj.Facts) (hKvProjIdeal : Cert.KvProjIdeal.Facts) (hKvProjRefIdeal : Cert.KvProjRefIdeal.Facts) (hPre_finite_qk : Cert.Pre_finite_qk.Facts) (hPre_finite_gains : Cert.Pre_finite_gains.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Flash (hFlash := hFlash)
    ∧ quiescent_FlashIdeal (hFlashIdeal := hFlashIdeal)
    ∧ quiescent_FlashIdeal_pre_finite_qk (hFlashIdeal := hFlashIdeal) (hPre_finite_qk := hPre_finite_qk)
    ∧ quiescent_FlashRefIdeal (hFlashRefIdeal := hFlashRefIdeal)
    ∧ quiescent_FlashRefIdeal_pre_finite_qk (hFlashRefIdeal := hFlashRefIdeal) (hPre_finite_qk := hPre_finite_qk)
    ∧ quiescent_Latent (hLatent := hLatent)
    ∧ quiescent_LatentIdeal (hLatentIdeal := hLatentIdeal)
    ∧ quiescent_LatentRefIdeal (hLatentRefIdeal := hLatentRefIdeal)
    ∧ quiescent_Norm (hNorm := hNorm)
    ∧ quiescent_NormIdeal (hNormIdeal := hNormIdeal)
    ∧ quiescent_NormRefIdeal (hNormRefIdeal := hNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Conv (hConv := hConv)
    ∧ quiescent_ConvIdeal (hConvIdeal := hConvIdeal)
    ∧ quiescent_ConvRefIdeal (hConvRefIdeal := hConvRefIdeal)
    ∧ quiescent_MemAttn (hMemAttn := hMemAttn)
    ∧ quiescent_MemAttnIdeal (hMemAttnIdeal := hMemAttnIdeal)
    ∧ quiescent_MemAttnIdeal_pre_finite_gains (hMemAttnIdeal := hMemAttnIdeal) (hPre_finite_gains := hPre_finite_gains)
    ∧ quiescent_MemAttnRefIdeal (hMemAttnRefIdeal := hMemAttnRefIdeal)
    ∧ quiescent_MemAttnRefIdeal_pre_finite_gains (hMemAttnRefIdeal := hMemAttnRefIdeal) (hPre_finite_gains := hPre_finite_gains)
    ∧ quiescent_QProj (hQProj := hQProj)
    ∧ quiescent_QProjIdeal (hQProjIdeal := hQProjIdeal)
    ∧ quiescent_QProjRefIdeal (hQProjRefIdeal := hQProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Flash_FlashIdeal
    ∧ algebraic_FlashIdeal_FlashRefIdeal_pre_finite_qk (hFlashIdeal := hFlashIdeal) (hFlashRefIdeal := hFlashRefIdeal) (hPre_finite_qk := hPre_finite_qk)
    ∧ preserves_Latent_LatentIdeal
    ∧ algebraic_LatentIdeal_LatentRefIdeal (hLatentIdeal := hLatentIdeal) (hLatentRefIdeal := hLatentRefIdeal)
    ∧ preserves_Norm_NormIdeal
    ∧ algebraic_NormIdeal_NormRefIdeal (hNormIdeal := hNormIdeal) (hNormRefIdeal := hNormRefIdeal)
    ∧ preserves_MemNorm_MemNormIdeal
    ∧ algebraic_MemNormIdeal_MemNormRefIdeal (hMemNormIdeal := hMemNormIdeal) (hMemNormRefIdeal := hMemNormRefIdeal)
    ∧ preserves_MemKv_MemKvIdeal
    ∧ algebraic_MemKvIdeal_MemKvRefIdeal (hMemKvIdeal := hMemKvIdeal) (hMemKvRefIdeal := hMemKvRefIdeal)
    ∧ preserves_Conv_ConvIdeal
    ∧ algebraic_ConvIdeal_ConvRefIdeal (hConvIdeal := hConvIdeal) (hConvRefIdeal := hConvRefIdeal)
    ∧ preserves_MemAttn_MemAttnIdeal
    ∧ algebraic_MemAttnIdeal_MemAttnRefIdeal_pre_finite_gains (hMemAttnIdeal := hMemAttnIdeal) (hMemAttnRefIdeal := hMemAttnRefIdeal) (hPre_finite_gains := hPre_finite_gains)
    ∧ preserves_QProj_QProjIdeal
    ∧ algebraic_QProjIdeal_QProjRefIdeal (hQProjIdeal := hQProjIdeal) (hQProjRefIdeal := hQProjRefIdeal)
    ∧ preserves_KvProj_KvProjIdeal
    ∧ algebraic_KvProjIdeal_KvProjRefIdeal (hKvProjIdeal := hKvProjIdeal) (hKvProjRefIdeal := hKvProjRefIdeal)
-- ==== Pre_finite_gains.lean ====
abbrev S16384x28672 : Shape := ⟨2, ![16384, 28672]⟩
abbrev S1024x8192 : Shape := ⟨2, ![1024, 8192]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : FVec F S16384x28672 .bf16) (main_arg1 : FVec F S1024x8192 .bf16) (main_arg2 : FVec F S1x1024 .f32) (main_arg3 : FVec F S1x1024 .f32) : IVec S1x1024 1 × IVec S1x1024 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg3
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Pre_finite_qk.lean ====
abbrev S4x32x4096x192 : Shape := ⟨4, ![4, 32, 4096, 192]⟩
abbrev S4x32x4096x128 : Shape := ⟨4, ![4, 32, 4096, 128]⟩
abbrev S_ : Shape := ⟨0, ![]⟩

class Facts : Prop where
  bitsLt_bf16_f32 : FTy.bits .bf16 < FTy.bits .f32
  bcast_S_S4x32x4096x192 : S_.BroadcastsInDim S4x32x4096x192 (![] : Fin 0 → Fin S4x32x4096x192.rank)

variable [Facts]

def fn {F : FTy → Type} [FloatOps F] (main_arg0 : FVec F S4x32x4096x192 .bf16) (main_arg1 : FVec F S4x32x4096x192 .bf16) (main_arg2 : FVec F S4x32x4096x128 .bf16) : IVec S4x32x4096x192 1 × IVec S4x32x4096x192 1 :=
  let main_v0 : FVec F S4x32x4096x192 .f32 := (extf .f32 · bitsLt_bf16_f32) main_arg0
  let main_v1 : FVec F S4x32x4096x192 .f32 := Host.absf main_v0
  let main_cst : FVec F S_ .f32 := constant S_ .f32 0x7F800000#32
  let main_v2 : FVec F S4x32x4096x192 .f32 := broadcastInDim S4x32x4096x192 ![] bcast_S_S4x32x4096x192 main_cst
  let main_v3 : IVec S4x32x4096x192 1 := cmpf .olt main_v1 main_v2
  let main_v4 : FVec F S4x32x4096x192 .f32 := (extf .f32 · bitsLt_bf16_f32) main_arg1
  let main_v5 : FVec F S4x32x4096x192 .f32 := Host.absf main_v4
  let main_cst_0 : FVec F S_ .f32 := constant S_ .f32 0x7F800000#32
  let main_v6 : FVec F S4x32x4096x192 .f32 := broadcastInDim S4x32x4096x192 ![] bcast_S_S4x32x4096x192 main_cst_0
  let main_v7 : IVec S4x32x4096x192 1 := cmpf .olt main_v5 main_v6
  (main_v3, main_v7)
-- ==== Kernel.lean ====
abbrev S16384x4096 : Shape := ⟨2, ![16384, 4096]⟩
abbrev S1x4096x30272 : Shape := ⟨3, ![1, 4096, 30272]⟩
abbrev S4096x30272 : Shape := ⟨2, ![4096, 30272]⟩
abbrev S30272x4096 : Shape := ⟨2, ![30272, 4096]⟩
abbrev S16384x28672 : Shape := ⟨2, ![16384, 28672]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x30272, .f32⟩
  | .hbm, ⟨2, _⟩ => ⟨S4096x30272, .f32⟩
  | .hbm, ⟨3, _⟩ => ⟨S30272x4096, .f32⟩
  | .hbm, ⟨4, _⟩ => ⟨S30272x4096, .bf16⟩
  | .hbm, ⟨5, _⟩ => ⟨S16384x28672, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 28], ![false, false]⟩

def k0_mult1 (i : grid0.Coords) : BitVec 32 :=
  let c1600_i32 : BitVec 32 := 1600#32
  let arg1 : BitVec 32 := BitVec.ofNat 32 (i 1).val
  let c1024_i32 : BitVec 32 := 1024#32
  let v0 : BitVec 32 := Scalar.muli arg1 c1024_i32
  let v1 : BitVec 32 := Scalar.addi c1600_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1600_i32 : BitVec 32 := 1600#32
  let v1 : BitVec 32 := Scalar.addi c1600_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S16384x4096 : Shape := ⟨2, ![16384, 4096]⟩
abbrev S1x4096x30272 : Shape := ⟨3, ![1, 4096, 30272]⟩
abbrev S4096x30272 : Shape := ⟨2, ![4096, 30272]⟩
abbrev S16384x30272 : Shape := ⟨2, ![16384, 30272]⟩
abbrev S16384x28672 : Shape := ⟨2, ![16384, 28672]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x30272, .f32⟩
  | .hbm, ⟨2, _⟩ => ⟨S16384x4096, .f32⟩
  | .hbm, ⟨3, _⟩ => ⟨S4096x30272, .f32⟩
  | .hbm, ⟨4, _⟩ => ⟨S16384x30272, .f32⟩
  | .hbm, ⟨5, _⟩ => ⟨S16384x28672, .f32⟩
  | .hbm, ⟨6, _⟩ => ⟨S16384x28672, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S16384x4096 : Shape := ⟨2, ![16384, 4096]⟩
abbrev S1x3x4096x4096 : Shape := ⟨4, ![1, 3, 4096, 4096]⟩
abbrev S16384x28672 : Shape := ⟨2, ![16384, 28672]⟩
abbrev S3x4096x4096 : Shape := ⟨3, ![3, 4096, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S1x3x4096x4096, .f32⟩
  | .hbm, ⟨4, _⟩ => ⟨S16384x28672, .bf16⟩
  | .hbm, ⟨5, _⟩ => ⟨S3x4096x4096, .f32⟩
  | .hbm, ⟨6, _⟩ => ⟨S3x4096x4096, .bf16⟩
  | .hbm, ⟨7, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S1x4096x1024, .bf16⟩
  | .local _ .vmem, ⟨7, _⟩ => ⟨S1x4096x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c4_i32_0 : BitVec 32 := 4#32
  let v1 : BitVec 32 := Scalar.muli v0 c4_i32_0
  let v2 : BitVec 32 := Scalar.addi v1 arg1
  let c0_i32 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MergeRefIdeal.lean ====
abbrev S16384x4096 : Shape := ⟨2, ![16384, 4096]⟩
abbrev S1x3x4096x4096 : Shape := ⟨4, ![1, 3, 4096, 4096]⟩
abbrev S16384x28672 : Shape := ⟨2, ![16384, 28672]⟩
abbrev S16384x12288 : Shape := ⟨2, ![16384, 12288]⟩
abbrev S_ : Shape := ⟨0, ![]⟩
abbrev S1x1x4096x4096 : Shape := ⟨4, ![1, 1, 4096, 4096]⟩
abbrev S4096x4096 : Shape := ⟨2, ![4096, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S1x3x4096x4096, .f32⟩
  | .hbm, ⟨4, _⟩ => ⟨S16384x28672, .bf16⟩
  | .hbm, ⟨5, _⟩ => ⟨S16384x12288, .bf16⟩
  | .hbm, ⟨6, _⟩ => ⟨S16384x12288, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S1x1x4096x4096, .f32⟩
  | .hbm, ⟨20, _⟩ => ⟨S4096x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S1x1x4096x4096, .f32⟩
  | .hbm, ⟨33, _⟩ => ⟨S4096x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S1x1x4096x4096, .f32⟩
  | .hbm, ⟨47, _⟩ => ⟨S4096x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== OutProj.lean ====
abbrev S16384x4096 : Shape := ⟨2, ![16384, 4096]⟩
abbrev S1x4096x4096 : Shape := ⟨3, ![1, 4096, 4096]⟩
abbrev S4x4096x4096 : Shape := ⟨3, ![4, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4x4096x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x4096 : Shape := ⟨2, ![16384, 4096]⟩
abbrev S1x4096x4096 : Shape := ⟨3, ![1, 4096, 4096]⟩
abbrev S4x4096x4096 : Shape := ⟨3, ![4, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4x4096x4096, .f32⟩
  | .hbm, ⟨3, _⟩ => ⟨S16384x4096, .f32⟩
  | .hbm, ⟨4, _⟩ => ⟨S16384x4096, .f32⟩
  | .hbm, ⟨5, _⟩ => ⟨S4096x4096, .f32⟩
  | .hbm, ⟨6, _⟩ => ⟨S16384x4096, .f32⟩
  | .hbm, ⟨7, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Flash.lean ====
abbrev S4x32x4096x192 : Shape := ⟨4, ![4, 32, 4096, 192]⟩
abbrev S4x32x4096x128 : Shape := ⟨4, ![4, 32, 4096, 128]⟩
abbrev S_ : Shape := ⟨0, ![]⟩
abbrev S16384x4096 : Shape := ⟨2, ![16384, 4096]⟩
abbrev S1x1x4096x192 : Shape := ⟨4, ![1, 1, 4096, 192]⟩
abbrev S1x1x4096x128 : Shape := ⟨4, ![1, 1, 4096, 128]⟩
abbrev S4096x128 : Shape := ⟨2, ![4096, 128]⟩
abbrev S1024x512 : Shape := ⟨2, ![1024, 512]⟩
abbrev S1x1x512x192 : Shape := ⟨4, ![1, 1, 512, 192]⟩
abbrev S512x192 : Shape := ⟨2, ![512, 192]⟩
abbrev S1x1x1024x192 : Shape := ⟨4, ![1, 1, 1024, 192]⟩
abbrev S1024x192 : Shape := ⟨2, ![1024, 192]⟩
abbrev S512x512 : Shape := ⟨2, ![512, 512]⟩
abbrev S1024x128 : Shape := ⟨2, ![1024, 128]⟩
abbrev S1024 : Shape := ⟨1, ![1024]⟩
abbrev S1024x1 : Shape := ⟨2, ![1024, 1]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S4x32x4096x192, .bf16⟩
  | .hbm, ⟨1, _⟩ => ⟨S4x32x4096x192, .bf16⟩
  | .hbm, ⟨2, _⟩ => ⟨S4x32x4096x128, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x32x4096x192, .f32⟩
  | .hbm, ⟨11, _⟩ => ⟨S4x32x4096x192, .f32⟩
  | .hbm, ⟨12, _⟩ => ⟨S4x32x4096x192, .f32⟩
  | .hbm, ⟨13, _⟩ => ⟨S4x32x4096x192, .bf16⟩
  | .hbm, ⟨14, _⟩ => ⟨S16384x4096, .bf16⟩
  | .local _ .vmem, ⟨0, _⟩ => ⟨S1x1x4096x192, .bf16⟩
  | .local _ .vmem, ⟨1, _⟩ => ⟨S1x1x4096x192, .bf16⟩
  | .local _ .vmem, ⟨2, _⟩ => ⟨S1x1x4096x192, .bf16⟩
  | .local _ .vmem, ⟨3, _⟩ => ⟨S1x1x4096x192, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S4096x128, .bf16⟩
  | .local _ .vmem, ⟨7, _⟩ => ⟨S4096x128, .bf16⟩
  | .local _ .vmem, ⟨8, _⟩ => ⟨S1024x512, .f32⟩
  | .local _ .vmem, ⟨9, _⟩ => ⟨S1024x512, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | _, _ => ⟨S4x32x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_mult1 : BitVec 32 :=
  let c0_i32 : BitVec 32 := 0#32
  c0_i32
def k0_mult2 : BitVec 32 :=
  let c512_i32 : BitVec 32 := 512#32
  c512_i32
def k0_mult3 : BitVec 32 :=
  let c0_i32_38 : BitVec 32 := 0#32
  c0_i32_38
def k0_mult4 : BitVec 32 :=
  let c512_i32_59 : BitVec 32 := 512#32
  c512_i32_59
def k0_mult5 : BitVec 32 :=
  let c0_i32_75 : BitVec 32 := 0#32
  c0_i32_75
def k0_mult6 : BitVec 32 :=
  let c2_i32 : BitVec 32 := 2#32
  let c0_i32_85 : BitVec 32 := 0#32
  let v150 : BitVec 32 := Scalar.muli c2_i32 c0_i32_85
  let c1_i32 : BitVec 32 := 1#32
  let v151 : BitVec 32 := Scalar.addi v150 c1_i32
  let c512_i32_86 : BitVec 32 := 512#32
  let v152 : BitVec 32 := Scalar.muli v151 c512_i32_86
  v152
def k0_off1 (c1_i32 : BitVec 32) : Fin 4 → Nat :=
  let c0_87 : Index := 0#32
  let c0_88 : Index := 0#32
  let c2_i32 : BitVec 32 := 2#32
  let c0_i32_85 : BitVec 32 := 0#32
  let v150 : BitVec 32 := Scalar.muli c2_i32 c0_i32_85
  let v151 : BitVec 32 := Scalar.addi v150 c1_i32
  let c512_i32_86 : BitVec 32 := 512#32
  let v152 : BitVec 32 := Scalar.muli v151 c512_i32_86
  let v153 : BitVec 32 := v152
  let v154 : Index := Scalar.indexCast v153
  let c0_89 : Index := 0#32
  ![0, 0, v154.toNat, 0]
def k0_mult7 : BitVec 32 :=
  let c2_i32 : BitVec 32 := 2#32
  let c0_i32_85 : BitVec 32 := 0#32
  let v150 : BitVec 32 := Scalar.muli c2_i32 c0_i32_85
  let c512_i32_108 : BitVec 32 := 512#32
  let v195 : BitVec 32 := Scalar.muli v150 c512_i32_108
  v195
def k0_off2 : Fin 4 → Nat :=
  let c0_109 : Index := 0#32
  let c0_110 : Index := 0#32
  let c2_i32 : BitVec 32 := 2#32
  let c0_i32_85 : BitVec 32 := 0#32
  let v150 : BitVec 32 := Scalar.muli c2_i32 c0_i32_85
  let c512_i32_108 : BitVec 32 := 512#32
  let v195 : BitVec 32 := Scalar.muli v150 c512_i32_108
  let v196 : BitVec 32 := v195
  let v197 : Index := Scalar.indexCast v196
  let c0_111 : Index := 0#32
  ![0, 0, v197.toNat, 0]
def k0_mult8 : BitVec 32 :=
  let c2_i32 : BitVec 32 := 2#32
  let c0_i32_85 : BitVec 32 := 0#32
  let v150 : BitVec 32 := Scalar.muli c2_i32 c0_i32_85
  let c2_i32_117 : BitVec 32 := 2#32
  let v209 : BitVec 32 := Scalar.addi v150 c2_i32_117
  let c512_i32_118 : BitVec 32 := 512#32
  let v210 : BitVec 32 := Scalar.muli v209 c512_i32_118
  v210
def k0_mult9 : BitVec 32 :=
  let c2_i32 : BitVec 32 := 2#32
  let c0_i32_85 : BitVec 32 := 0#32
  let v150 : BitVec 32 := Scalar.muli c2_i32 c0_i32_85
  let c1_i32_129 : BitVec 32 := 1#32
  let v221 : BitVec 32 := Scalar.addi v150 c1_i32_129
  let c512_i32_141 : BitVec 32 := 512#32
  let v254 : BitVec 32 := Scalar.muli v221 c512_i32_141
  v254
def k0_off3 : Fin 4 → Nat :=
  let c0_142 : Index := 0#32
  let c0_143 : Index := 0#32
  let c2_i32 : BitVec 32 := 2#32
  let c0_i32_85 : BitVec 32 := 0#32
  let v150 : BitVec 32 := Scalar.muli c2_i32 c0_i32_85
  let c1_i32_129 : BitVec 32 := 1#32
  let v221 : BitVec 32 := Scalar.addi v150 c1_i32_129
  let c512_i32_141 : BitVec 32 := 512#32
  let v254 : BitVec 32 := Scalar.muli v221 c512_i32_141
  let v255 : BitVec 32 := v254
  let v256 : Index := Scalar.indexCast v255
  let c0_144 : Index := 0#32
  ![0, 0, v256.toNat, 0]
def k0_mult10 : BitVec 32 :=
  let c1536_i32 : BitVec 32 := 1536#32
  c1536_i32
def k0_mult11 : BitVec 32 :=
  let c1024_i32 : BitVec 32 := 1024#32
  c1024_i32
def k0_mult12 : BitVec 32 :=
  let c1536_i32_192 : BitVec 32 := 1536#32
  c1536_i32_192
def k0_mult13 : BitVec 32 :=
  let c0_i32_208 : BitVec 32 := 0#32
  c0_i32_208
@[reducible] def k0_t1_loop : Scf.Loop 32 :=
  let c0_i32_218 : BitVec 32 := 0#32
  let c2_i32_219 : BitVec 32 := 2#32
  let v396 : BitVec 32 := Scalar.addi c0_i32_218 c2_i32_219
  let c1_i32_220 : BitVec 32 := 1#32
  ⟨c0_i32_218, v396, c1_i32_220⟩
def k0_mult14 (k0_t1 : Fin k0_t1_loop.trips) : BitVec 32 :=
  let c2_i32_349 : BitVec 32 := 2#32
  let c0_i32_218 : BitVec 32 := 0#32
  let c1_i32_220 : BitVec 32 := 1#32
  let arg11 : BitVec 32 := Scf.iv c0_i32_218 c1_i32_220 k0_t1
  let v644 : BitVec 32 := Scalar.muli c2_i32_349 arg11
  let c1_i32_350 : BitVec 32 := 1#32
  let v645 : BitVec 32 := Scalar.addi v644 c1_i32_350
  let c512_i32_351 : BitVec 32 := 512#32
  let v646 : BitVec 32 := Scalar.muli v645 c512_i32_351
  v646
def k0_off4 (k0_t1 : Fin k0_t1_loop.trips) (c1_i32_350 : BitVec 32) : Fin 4 → Nat :=
  let c0_352 : Index := 0#32
  let c0_353 : Index := 0#32
  let c2_i32_349 : BitVec 32 := 2#32
  let c0_i32_218 : BitVec 32 := 0#32
  let c1_i32_220 : BitVec 32 := 1#32
  let arg11 : BitVec 32 := Scf.iv c0_i32_218 c1_i32_220 k0_t1
  let v644 : BitVec 32 := Scalar.muli c2_i32_349 arg11
  let v645 : BitVec 32 := Scalar.addi v644 c1_i32_350
  let c512_i32_351 : BitVec 32 := 512#32
  let v646 : BitVec 32 := Scalar.muli v645 c512_i32_351
  let v647 : BitVec 32 := v646
  let v648 : Index := Scalar.indexCast v647
  let c0_354 : Index := 0#32
  ![0, 0, v648.toNat, 0]
def k0_mult15 (k0_t1 : Fin k0_t1_loop.trips) : BitVec 32 :=
  let c2_i32_349 : BitVec 32 := 2#32
  let c0_i32_218 : BitVec 32 := 0#32
  let c1_i32_220 : BitVec 32 := 1#32
  let arg11 : BitVec 32 := Scf.iv c0_i32_218 c1_i32_220 k0_t1
  let v644 : BitVec 32 := Scalar.muli c2_i32_349 arg11
  let c512_i32_373 : BitVec 32 := 512#32
  let v689 : BitVec 32 := Scalar.muli v644 c512_i32_373
  v689
def k0_off5 (k0_t1 : Fin k0_t1_loop.trips) : Fin 4 → Nat :=
  let c0_374 : Index := 0#32
  let c0_375 : Index := 0#32
  let c2_i32_349 : BitVec 32 := 2#32
  let c0_i32_218 : BitVec 32 := 0#32
  let c1_i32_220 : BitVec 32 := 1#32
  let arg11 : BitVec 32 := Scf.iv c0_i32_218 c1_i32_220 k0_t1
  let v644 : BitVec 32 := Scalar.muli c2_i32_349 arg11
  let c512_i32_373 : BitVec 32 := 512#32
  let v689 : BitVec 32 := Scalar.muli v644 c512_i32_373
  let v690 : BitVec 32 := v689
  let v691 : Index := Scalar.indexCast v690
  let c0_376 : Index := 0#32
  ![0, 0, v691.toNat, 0]
def k0_mult16 (k0_t1 : Fin k0_t1_loop.trips) : BitVec 32 :=
  let c2_i32_349 : BitVec 32 := 2#32
  let c0_i32_218 : BitVec 32 := 0#32
  let c1_i32_220 : BitVec 32 := 1#32
  let arg11 : BitVec 32 := Scf.iv c0_i32_218 c1_i32_220 k0_t1
  let v644 : BitVec 32 := Scalar.muli c2_i32_349 arg11
  let c2_i32_382 : BitVec 32 := 2#32
  let v703 : BitVec 32 := Scalar.addi v644 c2_i32_382
  let c512_i32_383 : BitVec 32 := 512#32
  let v704 : BitVec 32 := Scalar.muli v703 c512_i32_383
  v704
def k0_mult17 (k0_t1 : Fin k0_t1_loop.trips) : BitVec 32 :=
  let c2_i32_349 : BitVec 32 := 2#32
  let c0_i32_218 : BitVec 32 := 0#32
  let c1_i32_220 : BitVec 32 := 1#32
  let arg11 : BitVec 32 := Scf.iv c0_i32_218 c1_i32_220 k0_t1
  let v644 : BitVec 32 := Scalar.muli c2_i32_349 arg11
  let c1_i32_394 : BitVec 32 := 1#32
  let v715 : BitVec 32 := Scalar.addi v644 c1_i32_394
  let c512_i32_406 : BitVec 32 := 512#32
  let v748 : BitVec 32 := Scalar.muli v715 c512_i32_406
  v748
def k0_off6 (k0_t1 : Fin k0_t1_loop.trips) : Fin 4 → Nat :=
  let c0_407 : Index := 0#32
  let c0_408 : Index := 0#32
  let c2_i32_349 : BitVec 32 := 2#32
  let c0_i32_218 : BitVec 32 := 0#32
  let c1_i32_220 : BitVec 32 := 1#32
  let arg11 : BitVec 32 := Scf.iv c0_i32_218 c1_i32_220 k0_t1
  let v644 : BitVec 32 := Scalar.muli c2_i32_349 arg11
  let c1_i32_394 : BitVec 32 := 1#32
  let v715 : BitVec 32 := Scalar.addi v644 c1_i32_394
  let c512_i32_406 : BitVec 32 := 512#32
  let v748 : BitVec 32 := Scalar.muli v715 c512_i32_406
  let v749 : BitVec 32 := v748
  let v750 : Index := Scalar.indexCast v749
  let c0_409 : Index := 0#32
  ![0, 0, v750.toNat, 0]
def k0_mult18 : BitVec 32 :=
  let c2560_i32 : BitVec 32 := 2560#32
  c2560_i32
def k0_mult19 : BitVec 32 :=
  let c2048_i32 : BitVec 32 := 2048#32
  c2048_i32
def k0_mult20 : BitVec 32 :=
  let c2560_i32_263 : BitVec 32 := 2560#32
  c2560_i32_263
def k0_mult21 : BitVec 32 :=
  let c0_i32_279 : BitVec 32 := 0#32
  c0_i32_279
@[reducible] def k0_t2_loop : Scf.Loop 32 :=
  let c0_i32_289 : BitVec 32 := 0#32
  let c3_i32 : BitVec 32 := 3#32
  let v525 : BitVec 32 := Scalar.addi c0_i32_289 c3_i32
  let c1_i32_290 : BitVec 32 := 1#32
  ⟨c0_i32_289, v525, c1_i32_290⟩
def k0_mult22 (k0_t2 : Fin k0_t2_loop.trips) : BitVec 32 :=
  let c2_i32_349 : BitVec 32 := 2#32
  let c0_i32_289 : BitVec 32 := 0#32
  let c1_i32_290 : BitVec 32 := 1#32
  let arg11 : BitVec 32 := Scf.iv c0_i32_289 c1_i32_290 k0_t2
  let v644 : BitVec 32 := Scalar.muli c2_i32_349 arg11
  let c1_i32_350 : BitVec 32 := 1#32
  let v645 : BitVec 32 := Scalar.addi v644 c1_i32_350
  let c512_i32_351 : BitVec 32 := 512#32
  let v646 : BitVec 32 := Scalar.muli v645 c512_i32_351
  v646
def k0_off7 (k0_t2 : Fin k0_t2_loop.trips) (c1_i32_350 : BitVec 32) : Fin 4 → Nat :=
  let c0_352 : Index := 0#32
  let c0_353 : Index := 0#32
  let c2_i32_349 : BitVec 32 := 2#32
  let c0_i32_289 : BitVec 32 := 0#32
  let c1_i32_290 : BitVec 32 := 1#32
  let arg11 : BitVec 32 := Scf.iv c0_i32_289 c1_i32_290 k0_t2
  let v644 : BitVec 32 := Scalar.muli c2_i32_349 arg11
  let v645 : BitVec 32 := Scalar.addi v644 c1_i32_350
  let c512_i32_351 : BitVec 32 := 512#32
  let v646 : BitVec 32 := Scalar.muli v645 c512_i32_351
  let v647 : BitVec 32 := v646
  let v648 : Index := Scalar.indexCast v647
  let c0_354 : Index := 0#32
  ![0, 0, v648.toNat, 0]
def k0_mult23 (k0_t2 : Fin k0_t2_loop.trips) : BitVec 32 :=
  let c2_i32_349 : BitVec 32 := 2#32
  let c0_i32_289 : BitVec 32 := 0#32
  let c1_i32_290 : BitVec 32 := 1#32
  let arg11 : BitVec 32 := Scf.iv c0_i32_289 c1_i32_290 k0_t2
  let v644 : BitVec 32 := Scalar.muli c2_i32_349 arg11
  let c512_i32_373 : BitVec 32 := 512#32
  let v689 : BitVec 32 := Scalar.muli v644 c512_i32_373
  v689
def k0_off8 (k0_t2 : Fin k0_t2_loop.trips) : Fin 4 → Nat :=
  let c0_374 : Index := 0#32
  let c0_375 : Index := 0#32
  let c2_i32_349 : BitVec 32 := 2#32
  let c0_i32_289 : BitVec 32 := 0#32
  let c1_i32_290 : BitVec 32 := 1#32
  let arg11 : BitVec 32 := Scf.iv c0_i32_289 c1_i32_290 k0_t2
  let v644 : BitVec 32 := Scalar.muli c2_i32_349 arg11
  let c512_i32_373 : BitVec 32 := 512#32
  let v689 : BitVec 32 := Scalar.muli v644 c512_i32_373
  let v690 : BitVec 32 := v689
  let v691 : Index := Scalar.indexCast v690
  let c0_376 : Index := 0#32
  ![0, 0, v691.toNat, 0]
def k0_mult24 (k0_t2 : Fin k0_t2_loop.trips) : BitVec 32 :=
  let c2_i32_349 : BitVec 32 := 2#32
  let c0_i32_289 : BitVec 32 := 0#32
  let c1_i32_290 : BitVec 32 := 1#32
  let arg11 : BitVec 32 := Scf.iv c0_i32_289 c1_i32_290 k0_t2
  let v644 : BitVec 32 := Scalar.muli c2_i32_349 arg11
  let c2_i32_382 : BitVec 32 := 2#32
  let v703 : BitVec 32 := Scalar.addi v644 c2_i32_382
  let c512_i32_383 : BitVec 32 := 512#32
  let v704 : BitVec 32 := Scalar.muli v703 c512_i32_383
  v704
def k0_mult25 (k0_t2 : Fin k0_t2_loop.trips) : BitVec 32 :=
  let c2_i32_349 : BitVec 32 := 2#32
  let c0_i32_289 : BitVec 32 := 0#32
  let c1_i32_290 : BitVec 32 := 1#32
  let arg11 : BitVec 32 := Scf.iv c0_i32_289 c1_i32_290 k0_t2
  let v644 : BitVec 32 := Scalar.muli c2_i32_349 arg11
  let c1_i32_394 : BitVec 32 := 1#32
  let v715 : BitVec 32 := Scalar.addi v644 c1_i32_394
  let c512_i32_406 : BitVec 32 := 512#32
  let v748 : BitVec 32 := Scalar.muli v715 c512_i32_406
  v748
def k0_off9 (k0_t2 : Fin k0_t2_loop.trips) : Fin 4 → Nat :=
  let c0_407 : Index := 0#32
  let c0_408 : Index := 0#32
  let c2_i32_349 : BitVec 32 := 2#32
  let c0_i32_289 : BitVec 32 := 0#32
  let c1_i32_290 : BitVec 32 := 1#32
  let arg11 : BitVec 32 := Scf.iv c0_i32_289 c1_i32_290 k0_t2
  let v644 : BitVec 32 := Scalar.muli c2_i32_349 arg11
  let c1_i32_394 : BitVec 32 := 1#32
  let v715 : BitVec 32 := Scalar.addi v644 c1_i32_394
  let c512_i32_406 : BitVec 32 := 512#32
  let v748 : BitVec 32 := Scalar.muli v715 c512_i32_406
  let v749 : BitVec 32 := v748
  let v750 : Index := Scalar.indexCast v749
  let c0_409 : Index := 0#32
  ![0, 0, v750.toNat, 0]
def k0_mult26 : BitVec 32 :=
  let c3584_i32 : BitVec 32 := 3584#32
  c3584_i32
def k0_mult27 : BitVec 32 :=
  let c3072_i32 : BitVec 32 := 3072#32
  c3072_i32
def k0_mult28 : BitVec 32 :=
  let c3584_i32_333 : BitVec 32 := 3584#32
  c3584_i32_333
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1x4096x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FlashRefIdeal.lean ====
abbrev S4x32x4096x192 : Shape := ⟨4, ![4, 32, 4096, 192]⟩
abbrev S4x32x4096x128 : Shape := ⟨4, ![4, 32, 4096, 128]⟩
abbrev S_ : Shape := ⟨0, ![]⟩
abbrev S4x32x4096x4096 : Shape := ⟨4, ![4, 32, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x32x4096 : Shape := ⟨3, ![4, 32, 4096]⟩
abbrev S4x32x4096x1 : Shape := ⟨4, ![4, 32, 4096, 1]⟩
abbrev S4x32x128x4096 : Shape := ⟨4, ![4, 32, 128, 4096]⟩
abbrev S4x4096x32x128 : Shape := ⟨4, ![4, 4096, 32, 128]⟩
abbrev S16384x4096 : Shape := ⟨2, ![16384, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x32x4096x192, .bf16⟩
  | .hbm, ⟨1, _⟩ => ⟨S4x32x4096x192, .bf16⟩
  | .hbm, ⟨2, _⟩ => ⟨S4x32x4096x128, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x32x4096x192, .f32⟩
  | .hbm, ⟨8, _⟩ => ⟨S4x32x4096x192, .f32⟩
  | .hbm, ⟨9, _⟩ => ⟨S4x32x4096x4096, .f32⟩
  | .hbm, ⟨10, _⟩ => ⟨S4x32x4096x4096, .f32⟩
  | .hbm, ⟨11, _⟩ => ⟨S4x32x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4x32x4096x4096, .i1⟩
  | .hbm, ⟨21, _⟩ => ⟨S4x32x4096x4096, .f32⟩
  | .hbm, ⟨22, _⟩ => ⟨S4x32x4096x4096, .f32⟩
  | .hbm, ⟨23, _⟩ => ⟨S_, .f32⟩
  | .hbm, ⟨24, _⟩ => ⟨S4x32x4096, .f32⟩
  | .hbm, ⟨25, _⟩ => ⟨S_, .f32⟩
  | .hbm, ⟨26, _⟩ => ⟨S4x32x4096, .f32⟩
  | .hbm, ⟨27, _⟩ => ⟨S4x32x4096, .f32⟩
  | .hbm, ⟨28, _⟩ => ⟨S4x32x4096x1, .f32⟩
  | .hbm, ⟨29, _⟩ => ⟨S4x32x4096x4096, .f32⟩
  | .hbm, ⟨30, _⟩ => ⟨S4x32x4096x4096, .f32⟩
  | .hbm, ⟨31, _⟩ => ⟨S4x32x4096x4096, .f32⟩
  | .hbm, ⟨32, _⟩ => ⟨S_, .f32⟩
  | .hbm, ⟨33, _⟩ => ⟨S4x32x4096, .f32⟩
  | .hbm, ⟨34, _⟩ => ⟨S4x32x4096x1, .f32⟩
  | .hbm, ⟨35, _⟩ => ⟨S4x32x4096x4096, .f32⟩
  | .hbm, ⟨36, _⟩ => ⟨S4x32x4096x4096, .f32⟩
  | .hbm, ⟨37, _⟩ => ⟨S4x32x4096x128, .f32⟩
  | .hbm, ⟨38, _⟩ => ⟨S4x32x128x4096, .f32⟩
  | .hbm, ⟨39, _⟩ => ⟨S4x4096x32x128, .f32⟩
  | .hbm, ⟨40, _⟩ => ⟨S16384x4096, .f32⟩
  | .hbm, ⟨41, _⟩ => ⟨S16384x4096, .bf16⟩
  | _, _ => ⟨S4x32x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Latent.lean ====
abbrev S16384x4096 : Shape := ⟨2, ![16384, 4096]⟩
abbrev S1x4096x30272 : Shape := ⟨3, ![1, 4096, 30272]⟩
abbrev S4096x30272 : Shape := ⟨2, ![4096, 30272]⟩
abbrev S30272x4096 : Shape := ⟨2, ![30272, 4096]⟩
abbrev S1600x4096 : Shape := ⟨2, ![1600, 4096]⟩
abbrev S32x4096 : Shape := ⟨2, ![32, 4096]⟩
abbrev S1664x4096 : Shape := ⟨2, ![1664, 4096]⟩
abbrev S16384x1664 : Shape := ⟨2, ![16384, 1664]⟩
abbrev S1024x4096 : Shape := ⟨2, ![1024, 4096]⟩
abbrev S1024x1664 : Shape := ⟨2, ![1024, 1664]⟩

abbrev nBuf : Space → Nat
  | .hbm => 10
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x4096x30272, .f32⟩
  | .hbm, ⟨2, _⟩ => ⟨S4096x30272, .f32⟩
  | .hbm, ⟨3, _⟩ => ⟨S30272x4096, .f32⟩
  | .hbm, ⟨4, _⟩ => ⟨S30272x4096, .bf16⟩
  | .hbm, ⟨5, _⟩ => ⟨S1600x4096, .bf16⟩
  | .hbm, ⟨6, _⟩ => ⟨S32x4096, .bf16⟩
  | .hbm, ⟨7, _⟩ => ⟨S32x4096, .bf16⟩
  | .hbm, ⟨8, _⟩ => ⟨S1664x4096, .bf16⟩
  | .hbm, ⟨9, _⟩ => ⟨S16384x1664, .bf16⟩
  | .local _ .vmem, ⟨0, _⟩ => ⟨S1024x4096, .bf16⟩
  | .local _ .vmem, ⟨1, _⟩ => ⟨S1024x4096, .bf16⟩
  | .local _ .vmem, ⟨2, _⟩ => ⟨S1664x4096, .bf16⟩
  | .local _ .vmem, ⟨3, _⟩ => ⟨S1024x1664, .bf16⟩
  | .local _ .vmem, ⟨4, _⟩ => ⟨S1024x1664, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let c0_i32 : BitVec 32 := 0#32
  let arg1 : BitVec 32 := BitVec.ofNat 32 (i 1).val
  let c1664_i32 : BitVec 32 := 1664#32
  let v0 : BitVec 32 := Scalar.muli arg1 c1664_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1664_i32 : BitVec 32 := 1664#32
  let v0 : BitVec 32 := Scalar.muli arg1 c1664_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1664x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatentRefIdeal.lean ====
abbrev S16384x4096 : Shape := ⟨2, ![16384, 4096]⟩
abbrev S1x4096x30272 : Shape := ⟨3, ![1, 4096, 30272]⟩
abbrev S4096x30272 : Shape := ⟨2, ![4096, 30272]⟩
abbrev S16384x30272 : Shape := ⟨2, ![16384, 30272]⟩
abbrev S16384x1600 : Shape := ⟨2, ![16384, 1600]⟩
abbrev S16384x1024 : Shape := ⟨2, ![16384, 1024]⟩
abbrev S16384x512 : Shape := ⟨2, ![16384, 512]⟩
abbrev S16384x64 : Shape := ⟨2, ![16384, 64]⟩
abbrev S16384x32 : Shape := ⟨2, ![16384, 32]⟩
abbrev S16384x1664 : Shape := ⟨2, ![16384, 1664]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x30272, .f32⟩
  | .hbm, ⟨2, _⟩ => ⟨S16384x4096, .f32⟩
  | .hbm, ⟨3, _⟩ => ⟨S4096x30272, .f32⟩
  | .hbm, ⟨4, _⟩ => ⟨S16384x30272, .f32⟩
  | .hbm, ⟨5, _⟩ => ⟨S16384x1600, .f32⟩
  | .hbm, ⟨6, _⟩ => ⟨S16384x1024, .f32⟩
  | .hbm, ⟨7, _⟩ => ⟨S16384x512, .f32⟩
  | .hbm, ⟨8, _⟩ => ⟨S16384x64, .f32⟩
  | .hbm, ⟨9, _⟩ => ⟨S16384x32, .f32⟩
  | .hbm, ⟨10, _⟩ => ⟨S16384x32, .f32⟩
  | .hbm, ⟨11, _⟩ => ⟨S16384x1664, .f32⟩
  | .hbm, ⟨12, _⟩ => ⟨S16384x1664, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Norm.lean ====
abbrev S4x4096x4096 : Shape := ⟨3, ![4, 4096, 4096]⟩
abbrev S1x4096 : Shape := ⟨2, ![1, 4096]⟩
abbrev S16384x4096 : Shape := ⟨2, ![16384, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4x4096x4096 : Shape := ⟨3, ![4, 4096, 4096]⟩
abbrev S1x4096 : Shape := ⟨2, ![1, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4096, .f32⟩
  | .hbm, ⟨3, _⟩ => ⟨S4x4096x4096, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S1x1x4096, .f32⟩
  | .hbm, ⟨17, _⟩ => ⟨S4x4096x4096, .f32⟩
  | .hbm, ⟨18, _⟩ => ⟨S4x4096x4096, .f32⟩
  | .hbm, ⟨19, _⟩ => ⟨S16384x4096, .f32⟩
  | .hbm, ⟨20, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== MemNorm.lean ====
abbrev S4x256x4096 : Shape := ⟨3, ![4, 256, 4096]⟩
abbrev S1x4096 : Shape := ⟨2, ![1, 4096]⟩
abbrev S1024x4096 : Shape := ⟨2, ![1024, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S1024x4096, .f32⟩
  | .hbm, ⟨3, _⟩ => ⟨S4096, .f32⟩
  | .hbm, ⟨4, _⟩ => ⟨S1x4096, .f32⟩
  | .hbm, ⟨5, _⟩ => ⟨S1024x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemNormRefIdeal.lean ====
abbrev S4x256x4096 : Shape := ⟨3, ![4, 256, 4096]⟩
abbrev S1x4096 : Shape := ⟨2, ![1, 4096]⟩
abbrev S4096 : Shape := ⟨1, ![4096]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S1024x4096 : Shape := ⟨2, ![1024, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S4096, .f32⟩
  | .hbm, ⟨3, _⟩ => ⟨S4x256x4096, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x4096, .f32⟩
  | .hbm, ⟨15, _⟩ => ⟨S4x256x4096, .f32⟩
  | .hbm, ⟨16, _⟩ => ⟨S1x1x4096, .f32⟩
  | .hbm, ⟨17, _⟩ => ⟨S4x256x4096, .f32⟩
  | .hbm, ⟨18, _⟩ => ⟨S4x256x4096, .f32⟩
  | .hbm, ⟨19, _⟩ => ⟨S1024x4096, .f32⟩
  | .hbm, ⟨20, _⟩ => ⟨S1024x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== MemKv.lean ====
abbrev S1024x4096 : Shape := ⟨2, ![1024, 4096]⟩
abbrev S1x4096x8192 : Shape := ⟨3, ![1, 4096, 8192]⟩
abbrev S4096x8192 : Shape := ⟨2, ![4096, 8192]⟩
abbrev S1024x8192 : Shape := ⟨2, ![1024, 8192]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S1x4096x8192, .f32⟩
  | .hbm, ⟨2, _⟩ => ⟨S4096x8192, .f32⟩
  | .hbm, ⟨3, _⟩ => ⟨S4096x8192, .bf16⟩
  | .hbm, ⟨4, _⟩ => ⟨S1024x8192, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S1024x4096 : Shape := ⟨2, ![1024, 4096]⟩
abbrev S1x4096x8192 : Shape := ⟨3, ![1, 4096, 8192]⟩
abbrev S4096x8192 : Shape := ⟨2, ![4096, 8192]⟩
abbrev S1024x8192 : Shape := ⟨2, ![1024, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x4096x8192, .f32⟩
  | .hbm, ⟨2, _⟩ => ⟨S1024x4096, .f32⟩
  | .hbm, ⟨3, _⟩ => ⟨S4096x8192, .f32⟩
  | .hbm, ⟨4, _⟩ => ⟨S1024x8192, .f32⟩
  | .hbm, ⟨5, _⟩ => ⟨S1024x8192, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Conv.lean ====
abbrev S16384x28672 : Shape := ⟨2, ![16384, 28672]⟩
abbrev S1x3x4096 : Shape := ⟨3, ![1, 3, 4096]⟩
abbrev S3x4096 : Shape := ⟨2, ![3, 4096]⟩
abbrev S16384x4096 : Shape := ⟨2, ![16384, 4096]⟩
abbrev S512x1024 : Shape := ⟨2, ![512, 1024]⟩
abbrev S8x1024 : Shape := ⟨2, ![8, 1024]⟩
abbrev S3x1024 : Shape := ⟨2, ![3, 1024]⟩
abbrev S520x1024 : Shape := ⟨2, ![520, 1024]⟩
abbrev S1x1024 : Shape := ⟨2, ![1, 1024]⟩

abbrev nBuf : Space → Nat
  | .hbm => 4
  | .vmem => 14
  | .smem => 0
  | _ => 0

abbrev bufTy : (tb : Table) → Fin (tcTables nBuf tb) → BufTy
  | .hbm, ⟨0, _⟩ => ⟨S16384x28672, .bf16⟩
  | .hbm, ⟨1, _⟩ => ⟨S1x3x4096, .f32⟩
  | .hbm, ⟨2, _⟩ => ⟨S3x4096, .f32⟩
  | .hbm, ⟨3, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8x1024, .bf16⟩
  | .local _ .vmem, ⟨7, _⟩ => ⟨S8x1024, .bf16⟩
  | .local _ .vmem, ⟨8, _⟩ => ⟨S8x1024, .bf16⟩
  | .local _ .vmem, ⟨9, _⟩ => ⟨S8x1024, .bf16⟩
  | .local _ .vmem, ⟨10, _⟩ => ⟨S3x1024, .f32⟩
  | .local _ .vmem, ⟨11, _⟩ => ⟨S3x1024, .f32⟩
  | .local _ .vmem, ⟨12, _⟩ => ⟨S512x1024, .bf16⟩
  | .local _ .vmem, ⟨13, _⟩ => ⟨S512x1024, .bf16⟩
  | _, _ => ⟨S16384x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S16384x28672 : Shape := ⟨2, ![16384, 28672]⟩
abbrev S1x3x4096 : Shape := ⟨3, ![1, 3, 4096]⟩
abbrev S16384x12288 : Shape := ⟨2, ![16384, 12288]⟩
abbrev S4x4096x12288 : Shape := ⟨3, ![4, 4096, 12288]⟩
abbrev S4x4096x4096 : Shape := ⟨3, ![4, 4096, 4096]⟩
abbrev S3x4096 : Shape := ⟨2, ![3, 4096]⟩
abbrev S_ : Shape := ⟨0, ![]⟩
abbrev S4x4098x4096 : Shape := ⟨3, ![4, 4098, 4096]⟩
abbrev S1x4096 : Shape := ⟨2, ![1, 4096]⟩
abbrev S4096 : Shape := ⟨1, ![4096]⟩
abbrev S1x1x4096 : Shape := ⟨3, ![1, 1, 4096]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x28672, .bf16⟩
  | .hbm, ⟨1, _⟩ => ⟨S1x3x4096, .f32⟩
  | .hbm, ⟨2, _⟩ => ⟨S16384x12288, .bf16⟩
  | .hbm, ⟨3, _⟩ => ⟨S16384x12288, .f32⟩
  | .hbm, ⟨4, _⟩ => ⟨S4x4096x12288, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S3x4096, .f32⟩
  | .hbm, ⟨10, _⟩ => ⟨S_, .i32⟩
  | .hbm, ⟨11, _⟩ => ⟨S_, .f32⟩
  | .hbm, ⟨12, _⟩ => ⟨S4x4098x4096, .f32⟩
  | .hbm, ⟨13, _⟩ => ⟨S4x4096x4096, .f32⟩
  | .hbm, ⟨14, _⟩ => ⟨S1x4096, .f32⟩
  | .hbm, ⟨15, _⟩ => ⟨S4096, .f32⟩
  | .hbm, ⟨16, _⟩ => ⟨S1x1x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S1x4096, .f32⟩
  | .hbm, ⟨21, _⟩ => ⟨S4096, .f32⟩
  | .hbm, ⟨22, _⟩ => ⟨S1x1x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S1x4096, .f32⟩
  | .hbm, ⟨27, _⟩ => ⟨S4096, .f32⟩
  | .hbm, ⟨28, _⟩ => ⟨S1x1x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S16384x4096, .f32⟩
  | .hbm, ⟨34, _⟩ => ⟨S16384x4096, .bf16⟩
  | _, _ => ⟨S16384x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== MemAttn.lean ====
abbrev S16384x28672 : Shape := ⟨2, ![16384, 28672]⟩
abbrev S1024x8192 : Shape := ⟨2, ![1024, 8192]⟩
abbrev S1x1024 : Shape := ⟨2, ![1, 1024]⟩
abbrev S1024 : Shape := ⟨1, ![1024]⟩
abbrev S16384x4096 : Shape := ⟨2, ![16384, 4096]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S512 : Shape := ⟨1, ![512]⟩
abbrev S512x1 : Shape := ⟨2, ![512, 1]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S16384x28672, .bf16⟩
  | .hbm, ⟨1, _⟩ => ⟨S1024x8192, .bf16⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S256x1024, .bf16⟩
  | _, _ => ⟨S16384x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MemAttnRefIdeal.lean ====
abbrev S16384x28672 : Shape := ⟨2, ![16384, 28672]⟩
abbrev S1024x8192 : Shape := ⟨2, ![1024, 8192]⟩
abbrev S1x1024 : Shape := ⟨2, ![1, 1024]⟩
abbrev S16384x4096 : Shape := ⟨2, ![16384, 4096]⟩
abbrev S4x4096x4x1024 : Shape := ⟨4, ![4, 4096, 4, 1024]⟩
abbrev S1024 : Shape := ⟨1, ![1024]⟩
abbrev S_ : Shape := ⟨0, ![]⟩
abbrev S4x4096x4 : Shape := ⟨3, ![4, 4096, 4]⟩
abbrev S4x4096x4x1 : Shape := ⟨4, ![4, 4096, 4, 1]⟩
abbrev S1x1x1x1024 : Shape := ⟨4, ![1, 1, 1, 1024]⟩
abbrev S4x256x8192 : Shape := ⟨3, ![4, 256, 8192]⟩
abbrev S4x256x4096 : Shape := ⟨3, ![4, 256, 4096]⟩
abbrev S4x256x4x1024 : Shape := ⟨4, ![4, 256, 4, 1024]⟩
abbrev S4x256x4 : Shape := ⟨3, ![4, 256, 4]⟩
abbrev S4x256x4x1 : Shape := ⟨4, ![4, 256, 4, 1]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x1024x4096 : Shape := ⟨4, ![4, 4, 1024, 4096]⟩

abbrev nBuf : Space → Nat
  | .hbm => 69
  | .vmem => 0
  | .smem => 0
  | _ => 0

abbrev bufTy : (tb : Table) → Fin (tcTables nBuf tb) → BufTy
  | .hbm, ⟨0, _⟩ => ⟨S16384x28672, .bf16⟩
  | .hbm, ⟨1, _⟩ => ⟨S1024x8192, .bf16⟩
  | .hbm, ⟨2, _⟩ => ⟨S1x1024, .f32⟩
  | .hbm, ⟨3, _⟩ => ⟨S1x1024, .f32⟩
  | .hbm, ⟨4, _⟩ => ⟨S16384x4096, .bf16⟩
  | .hbm, ⟨5, _⟩ => ⟨S4x4096x4x1024, .bf16⟩
  | .hbm, ⟨6, _⟩ => ⟨S1024, .f32⟩
  | .hbm, ⟨7, _⟩ => ⟨S4x4096x4x1024, .f32⟩
  | .hbm, ⟨8, _⟩ => ⟨S4x4096x4x1024, .f32⟩
  | .hbm, ⟨9, _⟩ => ⟨S_, .f32⟩
  | .hbm, ⟨10, _⟩ => ⟨S4x4096x4, .f32⟩
  | .hbm, ⟨11, _⟩ => ⟨S4x4096x4x1, .f32⟩
  | .hbm, ⟨12, _⟩ => ⟨S_, .f32⟩
  | .hbm, ⟨13, _⟩ => ⟨S4x4096x4x1, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S4x4096x4x1, .f32⟩
  | .hbm, ⟨19, _⟩ => ⟨S4x4096x4x1024, .f32⟩
  | .hbm, ⟨20, _⟩ => ⟨S4x4096x4x1024, .f32⟩
  | .hbm, ⟨21, _⟩ => ⟨S1x1x1x1024, .f32⟩
  | .hbm, ⟨22, _⟩ => ⟨S4x4096x4x1024, .f32⟩
  | .hbm, ⟨23, _⟩ => ⟨S4x4096x4x1024, .f32⟩
  | .hbm, ⟨24, _⟩ => ⟨S1024x8192, .f32⟩
  | .hbm, ⟨25, _⟩ => ⟨S4x256x8192, .f32⟩
  | .hbm, ⟨26, _⟩ => ⟨S4x256x4096, .f32⟩
  | .hbm, ⟨27, _⟩ => ⟨S4x256x4096, .f32⟩
  | .hbm, ⟨28, _⟩ => ⟨S4x256x4x1024, .f32⟩
  | .hbm, ⟨29, _⟩ => ⟨S1024, .f32⟩
  | .hbm, ⟨30, _⟩ => ⟨S4x256x4x1024, .f32⟩
  | .hbm, ⟨31, _⟩ => ⟨S_, .f32⟩
  | .hbm, ⟨32, _⟩ => ⟨S4x256x4, .f32⟩
  | .hbm, ⟨33, _⟩ => ⟨S4x256x4x1, .f32⟩
  | .hbm, ⟨34, _⟩ => ⟨S_, .f32⟩
  | .hbm, ⟨35, _⟩ => ⟨S4x256x4x1, .f32⟩
  | .hbm, ⟨36, _⟩ => ⟨S4x256x4x1, .f32⟩
  | .hbm, ⟨37, _⟩ => ⟨S_, .f32⟩
  | .hbm, ⟨38, _⟩ => ⟨S4x256x4x1, .f32⟩
  | .hbm, ⟨39, _⟩ => ⟨S4x256x4x1, .f32⟩
  | .hbm, ⟨40, _⟩ => ⟨S4x256x4x1, .f32⟩
  | .hbm, ⟨41, _⟩ => ⟨S4x256x4x1024, .f32⟩
  | .hbm, ⟨42, _⟩ => ⟨S4x256x4x1024, .f32⟩
  | .hbm, ⟨43, _⟩ => ⟨S1x1x1x1024, .f32⟩
  | .hbm, ⟨44, _⟩ => ⟨S4x256x4x1024, .f32⟩
  | .hbm, ⟨45, _⟩ => ⟨S4x256x4x1024, .f32⟩
  | .hbm, ⟨46, _⟩ => ⟨S4x256x4x1024, .f32⟩
  | .hbm, ⟨47, _⟩ => ⟨S4x4x4096x256, .f32⟩
  | .hbm, ⟨48, _⟩ => ⟨S_, .f32⟩
  | .hbm, ⟨49, _⟩ => ⟨S4x4x4096x256, .f32⟩
  | .hbm, ⟨50, _⟩ => ⟨S4x4x4096x256, .f32⟩
  | .hbm, ⟨51, _⟩ => ⟨S_, .f32⟩
  | .hbm, ⟨52, _⟩ => ⟨S4x4x4096, .f32⟩
  | .hbm, ⟨53, _⟩ => ⟨S_, .f32⟩
  | .hbm, ⟨54, _⟩ => ⟨S4x4x4096, .f32⟩
  | .hbm, ⟨55, _⟩ => ⟨S4x4x4096, .f32⟩
  | .hbm, ⟨56, _⟩ => ⟨S4x4x4096x1, .f32⟩
  | .hbm, ⟨57, _⟩ => ⟨S4x4x4096x256, .f32⟩
  | .hbm, ⟨58, _⟩ => ⟨S4x4x4096x256, .f32⟩
  | .hbm, ⟨59, _⟩ => ⟨S4x4x4096x256, .f32⟩
  | .hbm, ⟨60, _⟩ => ⟨S_, .f32⟩
  | .hbm, ⟨61, _⟩ => ⟨S4x4x4096, .f32⟩
  | .hbm, ⟨62, _⟩ => ⟨S4x4x4096x1, .f32⟩
  | .hbm, ⟨63, _⟩ => ⟨S4x4x4096x256, .f32⟩
  | .hbm, ⟨64, _⟩ => ⟨S4x4x4096x256, .f32⟩
  | .hbm, ⟨65, _⟩ => ⟨S4x4x1024x4096, .f32⟩
  | .hbm, ⟨66, _⟩ => ⟨S4x4096x4x1024, .f32⟩
  | .hbm, ⟨67, _⟩ => ⟨S16384x4096, .f32⟩
  | .hbm, ⟨68, _⟩ => ⟨S16384x4096, .bf16⟩
  | _, _ => ⟨S16384x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== QProj.lean ====
abbrev S16384x1664 : Shape := ⟨2, ![16384, 1664]⟩
abbrev S4x4096 : Shape := ⟨2, ![4, 4096]⟩
abbrev S1x1024 : Shape := ⟨2, ![1, 1024]⟩
abbrev S1x1024x6144 : Shape := ⟨3, ![1, 1024, 6144]⟩
abbrev S1x128 : Shape := ⟨2, ![1, 128]⟩
abbrev S1x64 : Shape := ⟨2, ![1, 64]⟩
abbrev S1024x6144 : Shape := ⟨2, ![1024, 6144]⟩
abbrev S1024x32x192 : Shape := ⟨3, ![1024, 32, 192]⟩
abbrev S1024x32x32 : Shape := ⟨3, ![1024, 32, 32]⟩
abbrev S1024x32x256 : Shape := ⟨3, ![1024, 32, 256]⟩
abbrev S1024x8192 : Shape := ⟨2, ![1024, 8192]⟩
abbrev S16384x1 : Shape := ⟨2, ![16384, 1]⟩
abbrev S1024 : Shape := ⟨1, ![1024]⟩
abbrev S128 : Shape := ⟨1, ![128]⟩
abbrev S64 : Shape := ⟨1, ![64]⟩
abbrev S32 : Shape := ⟨1, ![32]⟩
abbrev S_ : Shape := ⟨0, ![]⟩
abbrev S1x32 : Shape := ⟨2, ![1, 32]⟩
abbrev S4x32 : Shape := ⟨2, ![4, 32]⟩
abbrev S2x64 : Shape := ⟨2, ![2, 64]⟩
abbrev S256 : Shape := ⟨1, ![256]⟩
abbrev S1x256 : Shape := ⟨2, ![1, 256]⟩
abbrev S4x32x4096x192 : Shape := ⟨4, ![4, 32, 4096, 192]⟩
abbrev S512x1024 : Shape := ⟨2, ![512, 1024]⟩
abbrev S512x1 : Shape := ⟨2, ![512, 1]⟩
abbrev S1024x2048 : Shape := ⟨2, ![1024, 2048]⟩
abbrev S1x8x512x192 : Shape := ⟨4, ![1, 8, 512, 192]⟩
abbrev S512x128 : Shape := ⟨2, ![512, 128]⟩
abbrev S512 : Shape := ⟨1, ![512]⟩
abbrev S1024x256 : Shape := ⟨2, ![1024, 256]⟩
abbrev S512x256 : Shape := ⟨2, ![512, 256]⟩
abbrev S1x1x512x128 : Shape := ⟨4, ![1, 1, 512, 128]⟩
abbrev S512x64 : Shape := ⟨2, ![512, 64]⟩
abbrev S1x1x512x64 : Shape := ⟨4, ![1, 1, 512, 64]⟩

abbrev nBuf : Space → Nat
  | .hbm => 52
  | .vmem => 15
  | .smem => 0
  | _ => 0

abbrev bufTy : (tb : Table) → Fin (tcTables nBuf tb) → BufTy
  | .hbm, ⟨0, _⟩ => ⟨S16384x1664, .bf16⟩
  | .hbm, ⟨1, _⟩ => ⟨S4x4096, .i32⟩
  | .hbm, ⟨2, _⟩ => ⟨S1x1024, .f32⟩
  | .hbm, ⟨3, _⟩ => ⟨S1x1024x6144, .f32⟩
  | .hbm, ⟨4, _⟩ => ⟨S1x128, .f32⟩
  | .hbm, ⟨5, _⟩ => ⟨S1x64, .f32⟩
  | .hbm, ⟨6, _⟩ => ⟨S1024x6144, .f32⟩
  | .hbm, ⟨7, _⟩ => ⟨S1024x32x192, .f32⟩
  | .hbm, ⟨8, _⟩ => ⟨S1024x32x32, .f32⟩
  | .hbm, ⟨9, _⟩ => ⟨S1024x32x32, .f32⟩
  | .hbm, ⟨10, _⟩ => ⟨S1024x32x256, .f32⟩
  | .hbm, ⟨11, _⟩ => ⟨S1024x8192, .f32⟩
  | .hbm, ⟨12, _⟩ => ⟨S1024x8192, .bf16⟩
  | .hbm, ⟨13, _⟩ => ⟨S16384x1, .i32⟩
  | .hbm, ⟨14, _⟩ => ⟨S1024, .f32⟩
  | .hbm, ⟨15, _⟩ => ⟨S128, .f32⟩
  | .hbm, ⟨16, _⟩ => ⟨S64, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S1x32, .f32⟩
  | .hbm, ⟨32, _⟩ => ⟨S4x32, .f32⟩
  | .hbm, ⟨33, _⟩ => ⟨S128, .f32⟩
  | .hbm, ⟨34, _⟩ => ⟨S1x128, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S64, .f32⟩
  | .hbm, ⟨41, _⟩ => ⟨S1x64, .f32⟩
  | .hbm, ⟨42, _⟩ => ⟨S2x64, .f32⟩
  | .hbm, ⟨43, _⟩ => ⟨S128, .f32⟩
  | .hbm, ⟨44, _⟩ => ⟨S1x128, .f32⟩
  | .hbm, ⟨45, _⟩ => ⟨S32, .f32⟩
  | .hbm, ⟨46, _⟩ => ⟨S32, .f32⟩
  | .hbm, ⟨47, _⟩ => ⟨S64, .f32⟩
  | .hbm, ⟨48, _⟩ => ⟨S256, .f32⟩
  | .hbm, ⟨49, _⟩ => ⟨S1x256, .f32⟩
  | .hbm, ⟨50, _⟩ => ⟨S1x1024, .f32⟩
  | .hbm, ⟨51, _⟩ => ⟨S4x32x4096x192, .bf16⟩
  | .local _ .vmem, ⟨0, _⟩ => ⟨S512x1024, .bf16⟩
  | .local _ .vmem, ⟨1, _⟩ => ⟨S512x1024, .bf16⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x128, .f32⟩
  | .local _ .vmem, ⟨6, _⟩ => ⟨S1x1024, .f32⟩
  | .local _ .vmem, ⟨7, _⟩ => ⟨S1x256, .f32⟩
  | .local _ .vmem, ⟨8, _⟩ => ⟨S1024x2048, .bf16⟩
  | .local _ .vmem, ⟨9, _⟩ => ⟨S1024x2048, .bf16⟩
  | .local _ .vmem, ⟨10, _⟩ => ⟨S1x8x512x192, .bf16⟩
  | .local _ .vmem, ⟨11, _⟩ => ⟨S1x8x512x192, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | _, _ => ⟨S16384x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x512x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QProjRefIdeal.lean ====
abbrev S16384x1664 : Shape := ⟨2, ![16384, 1664]⟩
abbrev S4x4096 : Shape := ⟨2, ![4, 4096]⟩
abbrev S1x1024 : Shape := ⟨2, ![1, 1024]⟩
abbrev S1x1024x6144 : Shape := ⟨3, ![1, 1024, 6144]⟩
abbrev S1x128 : Shape := ⟨2, ![1, 128]⟩
abbrev S1x64 : Shape := ⟨2, ![1, 64]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S16384x1024 : Shape := ⟨2, ![16384, 1024]⟩
abbrev S4x4096x1024 : Shape := ⟨3, ![4, 4096, 1024]⟩
abbrev S1024 : Shape := ⟨1, ![1024]⟩
abbrev S1x1x1024 : Shape := ⟨3, ![1, 1, 1024]⟩
abbrev S1024x6144 : Shape := ⟨2, ![1024, 6144]⟩
abbrev S4x4096x6144 : Shape := ⟨3, ![4, 4096, 6144]⟩
abbrev S4x4096x32x192 : Shape := ⟨4, ![4, 4096, 32, 192]⟩
abbrev S4x4096x32x128 : Shape := ⟨4, ![4, 4096, 32, 128]⟩
abbrev S128 : Shape := ⟨1, ![128]⟩
abbrev S4x4096x32x1 : Shape := ⟨4, ![4, 4096, 32, 1]⟩
abbrev S1x1x1x128 : Shape := ⟨4, ![1, 1, 1, 128]⟩
abbrev S4x4096x32x64 : Shape := ⟨4, ![4, 4096, 32, 64]⟩
abbrev S64 : Shape := ⟨1, ![64]⟩
abbrev S1x1x1x64 : Shape := ⟨4, ![1, 1, 1, 64]⟩
abbrev S4x4096x1x32 : Shape := ⟨4, ![4, 4096, 1, 32]⟩
abbrev S4x4096x32x32 : Shape := ⟨4, ![4, 4096, 32, 32]⟩
abbrev S4x32x4096x192 : Shape := ⟨4, ![4, 32, 4096, 192]⟩

abbrev nBuf : Space → Nat
  | .hbm => 108
  | .vmem => 0
  | .smem => 0
  | _ => 0

abbrev bufTy : (tb : Table) → Fin (tcTables nBuf tb) → BufTy
  | .hbm, ⟨0, _⟩ => ⟨S16384x1664, .bf16⟩
  | .hbm, ⟨1, _⟩ => ⟨S4x4096, .i32⟩
  | .hbm, ⟨2, _⟩ => ⟨S1x1024, .f32⟩
  | .hbm, ⟨3, _⟩ => ⟨S1x1024x6144, .f32⟩
  | .hbm, ⟨4, _⟩ => ⟨S1x128, .f32⟩
  | .hbm, ⟨5, _⟩ => ⟨S1x64, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4x4096, .f32⟩
  | .hbm, ⟨21, _⟩ => ⟨S4x4096x1, .f32⟩
  | .hbm, ⟨22, _⟩ => ⟨S1x1x32, .f32⟩
  | .hbm, ⟨23, _⟩ => ⟨S4x4096x32, .f32⟩
  | .hbm, ⟨24, _⟩ => ⟨S4x4096x32, .f32⟩
  | .hbm, ⟨25, _⟩ => ⟨S4x4096x32, .f32⟩
  | .hbm, ⟨26, _⟩ => ⟨S4x4096x32, .f32⟩
  | .hbm, ⟨27, _⟩ => ⟨S4x4096x32, .f32⟩
  | .hbm, ⟨28, _⟩ => ⟨S16384x1024, .bf16⟩
  | .hbm, ⟨29, _⟩ => ⟨S16384x1024, .f32⟩
  | .hbm, ⟨30, _⟩ => ⟨S4x4096x1024, .f32⟩
  | .hbm, ⟨31, _⟩ => ⟨S1024, .f32⟩
  | .hbm, ⟨32, _⟩ => ⟨S4x4096x1024, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S1024x6144, .f32⟩
  | .hbm, ⟨49, _⟩ => ⟨S4x4096x6144, .f32⟩
  | .hbm, ⟨50, _⟩ => ⟨S4x4096x32x192, .f32⟩
  | .hbm, ⟨51, _⟩ => ⟨S4x4096x32x128, .f32⟩
  | .hbm, ⟨52, _⟩ => ⟨S128, .f32⟩
  | .hbm, ⟨53, _⟩ => ⟨S4x4096x32x128, .f32⟩
  | .hbm, ⟨54, _⟩ => ⟨S_, .f32⟩
  | .hbm, ⟨55, _⟩ => ⟨S4x4096x32, .f32⟩
  | .hbm, ⟨56, _⟩ => ⟨S4x4096x32x1, .f32⟩
  | .hbm, ⟨57, _⟩ => ⟨S_, .f32⟩
  | .hbm, ⟨58, _⟩ => ⟨S4x4096x32x1, .f32⟩
  | .hbm, ⟨59, _⟩ => ⟨S4x4096x32x1, .f32⟩
  | .hbm, ⟨60, _⟩ => ⟨S_, .f32⟩
  | .hbm, ⟨61, _⟩ => ⟨S4x4096x32x1, .f32⟩
  | .hbm, ⟨62, _⟩ => ⟨S4x4096x32x1, .f32⟩
  | .hbm, ⟨63, _⟩ => ⟨S4x4096x32x1, .f32⟩
  | .hbm, ⟨64, _⟩ => ⟨S4x4096x32x128, .f32⟩
  | .hbm, ⟨65, _⟩ => ⟨S4x4096x32x128, .f32⟩
  | .hbm, ⟨66, _⟩ => ⟨S1x1x1x128, .f32⟩
  | .hbm, ⟨67, _⟩ => ⟨S4x4096x32x128, .f32⟩
  | .hbm, ⟨68, _⟩ => ⟨S4x4096x32x128, .f32⟩
  | .hbm, ⟨69, _⟩ => ⟨S4x4096x32x64, .f32⟩
  | .hbm, ⟨70, _⟩ => ⟨S64, .f32⟩
  | .hbm, ⟨71, _⟩ => ⟨S4x4096x32x64, .f32⟩
  | .hbm, ⟨72, _⟩ => ⟨S_, .f32⟩
  | .hbm, ⟨73, _⟩ => ⟨S4x4096x32, .f32⟩
  | .hbm, ⟨74, _⟩ => ⟨S4x4096x32x1, .f32⟩
  | .hbm, ⟨75, _⟩ => ⟨S_, .f32⟩
  | .hbm, ⟨76, _⟩ => ⟨S4x4096x32x1, .f32⟩
  | .hbm, ⟨77, _⟩ => ⟨S4x4096x32x1, .f32⟩
  | .hbm, ⟨78, _⟩ => ⟨S_, .f32⟩
  | .hbm, ⟨79, _⟩ => ⟨S4x4096x32x1, .f32⟩
  | .hbm, ⟨80, _⟩ => ⟨S4x4096x32x1, .f32⟩
  | .hbm, ⟨81, _⟩ => ⟨S4x4096x32x1, .f32⟩
  | .hbm, ⟨82, _⟩ => ⟨S4x4096x32x64, .f32⟩
  | .hbm, ⟨83, _⟩ => ⟨S4x4096x32x64, .f32⟩
  | .hbm, ⟨84, _⟩ => ⟨S1x1x1x64, .f32⟩
  | .hbm, ⟨85, _⟩ => ⟨S4x4096x32x64, .f32⟩
  | .hbm, ⟨86, _⟩ => ⟨S4x4096x32x64, .f32⟩
  | .hbm, ⟨87, _⟩ => ⟨S4x4096x1x32, .f32⟩
  | .hbm, ⟨88, _⟩ => ⟨S4x4096x1x32, .f32⟩
  | .hbm, ⟨89, _⟩ => ⟨S4x4096x32x32, .f32⟩
  | .hbm, ⟨90, _⟩ => ⟨S4x4096x32x32, .f32⟩
  | .hbm, ⟨91, _⟩ => ⟨S4x4096x32x32, .f32⟩
  | .hbm, ⟨92, _⟩ => ⟨S4x4096x32x32, .f32⟩
  | .hbm, ⟨93, _⟩ => ⟨S4x4096x32x32, .f32⟩
  | .hbm, ⟨94, _⟩ => ⟨S4x4096x32x32, .f32⟩
  | .hbm, ⟨95, _⟩ => ⟨S4x4096x32x32, .f32⟩
  | .hbm, ⟨96, _⟩ => ⟨S4x4096x32x32, .f32⟩
  | .hbm, ⟨97, _⟩ => ⟨S4x4096x32x32, .f32⟩
  | .hbm, ⟨98, _⟩ => ⟨S4x4096x32x32, .f32⟩
  | .hbm, ⟨99, _⟩ => ⟨S4x4096x32x32, .f32⟩
  | .hbm, ⟨100, _⟩ => ⟨S4x4096x32x32, .f32⟩
  | .hbm, ⟨101, _⟩ => ⟨S4x4096x32x64, .f32⟩
  | .hbm, ⟨102, _⟩ => ⟨S4x4096x32x192, .f32⟩
  | .hbm, ⟨103, _⟩ => ⟨S_, .f32⟩
  | .hbm, ⟨104, _⟩ => ⟨S4x4096x32x192, .f32⟩
  | .hbm, ⟨105, _⟩ => ⟨S4x4096x32x192, .f32⟩
  | .hbm, ⟨106, _⟩ => ⟨S4x32x4096x192, .f32⟩
  | .hbm, ⟨107, _⟩ => ⟨S4x32x4096x192, .bf16⟩
  | _, _ => ⟨S16384x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_12 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩

abbrev nD : Nat := 1
abbrev τ : Topo := Topo.v7x

variable {F : FTy → Type} [FloatOps F]
-- ==== KvProj.lean ====
abbrev S16384x1600 : Shape := ⟨2, ![16384, 1600]⟩
abbrev S4x4096 : Shape := ⟨2, ![4, 4096]⟩
abbrev S1x512 : Shape := ⟨2, ![1, 512]⟩
abbrev S1x512x8192 : Shape := ⟨3, ![1, 512, 8192]⟩
abbrev S1x128 : Shape := ⟨2, ![1, 128]⟩
abbrev S1x64 : Shape := ⟨2, ![1, 64]⟩
abbrev S16384x64 : Shape := ⟨2, ![16384, 64]⟩
abbrev S16384x32 : Shape := ⟨2, ![16384, 32]⟩
abbrev S16384x1664 : Shape := ⟨2, ![16384, 1664]⟩
abbrev S16384x1 : Shape := ⟨2, ![16384, 1]⟩
abbrev S512 : Shape := ⟨1, ![512]⟩
abbrev S512x8192 : Shape := ⟨2, ![512, 8192]⟩
abbrev S128 : Shape := ⟨1, ![128]⟩
abbrev S64 : Shape := ⟨1, ![64]⟩
abbrev S32 : Shape := ⟨1, ![32]⟩
abbrev S_ : Shape := ⟨0, ![]⟩
abbrev S1x32 : Shape := ⟨2, ![1, 32]⟩
abbrev S4x32 : Shape := ⟨2, ![4, 32]⟩
abbrev S2x64 : Shape := ⟨2, ![2, 64]⟩
abbrev S4x32x4096x192 : Shape := ⟨4, ![4, 32, 4096, 192]⟩
abbrev S4x32x4096x128 : Shape := ⟨4, ![4, 32, 4096, 128]⟩
abbrev S512x512 : Shape := ⟨2, ![512, 512]⟩
abbrev S512x128 : Shape := ⟨2, ![512, 128]⟩
abbrev S512x1 : Shape := ⟨2, ![512, 1]⟩
abbrev S512x2048 : Shape := ⟨2, ![512, 2048]⟩
abbrev S1x8x512x192 : Shape := ⟨4, ![1, 8, 512, 192]⟩
abbrev S1x8x512x128 : Shape := ⟨4, ![1, 8, 512, 128]⟩
abbrev S512x256 : Shape := ⟨2, ![512, 256]⟩
abbrev S1x1x512x128 : Shape := ⟨4, ![1, 1, 512, 128]⟩
abbrev S512x64 : Shape := ⟨2, ![512, 64]⟩
abbrev S1x1x512x64 : Shape := ⟨4, ![1, 1, 512, 64]⟩

abbrev nBuf : Space → Nat
  | .hbm => 54
  | .vmem => 21
  | .smem => 0
  | _ => 0

abbrev bufTy : (tb : Table) → Fin (tcTables nBuf tb) → BufTy
  | .hbm, ⟨0, _⟩ => ⟨S16384x1600, .bf16⟩
  | .hbm, ⟨1, _⟩ => ⟨S4x4096, .i32⟩
  | .hbm, ⟨2, _⟩ => ⟨S1x512, .f32⟩
  | .hbm, ⟨3, _⟩ => ⟨S1x512x8192, .f32⟩
  | .hbm, ⟨4, _⟩ => ⟨S1x128, .f32⟩
  | .hbm, ⟨5, _⟩ => ⟨S1x64, .f32⟩
  | .hbm, ⟨6, _⟩ => ⟨S16384x64, .bf16⟩
  | .hbm, ⟨7, _⟩ => ⟨S16384x32, .bf16⟩
  | .hbm, ⟨8, _⟩ => ⟨S16384x32, .bf16⟩
  | .hbm, ⟨9, _⟩ => ⟨S16384x64, .bf16⟩
  | .hbm, ⟨10, _⟩ => ⟨S16384x1664, .bf16⟩
  | .hbm, ⟨11, _⟩ => ⟨S16384x1, .i32⟩
  | .hbm, ⟨12, _⟩ => ⟨S512, .f32⟩
  | .hbm, ⟨13, _⟩ => ⟨S512x8192, .f32⟩
  | .hbm, ⟨14, _⟩ => ⟨S512x8192, .bf16⟩
  | .hbm, ⟨15, _⟩ => ⟨S128, .f32⟩
  | .hbm, ⟨16, _⟩ => ⟨S64, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S1x32, .f32⟩
  | .hbm, ⟨32, _⟩ => ⟨S4x32, .f32⟩
  | .hbm, ⟨33, _⟩ => ⟨S128, .f32⟩
  | .hbm, ⟨34, _⟩ => ⟨S1x128, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S64, .f32⟩
  | .hbm, ⟨41, _⟩ => ⟨S1x64, .f32⟩
  | .hbm, ⟨42, _⟩ => ⟨S2x64, .f32⟩
  | .hbm, ⟨43, _⟩ => ⟨S128, .f32⟩
  | .hbm, ⟨44, _⟩ => ⟨S1x128, .f32⟩
  | .hbm, ⟨45, _⟩ => ⟨S32, .f32⟩
  | .hbm, ⟨46, _⟩ => ⟨S32, .f32⟩
  | .hbm, ⟨47, _⟩ => ⟨S64, .f32⟩
  | .hbm, ⟨48, _⟩ => ⟨S128, .f32⟩
  | .hbm, ⟨49, _⟩ => ⟨S1x128, .f32⟩
  | .hbm, ⟨50, _⟩ => ⟨S1x512, .f32⟩
  | .hbm, ⟨51, _⟩ => ⟨S1x128, .f32⟩
  | .hbm, ⟨52, _⟩ => ⟨S4x32x4096x192, .bf16⟩
  | .hbm, ⟨53, _⟩ => ⟨S4x32x4096x128, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x1, .i32⟩
  | .local _ .vmem, ⟨5, _⟩ => ⟨S512x1, .i32⟩
  | .local _ .vmem, ⟨6, _⟩ => ⟨S1x128, .f32⟩
  | .local _ .vmem, ⟨7, _⟩ => ⟨S1x128, .f32⟩
  | .local _ .vmem, ⟨8, _⟩ => ⟨S1x512, .f32⟩
  | .local _ .vmem, ⟨9, _⟩ => ⟨S1x128, .f32⟩
  | .local _ .vmem, ⟨10, _⟩ => ⟨S1x128, .f32⟩
  | .local _ .vmem, ⟨11, _⟩ => ⟨S512x2048, .bf16⟩
  | .local _ .vmem, ⟨12, _⟩ => ⟨S512x2048, .bf16⟩
  | .local _ .vmem, ⟨13, _⟩ => ⟨S1x8x512x192, .bf16⟩
  | .local _ .vmem, ⟨14, _⟩ => ⟨S1x8x512x192, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S512x512, .bf16⟩
  | .local _ .vmem, ⟨18, _⟩ => ⟨S512x128, .bf16⟩
  | .local _ .vmem, ⟨19, _⟩ => ⟨S512x128, .f32⟩
  | .local _ .vmem, ⟨20, _⟩ => ⟨S512x128, .f32⟩
  | _, _ => ⟨S16384x1600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_10 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x512x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KvProjRefIdeal.lean ====
abbrev S16384x1600 : Shape := ⟨2, ![16384, 1600]⟩
abbrev S4x4096 : Shape := ⟨2, ![4, 4096]⟩
abbrev S1x512 : Shape := ⟨2, ![1, 512]⟩
abbrev S1x512x8192 : Shape := ⟨3, ![1, 512, 8192]⟩
abbrev S1x128 : Shape := ⟨2, ![1, 128]⟩
abbrev S1x64 : Shape := ⟨2, ![1, 64]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S16384x512 : Shape := ⟨2, ![16384, 512]⟩
abbrev S4x4096x512 : Shape := ⟨3, ![4, 4096, 512]⟩
abbrev S16384x64 : Shape := ⟨2, ![16384, 64]⟩
abbrev S4x4096x64 : Shape := ⟨3, ![4, 4096, 64]⟩
abbrev S512 : Shape := ⟨1, ![512]⟩
abbrev S1x1x512 : Shape := ⟨3, ![1, 1, 512]⟩
abbrev S512x8192 : Shape := ⟨2, ![512, 8192]⟩
abbrev S4x4096x8192 : Shape := ⟨3, ![4, 4096, 8192]⟩
abbrev S4x4096x32x256 : Shape := ⟨4, ![4, 4096, 32, 256]⟩
abbrev S4x4096x32x128 : Shape := ⟨4, ![4, 4096, 32, 128]⟩
abbrev S128 : Shape := ⟨1, ![128]⟩
abbrev S4x4096x32x1 : Shape := ⟨4, ![4, 4096, 32, 1]⟩
abbrev S1x1x1x128 : Shape := ⟨4, ![1, 1, 1, 128]⟩
abbrev S64 : Shape := ⟨1, ![64]⟩
abbrev S1x1x64 : Shape := ⟨3, ![1, 1, 64]⟩
abbrev S4x4096x1x64 : Shape := ⟨4, ![4, 4096, 1, 64]⟩
abbrev S4x4096x32x64 : Shape := ⟨4, ![4, 4096, 32, 64]⟩
abbrev S4x4096x32x192 : Shape := ⟨4, ![4, 4096, 32, 192]⟩
abbrev S4x32x4096x192 : Shape := ⟨4, ![4, 32, 4096, 192]⟩
abbrev S4x32x4096x128 : Shape := ⟨4, ![4, 32, 4096, 128]⟩

abbrev nBuf : Space → Nat
  | .hbm => 106
  | .vmem => 0
  | .smem => 0
  | _ => 0

abbrev bufTy : (tb : Table) → Fin (tcTables nBuf tb) → BufTy
  | .hbm, ⟨0, _⟩ => ⟨S16384x1600, .bf16⟩
  | .hbm, ⟨1, _⟩ => ⟨S4x4096, .i32⟩
  | .hbm, ⟨2, _⟩ => ⟨S1x512, .f32⟩
  | .hbm, ⟨3, _⟩ => ⟨S1x512x8192, .f32⟩
  | .hbm, ⟨4, _⟩ => ⟨S1x128, .f32⟩
  | .hbm, ⟨5, _⟩ => ⟨S1x64, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4x4096, .f32⟩
  | .hbm, ⟨21, _⟩ => ⟨S4x4096x1, .f32⟩
  | .hbm, ⟨22, _⟩ => ⟨S1x1x32, .f32⟩
  | .hbm, ⟨23, _⟩ => ⟨S4x4096x32, .f32⟩
  | .hbm, ⟨24, _⟩ => ⟨S4x4096x32, .f32⟩
  | .hbm, ⟨25, _⟩ => ⟨S4x4096x32, .f32⟩
  | .hbm, ⟨26, _⟩ => ⟨S4x4096x32, .f32⟩
  | .hbm, ⟨27, _⟩ => ⟨S4x4096x32, .f32⟩
  | .hbm, ⟨28, _⟩ => ⟨S16384x512, .bf16⟩
  | .hbm, ⟨29, _⟩ => ⟨S16384x512, .f32⟩
  | .hbm, ⟨30, _⟩ => ⟨S4x4096x512, .f32⟩
  | .hbm, ⟨31, _⟩ => ⟨S16384x64, .bf16⟩
  | .hbm, ⟨32, _⟩ => ⟨S16384x64, .f32⟩
  | .hbm, ⟨33, _⟩ => ⟨S4x4096x64, .f32⟩
  | .hbm, ⟨34, _⟩ => ⟨S512, .f32⟩
  | .hbm, ⟨35, _⟩ => ⟨S4x4096x512, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x512, .f32⟩
  | .hbm, ⟨47, _⟩ => ⟨S4x4096x512, .f32⟩
  | .hbm, ⟨48, _⟩ => ⟨S1x1x512, .f32⟩
  | .hbm, ⟨49, _⟩ => ⟨S4x4096x512, .f32⟩
  | .hbm, ⟨50, _⟩ => ⟨S4x4096x512, .f32⟩
  | .hbm, ⟨51, _⟩ => ⟨S512x8192, .f32⟩
  | .hbm, ⟨52, _⟩ => ⟨S4x4096x8192, .f32⟩
  | .hbm, ⟨53, _⟩ => ⟨S4x4096x32x256, .f32⟩
  | .hbm, ⟨54, _⟩ => ⟨S4x4096x32x128, .f32⟩
  | .hbm, ⟨55, _⟩ => ⟨S128, .f32⟩
  | .hbm, ⟨56, _⟩ => ⟨S4x4096x32x128, .f32⟩
  | .hbm, ⟨57, _⟩ => ⟨S_, .f32⟩
  | .hbm, ⟨58, _⟩ => ⟨S4x4096x32, .f32⟩
  | .hbm, ⟨59, _⟩ => ⟨S4x4096x32x1, .f32⟩
  | .hbm, ⟨60, _⟩ => ⟨S_, .f32⟩
  | .hbm, ⟨61, _⟩ => ⟨S4x4096x32x1, .f32⟩
  | .hbm, ⟨62, _⟩ => ⟨S4x4096x32x1, .f32⟩
  | .hbm, ⟨63, _⟩ => ⟨S_, .f32⟩
  | .hbm, ⟨64, _⟩ => ⟨S4x4096x32x1, .f32⟩
  | .hbm, ⟨65, _⟩ => ⟨S4x4096x32x1, .f32⟩
  | .hbm, ⟨66, _⟩ => ⟨S4x4096x32x1, .f32⟩
  | .hbm, ⟨67, _⟩ => ⟨S4x4096x32x128, .f32⟩
  | .hbm, ⟨68, _⟩ => ⟨S4x4096x32x128, .f32⟩
  | .hbm, ⟨69, _⟩ => ⟨S1x1x1x128, .f32⟩
  | .hbm, ⟨70, _⟩ => ⟨S4x4096x32x128, .f32⟩
  | .hbm, ⟨71, _⟩ => ⟨S4x4096x32x128, .f32⟩
  | .hbm, ⟨72, _⟩ => ⟨S4x4096x32x128, .f32⟩
  | .hbm, ⟨73, _⟩ => ⟨S64, .f32⟩
  | .hbm, ⟨74, _⟩ => ⟨S4x4096x64, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x64, .f32⟩
  | .hbm, ⟨86, _⟩ => ⟨S4x4096x64, .f32⟩
  | .hbm, ⟨87, _⟩ => ⟨S1x1x64, .f32⟩
  | .hbm, ⟨88, _⟩ => ⟨S4x4096x64, .f32⟩
  | .hbm, ⟨89, _⟩ => ⟨S4x4096x64, .f32⟩
  | .hbm, ⟨90, _⟩ => ⟨S4x4096x32, .f32⟩
  | .hbm, ⟨91, _⟩ => ⟨S4x4096x32, .f32⟩
  | .hbm, ⟨92, _⟩ => ⟨S4x4096x32, .f32⟩
  | .hbm, ⟨93, _⟩ => ⟨S4x4096x32, .f32⟩
  | .hbm, ⟨94, _⟩ => ⟨S4x4096x32, .f32⟩
  | .hbm, ⟨95, _⟩ => ⟨S4x4096x32, .f32⟩
  | .hbm, ⟨96, _⟩ => ⟨S4x4096x32, .f32⟩
  | .hbm, ⟨97, _⟩ => ⟨S4x4096x32, .f32⟩
  | .hbm, ⟨98, _⟩ => ⟨S4x4096x64, .f32⟩
  | .hbm, ⟨99, _⟩ => ⟨S4x4096x1x64, .f32⟩
  | .hbm, ⟨100, _⟩ => ⟨S4x4096x32x64, .f32⟩
  | .hbm, ⟨101, _⟩ => ⟨S4x4096x32x192, .f32⟩
  | .hbm, ⟨102, _⟩ => ⟨S4x32x4096x192, .f32⟩
  | .hbm, ⟨103, _⟩ => ⟨S4x32x4096x192, .bf16⟩
  | .hbm, ⟨104, _⟩ => ⟨S4x32x4096x128, .f32⟩
  | .hbm, ⟨105, _⟩ => ⟨S4x32x4096x128, .bf16⟩
  | _, _ => ⟨S16384x1600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== Proof.WideValue.lean ====
module

public import proofs.«01_k».proof.Proof.Gen.KernelIdeal.Value
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.WideValue

open Cert.KernelIdeal Cert.KernelIdeal.Gen

variable (m : (ℓ : Loc nD τ sig) → Buf (Elt Ideal) ℓ)

/-- The reference's term over the two argument arrays. -/
abbrev REF (X : FVec Ideal S16384x4096 .bf16) (W : FVec Ideal S1x4096x30272 .f32) :
    FVec Ideal S16384x28672 .bf16 :=
  truncf .bf16 (extractStridedSlice S16384x28672 ![0, 1600] (Host.dotGeneral Cert.ReferenceIdeal.dot_S16384x4096_S4096x30272_S16384x30272_1_0_0_1_n_n none (extf .f32 X Cert.ReferenceIdeal.Gen.bitsLt_bf16_f32) (shapeCast _ W Cert.ReferenceIdeal.Gen.shapeCasts_S1x4096x30272_S4096x30272)) Cert.ReferenceIdeal.Gen.slices_S16384x30272_S16384x28672_0_1600) Cert.ReferenceIdeal.Gen.bitsLt_bf16_f32

/-- Where the two windows' blocks lie at a grid point. -/
theorem idx : ∀ t : Fin cfg0.N, win0_0.index t = ![t.val / 28, 0] ∧ win0_2.index t = ![t.val / 28, t.val % 28] :=
  (by decide +kernel : ∀ t : Fin grid0.N, _)

/-- The weight window is element-indexed: its block's first row, decided at every grid point. -/
theorem idxE : ∀ t : Fin cfg0.N, win0_1.index t = ![1600 + t.val % 28 * 1024, 0] :=
  (by decide +kernel : ∀ t : Fin grid0.N, _)

/-- The array's row that holds row `y 0` of the weight block. -/
theorem emb1_0 (t : Fin cfg0.N) (y : S1024x4096.Idx) :
    (((win0_1.rect t).emb y 0 : Fin _) : Nat) = 1600 + t.val % 28 * 1024 + (y 0 : Nat) := by
  have h := Pipeline.Window.rect_emb_val_off win0_1 t y (0 : Fin 2)
  rw [h, idxE t]; rfl

/-- The weight block takes every column. -/
theorem emb1_1 (t : Fin cfg0.N) (y : S1024x4096.Idx) :
    (((win0_1.rect t).emb y 1 : Fin _) : Nat) = (y 1 : Nat) := by
  have h := Pipeline.Window.rect_emb_val_off win0_1 t y (1 : Fin 2)
  rw [h, idxE t]; exact Nat.zero_add _

/-- What the body stores at `y` of grid point `t` is the reference at the place of `y` in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]
  · exact (emb1_1 t _)
  · exact (emb1_0 t _).trans (by show 1600 + t.val % 28 * 1024 + (y 1 : Nat) = _; omega)

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelIdeal.WideValue

end
-- ==== Proof.MergeValue.lean ====
module

public import proofs.«01_k».proof.Proof.Gen.MergeIdeal.Value
public import proofs.«01_k».proof.Proof.Gen.MergeRefIdeal.Run
public import Idealize.ShloMosaic.Lib.Pipeline.ValueKit

/-! The gated merge of the three branches: three grid points in a row take one block of the result, one
branch each. The first leaves gate times product in the scratch buffer, the second adds its own to it,
the third adds its own and stores the block; the reference is the same sum of three gated products. -/

@[expose] public section

set_option maxRecDepth 16384

noncomputable section

open Idealize.ShloMosaic Idealize.ShloMosaic.TcCoe Idealize.SL.Sem
open Idealize.ShloMosaic.Pipeline (Dat)

namespace Cert.MergeIdeal.MergeValue

open Cert.MergeIdeal Cert.MergeIdeal.Gen

variable (m : (ℓ : Loc nD τ sig) → Buf (Elt Ideal) ℓ)

/-- The reference's term over the five argument arrays. -/
abbrev REF (A0 A1 A2 : FVec Ideal S16384x4096 .bf16) (W : FVec Ideal S1x3x4096x4096 .f32)
    (B : FVec Ideal S16384x28672 .bf16) : FVec Ideal S16384x4096 .bf16 :=
  truncf .bf16 (addf (addf (mulf (Host.divf (broadcastInDim S16384x4096 ![] Cert.MergeRefIdeal.Gen.bcast_S_S16384x4096 (constant Cert.MergeRefIdeal.S_ .f32 0x3F800000#32)) (addf (broadcastInDim S16384x4096 ![] Cert.MergeRefIdeal.Gen.bcast_S_S16384x4096 (constant Cert.MergeRefIdeal.S_ .f32 0x3F800000#32)) (Host.exp (Host.negf (extractStridedSlice S16384x4096 ![0, 0] (extf .f32 (extractStridedSlice Cert.MergeRefIdeal.S16384x12288 ![0, 16384] B Cert.MergeRefIdeal.Gen.slices_S16384x28672_S16384x12288_0_16384) Cert.MergeRefIdeal.Gen.bitsLt_bf16_f32) Cert.MergeRefIdeal.Gen.slices_S16384x12288_S16384x4096_0_0))))) (Host.dotGeneral Cert.MergeRefIdeal.dot_S16384x4096_S4096x4096_S16384x4096_1_0_0_1_n_n none (extf .f32 A0 Cert.MergeRefIdeal.Gen.bitsLt_bf16_f32) (shapeCast _ (extractStridedSlice Cert.MergeRefIdeal.S1x1x4096x4096 ![0, 0, 0, 0] W Cert.MergeRefIdeal.Gen.slices_S1x3x4096x4096_S1x1x4096x4096_0_0_0_0) Cert.MergeRefIdeal.Gen.shapeCasts_S1x1x4096x4096_S4096x4096))) (mulf (Host.divf (broadcastInDim S16384x4096 ![] Cert.MergeRefIdeal.Gen.bcast_S_S16384x4096 (constant Cert.MergeRefIdeal.S_ .f32 0x3F800000#32)) (addf (broadcastInDim S16384x4096 ![] Cert.MergeRefIdeal.Gen.bcast_S_S16384x4096 (constant Cert.MergeRefIdeal.S_ .f32 0x3F800000#32)) (Host.exp (Host.negf (extractStridedSlice S16384x4096 ![0, 4096] (extf .f32 (extractStridedSlice Cert.MergeRefIdeal.S16384x12288 ![0, 16384] B Cert.MergeRefIdeal.Gen.slices_S16384x28672_S16384x12288_0_16384) Cert.MergeRefIdeal.Gen.bitsLt_bf16_f32) Cert.MergeRefIdeal.Gen.slices_S16384x12288_S16384x4096_0_4096))))) (Host.dotGeneral Cert.MergeRefIdeal.dot_S16384x4096_S4096x4096_S16384x4096_1_0_0_1_n_n none (extf .f32 A1 Cert.MergeRefIdeal.Gen.bitsLt_bf16_f32) (shapeCast _ (extractStridedSlice Cert.MergeRefIdeal.S1x1x4096x4096 ![0, 1, 0, 0] W Cert.MergeRefIdeal.Gen.slices_S1x3x4096x4096_S1x1x4096x4096_0_1_0_0) Cert.MergeRefIdeal.Gen.shapeCasts_S1x1x4096x4096_S4096x4096)))) (mulf (Host.divf (broadcastInDim S16384x4096 ![] Cert.MergeRefIdeal.Gen.bcast_S_S16384x4096 (constant Cert.MergeRefIdeal.S_ .f32 0x3F800000#32)) (addf (broadcastInDim S16384x4096 ![] Cert.MergeRefIdeal.Gen.bcast_S_S16384x4096 (constant Cert.MergeRefIdeal.S_ .f32 0x3F800000#32)) (Host.exp (Host.negf (extractStridedSlice S16384x4096 ![0, 8192] (extf .f32 (extractStridedSlice Cert.MergeRefIdeal.S16384x12288 ![0, 16384] B Cert.MergeRefIdeal.Gen.slices_S16384x28672_S16384x12288_0_16384) Cert.MergeRefIdeal.Gen.bitsLt_bf16_f32) Cert.MergeRefIdeal.Gen.slices_S16384x12288_S16384x4096_0_8192))))) (Host.dotGeneral Cert.MergeRefIdeal.dot_S16384x4096_S4096x4096_S16384x4096_1_0_0_1_n_n none (extf .f32 A2 Cert.MergeRefIdeal.Gen.bitsLt_bf16_f32) (shapeCast _ (extractStridedSlice Cert.MergeRefIdeal.S1x1x4096x4096 ![0, 2, 0, 0] W Cert.MergeRefIdeal.Gen.slices_S1x3x4096x4096_S1x1x4096x4096_0_2_0_0) Cert.MergeRefIdeal.Gen.shapeCasts_S1x1x4096x4096_S4096x4096)))) Cert.MergeRefIdeal.Gen.bitsLt_bf16_f32

/-- Where the windows' blocks lie at a grid point. -/
theorem idx : ∀ t : Fin cfg0.N, win0_0.index t = ![t.val / 12, 0] ∧ win0_1.index t = ![t.val / 12, 0]
    ∧ win0_2.index t = ![t.val / 12, 0] ∧ win0_3.index t = ![t.val % 3, 0, t.val / 3 % 4]
    ∧ win0_4.index t = ![t.val / 12, (4 + t.val % 3) * 4 + t.val / 3 % 4]
    ∧ win0_5.index t = ![t.val / 12, t.val / 3 % 4] :=
  (by decide +kernel : ∀ t : Fin grid0.N, _)

/-- The first branch's payload at `y`. -/
theorem pay2 (v0 : FVec Ideal S512x1024 .bf16) (a : FVec Ideal S512x4096 .bf16) (w : FVec Ideal S1x4096x1024 .bf16) (y) :
    k0_pay2 (F := Ideal) v0 a w y = Ideal.logistic (v0 y) * ∑ x : Fin 4096, a (ix2 (y 0) x) * w (ix3 0 x (y 1)) := by
  pointwise [k0_pay2, k0_pay1]

/-- The second branch's payload at `y`: what the scratch held plus its own part. -/
theorem pay3 (v0 : FVec Ideal S512x1024 .bf16) (s : FVec Ideal S512x1024 .f32) (a : FVec Ideal S512x4096 .bf16) (w : FVec Ideal S1x4096x1024 .bf16) (y) :
    k0_pay3 (F := Ideal) v0 s a w y = s y + Ideal.logistic (v0 y) * ∑ x : Fin 4096, a (ix2 (y 0) x) * w (ix3 0 x (y 1)) := by
  pointwise [k0_pay3, k0_pay1]

/-- The third branch's payload at `y`: what the scratch held plus its own part. -/
theorem pay4 (v0 : FVec Ideal S512x1024 .bf16) (s : FVec Ideal S512x1024 .f32) (a : FVec Ideal S512x4096 .bf16) (w : FVec Ideal S1x4096x1024 .bf16) (y) :
    k0_pay4 (F := Ideal) v0 s a w y = s y + Ideal.logistic (v0 y) * ∑ x : Fin 4096, a (ix2 (y 0) x) * w (ix3 0 x (y 1)) := by
  pointwise [k0_pay4, k0_pay1]

/-- The reference at an index. -/
theorem ref_at (A0 A1 A2 W B) (i : S16384x4096.Idx) : REF A0 A1 A2 W B i
    = Ideal.logistic (B (ix2 (n0 := 16384) (n1 := 28672) (i 0) ⟨16384 + (i 1 : Nat), by have := (i 1).isLt; change _ < 4096 at this; omega⟩))
        * (∑ x : Fin 4096, A0 (ix2 (i 0) x) * W (ix4 0 0 x (i 1)))
      + Ideal.logistic (B (ix2 (n0 := 16384) (n1 := 28672) (i 0) ⟨16384 + (4096 + (i 1 : Nat)), by have := (i 1).isLt; change _ < 4096 at this; omega⟩))
        * (∑ x : Fin 4096, A1 (ix2 (i 0) x) * W (ix4 0 1 x (i 1)))
      + Ideal.logistic (B (ix2 (n0 := 16384) (n1 := 28672) (i 0) ⟨16384 + (8192 + (i 1 : Nat)), by have := (i 1).isLt; change _ < 4096 at this; omega⟩))
        * (∑ x : Fin 4096, A2 (ix2 (i 0) x) * W (ix4 0 2 x (i 1))) := by
  pointwise [REF, Ideal.logistic]

/-- The scratch after a first point of a block. -/
theorem scA (c : Dev nD) (t : Fin cfg0.N) (h : t.val % 3 = 0) :
    (outsAt0 m c t.val t.isLt).2 = k0_pay2 (iblk m c 4 t) (iblk m c 0 t) (iblk m c 3 t) := by
  rw [outsAt0_A m c t h (by omega) (by omega)]; frame_out

/-- The scratch after a second point of a block. -/
theorem scB (c : Dev nD) (t : Fin cfg0.N) (h : t.val % 3 = 1) :
    (outsAt0 m c t.val t.isLt).2 = k0_pay3 (iblk m c 4 t)
      (outsAt0 m c (t.val - 1) (Nat.lt_of_le_of_lt (Nat.sub_le _ _) t.isLt)).2 (iblk m c 1 t) (iblk m c 3 t) := by
  rw [outsAt0_B m c t (by omega) h (by omega)]; frame_out
  rw [(Memref.isWhole_whole cc0_scratch0).read_unread]

/-- The block written at a third point. -/
theorem outC (c : Dev nD) (t : Fin cfg0.N) (h : t.val % 3 = 2) :
    (outsAt0 m c t.val t.isLt).1 = k0_pay4 (iblk m c 4 t)
      (outsAt0 m c (t.val - 1) (Nat.lt_of_le_of_lt (Nat.sub_le _ _) t.isLt)).2 (iblk m c 2 t) (iblk m c 3 t) := by
  rw [outsAt0_C m c t (by omega) (by omega) h]; frame_out
  rw [(Memref.isWhole_whole cc0_scratch0).read_unread]

/-- The gate block of a point read from its array. -/
theorem gate_at (c : Dev nD) (t : Fin cfg0.N) (y : S512x1024.Idx) (j : S16384x28672.Idx)
    (h0 : (j 0 : Nat) = t.val / 12 * 512 + (y 0 : Nat)) (h1 : (j 1 : Nat) = ((4 + t.val % 3) * 4 + t.val / 3 % 4) * 1024 + (y 1 : Nat)) :
    iblk m c 4 t y = m ((c : Thread nD τ).loc main_arg4) j := by
  blk_point [iblk, V, idx t]

/-- The weight block of a point read from the argument. -/
theorem w_at (c : Dev nD) (t : Fin cfg0.N) (x : Fin 4096) (y1 : Fin 1024) (j : S1x3x4096x4096.Idx)
    (h0 : (j 0 : Nat) = 0) (h1 : (j 1 : Nat) = t.val % 3) (h2 : (j 2 : Nat) = x)
    (h3 : (j 3 : Nat) = t.val / 3 % 4 * 1024 + (y1 : Nat)) :
    iblk m c 3 t (ix3 0 x y1) = m ((c : Thread nD τ).loc main_arg3) j := by
  blk_point [iblk, V, idx t]

/-- The three activation blocks of a point read from their arrays. -/
theorem a_at (c : Dev nD) (t : Fin cfg0.N) (y0 : Fin 512) (x : Fin 4096) (j : S16384x4096.Idx)
    (h0 : (j 0 : Nat) = t.val / 12 * 512 + (y0 : Nat)) (h1 : (j 1 : Nat) = x) :
    iblk m c 0 t (ix2 y0 x) = m ((c : Thread nD τ).loc main_arg0) j
    ∧ iblk m c 1 t (ix2 y0 x) = m ((c : Thread nD τ).loc main_arg1) j
    ∧ iblk m c 2 t (ix2 y0 x) = m ((c : Thread nD τ).loc main_arg2) j := by
  refine ⟨?_, ?_, ?_⟩ <;> blk_point [iblk, V, idx t]

/-- What the last of a block's three points stores at `y` is the reference at the place of `y`. -/
theorem point (c : Dev nD) (t : Fin cfg0.N) (h : t.val % 3 = 2) (y : S512x1024.Idx) :
    (outsAt0 m c t.val t.isLt).1 y = REF (m ((c : Thread nD τ).loc main_arg0)) (m ((c : Thread nD τ).loc main_arg1))
      (m ((c : Thread nD τ).loc main_arg2)) (m ((c : Thread nD τ).loc main_arg3)) (m ((c : Thread nD τ).loc main_arg4))
      (((cfg0.win 5).blk t).view.emb y) := by
  have ht := t.isLt
  have e0 : ((((cfg0.win 5).blk t).view.emb y 0 : Fin _) : Nat) = t.val / 12 * 512 + (y 0 : Nat) := by
    blk_simp [idx t]
  have e1 : ((((cfg0.win 5).blk t).view.emb y 1 : Fin _) : Nat) = t.val / 3 % 4 * 1024 + (y 1 : Nat) := by
    blk_simp [idx t]
  have y1 : (y 1 : Nat) < 1024 := (y 1).isLt
  generalize ((cfg0.win 5).blk t).view.emb y = j at e0 e1
  let b : Fin cfg0.N := ⟨t.val - 1, by omega⟩
  let a : Fin cfg0.N := ⟨t.val - 2, by omega⟩
  have hb : b.val = t.val - 1 := rfl
  have ha : a.val = t.val - 2 := rfl
  refine Eq.trans ?_ (ref_at _ _ _ _ _ j).symm
  rw [outC m c t h]
  refine (pay4 _ _ _ _ y).trans ?_
  refine congrArg₂ (· + ·) ?_ (congrArg₂ (· * ·) (congrArg Ideal.logistic ?_) (Fin.sum_fin_congr fun x => congrArg₂ (· * ·) ?_ ?_))
  · rw [show (outsAt0 m c (t.val - 1) (Nat.lt_of_le_of_lt (Nat.sub_le _ _) t.isLt)).2 = _ from scB m c b (by omega)]
    refine (pay3 _ _ _ _ y).trans ?_
    refine congrArg₂ (· + ·) ?_ (congrArg₂ (· * ·) (congrArg Ideal.logistic ?_) (Fin.sum_fin_congr fun x => congrArg₂ (· * ·) ?_ ?_))
    · rw [show (outsAt0 m c (b.val - 1) (Nat.lt_of_le_of_lt (Nat.sub_le _ _) b.isLt)).2 = _ from scA m c a (by omega)]
      refine (pay2 _ _ _ y).trans ?_
      refine congrArg₂ (· * ·) (congrArg Ideal.logistic ?_) (Fin.sum_fin_congr fun x => congrArg₂ (· * ·) ?_ ?_)
      · exact gate_at m c a y _ (by show (j 0 : Nat) = _; omega) (by show 16384 + (j 1 : Nat) = _; omega)
      · exact (a_at m c a _ x _ (by show (j 0 : Nat) = _; omega) rfl).1
      · exact w_at m c a x _ _ rfl (by show 0 = _; omega) rfl (by show (j 1 : Nat) = _; omega)
    · exact gate_at m c b y _ (by show (j 0 : Nat) = _; omega) (by show 16384 + (4096 + (j 1 : Nat)) = _; omega)
    · exact (a_at m c b _ x _ (by show (j 0 : Nat) = _; omega) rfl).2.1
    · exact w_at m c b x _ _ rfl (by show 1 = _; omega) rfl (by show (j 1 : Nat) = _; omega)
  · exact gate_at m c t y _ (by show (j 0 : Nat) = _; omega) (by show 16384 + (8192 + (j 1 : Nat)) = _; omega)
  · exact (a_at m c t _ x _ (by show (j 0 : Nat) = _; omega) rfl).2.2
  · exact w_at m c t x _ _ rfl (by show 2 = _; omega) rfl (by show (j 1 : Nat) = _; omega)

/-- The result array after the run is the reference's term of the arguments. -/
theorem final (c : Dev nD) : (dats m 0 c).arrAt 5 (cfgs 0).N
    = REF (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact point m c t ((flush0_5 t).mp hf) y

end Cert.MergeIdeal.MergeValue
-- ==== Proof.OutValue.lean ====
module

public import proofs.«01_k».proof.Proof.Gen.OutProjIdeal.Value
public import proofs.«01_k».proof.Proof.Gen.OutProjRefIdeal.Run
public import Idealize.ShloMosaic.Lib.Pipeline.ValueKit

/-! The output projection: block `(i, j)` of the result is row block `i` of the merged activations
times column block `j` of the weights, plus the residual's block, so the whole array is the residual
plus the product. -/

@[expose] public section

set_option maxRecDepth 16384

noncomputable section

open Idealize.ShloMosaic Idealize.ShloMosaic.TcCoe Idealize.SL.Sem
open Idealize.ShloMosaic.Pipeline (Dat)

namespace Cert.OutProjIdeal.OutValue

open Cert.OutProjIdeal Cert.OutProjIdeal.Gen

variable (m : (ℓ : Loc nD τ sig) → Buf (Elt Ideal) ℓ)

/-- The reference's term over the three argument arrays. -/
abbrev REF (A : FVec Ideal S16384x4096 .bf16) (W : FVec Ideal S1x4096x4096 .f32)
    (X : FVec Ideal S4x4096x4096 .f32) : FVec Ideal S16384x4096 .f32 :=
  addf (shapeCast _ X Cert.OutProjRefIdeal.Gen.shapeCasts_S4x4096x4096_S16384x4096) (Host.dotGeneral Cert.OutProjRefIdeal.dot_S16384x4096_S4096x4096_S16384x4096_1_0_0_1_n_n none (extf .f32 A Cert.OutProjRefIdeal.Gen.bitsLt_bf16_f32) (shapeCast _ W Cert.OutProjRefIdeal.Gen.shapeCasts_S1x4096x4096_S4096x4096))

/-- Where the four windows' blocks lie at a grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The body's block at `y`: the residual block there plus the inner product of the two rows. -/
theorem pay (v0 : FVec Ideal S1024x1024 .f32) (v2 : FVec Ideal S1024x4096 .bf16) (v3 : FVec Ideal S4096x1024 .bf16) (y) :
    k0_pay1 (F := Ideal) v0 v2 v3 y = v0 y + ∑ x : Fin 4096, v2 (ix2 (y 0) x) * v3 (ix2 x (y 1)) := by
  pointwise [k0_pay1]

/-- The reference at an index: the residual's entry plus the inner product. -/
theorem ref_at (A W X) (i) : REF A W X i = X (ix3 (n0 := 4) (n1 := 4096) (n2 := 4096) ⟨(i 0 : Nat) / 4096, by have := (i 0).isLt; change _ < 16384 at this; omega⟩
      ⟨(i 0 : Nat) % 4096, by omega⟩ (i 1)) + ∑ x : Fin 4096, A (ix2 (i 0) x) * W (ix3 0 x (i 1)) := by
  pointwise [REF]

/-- The residual as the kernel's third operand: the argument with its two leading axes joined. -/
theorem V_res (c : Dev nD) : V m c main_v2
    = shapeCast S16384x4096 (m ((c : Thread nD τ).loc main_arg2)) shapeCasts_S4x4096x4096_S16384x4096 := by
  unfold V; after_results <;> rfl

/-- The joined residual at an index. -/
theorem res_at (X : FVec Ideal S4x4096x4096 .f32) (i) : shapeCast S16384x4096 X shapeCasts_S4x4096x4096_S16384x4096 i
    = X (ix3 (n0 := 4) (n1 := 4096) (n2 := 4096) ⟨(i 0 : Nat) / 4096, by have := (i 0).isLt; change _ < 16384 at this; omega⟩
      ⟨(i 0 : Nat) % 4096, by omega⟩ (i 1)) := by
  pointwise

/-- What the body stores at `y` of grid point `t` is the reference at the place of `y` in the array. -/
theorem point (c : Dev nD) (t : Fin cfg0.N) (y) : k0_pay1 (iblk m c 2 t) (iblk m c 0 t) (iblk m c 1 t) y
    = REF (m ((c : Thread nD τ).loc main_arg0)) (m ((c : Thread nD τ).loc main_arg1))
        (m ((c : Thread nD τ).loc main_arg2)) (((cfg0.win 3).blk t).view.emb y) := by
  refine (pay _ _ _ y).trans (Eq.trans ?_ (ref_at _ _ _ _).symm)
  refine congrArg₂ (· + ·) ?_ (Fin.sum_fin_congr fun x => congrArg₂ (· * ·) ?_ ?_)
  · refine (congrFun (V_res m c) _).trans ((res_at _ _).trans ?_)
    blk_ext [idx t]
  · blk_point [iblk, V, idx t]
  · blk_point [iblk, V, idx t]

/-- The result array after the run is the reference's term of the arguments. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.OutProjIdeal.OutValue

end
-- ==== Proof.Online.lean ====
module

public import Idealize.ShloMosaic.PureOps.Ideal
public import Mathlib.Data.EReal.Operations
public import Mathlib.Algebra.BigOperators.Intervals

/-! The running softmax over the extended reals.

A row of scores is a function `f` of the key's position, `⊥` where the key is masked; a column of the
values is a function `w` of the key's position. After the first `n` keys the running maximum is `MX f n`,
the running sum of the weights that fall on lane `l` of 128 is `LS f n l`, and the running weighted sum
is `AC f w n`. Taking in 512 further keys multiplies what was held by the base-2 exponential of the old
maximum less the new, and adds the new keys' weights under the new maximum. -/

@[expose] public section

noncomputable section

open Idealize.ShloMosaic

namespace Cert.Online

/-- The largest of the first `n` scores. -/
def MX (f : ℕ → EReal) (n : ℕ) : EReal := (Finset.range n).sup f

/-- The sum, over the first `n` keys on lane `l`, of the weights under the maximum of the first `n`. -/
def LS (f : ℕ → EReal) (n l : ℕ) : EReal :=
  ∑ k ∈ Finset.range n with k % 128 = l, Ideal.exp2 (f k - MX f n)

/-- The sum, over the first `n` keys, of the weights times the values. -/
def AC (f w : ℕ → EReal) (n : ℕ) : EReal := ∑ k ∈ Finset.range n, Ideal.exp2 (f k - MX f n) * w k

/-- A base-2 exponential is never negative. -/
theorem exp2_nonneg (x : EReal) : 0 ≤ Ideal.exp2 x := by
  induction x with
  | bot => exact le_rfl
  | top => exact le_top
  | coe r => exact EReal.coe_nonneg.mpr (Real.rpow_nonneg (by norm_num) r)

/-- The base-2 exponential of a difference with the smaller number first is not infinite. -/
theorem exp2_sub_ne_top {a b : EReal} (h : a ≤ b) : Ideal.exp2 (a - b) ≠ ⊤ := by
  induction a with
  | bot => rw [EReal.bot_sub]; exact EReal.zero_ne_top
  | top =>
    rw [top_le_iff] at h; subst h
    rw [EReal.sub_top]; exact EReal.zero_ne_top
  | coe a =>
    induction b with
    | bot => exact absurd h (by simp)
    | top => rw [EReal.sub_top]; exact EReal.zero_ne_top
    | coe b => rw [← EReal.coe_sub]; exact EReal.coe_ne_top _

/-- Rescaling a weight from the old maximum to the new. -/
theorem exp2_rescale {s a b : EReal} (h : s ≤ a) (h' : a ≤ b) :
    Ideal.exp2 (a - b) * Ideal.exp2 (s - a) = Ideal.exp2 (s - b) := by
  induction b with
  | top => rw [EReal.sub_top, EReal.sub_top]; exact zero_mul _
  | bot =>
    rw [le_bot_iff] at h'; subst h'
    rw [le_bot_iff] at h; subst h
    rw [EReal.bot_sub]; exact zero_mul _
  | coe b =>
    induction a with
    | top => exact absurd h' (by simp)
    | bot =>
      rw [le_bot_iff] at h; subst h
      rw [EReal.bot_sub, EReal.bot_sub]; exact zero_mul _
    | coe a =>
      induction s with
      | top => exact absurd h (by simp)
      | bot => rw [EReal.bot_sub, EReal.bot_sub]; exact mul_zero _
      | coe s =>
        rw [← EReal.coe_sub, ← EReal.coe_sub, ← EReal.coe_sub]
        show ((Real.rpow 2 (a - b) : ℝ) : EReal) * ((Real.rpow 2 (s - a) : ℝ) : EReal) = ((Real.rpow 2 (s - b) : ℝ) : EReal)
        rw [← EReal.coe_mul]
        refine congrArg _ ((Real.rpow_add (by norm_num : (0 : ℝ) < 2) _ _).symm.trans (congrArg _ (by ring)))

/-- A nonnegative number that is not infinite distributes over a sum. -/
theorem mul_sum_of {ι : Type*} (c : EReal) (h0 : 0 ≤ c) (h1 : c ≠ ⊤) (s : Finset ι) (g : ι → EReal) :
    c * ∑ i ∈ s, g i = ∑ i ∈ s, c * g i := by
  classical
  induction s using Finset.induction_on with
  | empty => simp
  | insert a s ha ih =>
    rw [Finset.sum_insert ha, Finset.sum_insert ha, EReal.left_distrib_of_nonneg_of_ne_top h0 h1, ih]

theorem MX_zero (f : ℕ → EReal) : MX f 0 = ⊥ := rfl
theorem LS_zero (f : ℕ → EReal) (l : ℕ) : LS f 0 l = 0 := by simp [LS]
theorem AC_zero (f w : ℕ → EReal) : AC f w 0 = 0 := by simp [AC]

theorem le_MX (f : ℕ → EReal) {n k : ℕ} (h : k < n) : f k ≤ MX f n := Finset.le_sup (f := f) (Finset.mem_range.mpr h)

theorem MX_mono (f : ℕ → EReal) {n n' : ℕ} (h : n ≤ n') : MX f n ≤ MX f n' :=
  Finset.sup_mono (Finset.range_mono h)

/-- The maximum after `B` further keys. -/
theorem MX_add (f : ℕ → EReal) (n B : ℕ) :
    MX f (n + B) = max (MX f n) ((Finset.univ : Finset (Fin B)).sup fun j => f (n + j)) := by
  refine le_antisymm (Finset.sup_le fun k hk => ?_) (max_le (MX_mono f (Nat.le_add_right _ _))
    (Finset.sup_le fun j _ => le_MX f (Nat.add_lt_add_left j.isLt n)))
  by_cases h : k < n
  · exact le_max_of_le_left (le_MX f h)
  · have hk' := Finset.mem_range.mp hk
    refine le_max_of_le_right ?_
    have e : f k = f (n + ((⟨k - n, by omega⟩ : Fin B) : ℕ)) := congrArg f (by show k = n + (k - n); omega)
    rw [e]
    exact Finset.le_sup (f := fun j : Fin B => f (n + j)) (Finset.mem_univ _)

/-- A sum over the first `n + B` keys is the sum over the first `n` plus that over the `B` after them. -/
theorem sum_add (g : ℕ → EReal) (n B : ℕ) :
    ∑ k ∈ Finset.range (n + B), g k = ∑ k ∈ Finset.range n, g k + ∑ j : Fin B, g (n + j) := by
  rw [Finset.sum_range_add, Finset.sum_range (fun x => g (n + x))]

/-- The weighted sum after `B` further keys. -/
theorem AC_add (f w : ℕ → EReal) (n B : ℕ) :
    AC f w (n + B) = Ideal.exp2 (MX f n - MX f (n + B)) * AC f w n
      + ∑ j : Fin B, Ideal.exp2 (f (n + j) - MX f (n + B)) * w (n + j) := by
  unfold AC
  rw [sum_add, mul_sum_of _ (exp2_nonneg _) (exp2_sub_ne_top (MX_mono f (Nat.le_add_right _ _)))]
  refine congrArg (· + _) (Finset.sum_congr rfl fun k hk => ?_)
  rw [← mul_assoc, exp2_rescale (le_MX f (Finset.mem_range.mp hk)) (MX_mono f (Nat.le_add_right _ _))]

/-- Of the 512 keys after `n`, a multiple of 128, the four on lane `l`. -/
theorem lane_sum (g : ℕ → EReal) (n l : ℕ) (hn : n % 128 = 0) (hl : l < 128) :
    ∑ j : Fin 512, (if (n + j) % 128 = l then g (n + j) else 0)
      = g (n + l) + g (n + (128 + l)) + g (n + (256 + l)) + g (n + (384 + l)) := by
  rw [← Finset.sum_range (fun j => if (n + j) % 128 = l then g (n + j) else 0)]
  rw [← Finset.sum_filter]
  have e : (Finset.range 512).filter (fun j => (n + j) % 128 = l) = {l, 128 + l, 256 + l, 384 + l} := by
    ext j
    simp only [Finset.mem_filter, Finset.mem_range, Finset.mem_insert, Finset.mem_singleton]
    omega
  rw [e, Finset.sum_insert (by simp), Finset.sum_insert (by simp), Finset.sum_insert (by simp), Finset.sum_singleton]
  rw [add_assoc, add_assoc]

/-- The lane's sum after 512 further keys. -/
theorem LS_add (f : ℕ → EReal) (n l : ℕ) (hn : n % 128 = 0) (hl : l < 128) :
    LS f (n + 512) l = Ideal.exp2 (MX f n - MX f (n + 512)) * LS f n l
      + (Ideal.exp2 (f (n + l) - MX f (n + 512)) + Ideal.exp2 (f (n + (128 + l)) - MX f (n + 512))
        + Ideal.exp2 (f (n + (256 + l)) - MX f (n + 512)) + Ideal.exp2 (f (n + (384 + l)) - MX f (n + 512))) := by
  unfold LS
  rw [mul_sum_of _ (exp2_nonneg _) (exp2_sub_ne_top (MX_mono f (Nat.le_add_right _ _))), Finset.sum_filter, sum_add]
  refine congrArg₂ (· + ·) ?_ (lane_sum (fun k => Ideal.exp2 (f k - MX f (n + 512))) n l hn hl)
  rw [← Finset.sum_filter]
  refine Finset.sum_congr rfl fun k hk => ?_
  rw [exp2_rescale (le_MX f (Finset.mem_range.mp (Finset.mem_filter.mp hk).1)) (MX_mono f (Nat.le_add_right _ _))]

/-- The 128 lanes' sums together are the sum over all keys. -/
theorem sum_LS (f : ℕ → EReal) (n : ℕ) :
    ∑ l : Fin 128, LS f n l = ∑ k ∈ Finset.range n, Ideal.exp2 (f k - MX f n) := by
  unfold LS
  rw [← Finset.sum_range (fun l => ∑ k ∈ Finset.range n with k % 128 = l, Ideal.exp2 (f k - MX f n))]
  exact Finset.sum_fiberwise_of_maps_to (fun k _ => Finset.mem_range.mpr (Nat.mod_lt _ (by norm_num))) _

/-- Masked keys leave the maximum as it was. -/
theorem MX_masked (f : ℕ → EReal) {n n' : ℕ} (h : n ≤ n') (hf : ∀ k, n ≤ k → f k = ⊥) : MX f n' = MX f n := by
  refine le_antisymm (Finset.sup_le fun k _ => ?_) (MX_mono f h)
  by_cases hk : k < n
  · exact le_MX f hk
  · rw [hf k (by omega)]; exact bot_le

/-- A sum of weights (times any values) over masked keys too is the sum without them. -/
theorem sum_masked (f w : ℕ → EReal) {n n' : ℕ} (h : n ≤ n') (hf : ∀ k, n ≤ k → f k = ⊥) :
    ∑ k ∈ Finset.range n', Ideal.exp2 (f k - MX f n') * w k = ∑ k ∈ Finset.range n, Ideal.exp2 (f k - MX f n) * w k := by
  rw [MX_masked f h hf]
  refine (Finset.sum_subset (Finset.range_mono h) fun k _ hk => ?_).symm
  rw [hf k (by simpa using hk), EReal.bot_sub]
  exact zero_mul _

end Cert.Online

end
-- ==== Proof.FlashStep.lean ====
module

public import proofs.«01_k».proof.Proof.Gen.FlashIdeal.Value
public import proofs.«01_k».proof.Proof.Online
public import Idealize.ShloMosaic.Lib.Pipeline.ValueKit
public import Idealize.ShloMosaic.Lib.WordCmp

/-! One step of the attention kernel: a block of 512 keys taken into the running maximum, sum and
weighted sum of a block of query rows. The kernel does this at 14 places, with blocks of 1024 rows whose
scores are used as they are, blocks of 1024 rows on the diagonal (scores masked), and blocks of 512 rows on
the diagonal. The three kinds are written once each below. -/

@[expose] public section

set_option maxRecDepth 16384

noncomputable section

open Idealize.ShloMosaic Idealize.ShloMosaic.TcCoe Idealize.SL.Sem

namespace Cert.FlashIdeal.Step

open Cert.FlashIdeal Cert.FlashIdeal.Gen Cert.Online

abbrev BigS := Vec Ideal S1024x512 .f32
abbrev BigM := Vec Ideal S1024x128 .f32
abbrev HalfS := Vec Ideal S512x512 .f32
abbrev HalfM := Vec Ideal S512x128 .f32
abbrev Vals := Vec Ideal S1x1x512x128 .bf16

/-- The new maximum of 1024 rows. -/
def mB (S : BigS) (M : BigM) : BigM := k0_pay11 (F := Ideal) (k0_pay2 S M)
/-- The new lane sums of 1024 rows. -/
def lB (S : BigS) (M L : BigM) : BigM := k0_pay10 (F := Ideal) (k0_pay8 S M) (k0_pay9 S M L)
/-- The new weighted sums of 1024 rows. -/
def aB (S : BigS) (M A : BigM) (V : Vals) : BigM :=
  k0_pay12 (F := Ideal) (k0_pay3 S M) (k0_pay4 S M) (k0_pay5 S M) (k0_pay6 S M) (k0_pay7 S M) V A
/-- The scores of 1024 rows on the diagonal, masked. -/
def maskB (S : BigS) : BigS := k0_pay55 (F := Ideal) S

/-- The new maximum of 512 rows on the diagonal. -/
def mH (S : HalfS) (M : HalfM) : HalfM := k0_pay74 (F := Ideal) (k0_pay66 S M)
/-- The new lane sums of 512 rows on the diagonal. -/
def lH (S : HalfS) (M L : HalfM) : HalfM := k0_pay73 (F := Ideal) (k0_pay67 S M) (k0_pay72 S M) L
/-- The new weighted sums of 512 rows on the diagonal. -/
def aH (S : HalfS) (M A : HalfM) (V : Vals) : HalfM :=
  k0_pay75 (F := Ideal) (k0_pay67 S M) (k0_pay68 S M) (k0_pay69 S M) (k0_pay70 S M) (k0_pay71 S M) V A
/-- The scores of 512 rows on the diagonal, masked. -/
def maskH (S : HalfS) : HalfS := k0_pay65 (F := Ideal) S

theorem negInf : Ideal.ofBits FTy.f32 4286578688#32 = (⊥ : EReal) := by decide +kernel

theorem fold_max {n : ℕ} (g : Fin n → EReal) :
    Finset.fold max (Ideal.ofBits FTy.f32 4286578688#32) g Finset.univ = Finset.univ.sup g := by
  rw [negInf]; rfl

theorem mB_at (S : BigS) (M : BigM) (y) :
    mB S M y = max (M y) (Finset.univ.sup fun x : Fin 512 => S (ix2 (y 0) x)) := by
  unfold mB
  rw [← fold_max]
  pointwise [k0_pay11, k0_pay2]

theorem mB_raw (S : BigS) (M : BigM) (y) : k0_pay2 (F := Ideal) S M y = mB S M y := by
  rw [mB_at, ← fold_max]
  pointwise [k0_pay2]

theorem exists_ix2 {m n : ℕ} (y : (⟨2, ![m, n]⟩ : Shape).Idx) : ∃ (a : Fin m) (b : Fin n), y = ix2 a b :=
  ⟨y 0, y 1, by funext d; fin_cases d <;> rfl⟩

theorem lB_at (S : BigS) (M L : BigM) (y) :
    lB S M L y = Ideal.exp2 (M y - mB S M y) * L y
      + (Ideal.exp2 (S (ix2 (y 0) ⟨(y 1).val, by have := (y 1).isLt; simp at this; omega⟩) - mB S M y)
        + Ideal.exp2 (S (ix2 (y 0) ⟨128 + (y 1).val, by have := (y 1).isLt; simp at this; omega⟩) - mB S M y)
        + Ideal.exp2 (S (ix2 (y 0) ⟨256 + (y 1).val, by have := (y 1).isLt; simp at this; omega⟩) - mB S M y)
        + Ideal.exp2 (S (ix2 (y 0) ⟨384 + (y 1).val, by have := (y 1).isLt; simp at this; omega⟩) - mB S M y)) := by
  simp only [← mB_raw]; unfold lB
  pointwise [k0_pay10, k0_pay9, k0_pay8, k0_pay3, k0_pay4, k0_pay5, k0_pay6, k0_pay7]
  rfl

theorem aB_at (S : BigS) (M A : BigM) (V : Vals) (y) (hM : ∀ r l l', M (ix2 r l) = M (ix2 r l')) :
    aB S M A V y = Ideal.exp2 (M y - mB S M y) * A y
      + ∑ x : Fin 512, Ideal.exp2 (S (ix2 (y 0) x) - mB S M y) * V (ix4 0 0 x (y 1)) := by
  have e : ∀ r l l', k0_pay2 (F := Ideal) S M (ix2 r l) = k0_pay2 (F := Ideal) S M (ix2 r l') := fun r l l' => by
    rw [mB_raw, mB_raw, mB_at, mB_at, hM r l l']; rfl
  obtain ⟨a, b, rfl⟩ := exists_ix2 y
  simp only [← mB_raw]; unfold aB
  pointwise [k0_pay12, k0_pay3, k0_pay4, k0_pay5, k0_pay6, k0_pay7]
  refine congrArg₂ (· + ·) rfl (Finset.sum_congr rfl fun x _ => congrArg (· * _) ?_)
  split_ifs with h1 h2 h3
  · exact congrArg Ideal.exp2 (congrArg₂ (· - ·) rfl (e _ _ _))
  all_goals exact congrArg Ideal.exp2 (congrArg₂ (· - ·) (congrArg S (congrArg (ix2 a) (Fin.ext (by first | omega | (simp only; omega))))) (e _ _ _))

/-- 512 further keys taken in: the three running quantities of every row and lane. -/
theorem stepB (f : Fin 1024 → ℕ → EReal) (w : Fin 128 → ℕ → EReal) (n : ℕ) (hn : n % 128 = 0)
    (S : BigS) (M L A : BigM) (V : Vals)
    (hS : ∀ r (j : Fin 512), S (ix2 r j) = f r (n + j)) (hV : ∀ (j : Fin 512) d, V (ix4 0 0 j d) = w d (n + j))
    (hM : ∀ r l, M (ix2 r l) = MX (f r) n) (hL : ∀ r l, L (ix2 r l) = LS (f r) n l)
    (hA : ∀ r l, A (ix2 r l) = AC (f r) (w l) n) :
    (∀ r l, mB S M (ix2 r l) = MX (f r) (n + 512)) ∧ (∀ r l, lB S M L (ix2 r l) = LS (f r) (n + 512) l)
      ∧ ∀ r l, aB S M A V (ix2 r l) = AC (f r) (w l) (n + 512) := by
  have h : ∀ r l, mB S M (ix2 r l) = MX (f r) (n + 512) := fun r l => by
    rw [mB_at, MX_add, hM]; exact congrArg (max _) (Finset.sup_congr rfl fun j _ => hS r j)
  refine ⟨h, fun r l => ?_, fun r l => ?_⟩
  · rw [lB_at, LS_add _ _ _ hn l.isLt, h, hM, hL]
    exact congrArg (_ + ·) (congrArg₂ (· + ·) (congrArg₂ (· + ·) (congrArg₂ (· + ·)
      (congrArg (fun z => Ideal.exp2 (z - _)) (hS r _)) (congrArg (fun z => Ideal.exp2 (z - _)) (hS r _)))
      (congrArg (fun z => Ideal.exp2 (z - _)) (hS r _))) (congrArg (fun z => Ideal.exp2 (z - _)) (hS r _)))
  · rw [aB_at _ _ _ _ _ fun r l l' => (hM r l).trans (hM r l').symm, AC_add, h, hM, hA]
    exact congrArg (_ + ·) (Finset.sum_congr rfl fun j _ => congrArg₂ (· * ·)
      (congrArg (fun z => Ideal.exp2 (z - _)) (hS r j)) (hV j l))

theorem mH_at (S : HalfS) (M : HalfM) (y) :
    mH S M y = max (M y) (Finset.univ.sup fun x : Fin 512 => maskH S (ix2 (y 0) x)) := by
  unfold mH maskH
  rw [← fold_max]
  pointwise [k0_pay74, k0_pay66]

theorem mH_raw (S : HalfS) (M : HalfM) (y) : k0_pay66 (F := Ideal) S M y = mH S M y := by
  rw [mH_at, ← fold_max]; unfold maskH
  pointwise [k0_pay66]
theorem lH_at (S : HalfS) (M L : HalfM) (y) :
    lH S M L y = Ideal.exp2 (M y - mH S M y) * L y
      + (Ideal.exp2 (maskH S (ix2 (y 0) ⟨(y 1).val, by have := (y 1).isLt; simp at this; omega⟩) - mH S M y)
        + Ideal.exp2 (maskH S (ix2 (y 0) ⟨128 + (y 1).val, by have := (y 1).isLt; simp at this; omega⟩) - mH S M y)
        + Ideal.exp2 (maskH S (ix2 (y 0) ⟨256 + (y 1).val, by have := (y 1).isLt; simp at this; omega⟩) - mH S M y)
        + Ideal.exp2 (maskH S (ix2 (y 0) ⟨384 + (y 1).val, by have := (y 1).isLt; simp at this; omega⟩) - mH S M y)) := by
  simp only [← mH_raw]; unfold lH
  unfold maskH
  pointwise [k0_pay73, k0_pay72, k0_pay67, k0_pay68, k0_pay69, k0_pay70, k0_pay71]
  rfl

theorem aH_at (S : HalfS) (M A : HalfM) (V : Vals) (y) (hM : ∀ r l l', M (ix2 r l) = M (ix2 r l')) :
    aH S M A V y = Ideal.exp2 (M y - mH S M y) * A y
      + ∑ x : Fin 512, Ideal.exp2 (maskH S (ix2 (y 0) x) - mH S M y) * V (ix4 0 0 x (y 1)) := by
  have e : ∀ r l l', k0_pay66 (F := Ideal) S M (ix2 r l) = k0_pay66 (F := Ideal) S M (ix2 r l') := fun r l l' => by
    rw [mH_raw, mH_raw, mH_at, mH_at, hM r l l']; rfl
  obtain ⟨a, b, rfl⟩ := exists_ix2 y
  simp only [← mH_raw]; unfold aH
  unfold maskH
  pointwise [k0_pay75, k0_pay67, k0_pay68, k0_pay69, k0_pay70, k0_pay71]
  refine congrArg₂ (· + ·) rfl (Finset.sum_congr rfl fun x _ => congrArg (· * _) ?_)
  split_ifs with h1 h2 h3
  · exact congrArg Ideal.exp2 (congrArg₂ (· - ·) rfl (e _ _ _))
  all_goals exact congrArg Ideal.exp2 (congrArg₂ (· - ·) (congrArg (maskH S) (congrArg (ix2 a) (Fin.ext (by first | omega | (simp only; omega))))) (e _ _ _))

/-- 512 further keys taken in: the three running quantities of every row and lane. -/
theorem stepH (f : Fin 512 → ℕ → EReal) (w : Fin 128 → ℕ → EReal) (n : ℕ) (hn : n % 128 = 0)
    (S : HalfS) (M L A : HalfM) (V : Vals)
    (hS : ∀ r (j : Fin 512), maskH S (ix2 r j) = f r (n + j)) (hV : ∀ (j : Fin 512) d, V (ix4 0 0 j d) = w d (n + j))
    (hM : ∀ r l, M (ix2 r l) = MX (f r) n) (hL : ∀ r l, L (ix2 r l) = LS (f r) n l)
    (hA : ∀ r l, A (ix2 r l) = AC (f r) (w l) n) :
    (∀ r l, mH S M (ix2 r l) = MX (f r) (n + 512)) ∧ (∀ r l, lH S M L (ix2 r l) = LS (f r) (n + 512) l)
      ∧ ∀ r l, aH S M A V (ix2 r l) = AC (f r) (w l) (n + 512) := by
  have h : ∀ r l, mH S M (ix2 r l) = MX (f r) (n + 512) := fun r l => by
    rw [mH_at, MX_add, hM]; exact congrArg (max _) (Finset.sup_congr rfl fun j _ => hS r j)
  refine ⟨h, fun r l => ?_, fun r l => ?_⟩
  · rw [lH_at, LS_add _ _ _ hn l.isLt, h, hM, hL]
    exact congrArg (_ + ·) (congrArg₂ (· + ·) (congrArg₂ (· + ·) (congrArg₂ (· + ·)
      (congrArg (fun z => Ideal.exp2 (z - _)) (hS r _)) (congrArg (fun z => Ideal.exp2 (z - _)) (hS r _)))
      (congrArg (fun z => Ideal.exp2 (z - _)) (hS r _))) (congrArg (fun z => Ideal.exp2 (z - _)) (hS r _)))
  · rw [aH_at _ _ _ _ _ fun r l l' => (hM r l).trans (hM r l').symm, AC_add, h, hM, hA]
    exact congrArg (_ + ·) (Finset.sum_congr rfl fun j _ => congrArg₂ (· * ·)
      (congrArg (fun z => Ideal.exp2 (z - _)) (hS r j)) (hV j l))

/-- Comparing two positions small enough to be signed words. -/
theorem select_le {α : Type} (j r : ℕ) (hj : j < 2 ^ 31) (hr : r < 2 ^ 31) (a b : α) :
    Scalar.select (IntOp.cmpi CmpIPredicate.sle (BitVec.ofNat 32 j) (BitVec.ofNat 32 r)) a b = if j ≤ r then a else b := by
  simp (disch := omega) only [hlo_ix]

theorem maskB_at (S : BigS) (r : Fin 1024) (j : Fin 512) :
    maskB S (ix2 r j) = if (j : ℕ) ≤ r then S (ix2 r j) else ⊥ := by
  unfold maskB
  rw [← negInf]
  pointwise [k0_pay55]
  exact select_le _ _ (by omega) (by omega) _ _

theorem maskH_at (S : HalfS) (r : Fin 512) (j : Fin 512) :
    maskH S (ix2 r j) = if (j : ℕ) ≤ r then S (ix2 r j) else ⊥ := by
  unfold maskH
  rw [← negInf]
  pointwise [k0_pay65]
  exact select_le _ _ (by omega) (by omega) _ _

end Cert.FlashIdeal.Step

end
-- ==== Proof.FlashState.lean ====
module

public import proofs.«01_k».proof.Proof.FlashStep
public import Idealize.ShloMosaic.Lib.WritesUnit

/-! What the attention kernel's scratch buffers hold between steps.

Inside one (batch, head) block, `sc` is the masked score of a query row and a key, in base 2; `wv` is a
column of the values. `St lo n F8 F9 F10` says that, on the rows from `lo`, the contents `F8`, `F9`, `F10` of
the three scratch buffers are the running maximum, lane sums and weighted sums after the first `n q` keys of
row `q`. Each step of the kernel moves `St` on by 512 keys for one block of rows. -/

@[expose] public section

set_option maxRecDepth 16384

noncomputable section

open Idealize.ShloMosaic Idealize.ShloMosaic.TcCoe Idealize.SL.Sem

namespace Cert.FlashIdeal.Step

open Cert.FlashIdeal Cert.FlashIdeal.Gen Cert.Online

abbrev BigB := Memref sig .tc .vmem S1024x512 .f32
abbrev RowB := Memref sig .tc .vmem S4096x128 .f32
abbrev QB := Memref sig .tc .vmem S1x1x4096x192 .bf16
abbrev VB := Memref sig .tc .vmem S1x1x4096x128 .bf16
abbrev ConB (a : BigB) := BufTy.Contents (Elt Ideal) a.view.ty
abbrev ConR (a : RowB) := BufTy.Contents (Elt Ideal) a.view.ty

section Scores

variable (x0 x1 : Vec Ideal S1x1x4096x192 .bf16) (x2 : Vec Ideal S1x1x4096x128 .bf16)

/-- The score of query `q` and key `k`, not masked. -/
def raw (q k : ℕ) : EReal :=
  if h : q < 4096 ∧ k < 4096 then ∑ d : Fin 192, x0 (ix4 0 0 ⟨q, h.1⟩ d) * x1 (ix4 0 0 ⟨k, h.2⟩ d) else ⊥

/-- The score of query `q` and key `k`, a later key masked. -/
def sc (q k : ℕ) : EReal := if k ≤ q then raw x0 x1 q k else ⊥

/-- Column `l` of the values at key `k`. -/
def wv (l k : ℕ) : EReal := if h : l < 128 ∧ k < 4096 then x2 (ix4 0 0 ⟨k, h.2⟩ ⟨l, h.1⟩) else 0

theorem raw_of {q k : ℕ} (hq : q < 4096) (hk : k < 4096) :
    raw x0 x1 q k = ∑ d : Fin 192, x0 (ix4 0 0 ⟨q, hq⟩ d) * x1 (ix4 0 0 ⟨k, hk⟩ d) := dif_pos ⟨hq, hk⟩
theorem sc_le {q k : ℕ} (h : k ≤ q) : sc x0 x1 q k = raw x0 x1 q k := if_pos h
theorem sc_gt {q k : ℕ} (h : q < k) : sc x0 x1 q k = ⊥ := if_neg (by omega)

/-! ## Loads of the staged blocks -/

theorem kload (a : QB) (h : a.IsWhole) (off : Fin 4 → ℕ) (R N : ℕ) (inb) (hoff : off = ![0, 0, N, 0]) (j : Fin R)
    (hj : N + j < 4096) (d : Fin 192) :
    View.readAt (Elt Ideal) a.view (Rect.unit (s := S1x1x4096x192) off ![1, 1, R, 192] inb).toLoadRect (h.unread x1) (ix4 0 0 j d)
      = x1 (ix4 0 0 ⟨N + j, hj⟩ d) := by
  subst hoff
  rw [View.readAt_eq_ld, h.read_unread]
  exact congrArg x1 (funext fun e => by fin_cases e <;> exact Fin.ext (by simp [LoadRect.idx, Rect.unit]))

theorem vload (a : VB) (h : a.IsWhole) (off : Fin 4 → ℕ) (N : ℕ) (inb) (hoff : off = ![0, 0, N, 0]) (hN : N + 512 ≤ 4096)
    (j : Fin 512) (d : Fin 128) :
    View.readAt (Elt Ideal) a.view (Rect.unit (s := S1x1x4096x128) off ![1, 1, 512, 128] inb).toLoadRect (h.unread x2) (ix4 0 0 j d)
      = wv x2 d (N + j) := by
  subst hoff
  rw [View.readAt_eq_ld, h.read_unread, wv, dif_pos ⟨d.isLt, by omega⟩]
  exact congrArg x2 (funext fun e => by fin_cases e <;> exact Fin.ext (by simp [LoadRect.idx, Rect.unit]))

/-! ## Scores in the two score buffers -/

/-- The scores of 1024 rows against 512 keys. -/
def scoreB (K : Vec Ideal S1x1x512x192 .bf16) (Q : Vec Ideal S1x1x1024x192 .bf16) : BigS := k0_pay52 (F := Ideal) K Q
/-- The scores of 512 rows against 512 keys. -/
def scoreH (K Q : Vec Ideal S1x1x512x192 .bf16) : HalfS := k0_pay54 (F := Ideal) (k0_pay53 K) Q

theorem scoreB_at (K Q) (r : Fin 1024) (j : Fin 512) :
    scoreB K Q (ix2 r j) = ∑ d : Fin 192, Q (ix4 0 0 r d) * K (ix4 0 0 j d) := by
  unfold scoreB
  pointwise [k0_pay52]

theorem scoreH_at (K Q) (r : Fin 512) (j : Fin 512) :
    scoreH K Q (ix2 r j) = ∑ d : Fin 192, Q (ix4 0 0 r d) * K (ix4 0 0 j d) := by
  unfold scoreH
  pointwise [k0_pay54, k0_pay53]

/-- A score buffer holds the scores of rows `lo ..` against keys `N ..`. -/
def ScB (a : BigB) (f : ConB a) (lo N : ℕ) : Prop :=
  ∀ (r : Fin 1024) (j : Fin 512), a.view.read (Elt Ideal) f (ix2 r j) = raw x0 x1 (lo + r) (N + j)

/-- The lower half of a score buffer holds the scores of rows `b ..` against keys `b ..`. -/
def ScH (a : BigB) (f : ConB a) (b : ℕ) : Prop :=
  ∀ (r : Fin 512) (j : Fin 512), a.view.read (Elt Ideal) f (ix2 ⟨512 + r, by omega⟩ j) = raw x0 x1 (b + r) (b + j)

theorem storeB (a : BigB) (f : ConB a) (L) (inb) (P : (Rect.unit (s := S1024x512) ![0, 0] ![1024, 512] inb).shape.Idx → Elt Ideal .f32)
    (lo N : ℕ) (h : ∀ (r : Fin 1024) (j : Fin 512), P (ix2 r j) = raw x0 x1 (lo + r) (N + j)) :
    ScB x0 x1 a (a.view.writes (Elt Ideal) f (⟨Rect.unit (s := S1024x512) ![0, 0] ![1024, 512] inb, P⟩ :: L)) lo N := fun r j =>
  (View.read_writes_cons_rows_of_mem (d := ![1024, 512]) a.view f inb P L (ix2 r j) (ix2 r j) rfl (Nat.zero_add _).symm rfl).trans (h r j)

theorem storeH (a : BigB) (f : ConB a) (L) (inb) (P : (Rect.unit (s := S1024x512) ![512, 0] ![512, 512] inb).shape.Idx → Elt Ideal .f32)
    (b : ℕ) (h : ∀ (r : Fin 512) (j : Fin 512), P (ix2 r j) = raw x0 x1 (b + r) (b + j)) :
    ScH x0 x1 a (a.view.writes (Elt Ideal) f (⟨Rect.unit (s := S1024x512) ![512, 0] ![512, 512] inb, P⟩ :: L)) b := fun r j =>
  (View.read_writes_cons_rows_of_mem (d := ![1024, 512]) a.view f inb P L (ix2 ⟨512 + r, by omega⟩ j) (ix2 r j) rfl rfl rfl).trans (h r j)

/-- Scores of a query and a key block, as loaded. -/
theorem scoresB (a2 a3 : QB) (h2 : a2.IsWhole) (h3 : a3.IsWhole) (lo N : ℕ) (off : Fin 4 → ℕ) (hoff : off = ![0, 0, N, 0])
    (hlo : lo + 1024 ≤ 4096) (hN : N + 512 ≤ 4096) (inb inb') (r : Fin 1024) (j : Fin 512) :
    scoreB (View.readAt (Elt Ideal) a3.view (Rect.unit (s := S1x1x4096x192) off ![1, 1, 512, 192] inb).toLoadRect (h3.unread x1))
      (View.readAt (Elt Ideal) a2.view (Rect.unit (s := S1x1x4096x192) ![0, 0, lo, 0] ![1, 1, 1024, 192] inb').toLoadRect (h2.unread x0)) (ix2 r j)
      = raw x0 x1 (lo + r) (N + j) := by
  rw [scoreB_at, raw_of x0 x1 (q := lo + r) (k := N + j) (by omega) (by omega)]
  exact Finset.sum_congr rfl fun d _ => congrArg₂ (· * ·)
    (kload x0 a2 h2 _ 1024 lo _ rfl r (by omega) d) (kload x1 a3 h3 off 512 N _ hoff j (by omega) d)

theorem scoresH (a2 a3 : QB) (h2 : a2.IsWhole) (h3 : a3.IsWhole) (b : ℕ) (hb : b + 512 ≤ 4096) (inb inb') (r : Fin 512) (j : Fin 512) :
    scoreH (View.readAt (Elt Ideal) a3.view (Rect.unit (s := S1x1x4096x192) ![0, 0, b, 0] ![1, 1, 512, 192] inb).toLoadRect (h3.unread x1))
      (View.readAt (Elt Ideal) a2.view (Rect.unit (s := S1x1x4096x192) ![0, 0, b, 0] ![1, 1, 512, 192] inb').toLoadRect (h2.unread x0)) (ix2 r j)
      = raw x0 x1 (b + r) (b + j) := by
  rw [scoreH_at, raw_of x0 x1 (q := b + r) (k := b + j) (by omega) (by omega)]
  exact Finset.sum_congr rfl fun d _ => congrArg₂ (· * ·)
    (kload x0 a2 h2 _ 512 b _ rfl r (by omega) d) (kload x1 a3 h3 _ 512 b _ rfl j (by omega) d)

/-! ## The three running quantities -/

/-- The rows from `lo` of the three buffers are the running quantities after `n q` keys. -/
structure St (a8 a9 a10 : RowB) (lo : ℕ) (n : ℕ → ℕ) (F8 : ConR a8) (F9 : ConR a9) (F10 : ConR a10) : Prop where
  m : ∀ (q : Fin 4096) (l : Fin 128), lo ≤ q → a8.view.read (Elt Ideal) F8 (ix2 q l) = MX (sc x0 x1 q) (n q)
  l : ∀ (q : Fin 4096) (l : Fin 128), lo ≤ q → a9.view.read (Elt Ideal) F9 (ix2 q l) = LS (sc x0 x1 q) (n q) l
  a : ∀ (q : Fin 4096) (l : Fin 128), lo ≤ q → a10.view.read (Elt Ideal) F10 (ix2 q l) = AC (sc x0 x1 q) (wv x2 l) (n q)

variable {x0 x1 x2}

theorem St.mono {a8 a9 a10 : RowB} {lo lo' : ℕ} {n n' : ℕ → ℕ} {F8 F9 F10} (h : St x0 x1 x2 a8 a9 a10 lo n F8 F9 F10)
    (hlo : lo ≤ lo') (hn : ∀ q, lo' ≤ q → n' q = n q) : St x0 x1 x2 a8 a9 a10 lo' n' F8 F9 F10 :=
  ⟨fun q l hq => (h.m q l (by omega)).trans (by rw [hn q hq]), fun q l hq => (h.l q l (by omega)).trans (by rw [hn q hq]),
    fun q l hq => (h.a q l (by omega)).trans (by rw [hn q hq])⟩

/-- Rows `[b, b + R)` of a buffer, as a load reads them. -/
abbrev rowsOf (a : RowB) (f : ConR a) (b R : ℕ) (inb : ∀ a : Fin 2, (![b, 0] : Fin 2 → ℕ) a + (![R, 128] : Fin 2 → ℕ) a ≤ S4096x128.size a) : Vec Ideal ⟨2, ![R, 128]⟩ .f32 :=
  View.ld (S := S4096x128) (a.view.read (Elt Ideal) f) (Rect.unit (s := S4096x128) ![b, 0] ![R, 128] inb)

theorem rowsOf_at (a : RowB) (f : ConR a) (b R : ℕ) (inb) (r : Fin R) (l : Fin 128) (h : b + r < 4096) :
    rowsOf a f b R inb (ix2 r l) = a.view.read (Elt Ideal) f (ix2 ⟨b + r, h⟩ l) :=
  congrArg (a.view.read (Elt Ideal) f) (funext fun e => by fin_cases e <;> exact Fin.ext (by simp [LoadRect.idx, Rect.unit]))

/-- The buffer with rows `[b, b + R)` stored over. -/
abbrev rowsPut (a : RowB) (f : ConR a) (b R : ℕ) (inb : ∀ a : Fin 2, (![b, 0] : Fin 2 → ℕ) a + (![R, 128] : Fin 2 → ℕ) a ≤ S4096x128.size a)
    (P : Vec Ideal ⟨2, ![R, 128]⟩ .f32) : ConR a :=
  a.view.writes (Elt Ideal) f [⟨Rect.unit (s := S4096x128) ![b, 0] ![R, 128] inb, P⟩]

theorem rowsPut_at (a : RowB) (f : ConR a) (b R : ℕ) (inb) (P) (G : ℕ → EReal) (q : Fin 4096) (l : Fin 128)
    (hin : ∀ r : Fin R, (q : ℕ) = b + r → P (ix2 r l) = G q)
    (hout : q < b ∨ b + R ≤ q → a.view.read (Elt Ideal) f (ix2 q l) = G q) :
    a.view.read (Elt Ideal) (rowsPut a f b R inb P) (ix2 q l) = G q := by
  by_cases h : b ≤ q ∧ q < b + R
  · refine (View.read_writes_cons_rows_of_mem (d := ![4096, 128]) a.view f inb P [] (ix2 q l) (ix2 ⟨q - b, by omega⟩ l) rfl ?_ rfl).trans
      (hin ⟨q - b, by omega⟩ ?_)
    · show (q : ℕ) = b + (q - b); omega
    · show (q : ℕ) = b + (q - b); omega
  · exact (View.read_writes_cons_rows_of_not_mem (d := ![4096, 128]) (W := R) a.view f inb P [] (ix2 q l) rfl rfl
      (by show (q : ℕ) < b ∨ b + R ≤ (q : ℕ); omega)).trans (hout (by omega))

/-- New contents from what a step leaves of each of its rows. -/
theorem St.put {a8 a9 a10 : RowB} {lo : ℕ} {n n' : ℕ → ℕ} {F8 F9 F10} (h : St x0 x1 x2 a8 a9 a10 lo n F8 F9 F10)
    (b R N' : ℕ) (hR : b + R ≤ 4096) (i8 i9 i10) (P8 P9 P10 : Vec Ideal ⟨2, ![R, 128]⟩ .f32)
    (hin : ∀ q, b ≤ q → q < b + R → n' q = N') (hout : ∀ q, lo ≤ q → q < b ∨ b + R ≤ q → n' q = n q)
    (h8 : ∀ (r : Fin R) l, P8 (ix2 r l) = MX (sc x0 x1 (b + r)) N')
    (h9 : ∀ (r : Fin R) (l : Fin 128), P9 (ix2 r l) = LS (sc x0 x1 (b + r)) N' l)
    (h10 : ∀ (r : Fin R) (l : Fin 128), P10 (ix2 r l) = AC (sc x0 x1 (b + r)) (wv x2 l) N') :
    St x0 x1 x2 a8 a9 a10 lo n' (rowsPut a8 F8 b R i8 P8) (rowsPut a9 F9 b R i9 P9) (rowsPut a10 F10 b R i10 P10) := by
  refine ⟨fun q l hq => ?_, fun q l hq => ?_, fun q l hq => ?_⟩
  · refine rowsPut_at a8 F8 b R i8 P8 (fun q => MX (sc x0 x1 q) (n' q)) q l (fun r e => ?_) (fun ho => ?_)
    · show _ = MX (sc x0 x1 q) (n' q); rw [h8, hin q (by omega) (by omega), e]
    · show _ = MX (sc x0 x1 q) (n' q); rw [h.m q l hq, hout q hq ho]
  · refine rowsPut_at a9 F9 b R i9 P9 (fun q => LS (sc x0 x1 q) (n' q) l) q l (fun r e => ?_) (fun ho => ?_)
    · show _ = LS (sc x0 x1 q) (n' q) l; rw [h9, hin q (by omega) (by omega), e]
    · show _ = LS (sc x0 x1 q) (n' q) l; rw [h.l q l hq, hout q hq ho]
  · refine rowsPut_at a10 F10 b R i10 P10 (fun q => AC (sc x0 x1 q) (wv x2 l) (n' q)) q l (fun r e => ?_) (fun ho => ?_)
    · show _ = AC (sc x0 x1 q) (wv x2 l) (n' q); rw [h10, hin q (by omega) (by omega), e]
    · show _ = AC (sc x0 x1 q) (wv x2 l) (n' q); rw [h.a q l hq, hout q hq ho]

/-- Rows of the tile at `lo` have taken in `N` keys, the rows after it none. -/
def nT (lo N q : ℕ) : ℕ := if q < lo + 1024 then N else 0

/-- Rows of the tile at `lo` whose lower half has taken in 512 keys more. -/
def nH (lo N q : ℕ) : ℕ := if q < lo + 512 then N else nT lo (N + 512) q

/-- One step of 1024 rows, the scores given. -/
theorem St.big {a8 a9 a10 : RowB} {lo N : ℕ} {F8 F9 F10} (h : St x0 x1 x2 a8 a9 a10 lo (nT lo N) F8 F9 F10)
    (hlo : lo + 1024 ≤ 4096) (hN : N % 128 = 0) (i8 i9 i10 j8 j9 j10) (S : BigS) (V : Vals)
    (hS : ∀ (r : Fin 1024) (j : Fin 512), S (ix2 r j) = sc x0 x1 (lo + r) (N + j))
    (hV : ∀ (j : Fin 512) (d : Fin 128), V (ix4 0 0 j d) = wv x2 d (N + j)) :
    St x0 x1 x2 a8 a9 a10 lo (nT lo (N + 512))
      (rowsPut a8 F8 lo 1024 i8 (mB S (rowsOf a8 F8 lo 1024 j8)))
      (rowsPut a9 F9 lo 1024 i9 (lB S (rowsOf a8 F8 lo 1024 j8) (rowsOf a9 F9 lo 1024 j9)))
      (rowsPut a10 F10 lo 1024 i10 (aB S (rowsOf a8 F8 lo 1024 j8) (rowsOf a10 F10 lo 1024 j10) V)) := by
  have e : ∀ r : Fin 1024, nT lo N (lo + r) = N := fun r => if_pos (by omega)
  obtain ⟨h8, h9, h10⟩ := stepB (fun r => sc x0 x1 (lo + r)) (fun l => wv x2 l) N hN S
    (rowsOf a8 F8 lo 1024 j8) (rowsOf a9 F9 lo 1024 j9) (rowsOf a10 F10 lo 1024 j10) V hS hV
    (fun r l => by rw [rowsOf_at _ _ _ _ _ _ _ (by omega), h.m ⟨lo + r, by omega⟩ l (Nat.le_add_right _ _)]; exact congrArg _ (e r))
    (fun r l => by rw [rowsOf_at _ _ _ _ _ _ _ (by omega), h.l ⟨lo + r, by omega⟩ l (Nat.le_add_right _ _)]; exact congrArg (LS _ · _) (e r))
    (fun r l => by rw [rowsOf_at _ _ _ _ _ _ _ (by omega), h.a ⟨lo + r, by omega⟩ l (Nat.le_add_right _ _)]; exact congrArg _ (e r))
  exact h.put lo 1024 (N + 512) hlo i8 i9 i10 _ _ _ (fun q _ hq => if_pos hq)
    (fun q hq ho => by unfold nT; rw [if_neg (by omega), if_neg (by omega)]) h8 h9 h10

/-- The scores as loaded from a whole score buffer. -/
abbrev bigOf (a : BigB) (f : ConB a) (inb : ∀ a : Fin 2, (![0, 0] : Fin 2 → ℕ) a + (![1024, 512] : Fin 2 → ℕ) a ≤ S1024x512.size a) : BigS :=
  View.ld (S := S1024x512) (a.view.read (Elt Ideal) f) (Rect.unit (s := S1024x512) ![0, 0] ![1024, 512] inb)
/-- The scores as loaded from the lower half of a score buffer. -/
abbrev halfOf (a : BigB) (f : ConB a) (inb : ∀ a : Fin 2, (![512, 0] : Fin 2 → ℕ) a + (![512, 512] : Fin 2 → ℕ) a ≤ S1024x512.size a) : HalfS :=
  View.ld (S := S1024x512) (a.view.read (Elt Ideal) f) (Rect.unit (s := S1024x512) ![512, 0] ![512, 512] inb)

theorem bigOf_at {a : BigB} {f : ConB a} {lo N : ℕ} (h : ScB x0 x1 a f lo N) (inb) (r : Fin 1024) (j : Fin 512) :
    bigOf a f inb (ix2 r j) = raw x0 x1 (lo + r) (N + j) :=
  (congrArg (a.view.read (Elt Ideal) f) (funext fun e => by fin_cases e <;> exact Fin.ext (by simp [LoadRect.idx, Rect.unit]))).trans (h r j)

theorem halfOf_at {a : BigB} {f : ConB a} {b : ℕ} (h : ScH x0 x1 a f b) (inb) (r : Fin 512) (j : Fin 512) :
    halfOf a f inb (ix2 r j) = raw x0 x1 (b + r) (b + j) :=
  (congrArg (a.view.read (Elt Ideal) f) (funext fun e => by fin_cases e <;> exact Fin.ext (by simp [LoadRect.idx, Rect.unit]))).trans (h r j)

/-- A step of 1024 rows against keys that all come before them. -/
theorem St.full {a8 a9 a10 : RowB} {lo N : ℕ} {F8 F9 F10} (h : St x0 x1 x2 a8 a9 a10 lo (nT lo N) F8 F9 F10)
    (hlo : lo + 1024 ≤ 4096) (hN : N % 128 = 0) (hle : N + 512 ≤ lo) {a : BigB} {f : ConB a} (hf : ScB x0 x1 a f lo N)
    (i8 i9 i10 j8 j9 j10 i) (V : Vals) (hV : ∀ (j : Fin 512) (d : Fin 128), V (ix4 0 0 j d) = wv x2 d (N + j)) :
    St x0 x1 x2 a8 a9 a10 lo (nT lo (N + 512))
      (rowsPut a8 F8 lo 1024 i8 (mB (bigOf a f i) (rowsOf a8 F8 lo 1024 j8)))
      (rowsPut a9 F9 lo 1024 i9 (lB (bigOf a f i) (rowsOf a8 F8 lo 1024 j8) (rowsOf a9 F9 lo 1024 j9)))
      (rowsPut a10 F10 lo 1024 i10 (aB (bigOf a f i) (rowsOf a8 F8 lo 1024 j8) (rowsOf a10 F10 lo 1024 j10) V)) :=
  h.big hlo hN i8 i9 i10 j8 j9 j10 _ V (fun r j => (bigOf_at hf i r j).trans (sc_le x0 x1 (by omega)).symm) hV

/-- The step of 1024 rows on the diagonal. -/
theorem St.diag {a8 a9 a10 : RowB} {lo : ℕ} {F8 F9 F10} (h : St x0 x1 x2 a8 a9 a10 lo (nT lo lo) F8 F9 F10)
    (hlo : lo + 1024 ≤ 4096) (hN : lo % 128 = 0) {a : BigB} {f : ConB a} (hf : ScB x0 x1 a f lo lo)
    (i8 i9 i10 j8 j9 j10 i) (V : Vals) (hV : ∀ (j : Fin 512) (d : Fin 128), V (ix4 0 0 j d) = wv x2 d (lo + j)) :
    St x0 x1 x2 a8 a9 a10 lo (nT lo (lo + 512))
      (rowsPut a8 F8 lo 1024 i8 (mB (maskB (bigOf a f i)) (rowsOf a8 F8 lo 1024 j8)))
      (rowsPut a9 F9 lo 1024 i9 (lB (maskB (bigOf a f i)) (rowsOf a8 F8 lo 1024 j8) (rowsOf a9 F9 lo 1024 j9)))
      (rowsPut a10 F10 lo 1024 i10 (aB (maskB (bigOf a f i)) (rowsOf a8 F8 lo 1024 j8) (rowsOf a10 F10 lo 1024 j10) V)) :=
  h.big hlo hN i8 i9 i10 j8 j9 j10 _ V (fun r j => by
    rw [maskB_at]
    by_cases hj : (j : ℕ) ≤ r
    · rw [if_pos hj, bigOf_at hf, sc_le x0 x1 (by omega)]
    · rw [if_neg hj, sc_gt x0 x1 (by omega)]) hV

/-- The step of the lower 512 rows of a tile on the diagonal. -/
theorem St.half {a8 a9 a10 : RowB} {lo : ℕ} {F8 F9 F10} (h : St x0 x1 x2 a8 a9 a10 lo (nT lo (lo + 512)) F8 F9 F10)
    (hlo : lo + 1024 ≤ 4096) (hN : lo % 128 = 0) (b : ℕ) (hb : b = lo + 512) {a : BigB} {f : ConB a} (hf : ScH x0 x1 a f b)
    (i8 i9 i10 j8 j9 j10 i) (V : Vals) (hV : ∀ (j : Fin 512) (d : Fin 128), V (ix4 0 0 j d) = wv x2 d (b + j)) :
    St x0 x1 x2 a8 a9 a10 lo (nH lo (lo + 512))
      (rowsPut a8 F8 b 512 i8 (mH (halfOf a f i) (rowsOf a8 F8 b 512 j8)))
      (rowsPut a9 F9 b 512 i9 (lH (halfOf a f i) (rowsOf a8 F8 b 512 j8) (rowsOf a9 F9 b 512 j9)))
      (rowsPut a10 F10 b 512 i10 (aH (halfOf a f i) (rowsOf a8 F8 b 512 j8) (rowsOf a10 F10 b 512 j10) V)) := by
  have e : ∀ r : Fin 512, nT lo (lo + 512) (b + r) = b := fun r => (if_pos (by omega)).trans hb.symm
  obtain ⟨h8, h9, h10⟩ := stepH (fun r => sc x0 x1 (b + r)) (fun l => wv x2 l) b (by omega) (halfOf a f i)
    (rowsOf a8 F8 b 512 j8) (rowsOf a9 F9 b 512 j9) (rowsOf a10 F10 b 512 j10) V
    (fun r j => by
      rw [maskH_at]
      by_cases hj : (j : ℕ) ≤ r
      · rw [if_pos hj, halfOf_at hf, sc_le x0 x1 (by omega)]
      · rw [if_neg hj, sc_gt x0 x1 (by omega)]) hV
    (fun r l => by rw [rowsOf_at _ _ _ _ _ _ _ (by omega), h.m ⟨b + r, by omega⟩ l (by show lo ≤ b + r; omega)]; exact congrArg _ (e r))
    (fun r l => by rw [rowsOf_at _ _ _ _ _ _ _ (by omega), h.l ⟨b + r, by omega⟩ l (by show lo ≤ b + r; omega)]; exact congrArg (LS _ · _) (e r))
    (fun r l => by rw [rowsOf_at _ _ _ _ _ _ _ (by omega), h.a ⟨b + r, by omega⟩ l (by show lo ≤ b + r; omega)]; exact congrArg _ (e r))
  exact h.put b 512 (b + 512) (by omega) i8 i9 i10 _ _ _
    (fun q hq hq' => by unfold nH nT; rw [if_neg (by omega), if_pos (by omega)]; omega)
    (fun q hq ho => by
      unfold nH nT
      rcases ho with ho | ho
      · rw [if_pos (by omega), if_pos (by omega)]
      · rw [if_neg (by omega), if_neg (by omega), if_neg (by omega)]) h8 h9 h10

/-- After a tile, the rows below it still have taken in no key. -/
theorem St.next {a8 a9 a10 : RowB} {lo N : ℕ} {F8 F9 F10} (h : St x0 x1 x2 a8 a9 a10 lo (nH lo N) F8 F9 F10) (lo' : ℕ)
    (e : lo' = lo + 1024) : St x0 x1 x2 a8 a9 a10 lo' (nT lo' 0) F8 F9 F10 :=
  h.mono (by omega) fun q hq => by unfold nH nT; split_ifs <;> omega

end Scores

end Cert.FlashIdeal.Step

end
-- ==== Proof.FlashPays.lean ====
module

public import proofs.«01_k».proof.Proof.FlashState

/-! The kernel's 14 steps and 14 score blocks are the step and the block of `FlashStep` and `FlashState`. -/

@[expose] public section

set_option maxRecDepth 16384

noncomputable section

open Idealize.ShloMosaic Idealize.ShloMosaic.TcCoe Idealize.SL.Sem

namespace Cert.FlashIdeal.Step

open Cert.FlashIdeal Cert.FlashIdeal.Gen

theorem m_t1a (S : BigS) (M : BigM) : k0_pay11 (F := Ideal) (k0_pay2 (F := Ideal) S M) = mB S M := rfl
theorem l_t1a (S : BigS) (M L : BigM) : k0_pay10 (F := Ideal) (k0_pay8 (F := Ideal) S M) (k0_pay9 (F := Ideal) S M L) = lB S M L := rfl
theorem a_t1a (S : BigS) (M A : BigM) (V : Vals) : k0_pay12 (F := Ideal) (k0_pay3 (F := Ideal) S M) (k0_pay4 (F := Ideal) S M) (k0_pay5 (F := Ideal) S M) (k0_pay6 (F := Ideal) S M) (k0_pay7 (F := Ideal) S M) V A = aB S M A V := rfl
theorem m_t1b (S : BigS) (M : BigM) : k0_pay22 (F := Ideal) S M = mB S M := rfl
theorem l_t1b (S : BigS) (M L : BigM) : k0_pay21 (F := Ideal) S M L = lB S M L := rfl
theorem a_t1b (S : BigS) (M A : BigM) (V : Vals) : k0_pay124 (F := Ideal) (k0_pay16 (F := Ideal) S M) (k0_pay23 (F := Ideal) V) (k0_pay24 (F := Ideal) S M) A = aB S M A V := rfl
theorem m_t2a (S : BigS) (M : BigM) : k0_pay35 (F := Ideal) (k0_pay26 (F := Ideal) S M) = mB S M := rfl
theorem l_t2a (S : BigS) (M L : BigM) : k0_pay34 (F := Ideal) (k0_pay32 (F := Ideal) S M) (k0_pay33 (F := Ideal) S M L) = lB S M L := rfl
theorem a_t2a (S : BigS) (M A : BigM) (V : Vals) : k0_pay36 (F := Ideal) (k0_pay27 (F := Ideal) S M) (k0_pay28 (F := Ideal) S M) (k0_pay29 (F := Ideal) S M) (k0_pay30 (F := Ideal) S M) (k0_pay31 (F := Ideal) S M) V A = aB S M A V := rfl
theorem m_t2b (S : BigS) (M : BigM) : k0_pay46 (F := Ideal) S M = mB S M := rfl
theorem l_t2b (S : BigS) (M L : BigM) : k0_pay45 (F := Ideal) S M L = lB S M L := rfl
theorem a_t2b (S : BigS) (M A : BigM) (V : Vals) : k0_pay151 (F := Ideal) (k0_pay40 (F := Ideal) S M) (k0_pay47 (F := Ideal) V) (k0_pay48 (F := Ideal) S M) A = aB S M A V := rfl
theorem m_r1a (S : BigS) (M : BigM) : k0_pay86 (F := Ideal) (k0_pay79 (F := Ideal) S M) = mB S M := rfl
theorem l_r1a (S : BigS) (M L : BigM) : k0_pay85 (F := Ideal) S (k0_pay79 (F := Ideal) S M) (k0_pay80 (F := Ideal) S M) (k0_pay81 (F := Ideal) S M) L = lB S M L := rfl
theorem a_r1a (S : BigS) (M A : BigM) (V : Vals) : k0_pay87 (F := Ideal) S (k0_pay79 (F := Ideal) S M) (k0_pay80 (F := Ideal) S M) (k0_pay81 (F := Ideal) S M) V A = aB S M A V := rfl
theorem m_r1b (S : BigS) (M : BigM) : k0_pay96 (F := Ideal) (k0_pay89 (F := Ideal) S M) = mB S M := rfl
theorem l_r1b (S : BigS) (M L : BigM) : k0_pay95 (F := Ideal) S M L = lB S M L := rfl
theorem a_r1b (S : BigS) (M A : BigM) (V : Vals) : k0_pay97 (F := Ideal) (k0_pay90 (F := Ideal) S M) (k0_pay91 (F := Ideal) S M) (k0_pay92 (F := Ideal) S M) (k0_pay93 (F := Ideal) S M) (k0_pay94 (F := Ideal) S M) V A = aB S M A V := rfl
theorem m_d0 (S : BigS) (M : BigM) : k0_pay63 (F := Ideal) S M = mB (maskB S) M := rfl
theorem l_d0 (S : BigS) (M L : BigM) : k0_pay62 (F := Ideal) S M L = lB (maskB S) M L := rfl
theorem a_d0 (S : BigS) (M A : BigM) (V : Vals) : k0_pay64 (F := Ideal) (k0_pay57 (F := Ideal) S M) (k0_pay58 (F := Ideal) S M) (k0_pay59 (F := Ideal) S M) (k0_pay60 (F := Ideal) S M) (k0_pay61 (F := Ideal) S M) V A = aB (maskB S) M A V := rfl
theorem m_d1 (S : BigS) (M : BigM) : k0_pay109 (F := Ideal) S k0_pay99 k0_pay100 M = mB (maskB S) M := rfl
theorem l_d1 (S : BigS) (M L : BigM) : k0_pay108 (F := Ideal) S k0_pay99 k0_pay100 M L = lB (maskB S) M L := rfl
theorem a_d1 (S : BigS) (M A : BigM) (V : Vals) : k0_pay111 (F := Ideal) (k0_pay110 (F := Ideal) S k0_pay99 k0_pay100 M V A) = aB (maskB S) M A V := rfl
theorem m_d2 (S : BigS) (M : BigM) : k0_pay135 (F := Ideal) (k0_pay127 (F := Ideal) S M) = mB (maskB S) M := rfl
theorem l_d2 (S : BigS) (M L : BigM) : k0_pay134 (F := Ideal) (k0_pay128 (F := Ideal) S M) (k0_pay133 (F := Ideal) S M) L = lB (maskB S) M L := rfl
theorem a_d2 (S : BigS) (M A : BigM) (V : Vals) : k0_pay136 (F := Ideal) (k0_pay128 (F := Ideal) S M) (k0_pay129 (F := Ideal) S M) (k0_pay130 (F := Ideal) S M) (k0_pay131 (F := Ideal) S M) (k0_pay132 (F := Ideal) S M) V A = aB (maskB S) M A V := rfl
theorem m_d3 (S : BigS) (M : BigM) : k0_pay161 (F := Ideal) S M = mB (maskB S) M := rfl
theorem l_d3 (S : BigS) (M L : BigM) : k0_pay160 (F := Ideal) S M L = lB (maskB S) M L := rfl
theorem a_d3 (S : BigS) (M A : BigM) (V : Vals) : k0_pay164 (F := Ideal) (k0_pay155 (F := Ideal) S M) (k0_pay162 (F := Ideal) V) (k0_pay163 (F := Ideal) S M) A = aB (maskB S) M A V := rfl
theorem m_h1 (S : HalfS) (M : HalfM) : k0_pay120 (F := Ideal) S M = mH S M := rfl
theorem l_h1 (S : HalfS) (M L : HalfM) : k0_pay119 (F := Ideal) S M L = lH S M L := rfl
theorem a_h1 (S : HalfS) (M A : HalfM) (V : Vals) : k0_pay121 (F := Ideal) (k0_pay114 (F := Ideal) S M) (k0_pay115 (F := Ideal) S M) (k0_pay116 (F := Ideal) S M) (k0_pay117 (F := Ideal) S M) (k0_pay118 (F := Ideal) S M) V A = aH S M A V := rfl
theorem m_h2 (S : HalfS) (M : HalfM) : k0_pay146 (F := Ideal) (k0_pay138 (F := Ideal) S M) = mH S M := rfl
theorem l_h2 (S : HalfS) (M L : HalfM) : k0_pay145 (F := Ideal) (k0_pay137 (F := Ideal) S) (k0_pay138 (F := Ideal) S M) (k0_pay139 (F := Ideal) S M) (k0_pay140 (F := Ideal) S) L = lH S M L := rfl
theorem a_h2 (S : HalfS) (M A : HalfM) (V : Vals) : k0_pay147 (F := Ideal) (k0_pay137 (F := Ideal) S) (k0_pay138 (F := Ideal) S M) (k0_pay139 (F := Ideal) S M) (k0_pay140 (F := Ideal) S) V A = aH S M A V := rfl
theorem l_h3 (S : HalfS) (M L : HalfM) : k0_pay172 (F := Ideal) S M L = lH S M L := rfl
theorem a_h3 (S : HalfS) (M A : HalfM) (V : Vals) : k0_pay174 (F := Ideal) (k0_pay167 (F := Ideal) S M) (k0_pay168 (F := Ideal) S M) (k0_pay169 (F := Ideal) S M) (k0_pay170 (F := Ideal) S M) (k0_pay171 (F := Ideal) S M) V A = aH S M A V := rfl
theorem s_1 (K : Vec Ideal S1x1x512x192 .bf16) (Q : Vec Ideal S1x1x1024x192 .bf16) : k0_pay1 (F := Ideal) K Q = scoreB K Q := rfl
theorem s_25 (K : Vec Ideal S1x1x512x192 .bf16) (Q : Vec Ideal S1x1x1024x192 .bf16) : k0_pay25 (F := Ideal) K Q = scoreB K Q := rfl
theorem s_77 (K : Vec Ideal S1x1x512x192 .bf16) (Q : Vec Ideal S1x1x1024x192 .bf16) : k0_pay77 (F := Ideal) K Q = scoreB K Q := rfl
theorem s_78 (K : Vec Ideal S1x1x512x192 .bf16) (Q : Vec Ideal S1x1x1024x192 .bf16) : k0_pay78 (F := Ideal) K Q = scoreB K Q := rfl
theorem s_88 (K : Vec Ideal S1x1x512x192 .bf16) (Q : Vec Ideal S1x1x1024x192 .bf16) : k0_pay88 (F := Ideal) K Q = scoreB K Q := rfl
theorem s_123 (K : Vec Ideal S1x1x512x192 .bf16) (Q : Vec Ideal S1x1x1024x192 .bf16) : k0_pay123 (F := Ideal) K Q = scoreB K Q := rfl
theorem s_150 (K : Vec Ideal S1x1x512x192 .bf16) (Q : Vec Ideal S1x1x1024x192 .bf16) : k0_pay150 (F := Ideal) K Q = scoreB K Q := rfl
theorem s_13 (K : Vec Ideal S1x1x512x192 .bf16) (Q : Vec Ideal S1x1x1024x192 .bf16) : k0_pay14 (F := Ideal) (k0_pay13 (F := Ideal) K Q) = scoreB K Q := rfl
theorem s_37 (K : Vec Ideal S1x1x512x192 .bf16) (Q : Vec Ideal S1x1x1024x192 .bf16) : k0_pay38 (F := Ideal) (k0_pay37 (F := Ideal) K Q) = scoreB K Q := rfl
theorem s_98 (K Q : Vec Ideal S1x1x512x192 .bf16) : k0_pay98 (F := Ideal) K Q = scoreH K Q := rfl
theorem s_125 (K Q : Vec Ideal S1x1x512x192 .bf16) : k0_pay125 (F := Ideal) K Q = scoreH K Q := rfl
theorem s_152 (K Q : Vec Ideal S1x1x512x192 .bf16) : k0_pay152 (F := Ideal) K Q = scoreH K Q := rfl

end Cert.FlashIdeal.Step

end
-- ==== Proof.FlashLoop.lean ====
module

public import proofs.«01_k».proof.Proof.FlashPays

/-! The two loops of the attention kernel: the third tile of 1024 query rows makes two trips, the fourth
three; each trip takes in two blocks of 512 keys, both before the tile's rows, and leaves the scores of the
block after them in the first score buffer. -/

@[expose] public section

set_option maxRecDepth 16384

noncomputable section

open Idealize.ShloMosaic Idealize.ShloMosaic.TcCoe Idealize.SL.Sem

namespace Cert.FlashIdeal.Step

open Cert.FlashIdeal Cert.FlashIdeal.Gen Cert.Online

theorem rowsOf_put (a : RowB) (f : ConR a) (b R : ℕ) (i) (P : Vec Ideal ⟨2, ![R, 128]⟩ .f32) (j) :
    rowsOf a (rowsPut a f b R i P) b R j = P := by
  funext y
  obtain ⟨r, l, rfl⟩ := exists_ix2 y
  refine (View.read_writes_cons_rows_of_mem (d := ![4096, 128]) a.view f i P [] _ (ix2 r l) rfl ?_ ?_)
  · show b + 1 * (r : ℕ) = b + r; omega
  · show 0 + 1 * (l : ℕ) = l; omega

/-- Writing a list of pieces whose last is a run of whole rows is writing those rows last. -/
theorem writes_rows (a : RowB) (f : ConR a) (b R : ℕ) (i) (P : Vec Ideal ⟨2, ![R, 128]⟩ .f32) (L) :
    a.view.writes (Elt Ideal) f (⟨Rect.unit (s := S4096x128) ![b, 0] ![R, 128] i, P⟩ :: L)
      = rowsPut a (a.view.writes (Elt Ideal) f L) b R i P := rfl

theorem writes_none (a : RowB) (f : ConR a) : a.view.writes (Elt Ideal) f [] = f := rfl

theorem bigOf_put (a : BigB) (f : ConB a) (L) (i) (P : BigS) (j) :
    bigOf a (a.view.writes (Elt Ideal) f (⟨Rect.unit (s := S1024x512) ![0, 0] ![1024, 512] i, P⟩ :: L)) j = P := by
  funext y
  obtain ⟨r, l, rfl⟩ := exists_ix2 y
  refine (View.read_writes_cons_rows_of_mem (d := ![1024, 512]) a.view f i P L _ (ix2 r l) rfl ?_ ?_)
  · show 0 + 1 * (r : ℕ) = 0 + r; omega
  · show 0 + 1 * (l : ℕ) = l; omega

theorem off4a : ∀ k : Fin k0_t1_loop.trips, k0_off4 k 1#32 = ![0, 0, 1024 * (k : ℕ) + 512, 0] := by decide +kernel
theorem off4b : ∀ k : Fin k0_t1_loop.trips, k0_off4 k 2#32 = ![0, 0, 1024 * (k : ℕ) + 1024, 0] := by decide +kernel
theorem off5_eq : ∀ k : Fin k0_t1_loop.trips, k0_off5 k = ![0, 0, 1024 * (k : ℕ), 0] := by decide +kernel
theorem off6_eq : ∀ k : Fin k0_t1_loop.trips, k0_off6 k = ![0, 0, 1024 * (k : ℕ) + 512, 0] := by decide +kernel
theorem trips1 : k0_t1_loop.trips = 2 := by decide +kernel

section
variable (x0 x1 : Vec Ideal S1x1x4096x192 .bf16) (x2 : Vec Ideal S1x1x4096x128 .bf16)
  (c : Dev nD) (i : grid0.Coords) (arg2 : Memref sig .tc .vmem S1x1x4096x192 .bf16) (harg2 : arg2.IsWhole) (arg3 : Memref sig .tc .vmem S1x1x4096x192 .bf16) (harg3 : arg3.IsWhole)
  (arg4 : Memref sig .tc .vmem S1x1x4096x128 .bf16) (harg4 : arg4.IsWhole) (arg5 : Memref sig .tc .vmem S4096x128 .bf16) (harg5 : arg5.IsWhole) (arg6 : Memref sig .tc .vmem S1024x512 .f32) (harg6 : arg6.IsWhole)
  (arg7 : Memref sig .tc .vmem S1024x512 .f32) (harg7 : arg7.IsWhole) (arg8 : Memref sig .tc .vmem S4096x128 .f32) (harg8 : arg8.IsWhole) (arg9 : Memref sig .tc .vmem S4096x128 .f32) (harg9 : arg9.IsWhole)
  (arg10 : Memref sig .tc .vmem S4096x128 .f32) (harg10 : arg10.IsWhole)

/-- One trip of the tile at row 2048. -/
theorem trip1 (w0 w1 : BitVec 32) (k : Fin k0_t1_loop.trips) (f6 : ConB arg6) (f7 : ConB arg7) (f8 : ConR arg8) (f9 : ConR arg9) (f10 : ConR arg10)
    (hS : ScB x0 x1 arg6 f6 2048 (1024 * k)) (h : St x0 x1 x2 arg8 arg9 arg10 2048 (nT 2048 (1024 * k)) f8 f9 f10)
    (L) (hL : tripL_k0_t1 (F := Ideal) Variants.none c none i arg2 harg2 arg3 harg3 arg4 harg4 arg5 harg5 arg6 harg6 arg7 harg7 arg8 harg8 arg9 harg9 arg10 harg10 w0 w1
      (harg2.unread x0) (harg3.unread x1) (harg4.unread x2) k f6 f7 f8 f9 f10 = L) :
    ScB x0 x1 arg6 (arg6.view.writes (Elt Ideal) f6 L.1) 2048 (1024 * (k + 1))
      ∧ St x0 x1 x2 arg8 arg9 arg10 2048 (nT 2048 (1024 * (k + 1))) (arg8.view.writes (Elt Ideal) f8 L.2.2.1)
          (arg9.view.writes (Elt Ideal) f9 L.2.2.2.1) (arg10.view.writes (Elt Ideal) f10 L.2.2.2.2) := by
  have hk : (k : ℕ) < 2 := trips1 ▸ k.isLt
  subst hL
  have st1 := h.full (by norm_num) (by omega) (by omega) hS
    inb_S4096x128_S1024x128_2048_0 inb_S4096x128_S1024x128_2048_0 inb_S4096x128_S1024x128_2048_0
    inb_S4096x128_S1024x128_2048_0 inb_S4096x128_S1024x128_2048_0 inb_S4096x128_S1024x128_2048_0 inb_S1024x512_S1024x512_0_0
    (View.readAt (Elt Ideal) arg4.view (Rect.unit (s := S1x1x4096x128) (k0_off5 k) ![1, 1, 512, 128] (k0_off5_inb k)).toLoadRect (harg4.unread x2))
    (fun j d => vload x2 arg4 harg4 _ _ _ (off5_eq k) (by omega) j d)
  have st2 := st1.big (by norm_num) (by omega)
    inb_S4096x128_S1024x128_2048_0 inb_S4096x128_S1024x128_2048_0 inb_S4096x128_S1024x128_2048_0
    inb_S4096x128_S1024x128_2048_0 inb_S4096x128_S1024x128_2048_0 inb_S4096x128_S1024x128_2048_0
    (scoreB (View.readAt (Elt Ideal) arg3.view (Rect.unit (s := S1x1x4096x192) (k0_off4 k 1#32) ![1, 1, 512, 192] (k0_off4_inb k 0)).toLoadRect (harg3.unread x1))
      (View.readAt (Elt Ideal) arg2.view (Rect.unit (s := S1x1x4096x192) ![0, 0, 2048, 0] ![1, 1, 1024, 192] inb_S1x1x4096x192_S1x1x1024x192_0_0_2048_0).toLoadRect (harg2.unread x0)))
    (View.readAt (Elt Ideal) arg4.view (Rect.unit (s := S1x1x4096x128) (k0_off6 k) ![1, 1, 512, 128] (k0_off6_inb k)).toLoadRect (harg4.unread x2))
    (fun r j => (scoresB x0 x1 arg2 arg3 harg2 harg3 2048 _ _ (off4a k) (by norm_num) (by omega) _ _ r j).trans (sc_le x0 x1 (by omega)).symm)
    (fun j d => vload x2 arg4 harg4 _ _ _ (off6_eq k) (by omega) j d)
  rw [rowsOf_put, rowsOf_put, rowsOf_put] at st2
  unfold tripL_k0_t1 trip_k0_t1
  dsimp only
  refine ⟨storeB x0 x1 arg6 f6 [] _ _ 2048 _ fun r j => ?_, ?_⟩
  · exact (scoresB x0 x1 arg2 arg3 harg2 harg3 2048 _ _ (off4b k) (by norm_num) (by omega) (k0_off4_inb k 1) inb_S1x1x4096x192_S1x1x1024x192_0_0_2048_0 r j)
  · have g7 : trip_k0_t1.sl.HW_arg7_1 (F := Ideal) arg2 arg3 (harg2.unread x0) (harg3.unread x1) k
        = [⟨Rect.unit (s := S1024x512) ![0, 0] ![1024, 512] inb_S1024x512_S1024x512_0_0, scoreB
          (View.readAt (Elt Ideal) arg3.view (Rect.unit (s := S1x1x4096x192) (k0_off4 k 1#32) ![1, 1, 512, 192] (k0_off4_inb k 0)).toLoadRect (harg3.unread x1))
          (View.readAt (Elt Ideal) arg2.view (Rect.unit (s := S1x1x4096x192) ![0, 0, 2048, 0] ![1, 1, 1024, 192] inb_S1x1x4096x192_S1x1x1024x192_0_0_2048_0).toLoadRect (harg2.unread x0))⟩] := rfl
    have g8 : trip_k0_t1.sl.HW_arg8_1 (F := Ideal) arg6 arg8 f6 f8
        = [⟨Rect.unit (s := S4096x128) ![2048, 0] ![1024, 128] inb_S4096x128_S1024x128_2048_0,
            mB (bigOf arg6 f6 inb_S1024x512_S1024x512_0_0) (rowsOf arg8 f8 2048 1024 inb_S4096x128_S1024x128_2048_0)⟩] := rfl
    have g9 : trip_k0_t1.sl.HW_arg9_1 (F := Ideal) arg6 arg8 arg9 f6 f8 f9
        = [⟨Rect.unit (s := S4096x128) ![2048, 0] ![1024, 128] inb_S4096x128_S1024x128_2048_0,
            lB (bigOf arg6 f6 inb_S1024x512_S1024x512_0_0) (rowsOf arg8 f8 2048 1024 inb_S4096x128_S1024x128_2048_0)
              (rowsOf arg9 f9 2048 1024 inb_S4096x128_S1024x128_2048_0)⟩] := rfl
    have g10 : trip_k0_t1.sl.HW_arg10_1 (F := Ideal) arg4 arg6 arg8 arg10 (harg4.unread x2) k f6 f8 f10
        = [⟨Rect.unit (s := S4096x128) ![2048, 0] ![1024, 128] inb_S4096x128_S1024x128_2048_0,
            aB (bigOf arg6 f6 inb_S1024x512_S1024x512_0_0) (rowsOf arg8 f8 2048 1024 inb_S4096x128_S1024x128_2048_0)
              (rowsOf arg10 f10 2048 1024 inb_S4096x128_S1024x128_2048_0)
              (View.readAt (Elt Ideal) arg4.view (Rect.unit (s := S1x1x4096x128) (k0_off5 k) ![1, 1, 512, 128] (k0_off5_inb k)).toLoadRect (harg4.unread x2))⟩] := rfl
    have e7 : trip_k0_t1.sl.v716 (F := Ideal) arg2 arg3 arg7 (harg2.unread x0) (harg3.unread x1) k = scoreB
          (View.readAt (Elt Ideal) arg3.view (Rect.unit (s := S1x1x4096x192) (k0_off4 k 1#32) ![1, 1, 512, 192] (k0_off4_inb k 0)).toLoadRect (harg3.unread x1))
          (View.readAt (Elt Ideal) arg2.view (Rect.unit (s := S1x1x4096x192) ![0, 0, 2048, 0] ![1, 1, 1024, 192] inb_S1x1x4096x192_S1x1x1024x192_0_0_2048_0).toLoadRect (harg2.unread x0)) := by
      unfold trip_k0_t1.sl.v716; rw [g7]; exact bigOf_put arg7 _ [] _ _ _
    have e8 : trip_k0_t1.sl.v717 (F := Ideal) arg6 arg8 f6 f8 = mB (bigOf arg6 f6 inb_S1024x512_S1024x512_0_0) (rowsOf arg8 f8 2048 1024 inb_S4096x128_S1024x128_2048_0) := by
      unfold trip_k0_t1.sl.v717; rw [g8]; exact rowsOf_put arg8 _ _ _ _ _ _
    have e9 : trip_k0_t1.sl.v739 (F := Ideal) arg6 arg8 arg9 f6 f8 f9
        = lB (bigOf arg6 f6 inb_S1024x512_S1024x512_0_0) (rowsOf arg8 f8 2048 1024 inb_S4096x128_S1024x128_2048_0)
          (rowsOf arg9 f9 2048 1024 inb_S4096x128_S1024x128_2048_0) := by
      unfold trip_k0_t1.sl.v739; rw [g9]; exact rowsOf_put arg9 _ _ _ _ _ _
    have e10 : trip_k0_t1.sl.v755 (F := Ideal) arg4 arg6 arg8 arg10 (harg4.unread x2) k f6 f8 f10
        = aB (bigOf arg6 f6 inb_S1024x512_S1024x512_0_0) (rowsOf arg8 f8 2048 1024 inb_S4096x128_S1024x128_2048_0)
          (rowsOf arg10 f10 2048 1024 inb_S4096x128_S1024x128_2048_0)
          (View.readAt (Elt Ideal) arg4.view (Rect.unit (s := S1x1x4096x128) (k0_off5 k) ![1, 1, 512, 128] (k0_off5_inb k)).toLoadRect (harg4.unread x2)) := by
      unfold trip_k0_t1.sl.v755; rw [g10]; exact rowsOf_put arg10 _ _ _ _ _ _
    unfold trip_k0_t1.sl.r_9 trip_k0_t1.sl.r_10 trip_k0_t1.sl.r_11
    rw [e7, e8, e9, e10, g8, g9, g10, m_t1b, l_t1b, a_t1b]
    rw [show 1024 * ((k : ℕ) + 1) = 1024 * (k : ℕ) + 512 + 512 by omega]
    rw [writes_rows, writes_rows, writes_none, writes_rows, writes_rows, writes_none, writes_rows, writes_rows, writes_none]
    exact st2

/-- The loop of the tile at row 2048, after its first `k` trips. -/
theorem loop1 (w0 w1 : BitVec 32) (G6 : ConB arg6) (G7 : ConB arg7) (G8 : ConR arg8) (G9 : ConR arg9) (G10 : ConR arg10)
    (hS : ScB x0 x1 arg6 G6 2048 0) (h : St x0 x1 x2 arg8 arg9 arg10 2048 (nT 2048 0) G8 G9 G10) (k : ℕ) (hk : k ≤ 2) :
    ∀ L, pb_k0_t1 (F := Ideal) Variants.none c none i arg2 harg2 arg3 harg3 arg4 harg4 arg5 harg5 arg6 harg6 arg7 harg7 arg8 harg8 arg9 harg9 arg10 harg10 w0 w1
      (harg2.unread x0) (harg3.unread x1) (harg4.unread x2) G6 G7 G8 G9 G10 k = L →
    ScB x0 x1 arg6 (arg6.view.writes (Elt Ideal) G6 L.1) 2048 (1024 * k)
      ∧ St x0 x1 x2 arg8 arg9 arg10 2048 (nT 2048 (1024 * k)) (arg8.view.writes (Elt Ideal) G8 L.2.2.1)
          (arg9.view.writes (Elt Ideal) G9 L.2.2.2.1) (arg10.view.writes (Elt Ideal) G10 L.2.2.2.2) := by
  induction k with
  | zero => intro L hL; subst hL; rw [Nat.mul_zero]; exact ⟨hS, h⟩
  | succ k ih =>
    intro L hL
    obtain ⟨iS, ih⟩ := ih (by omega) _ rfl
    have hkt : k < k0_t1_loop.trips := by rw [trips1]; omega
    have e := pb_k0_t1_succ (F := Ideal) Variants.none c none i arg2 harg2 arg3 harg3 arg4 harg4 arg5 harg5 arg6 harg6 arg7 harg7 arg8 harg8 arg9 harg9 arg10 harg10 w0 w1
      (harg2.unread x0) (harg3.unread x1) (harg4.unread x2) G6 G7 G8 G9 G10 ⟨k, hkt⟩
    obtain rfl := e.symm.trans hL
    have ht := trip1 x0 x1 x2 c i arg2 harg2 arg3 harg3 arg4 harg4 arg5 harg5 arg6 harg6 arg7 harg7 arg8 harg8 arg9 harg9 arg10 harg10 w0 w1 ⟨k, hkt⟩ _
      (arg7.view.writes (Elt Ideal) G7 (pb_k0_t1 (F := Ideal) Variants.none c none i arg2 harg2 arg3 harg3 arg4 harg4 arg5 harg5 arg6 harg6 arg7 harg7 arg8 harg8 arg9 harg9 arg10 harg10 w0 w1
        (harg2.unread x0) (harg3.unread x1) (harg4.unread x2) G6 G7 G8 G9 G10 k).2.1) _ _ _ iS ih _ rfl
    simp only [View.writes_append]
    exact ht
end

theorem off7a : ∀ k : Fin k0_t2_loop.trips, k0_off7 k 1#32 = ![0, 0, 1024 * (k : ℕ) + 512, 0] := by decide +kernel
theorem off7b : ∀ k : Fin k0_t2_loop.trips, k0_off7 k 2#32 = ![0, 0, 1024 * (k : ℕ) + 1024, 0] := by decide +kernel
theorem off8_eq : ∀ k : Fin k0_t2_loop.trips, k0_off8 k = ![0, 0, 1024 * (k : ℕ), 0] := by decide +kernel
theorem off9_eq : ∀ k : Fin k0_t2_loop.trips, k0_off9 k = ![0, 0, 1024 * (k : ℕ) + 512, 0] := by decide +kernel
theorem trips2 : k0_t2_loop.trips = 3 := by decide +kernel

section
variable (x0 x1 : Vec Ideal S1x1x4096x192 .bf16) (x2 : Vec Ideal S1x1x4096x128 .bf16)
  (c : Dev nD) (i : grid0.Coords) (arg2 : Memref sig .tc .vmem S1x1x4096x192 .bf16) (harg2 : arg2.IsWhole) (arg3 : Memref sig .tc .vmem S1x1x4096x192 .bf16) (harg3 : arg3.IsWhole)
  (arg4 : Memref sig .tc .vmem S1x1x4096x128 .bf16) (harg4 : arg4.IsWhole) (arg5 : Memref sig .tc .vmem S4096x128 .bf16) (harg5 : arg5.IsWhole) (arg6 : Memref sig .tc .vmem S1024x512 .f32) (harg6 : arg6.IsWhole)
  (arg7 : Memref sig .tc .vmem S1024x512 .f32) (harg7 : arg7.IsWhole) (arg8 : Memref sig .tc .vmem S4096x128 .f32) (harg8 : arg8.IsWhole) (arg9 : Memref sig .tc .vmem S4096x128 .f32) (harg9 : arg9.IsWhole)
  (arg10 : Memref sig .tc .vmem S4096x128 .f32) (harg10 : arg10.IsWhole)

/-- One trip of the tile at row 3072. -/
theorem trip2 (w : FVec Ideal S1024x1 .f32) (k : Fin k0_t2_loop.trips) (f6 : ConB arg6) (f7 : ConB arg7) (f8 : ConR arg8) (f9 : ConR arg9) (f10 : ConR arg10)
    (hS : ScB x0 x1 arg6 f6 3072 (1024 * k)) (h : St x0 x1 x2 arg8 arg9 arg10 3072 (nT 3072 (1024 * k)) f8 f9 f10)
    (L) (hL : tripL_k0_t2 (F := Ideal) Variants.none c none i arg2 harg2 arg3 harg3 arg4 harg4 arg5 harg5 arg6 harg6 arg7 harg7 arg8 harg8 arg9 harg9 arg10 harg10 w
      (harg2.unread x0) (harg3.unread x1) (harg4.unread x2) k f6 f7 f8 f9 f10 = L) :
    ScB x0 x1 arg6 (arg6.view.writes (Elt Ideal) f6 L.1) 3072 (1024 * (k + 1))
      ∧ St x0 x1 x2 arg8 arg9 arg10 3072 (nT 3072 (1024 * (k + 1))) (arg8.view.writes (Elt Ideal) f8 L.2.2.1)
          (arg9.view.writes (Elt Ideal) f9 L.2.2.2.1) (arg10.view.writes (Elt Ideal) f10 L.2.2.2.2) := by
  have hk : (k : ℕ) < 3 := trips2 ▸ k.isLt
  subst hL
  have st1 := h.full (by norm_num) (by omega) (by omega) hS
    inb_S4096x128_S1024x128_3072_0 inb_S4096x128_S1024x128_3072_0 inb_S4096x128_S1024x128_3072_0
    inb_S4096x128_S1024x128_3072_0 inb_S4096x128_S1024x128_3072_0 inb_S4096x128_S1024x128_3072_0 inb_S1024x512_S1024x512_0_0
    (View.readAt (Elt Ideal) arg4.view (Rect.unit (s := S1x1x4096x128) (k0_off8 k) ![1, 1, 512, 128] (k0_off8_inb k)).toLoadRect (harg4.unread x2))
    (fun j d => vload x2 arg4 harg4 _ _ _ (off8_eq k) (by omega) j d)
  have st2 := st1.big (by norm_num) (by omega)
    inb_S4096x128_S1024x128_3072_0 inb_S4096x128_S1024x128_3072_0 inb_S4096x128_S1024x128_3072_0
    inb_S4096x128_S1024x128_3072_0 inb_S4096x128_S1024x128_3072_0 inb_S4096x128_S1024x128_3072_0
    (scoreB (View.readAt (Elt Ideal) arg3.view (Rect.unit (s := S1x1x4096x192) (k0_off7 k 1#32) ![1, 1, 512, 192] (k0_off7_inb k 0)).toLoadRect (harg3.unread x1))
      (View.readAt (Elt Ideal) arg2.view (Rect.unit (s := S1x1x4096x192) ![0, 0, 3072, 0] ![1, 1, 1024, 192] inb_S1x1x4096x192_S1x1x1024x192_0_0_3072_0).toLoadRect (harg2.unread x0)))
    (View.readAt (Elt Ideal) arg4.view (Rect.unit (s := S1x1x4096x128) (k0_off9 k) ![1, 1, 512, 128] (k0_off9_inb k)).toLoadRect (harg4.unread x2))
    (fun r j => (scoresB x0 x1 arg2 arg3 harg2 harg3 3072 _ _ (off7a k) (by norm_num) (by omega) _ _ r j).trans (sc_le x0 x1 (by omega)).symm)
    (fun j d => vload x2 arg4 harg4 _ _ _ (off9_eq k) (by omega) j d)
  rw [rowsOf_put, rowsOf_put, rowsOf_put] at st2
  unfold tripL_k0_t2 trip_k0_t2
  dsimp only
  refine ⟨storeB x0 x1 arg6 f6 [] _ _ 3072 _ fun r j => ?_, ?_⟩
  · exact (scoresB x0 x1 arg2 arg3 harg2 harg3 3072 _ _ (off7b k) (by norm_num) (by omega) (k0_off7_inb k 1) inb_S1x1x4096x192_S1x1x1024x192_0_0_3072_0 r j)
  · have g7 : trip_k0_t2.sl.HW_arg7_1 (F := Ideal) arg2 arg3 (harg2.unread x0) (harg3.unread x1) k
        = [⟨Rect.unit (s := S1024x512) ![0, 0] ![1024, 512] inb_S1024x512_S1024x512_0_0, scoreB
          (View.readAt (Elt Ideal) arg3.view (Rect.unit (s := S1x1x4096x192) (k0_off7 k 1#32) ![1, 1, 512, 192] (k0_off7_inb k 0)).toLoadRect (harg3.unread x1))
          (View.readAt (Elt Ideal) arg2.view (Rect.unit (s := S1x1x4096x192) ![0, 0, 3072, 0] ![1, 1, 1024, 192] inb_S1x1x4096x192_S1x1x1024x192_0_0_3072_0).toLoadRect (harg2.unread x0))⟩] := rfl
    have g8 : trip_k0_t2.sl.HW_arg8_1 (F := Ideal) arg6 arg8 f6 f8
        = [⟨Rect.unit (s := S4096x128) ![3072, 0] ![1024, 128] inb_S4096x128_S1024x128_3072_0,
            mB (bigOf arg6 f6 inb_S1024x512_S1024x512_0_0) (rowsOf arg8 f8 3072 1024 inb_S4096x128_S1024x128_3072_0)⟩] := rfl
    have g9 : trip_k0_t2.sl.HW_arg9_1 (F := Ideal) arg6 arg8 arg9 f6 f8 f9
        = [⟨Rect.unit (s := S4096x128) ![3072, 0] ![1024, 128] inb_S4096x128_S1024x128_3072_0,
            lB (bigOf arg6 f6 inb_S1024x512_S1024x512_0_0) (rowsOf arg8 f8 3072 1024 inb_S4096x128_S1024x128_3072_0)
              (rowsOf arg9 f9 3072 1024 inb_S4096x128_S1024x128_3072_0)⟩] := rfl
    have g10 : trip_k0_t2.sl.HW_arg10_1 (F := Ideal) arg4 arg6 arg8 arg10 (harg4.unread x2) k f6 f8 f10
        = [⟨Rect.unit (s := S4096x128) ![3072, 0] ![1024, 128] inb_S4096x128_S1024x128_3072_0,
            aB (bigOf arg6 f6 inb_S1024x512_S1024x512_0_0) (rowsOf arg8 f8 3072 1024 inb_S4096x128_S1024x128_3072_0)
              (rowsOf arg10 f10 3072 1024 inb_S4096x128_S1024x128_3072_0)
              (View.readAt (Elt Ideal) arg4.view (Rect.unit (s := S1x1x4096x128) (k0_off8 k) ![1, 1, 512, 128] (k0_off8_inb k)).toLoadRect (harg4.unread x2))⟩] := rfl
    have e7 : trip_k0_t2.sl.v716 (F := Ideal) arg2 arg3 arg7 (harg2.unread x0) (harg3.unread x1) k = scoreB
          (View.readAt (Elt Ideal) arg3.view (Rect.unit (s := S1x1x4096x192) (k0_off7 k 1#32) ![1, 1, 512, 192] (k0_off7_inb k 0)).toLoadRect (harg3.unread x1))
          (View.readAt (Elt Ideal) arg2.view (Rect.unit (s := S1x1x4096x192) ![0, 0, 3072, 0] ![1, 1, 1024, 192] inb_S1x1x4096x192_S1x1x1024x192_0_0_3072_0).toLoadRect (harg2.unread x0)) := by
      unfold trip_k0_t2.sl.v716; rw [g7]; exact bigOf_put arg7 _ [] _ _ _
    have e8 : trip_k0_t2.sl.v717 (F := Ideal) arg6 arg8 f6 f8 = mB (bigOf arg6 f6 inb_S1024x512_S1024x512_0_0) (rowsOf arg8 f8 3072 1024 inb_S4096x128_S1024x128_3072_0) := by
      unfold trip_k0_t2.sl.v717; rw [g8]; exact rowsOf_put arg8 _ _ _ _ _ _
    have e9 : trip_k0_t2.sl.v739 (F := Ideal) arg6 arg8 arg9 f6 f8 f9
        = lB (bigOf arg6 f6 inb_S1024x512_S1024x512_0_0) (rowsOf arg8 f8 3072 1024 inb_S4096x128_S1024x128_3072_0)
          (rowsOf arg9 f9 3072 1024 inb_S4096x128_S1024x128_3072_0) := by
      unfold trip_k0_t2.sl.v739; rw [g9]; exact rowsOf_put arg9 _ _ _ _ _ _
    have e10 : trip_k0_t2.sl.v755 (F := Ideal) arg4 arg6 arg8 arg10 (harg4.unread x2) k f6 f8 f10
        = aB (bigOf arg6 f6 inb_S1024x512_S1024x512_0_0) (rowsOf arg8 f8 3072 1024 inb_S4096x128_S1024x128_3072_0)
          (rowsOf arg10 f10 3072 1024 inb_S4096x128_S1024x128_3072_0)
          (View.readAt (Elt Ideal) arg4.view (Rect.unit (s := S1x1x4096x128) (k0_off8 k) ![1, 1, 512, 128] (k0_off8_inb k)).toLoadRect (harg4.unread x2)) := by
      unfold trip_k0_t2.sl.v755; rw [g10]; exact rowsOf_put arg10 _ _ _ _ _ _
    unfold trip_k0_t2.sl.r_9 trip_k0_t2.sl.r_10 trip_k0_t2.sl.r_11
    rw [e7, e8, e9, e10, g8, g9, g10, m_t2b, l_t2b, a_t2b]
    rw [show 1024 * ((k : ℕ) + 1) = 1024 * (k : ℕ) + 512 + 512 by omega]
    rw [writes_rows, writes_rows, writes_none, writes_rows, writes_rows, writes_none, writes_rows, writes_rows, writes_none]
    exact st2

/-- The loop of the tile at row 3072, after its first `k` trips. -/
theorem loop2 (w : FVec Ideal S1024x1 .f32) (G6 : ConB arg6) (G7 : ConB arg7) (G8 : ConR arg8) (G9 : ConR arg9) (G10 : ConR arg10)
    (hS : ScB x0 x1 arg6 G6 3072 0) (h : St x0 x1 x2 arg8 arg9 arg10 3072 (nT 3072 0) G8 G9 G10) (k : ℕ) (hk : k ≤ 3) :
    ∀ L, pb_k0_t2 (F := Ideal) Variants.none c none i arg2 harg2 arg3 harg3 arg4 harg4 arg5 harg5 arg6 harg6 arg7 harg7 arg8 harg8 arg9 harg9 arg10 harg10 w
      (harg2.unread x0) (harg3.unread x1) (harg4.unread x2) G6 G7 G8 G9 G10 k = L →
    ScB x0 x1 arg6 (arg6.view.writes (Elt Ideal) G6 L.1) 3072 (1024 * k)
      ∧ St x0 x1 x2 arg8 arg9 arg10 3072 (nT 3072 (1024 * k)) (arg8.view.writes (Elt Ideal) G8 L.2.2.1)
          (arg9.view.writes (Elt Ideal) G9 L.2.2.2.1) (arg10.view.writes (Elt Ideal) G10 L.2.2.2.2) := by
  induction k with
  | zero => intro L hL; subst hL; rw [Nat.mul_zero]; exact ⟨hS, h⟩
  | succ k ih =>
    intro L hL
    obtain ⟨iS, ih⟩ := ih (by omega) _ rfl
    have hkt : k < k0_t2_loop.trips := by rw [trips2]; omega
    have e := pb_k0_t2_succ (F := Ideal) Variants.none c none i arg2 harg2 arg3 harg3 arg4 harg4 arg5 harg5 arg6 harg6 arg7 harg7 arg8 harg8 arg9 harg9 arg10 harg10 w
      (harg2.unread x0) (harg3.unread x1) (harg4.unread x2) G6 G7 G8 G9 G10 ⟨k, hkt⟩
    obtain rfl := e.symm.trans hL
    have ht := trip2 x0 x1 x2 c i arg2 harg2 arg3 harg3 arg4 harg4 arg5 harg5 arg6 harg6 arg7 harg7 arg8 harg8 arg9 harg9 arg10 harg10 w ⟨k, hkt⟩ _
      (arg7.view.writes (Elt Ideal) G7 (pb_k0_t2 (F := Ideal) Variants.none c none i arg2 harg2 arg3 harg3 arg4 harg4 arg5 harg5 arg6 harg6 arg7 harg7 arg8 harg8 arg9 harg9 arg10 harg10 w
        (harg2.unread x0) (harg3.unread x1) (harg4.unread x2) G6 G7 G8 G9 G10 k).2.1) _ _ _ iS ih _ rfl
    simp only [View.writes_append]
    exact ht
end

end Cert.FlashIdeal.Step

end
-- ==== Proof.FlashRun1.lean ====
module

public import proofs.«01_k».proof.Proof.FlashLoop

/-! The attention kernel's steps before its first loop, in order: what the buffers hold after each. -/

@[expose] public section

set_option maxRecDepth 16384

noncomputable section

open Idealize.ShloMosaic Idealize.ShloMosaic.TcCoe Idealize.SL.Sem

namespace Cert.FlashIdeal.Step

open Cert.FlashIdeal Cert.FlashIdeal.Gen Cert.Online

theorem covB (a : BigB) (L) (i) : a.view.readCov (Val := Elt Ideal) L (Rect.unit (s := S1024x512) ![0, 0] ![1024, 512] i).toLoadRect
    = bigOf a (a.view.writes (Elt Ideal) a.view.junk L) i := rfl
theorem covH (a : BigB) (L) (i) : a.view.readCov (Val := Elt Ideal) L (Rect.unit (s := S1024x512) ![512, 0] ![512, 512] i).toLoadRect
    = halfOf a (a.view.writes (Elt Ideal) a.view.junk L) i := rfl
theorem covR (a : RowB) (L) (b R : ℕ) (i) : a.view.readCov (Val := Elt Ideal) L (Rect.unit (s := S4096x128) ![b, 0] ![R, 128] i).toLoadRect
    = rowsOf a (a.view.writes (Elt Ideal) a.view.junk L) b R i := rfl

theorem m_h0 (S : HalfS) (M : HalfM) : k0_pay74 (F := Ideal) (k0_pay66 (F := Ideal) S M) = mH S M := rfl
theorem l_h0 (S : HalfS) (M L : HalfM) : k0_pay73 (F := Ideal) (k0_pay67 (F := Ideal) S M) (k0_pay72 (F := Ideal) S M) L = lH S M L := rfl
theorem a_h0 (S : HalfS) (M A : HalfM) (V : Vals) : k0_pay75 (F := Ideal) (k0_pay67 (F := Ideal) S M) (k0_pay68 (F := Ideal) S M) (k0_pay69 (F := Ideal) S M) (k0_pay70 (F := Ideal) S M) (k0_pay71 (F := Ideal) S M) V A = aH S M A V := rfl

theorem whole_at (a : RowB) (f : ConR a) (i) (P : Vec Ideal S4096x128 .f32) (q : Fin 4096) (l : Fin 128) :
    a.view.read (Elt Ideal) (a.view.writes (Elt Ideal) f [⟨Rect.unit (s := S4096x128) ![0, 0] ![4096, 128] i, P⟩]) (ix2 q l) = P (ix2 q l) :=
  View.read_writes_cons_rows_of_mem (d := ![4096, 128]) a.view f i P [] (ix2 q l) (ix2 q l) rfl (Nat.zero_add _).symm rfl

section
variable (x0 x1 : Vec Ideal S1x1x4096x192 .bf16) (x2 : Vec Ideal S1x1x4096x128 .bf16)
  (c : Dev nD) (i : grid0.Coords) (arg2 : Memref sig .tc .vmem S1x1x4096x192 .bf16) (harg2 : arg2.IsWhole) (arg3 : Memref sig .tc .vmem S1x1x4096x192 .bf16) (harg3 : arg3.IsWhole)
  (arg4 : Memref sig .tc .vmem S1x1x4096x128 .bf16) (harg4 : arg4.IsWhole) (arg5 : Memref sig .tc .vmem S4096x128 .bf16) (harg5 : arg5.IsWhole) (arg6 : Memref sig .tc .vmem S1024x512 .f32) (harg6 : arg6.IsWhole)
  (arg7 : Memref sig .tc .vmem S1024x512 .f32) (harg7 : arg7.IsWhole) (arg8 : Memref sig .tc .vmem S4096x128 .f32) (harg8 : arg8.IsWhole) (arg9 : Memref sig .tc .vmem S4096x128 .f32) (harg9 : arg9.IsWhole)
  (arg10 : Memref sig .tc .vmem S4096x128 .f32) (harg10 : arg10.IsWhole)
include c i arg2 harg2 arg3 harg3 arg4 harg4 arg5 harg5 arg6 harg6 arg7 harg7 arg8 harg8 arg9 harg9 arg10 harg10 x0 x1 x2

theorem sc0 : ScB x0 x1 arg6 (arg6.view.writes (Elt Ideal) arg6.view.junk (kernelRun0_A.sl.HS0_1 (F := Ideal) c arg2 harg2 arg3 harg3 x0 x1)) 0 0 := by
  unfold kernelRun0_A.sl.HS0_1
  exact storeB x0 x1 arg6 _ _ _ _ 0 0 fun r j => scoresB x0 x1 arg2 arg3 harg2 harg3 0 0 _ rfl (by norm_num) (by norm_num) _ _ r j

theorem sh0 : ScH x0 x1 arg7 (arg7.view.writes (Elt Ideal) arg7.view.junk (kernelRun0_A.sl.HS1_1 (F := Ideal) c arg2 harg2 arg3 harg3 x0 x1)) 512 := by
  unfold kernelRun0_A.sl.HS1_1 kernelRun0_A.sl.r
  exact storeH x0 x1 arg7 _ _ _ _ 512 fun r j => scoresH x0 x1 arg2 arg3 harg2 harg3 512 (by norm_num) _ _ r j

theorem sc1a : ScB x0 x1 arg6 (arg6.view.writes (Elt Ideal) arg6.view.junk (kernelRun0_A.sl.HS0_2 (F := Ideal) c arg2 harg2 arg3 harg3 x0 x1)) 1024 0 := by
  unfold kernelRun0_A.sl.HS0_2
  rw [s_77]
  exact storeB x0 x1 arg6 _ _ _ _ 1024 0 fun r j => scoresB x0 x1 arg2 arg3 harg2 harg3 1024 0 _ rfl (by norm_num) (by norm_num) _ _ r j

theorem sc1b : ScB x0 x1 arg7 (arg7.view.writes (Elt Ideal) arg7.view.junk (kernelRun0_A.sl.HS1_2 (F := Ideal) c arg2 harg2 arg3 harg3 x0 x1)) 1024 512 := by
  unfold kernelRun0_A.sl.HS1_2
  rw [s_78]
  exact storeB x0 x1 arg7 _ _ _ _ 1024 512 fun r j => scoresB x0 x1 arg2 arg3 harg2 harg3 1024 512 _ rfl (by norm_num) (by norm_num) _ _ r j

theorem sc1c : ScB x0 x1 arg6 (arg6.view.writes (Elt Ideal) arg6.view.junk (kernelRun0_A.sl.HS0_3 (F := Ideal) c arg2 harg2 arg3 harg3 x0 x1)) 1024 1024 := by
  unfold kernelRun0_A.sl.HS0_3
  rw [s_88]
  exact storeB x0 x1 arg6 _ _ _ _ 1024 1024 fun r j => scoresB x0 x1 arg2 arg3 harg2 harg3 1024 1024 _ rfl (by norm_num) (by norm_num) _ _ r j

theorem sh1 : ScH x0 x1 arg7 (arg7.view.writes (Elt Ideal) arg7.view.junk (kernelRun0_A.sl.HS1_3 (F := Ideal) c arg2 harg2 arg3 harg3 x0 x1)) 1536 := by
  unfold kernelRun0_A.sl.HS1_3
  rw [s_98]
  exact storeH x0 x1 arg7 _ _ _ _ 1536 fun r j => scoresH x0 x1 arg2 arg3 harg2 harg3 1536 (by norm_num) _ _ r j

theorem sc2 : ScB x0 x1 arg6 (arg6.view.writes (Elt Ideal) arg6.view.junk (kernelRun0_A.sl.HS0_4 (F := Ideal) c arg2 harg2 arg3 harg3 x0 x1)) 2048 0 := by
  unfold kernelRun0_A.sl.HS0_4
  rw [s_123]
  exact storeB x0 x1 arg6 _ _ _ _ 2048 0 fun r j => scoresB x0 x1 arg2 arg3 harg2 harg3 2048 0 _ rfl (by norm_num) (by norm_num) _ _ r j

theorem st0 : St x0 x1 x2 arg8 arg9 arg10 0 (nT 0 0)
      (arg8.view.writes (Elt Ideal) arg8.view.junk (kernelRun0_A.sl.HS2_1 (F := Ideal)))
      (arg9.view.writes (Elt Ideal) arg9.view.junk (kernelRun0_A.sl.HS3_1 (F := Ideal)))
      (arg10.view.writes (Elt Ideal) arg10.view.junk (kernelRun0_A.sl.HS4_1 (F := Ideal))) := by
  have e : ∀ q, nT 0 0 q = 0 := fun q => ite_self _
  refine ⟨fun q l _ => ?_, fun q l _ => ?_, fun q l _ => ?_⟩
  · rw [e, MX_zero]; unfold kernelRun0_A.sl.HS2_1; refine (whole_at arg8 _ _ _ q l).trans ?_; (pointwise [k0_pay49]); exact negInf
  · rw [e, LS_zero]; unfold kernelRun0_A.sl.HS3_1; refine (whole_at arg9 _ _ _ q l).trans ?_; pointwise [k0_pay50]
  · rw [e, AC_zero]; unfold kernelRun0_A.sl.HS4_1; refine (whole_at arg10 _ _ _ q l).trans ?_; pointwise [k0_pay51]

theorem st1 : St x0 x1 x2 arg8 arg9 arg10 0 (nT 0 (0 + 512))
      (arg8.view.writes (Elt Ideal) arg8.view.junk (kernelRun0_A.sl.HS2_2 (F := Ideal) c arg2 harg2 arg3 harg3 arg6 arg8 x0 x1))
      (arg9.view.writes (Elt Ideal) arg9.view.junk (kernelRun0_A.sl.HS3_2 (F := Ideal) c arg2 harg2 arg3 harg3 arg6 arg8 arg9 x0 x1))
      (arg10.view.writes (Elt Ideal) arg10.view.junk (kernelRun0_A.sl.HS4_2 (F := Ideal) c arg2 harg2 arg3 harg3 arg4 harg4 arg6 arg8 arg10 x0 x1 x2)) := by
  unfold kernelRun0_A.sl.HS2_2 kernelRun0_A.sl.HS3_2 kernelRun0_A.sl.HS4_2 kernelRun0_A.sl.r_1 kernelRun0_A.sl.r_2 kernelRun0_A.sl.r_3 kernelRun0_A.sl.r_4 kernelRun0_A.sl.r_5 kernelRun0_A.sl.r_6 kernelRun0_A.sl.v32 kernelRun0_A.sl.v38 kernelRun0_A.sl.v60 kernelRun0_A.sl.v75
  simp only [covB, covR]
  rw [m_d0, l_d0, a_d0, writes_rows arg8 _ 0 1024, writes_rows arg9 _ 0 1024, writes_rows arg10 _ 0 1024]
  exact (st0 x0 x1 x2 c i arg2 harg2 arg3 harg3 arg4 harg4 arg5 harg5 arg6 harg6 arg7 harg7 arg8 harg8 arg9 harg9 arg10 harg10).diag (by norm_num) (by norm_num) (sc0 x0 x1 x2 c i arg2 harg2 arg3 harg3 arg4 harg4 arg5 harg5 arg6 harg6 arg7 harg7 arg8 harg8 arg9 harg9 arg10 harg10) _ _ _ _ _ _ _ _
    (fun j d => vload x2 arg4 harg4 _ 0 _ rfl (by norm_num) j d)

theorem st2 : St x0 x1 x2 arg8 arg9 arg10 0 (nH 0 (0 + 512))
      (arg8.view.writes (Elt Ideal) arg8.view.junk (kernelRun0_A.sl.HS2_3 (F := Ideal) c arg2 harg2 arg3 harg3 arg6 arg7 arg8 x0 x1))
      (arg9.view.writes (Elt Ideal) arg9.view.junk (kernelRun0_A.sl.HS3_3 (F := Ideal) c arg2 harg2 arg3 harg3 arg6 arg7 arg8 arg9 x0 x1))
      (arg10.view.writes (Elt Ideal) arg10.view.junk (kernelRun0_A.sl.HS4_3 (F := Ideal) c arg2 harg2 arg3 harg3 arg4 harg4 arg6 arg7 arg8 arg10 x0 x1 x2)) := by
  unfold kernelRun0_A.sl.HS2_3 kernelRun0_A.sl.HS3_3 kernelRun0_A.sl.HS4_3 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.v82 kernelRun0_A.sl.v88 kernelRun0_A.sl.v110 kernelRun0_A.sl.v125
  simp only [covH, covR]
  rw [m_h0, l_h0, a_h0, writes_rows arg8 _ 512 512, writes_rows arg9 _ 512 512, writes_rows arg10 _ 512 512]
  exact (st1 x0 x1 x2 c i arg2 harg2 arg3 harg3 arg4 harg4 arg5 harg5 arg6 harg6 arg7 harg7 arg8 harg8 arg9 harg9 arg10 harg10).half (by norm_num) (by norm_num) 512 rfl (sh0 x0 x1 x2 c i arg2 harg2 arg3 harg3 arg4 harg4 arg5 harg5 arg6 harg6 arg7 harg7 arg8 harg8 arg9 harg9 arg10 harg10) _ _ _ _ _ _ _ _
    (fun j d => vload x2 arg4 harg4 _ 512 _ rfl (by norm_num) j d)

theorem st3 : St x0 x1 x2 arg8 arg9 arg10 1024 (nT 1024 (0 + 512))
      (arg8.view.writes (Elt Ideal) arg8.view.junk (kernelRun0_A.sl.HS2_4 (F := Ideal) c arg2 harg2 arg3 harg3 arg6 arg7 arg8 x0 x1))
      (arg9.view.writes (Elt Ideal) arg9.view.junk (kernelRun0_A.sl.HS3_4 (F := Ideal) c arg2 harg2 arg3 harg3 arg6 arg7 arg8 arg9 x0 x1))
      (arg10.view.writes (Elt Ideal) arg10.view.junk (kernelRun0_A.sl.HS4_4 (F := Ideal) c arg2 harg2 arg3 harg3 arg4 harg4 arg6 arg7 arg8 arg10 x0 x1 x2)) := by
  unfold kernelRun0_A.sl.HS2_4 kernelRun0_A.sl.HS3_4 kernelRun0_A.sl.HS4_4 kernelRun0_A.sl.r_14 kernelRun0_A.sl.r_15 kernelRun0_A.sl.r_16 kernelRun0_A.sl.v163 kernelRun0_A.sl.v164 kernelRun0_A.sl.v186 kernelRun0_A.sl.v202
  simp only [covB, covR]
  rw [m_r1a, l_r1a, a_r1a, writes_rows arg8 _ 1024 1024, writes_rows arg9 _ 1024 1024, writes_rows arg10 _ 1024 1024]
  exact ((st2 x0 x1 x2 c i arg2 harg2 arg3 harg3 arg4 harg4 arg5 harg5 arg6 harg6 arg7 harg7 arg8 harg8 arg9 harg9 arg10 harg10).next 1024 rfl).full (N := 0) (by norm_num) (by norm_num) (by norm_num) (sc1a x0 x1 x2 c i arg2 harg2 arg3 harg3 arg4 harg4 arg5 harg5 arg6 harg6 arg7 harg7 arg8 harg8 arg9 harg9 arg10 harg10) _ _ _ _ _ _ _ _
    (fun j d => vload x2 arg4 harg4 _ 0 _ (by decide +kernel) (by norm_num) j d)

theorem st4 : St x0 x1 x2 arg8 arg9 arg10 1024 (nT 1024 (512 + 512))
      (arg8.view.writes (Elt Ideal) arg8.view.junk (kernelRun0_A.sl.HS2_5 (F := Ideal) c arg2 harg2 arg3 harg3 arg6 arg7 arg8 x0 x1))
      (arg9.view.writes (Elt Ideal) arg9.view.junk (kernelRun0_A.sl.HS3_5 (F := Ideal) c arg2 harg2 arg3 harg3 arg6 arg7 arg8 arg9 x0 x1))
      (arg10.view.writes (Elt Ideal) arg10.view.junk (kernelRun0_A.sl.HS4_5 (F := Ideal) c arg2 harg2 arg3 harg3 arg4 harg4 arg6 arg7 arg8 arg10 x0 x1 x2)) := by
  unfold kernelRun0_A.sl.HS2_5 kernelRun0_A.sl.HS3_5 kernelRun0_A.sl.HS4_5 kernelRun0_A.sl.r_17 kernelRun0_A.sl.r_18 kernelRun0_A.sl.r_19 kernelRun0_A.sl.r_20 kernelRun0_A.sl.r_21 kernelRun0_A.sl.r_22 kernelRun0_A.sl.v222 kernelRun0_A.sl.v223 kernelRun0_A.sl.v245 kernelRun0_A.sl.v261
  simp only [covB, covR]
  rw [m_r1b, l_r1b, a_r1b, writes_rows arg8 _ 1024 1024, writes_rows arg9 _ 1024 1024, writes_rows arg10 _ 1024 1024]
  exact (st3 x0 x1 x2 c i arg2 harg2 arg3 harg3 arg4 harg4 arg5 harg5 arg6 harg6 arg7 harg7 arg8 harg8 arg9 harg9 arg10 harg10).full (N := 512) (by norm_num) (by norm_num) (by norm_num) (sc1b x0 x1 x2 c i arg2 harg2 arg3 harg3 arg4 harg4 arg5 harg5 arg6 harg6 arg7 harg7 arg8 harg8 arg9 harg9 arg10 harg10) _ _ _ _ _ _ _ _
    (fun j d => vload x2 arg4 harg4 _ 512 _ (by decide +kernel) (by norm_num) j d)

theorem st5 : St x0 x1 x2 arg8 arg9 arg10 1024 (nT 1024 (1024 + 512))
      (arg8.view.writes (Elt Ideal) arg8.view.junk (kernelRun0_A.sl.HS2_6 (F := Ideal) c arg2 harg2 arg3 harg3 arg6 arg7 arg8 x0 x1))
      (arg9.view.writes (Elt Ideal) arg9.view.junk (kernelRun0_A.sl.HS3_6 (F := Ideal) c arg2 harg2 arg3 harg3 arg6 arg7 arg8 arg9 x0 x1))
      (arg10.view.writes (Elt Ideal) arg10.view.junk (kernelRun0_A.sl.HS4_6 (F := Ideal) c arg2 harg2 arg3 harg3 arg4 harg4 arg6 arg7 arg8 arg10 x0 x1 x2)) := by
  unfold kernelRun0_A.sl.HS2_6 kernelRun0_A.sl.HS3_6 kernelRun0_A.sl.HS4_6 kernelRun0_A.sl.r_23 kernelRun0_A.sl.v278 kernelRun0_A.sl.v284 kernelRun0_A.sl.v306 kernelRun0_A.sl.v321
  simp only [covB, covR]
  rw [m_d1, l_d1, a_d1, writes_rows arg8 _ 1024 1024, writes_rows arg9 _ 1024 1024, writes_rows arg10 _ 1024 1024]
  exact (st4 x0 x1 x2 c i arg2 harg2 arg3 harg3 arg4 harg4 arg5 harg5 arg6 harg6 arg7 harg7 arg8 harg8 arg9 harg9 arg10 harg10).diag (by norm_num) (by norm_num) (sc1c x0 x1 x2 c i arg2 harg2 arg3 harg3 arg4 harg4 arg5 harg5 arg6 harg6 arg7 harg7 arg8 harg8 arg9 harg9 arg10 harg10) _ _ _ _ _ _ _ _
    (fun j d => vload x2 arg4 harg4 _ 1024 _ rfl (by norm_num) j d)

theorem st6 : St x0 x1 x2 arg8 arg9 arg10 1024 (nH 1024 (1024 + 512))
      (arg8.view.writes (Elt Ideal) arg8.view.junk (kernelRun0_A.sl.HS2_7 (F := Ideal) c arg2 harg2 arg3 harg3 arg6 arg7 arg8 x0 x1))
      (arg9.view.writes (Elt Ideal) arg9.view.junk (kernelRun0_A.sl.HS3_7 (F := Ideal) c arg2 harg2 arg3 harg3 arg6 arg7 arg8 arg9 x0 x1))
      (arg10.view.writes (Elt Ideal) arg10.view.junk (kernelRun0_A.sl.HS4_7 (F := Ideal) c arg2 harg2 arg3 harg3 arg4 harg4 arg6 arg7 arg8 arg10 x0 x1 x2)) := by
  unfold kernelRun0_A.sl.HS2_7 kernelRun0_A.sl.HS3_7 kernelRun0_A.sl.HS4_7 kernelRun0_A.sl.r_24 kernelRun0_A.sl.r_25 kernelRun0_A.sl.r_26 kernelRun0_A.sl.r_27 kernelRun0_A.sl.r_28 kernelRun0_A.sl.v328 kernelRun0_A.sl.v334 kernelRun0_A.sl.v356 kernelRun0_A.sl.v371
  simp only [covH, covR]
  rw [m_h1, l_h1, a_h1, writes_rows arg8 _ 1536 512, writes_rows arg9 _ 1536 512, writes_rows arg10 _ 1536 512]
  exact (st5 x0 x1 x2 c i arg2 harg2 arg3 harg3 arg4 harg4 arg5 harg5 arg6 harg6 arg7 harg7 arg8 harg8 arg9 harg9 arg10 harg10).half (by norm_num) (by norm_num) 1536 rfl (sh1 x0 x1 x2 c i arg2 harg2 arg3 harg3 arg4 harg4 arg5 harg5 arg6 harg6 arg7 harg7 arg8 harg8 arg9 harg9 arg10 harg10) _ _ _ _ _ _ _ _
    (fun j d => vload x2 arg4 harg4 _ 1536 _ rfl (by norm_num) j d)

end

end Cert.FlashIdeal.Step

end
-- ==== Proof.FlashRun2.lean ====
module

public import proofs.«01_k».proof.Proof.FlashRun1

/-! The attention kernel's two loops and the steps after each. -/

@[expose] public section

set_option maxRecDepth 16384

noncomputable section

open Idealize.ShloMosaic Idealize.ShloMosaic.TcCoe Idealize.SL.Sem

namespace Cert.FlashIdeal.Step

open Cert.FlashIdeal Cert.FlashIdeal.Gen Cert.Online

section
variable (x0 x1 : Vec Ideal S1x1x4096x192 .bf16) (x2 : Vec Ideal S1x1x4096x128 .bf16)
  (c : Dev nD) (i : grid0.Coords) (arg2 : Memref sig .tc .vmem S1x1x4096x192 .bf16) (harg2 : arg2.IsWhole) (arg3 : Memref sig .tc .vmem S1x1x4096x192 .bf16) (harg3 : arg3.IsWhole)
  (arg4 : Memref sig .tc .vmem S1x1x4096x128 .bf16) (harg4 : arg4.IsWhole) (arg5 : Memref sig .tc .vmem S4096x128 .bf16) (harg5 : arg5.IsWhole) (arg6 : Memref sig .tc .vmem S1024x512 .f32) (harg6 : arg6.IsWhole)
  (arg7 : Memref sig .tc .vmem S1024x512 .f32) (harg7 : arg7.IsWhole) (arg8 : Memref sig .tc .vmem S4096x128 .f32) (harg8 : arg8.IsWhole) (arg9 : Memref sig .tc .vmem S4096x128 .f32) (harg9 : arg9.IsWhole)
  (arg10 : Memref sig .tc .vmem S4096x128 .f32) (harg10 : arg10.IsWhole)
include c i arg2 harg2 arg3 harg3 arg4 harg4 arg5 harg5 arg6 harg6 arg7 harg7 arg8 harg8 arg9 harg9 arg10 harg10 x0 x1 x2

/-- What the first loop stores. -/
abbrev pb1 := (pb_k0_t1 (F := Ideal) Variants.none c none i arg2 harg2 arg3 harg3 arg4 harg4 arg5 harg5 arg6 harg6 arg7 harg7 arg8 harg8 arg9 harg9 arg10 harg10 (0#32) (2#32) (harg2.unread x0) (harg3.unread x1) (harg4.unread x2)
        (arg6.view.writes (Elt Ideal) arg6.view.junk (kernelRun0_A.sl.HS0_4 (F := Ideal) c arg2 harg2 arg3 harg3 x0 x1))
        (arg7.view.writes (Elt Ideal) arg7.view.junk (kernelRun0_A.sl.HS1_3 (F := Ideal) c arg2 harg2 arg3 harg3 x0 x1))
        (arg8.view.writes (Elt Ideal) arg8.view.junk (kernelRun0_A.sl.HS2_7 (F := Ideal) c arg2 harg2 arg3 harg3 arg6 arg7 arg8 x0 x1))
        (arg9.view.writes (Elt Ideal) arg9.view.junk (kernelRun0_A.sl.HS3_7 (F := Ideal) c arg2 harg2 arg3 harg3 arg6 arg7 arg8 arg9 x0 x1))
        (arg10.view.writes (Elt Ideal) arg10.view.junk (kernelRun0_A.sl.HS4_7 (F := Ideal) c arg2 harg2 arg3 harg3 arg4 harg4 arg6 arg7 arg8 arg10 x0 x1 x2))
        (Scf.trips k0_t1_loop.lb k0_t1_loop.ub k0_t1_loop.st))

theorem lp1 : ScB x0 x1 arg6 (arg6.view.writes (Elt Ideal) arg6.view.junk ((pb1 x0 x1 x2 c i arg2 harg2 arg3 harg3 arg4 harg4 arg5 harg5 arg6 harg6 arg7 harg7 arg8 harg8 arg9 harg9 arg10 harg10).1 ++ (kernelRun0_A.sl.HS0_4 (F := Ideal) c arg2 harg2 arg3 harg3 x0 x1))) 2048 2048 ∧ St x0 x1 x2 arg8 arg9 arg10 2048 (nT 2048 2048)
      (arg8.view.writes (Elt Ideal) arg8.view.junk ((pb1 x0 x1 x2 c i arg2 harg2 arg3 harg3 arg4 harg4 arg5 harg5 arg6 harg6 arg7 harg7 arg8 harg8 arg9 harg9 arg10 harg10).2.2.1 ++ (kernelRun0_A.sl.HS2_7 (F := Ideal) c arg2 harg2 arg3 harg3 arg6 arg7 arg8 x0 x1)))
      (arg9.view.writes (Elt Ideal) arg9.view.junk ((pb1 x0 x1 x2 c i arg2 harg2 arg3 harg3 arg4 harg4 arg5 harg5 arg6 harg6 arg7 harg7 arg8 harg8 arg9 harg9 arg10 harg10).2.2.2.1 ++ (kernelRun0_A.sl.HS3_7 (F := Ideal) c arg2 harg2 arg3 harg3 arg6 arg7 arg8 arg9 x0 x1)))
      (arg10.view.writes (Elt Ideal) arg10.view.junk ((pb1 x0 x1 x2 c i arg2 harg2 arg3 harg3 arg4 harg4 arg5 harg5 arg6 harg6 arg7 harg7 arg8 harg8 arg9 harg9 arg10 harg10).2.2.2.2 ++ (kernelRun0_A.sl.HS4_7 (F := Ideal) c arg2 harg2 arg3 harg3 arg4 harg4 arg6 arg7 arg8 arg10 x0 x1 x2))) := by
  have h := loop1 x0 x1 x2 c i arg2 harg2 arg3 harg3 arg4 harg4 arg5 harg5 arg6 harg6 arg7 harg7 arg8 harg8 arg9 harg9 arg10 harg10 (0#32) (2#32) _ (arg7.view.writes (Elt Ideal) arg7.view.junk (kernelRun0_A.sl.HS1_3 (F := Ideal) c arg2 harg2 arg3 harg3 x0 x1)) _ _ _ (sc2 x0 x1 x2 c i arg2 harg2 arg3 harg3 arg4 harg4 arg5 harg5 arg6 harg6 arg7 harg7 arg8 harg8 arg9 harg9 arg10 harg10) ((st6 x0 x1 x2 c i arg2 harg2 arg3 harg3 arg4 harg4 arg5 harg5 arg6 harg6 arg7 harg7 arg8 harg8 arg9 harg9 arg10 harg10).next 2048 rfl)
    (Scf.trips k0_t1_loop.lb k0_t1_loop.ub k0_t1_loop.st) (by decide +kernel) _ rfl
  rw [show 1024 * Scf.trips k0_t1_loop.lb k0_t1_loop.ub k0_t1_loop.st = 2048 by decide +kernel] at h
  simp only [View.writes_append]
  exact h

theorem sh2 : ScH x0 x1 arg7 (arg7.view.writes (Elt Ideal) arg7.view.junk (kernelRun0_A.sl.HS1_1_1 (F := Ideal) c i arg2 harg2 arg3 harg3 arg4 harg4 arg5 harg5 arg6 harg6 arg7 harg7 arg8 harg8 arg9 harg9 arg10 harg10 x0 x1 x2)) 2560 := by
  unfold kernelRun0_A.sl.HS1_1_1
  rw [s_125]
  exact storeH x0 x1 arg7 _ _ _ _ 2560 fun r j => scoresH x0 x1 arg2 arg3 harg2 harg3 2560 (by norm_num) _ _ r j

theorem st7 : St x0 x1 x2 arg8 arg9 arg10 2048 (nT 2048 (2048 + 512))
      (arg8.view.writes (Elt Ideal) arg8.view.junk (kernelRun0_A.sl.HS2_1_1 (F := Ideal) c i arg2 harg2 arg3 harg3 arg4 harg4 arg5 harg5 arg6 harg6 arg7 harg7 arg8 harg8 arg9 harg9 arg10 harg10 x0 x1 x2))
      (arg9.view.writes (Elt Ideal) arg9.view.junk (kernelRun0_A.sl.HS3_1_1 (F := Ideal) c i arg2 harg2 arg3 harg3 arg4 harg4 arg5 harg5 arg6 harg6 arg7 harg7 arg8 harg8 arg9 harg9 arg10 harg10 x0 x1 x2))
      (arg10.view.writes (Elt Ideal) arg10.view.junk (kernelRun0_A.sl.HS4_1_1 (F := Ideal) c i arg2 harg2 arg3 harg3 arg4 harg4 arg5 harg5 arg6 harg6 arg7 harg7 arg8 harg8 arg9 harg9 arg10 harg10 x0 x1 x2)) := by
  unfold kernelRun0_A.sl.HS2_1_1 kernelRun0_A.sl.HS3_1_1 kernelRun0_A.sl.HS4_1_1 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.v407 kernelRun0_A.sl.v413 kernelRun0_A.sl.v435 kernelRun0_A.sl.v450
  simp only [covB, covR]
  rw [m_d2, l_d2, a_d2, writes_rows arg8 _ 2048 1024, writes_rows arg9 _ 2048 1024, writes_rows arg10 _ 2048 1024]
  exact ((lp1 x0 x1 x2 c i arg2 harg2 arg3 harg3 arg4 harg4 arg5 harg5 arg6 harg6 arg7 harg7 arg8 harg8 arg9 harg9 arg10 harg10).2).diag (by norm_num) (by norm_num) (lp1 x0 x1 x2 c i arg2 harg2 arg3 harg3 arg4 harg4 arg5 harg5 arg6 harg6 arg7 harg7 arg8 harg8 arg9 harg9 arg10 harg10).1 _ _ _ _ _ _ _ _
    (fun j d => vload x2 arg4 harg4 _ 2048 _ rfl (by norm_num) j d)

theorem st8 : St x0 x1 x2 arg8 arg9 arg10 2048 (nH 2048 (2048 + 512))
      (arg8.view.writes (Elt Ideal) arg8.view.junk (⟨Rect.unit (s := S4096x128) ![2560, 0] S512x128.size inb_S4096x128_S512x128_2560_0, k0_pay146 (F := Ideal) (kernelRun0_A.sl.r_37 (F := Ideal) c i arg2 harg2 arg3 harg3 arg4 harg4 arg5 harg5 arg6 harg6 arg7 harg7 arg8 harg8 arg9 harg9 arg10 harg10 x0 x1 x2)⟩ :: (kernelRun0_A.sl.HS2_1_1 (F := Ideal) c i arg2 harg2 arg3 harg3 arg4 harg4 arg5 harg5 arg6 harg6 arg7 harg7 arg8 harg8 arg9 harg9 arg10 harg10 x0 x1 x2)))
      (arg9.view.writes (Elt Ideal) arg9.view.junk (kernelRun0_A.sl.HS3_2_1 (F := Ideal) c i arg2 harg2 arg3 harg3 arg4 harg4 arg5 harg5 arg6 harg6 arg7 harg7 arg8 harg8 arg9 harg9 arg10 harg10 x0 x1 x2))
      (arg10.view.writes (Elt Ideal) arg10.view.junk (kernelRun0_A.sl.HS4_2_1 (F := Ideal) c i arg2 harg2 arg3 harg3 arg4 harg4 arg5 harg5 arg6 harg6 arg7 harg7 arg8 harg8 arg9 harg9 arg10 harg10 x0 x1 x2)) := by
  unfold kernelRun0_A.sl.HS3_2_1 kernelRun0_A.sl.HS4_2_1 kernelRun0_A.sl.r_36 kernelRun0_A.sl.r_37 kernelRun0_A.sl.r_38 kernelRun0_A.sl.r_39 kernelRun0_A.sl.v457 kernelRun0_A.sl.v463 kernelRun0_A.sl.v485 kernelRun0_A.sl.v500
  simp only [covH, covR]
  rw [m_h2, l_h2, a_h2, writes_rows arg8 _ 2560 512, writes_rows arg9 _ 2560 512, writes_rows arg10 _ 2560 512]
  exact (st7 x0 x1 x2 c i arg2 harg2 arg3 harg3 arg4 harg4 arg5 harg5 arg6 harg6 arg7 harg7 arg8 harg8 arg9 harg9 arg10 harg10).half (by norm_num) (by norm_num) 2560 rfl (sh2 x0 x1 x2 c i arg2 harg2 arg3 harg3 arg4 harg4 arg5 harg5 arg6 harg6 arg7 harg7 arg8 harg8 arg9 harg9 arg10 harg10) _ _ _ _ _ _ _ _
    (fun j d => vload x2 arg4 harg4 _ 2560 _ rfl (by norm_num) j d)

theorem sc3 : ScB x0 x1 arg6 (arg6.view.writes (Elt Ideal) arg6.view.junk (⟨Rect.unit (s := S1024x512) ![0, 0] S1024x512.size inb_S1024x512_S1024x512_0_0, k0_pay150 (F := Ideal) (View.readAt (Elt Ideal) arg3.view (Rect.unit (s := S1x1x4096x192) ![0, 0, 0, 0] S1x1x512x192.size inb_S1x1x4096x192_S1x1x512x192_0_0_0_0).toLoadRect (harg3.unread x1))
        (View.readAt (Elt Ideal) arg2.view (Rect.unit (s := S1x1x4096x192) ![0, 0, 3072, 0] S1x1x1024x192.size inb_S1x1x4096x192_S1x1x1024x192_0_0_3072_0).toLoadRect (harg2.unread x0))⟩ :: ((pb1 x0 x1 x2 c i arg2 harg2 arg3 harg3 arg4 harg4 arg5 harg5 arg6 harg6 arg7 harg7 arg8 harg8 arg9 harg9 arg10 harg10).1 ++ (kernelRun0_A.sl.HS0_4 (F := Ideal) c arg2 harg2 arg3 harg3 x0 x1)))) 3072 0 := by
  rw [s_150]
  exact storeB x0 x1 arg6 _ _ _ _ 3072 0 fun r j => scoresB x0 x1 arg2 arg3 harg2 harg3 3072 0 _ rfl (by norm_num) (by norm_num) _ _ r j

/-- What the second loop stores. -/
abbrev pb2 := (pb_k0_t2 (F := Ideal) Variants.none c none i arg2 harg2 arg3 harg3 arg4 harg4 arg5 harg5 arg6 harg6 arg7 harg7 arg8 harg8 arg9 harg9 arg10 harg10 (kernelRun0_A.sl.r_40 (F := Ideal) c i arg2 harg2 arg3 harg3 arg4 harg4 arg5 harg5 arg6 harg6 arg7 harg7 arg8 harg8 arg9 harg9 arg10 harg10 x0 x1 x2) (harg2.unread x0) (harg3.unread x1) (harg4.unread x2)
        (arg6.view.writes (Elt Ideal) arg6.view.junk (⟨Rect.unit (s := S1024x512) ![0, 0] S1024x512.size inb_S1024x512_S1024x512_0_0, k0_pay150 (F := Ideal) (View.readAt (Elt Ideal) arg3.view (Rect.unit (s := S1x1x4096x192) ![0, 0, 0, 0] S1x1x512x192.size inb_S1x1x4096x192_S1x1x512x192_0_0_0_0).toLoadRect (harg3.unread x1))
        (View.readAt (Elt Ideal) arg2.view (Rect.unit (s := S1x1x4096x192) ![0, 0, 3072, 0] S1x1x1024x192.size inb_S1x1x4096x192_S1x1x1024x192_0_0_3072_0).toLoadRect (harg2.unread x0))⟩ :: ((pb1 x0 x1 x2 c i arg2 harg2 arg3 harg3 arg4 harg4 arg5 harg5 arg6 harg6 arg7 harg7 arg8 harg8 arg9 harg9 arg10 harg10).1 ++ (kernelRun0_A.sl.HS0_4 (F := Ideal) c arg2 harg2 arg3 harg3 x0 x1))))
        (arg7.view.writes (Elt Ideal) arg7.view.junk (kernelRun0_A.sl.HS1_1_1 (F := Ideal) c i arg2 harg2 arg3 harg3 arg4 harg4 arg5 harg5 arg6 harg6 arg7 harg7 arg8 harg8 arg9 harg9 arg10 harg10 x0 x1 x2))
        (arg8.view.writes (Elt Ideal) arg8.view.junk (⟨Rect.unit (s := S4096x128) ![2560, 0] S512x128.size inb_S4096x128_S512x128_2560_0, k0_pay146 (F := Ideal) (kernelRun0_A.sl.r_37 (F := Ideal) c i arg2 harg2 arg3 harg3 arg4 harg4 arg5 harg5 arg6 harg6 arg7 harg7 arg8 harg8 arg9 harg9 arg10 harg10 x0 x1 x2)⟩ :: (kernelRun0_A.sl.HS2_1_1 (F := Ideal) c i arg2 harg2 arg3 harg3 arg4 harg4 arg5 harg5 arg6 harg6 arg7 harg7 arg8 harg8 arg9 harg9 arg10 harg10 x0 x1 x2)))
        (arg9.view.writes (Elt Ideal) arg9.view.junk (kernelRun0_A.sl.HS3_2_1 (F := Ideal) c i arg2 harg2 arg3 harg3 arg4 harg4 arg5 harg5 arg6 harg6 arg7 harg7 arg8 harg8 arg9 harg9 arg10 harg10 x0 x1 x2))
        (arg10.view.writes (Elt Ideal) arg10.view.junk (kernelRun0_A.sl.HS4_2_1 (F := Ideal) c i arg2 harg2 arg3 harg3 arg4 harg4 arg5 harg5 arg6 harg6 arg7 harg7 arg8 harg8 arg9 harg9 arg10 harg10 x0 x1 x2))
        (Scf.trips k0_t2_loop.lb k0_t2_loop.ub k0_t2_loop.st))

theorem lp2 : ScB x0 x1 arg6 (arg6.view.writes (Elt Ideal) arg6.view.junk ((pb2 x0 x1 x2 c i arg2 harg2 arg3 harg3 arg4 harg4 arg5 harg5 arg6 harg6 arg7 harg7 arg8 harg8 arg9 harg9 arg10 harg10).1 ++ (⟨Rect.unit (s := S1024x512) ![0, 0] S1024x512.size inb_S1024x512_S1024x512_0_0, k0_pay150 (F := Ideal) (View.readAt (Elt Ideal) arg3.view (Rect.unit (s := S1x1x4096x192) ![0, 0, 0, 0] S1x1x512x192.size inb_S1x1x4096x192_S1x1x512x192_0_0_0_0).toLoadRect (harg3.unread x1))
        (View.readAt (Elt Ideal) arg2.view (Rect.unit (s := S1x1x4096x192) ![0, 0, 3072, 0] S1x1x1024x192.size inb_S1x1x4096x192_S1x1x1024x192_0_0_3072_0).toLoadRect (harg2.unread x0))⟩ :: ((pb1 x0 x1 x2 c i arg2 harg2 arg3 harg3 arg4 harg4 arg5 harg5 arg6 harg6 arg7 harg7 arg8 harg8 arg9 harg9 arg10 harg10).1 ++ (kernelRun0_A.sl.HS0_4 (F := Ideal) c arg2 harg2 arg3 harg3 x0 x1))))) 3072 3072 ∧ St x0 x1 x2 arg8 arg9 arg10 3072 (nT 3072 3072)
      (arg8.view.writes (Elt Ideal) arg8.view.junk ((pb2 x0 x1 x2 c i arg2 harg2 arg3 harg3 arg4 harg4 arg5 harg5 arg6 harg6 arg7 harg7 arg8 harg8 arg9 harg9 arg10 harg10).2.2.1 ++ (⟨Rect.unit (s := S4096x128) ![2560, 0] S512x128.size inb_S4096x128_S512x128_2560_0, k0_pay146 (F := Ideal) (kernelRun0_A.sl.r_37 (F := Ideal) c i arg2 harg2 arg3 harg3 arg4 harg4 arg5 harg5 arg6 harg6 arg7 harg7 arg8 harg8 arg9 harg9 arg10 harg10 x0 x1 x2)⟩ :: (kernelRun0_A.sl.HS2_1_1 (F := Ideal) c i arg2 harg2 arg3 harg3 arg4 harg4 arg5 harg5 arg6 harg6 arg7 harg7 arg8 harg8 arg9 harg9 arg10 harg10 x0 x1 x2))))
      (arg9.view.writes (Elt Ideal) arg9.view.junk ((pb2 x0 x1 x2 c i arg2 harg2 arg3 harg3 arg4 harg4 arg5 harg5 arg6 harg6 arg7 harg7 arg8 harg8 arg9 harg9 arg10 harg10).2.2.2.1 ++ (kernelRun0_A.sl.HS3_2_1 (F := Ideal) c i arg2 harg2 arg3 harg3 arg4 harg4 arg5 harg5 arg6 harg6 arg7 harg7 arg8 harg8 arg9 harg9 arg10 harg10 x0 x1 x2)))
      (arg10.view.writes (Elt Ideal) arg10.view.junk ((pb2 x0 x1 x2 c i arg2 harg2 arg3 harg3 arg4 harg4 arg5 harg5 arg6 harg6 arg7 harg7 arg8 harg8 arg9 harg9 arg10 harg10).2.2.2.2 ++ (kernelRun0_A.sl.HS4_2_1 (F := Ideal) c i arg2 harg2 arg3 harg3 arg4 harg4 arg5 harg5 arg6 harg6 arg7 harg7 arg8 harg8 arg9 harg9 arg10 harg10 x0 x1 x2))) := by
  have h := loop2 x0 x1 x2 c i arg2 harg2 arg3 harg3 arg4 harg4 arg5 harg5 arg6 harg6 arg7 harg7 arg8 harg8 arg9 harg9 arg10 harg10 (kernelRun0_A.sl.r_40 (F := Ideal) c i arg2 harg2 arg3 harg3 arg4 harg4 arg5 harg5 arg6 harg6 arg7 harg7 arg8 harg8 arg9 harg9 arg10 harg10 x0 x1 x2) _ (arg7.view.writes (Elt Ideal) arg7.view.junk (kernelRun0_A.sl.HS1_1_1 (F := Ideal) c i arg2 harg2 arg3 harg3 arg4 harg4 arg5 harg5 arg6 harg6 arg7 harg7 arg8 harg8 arg9 harg9 arg10 harg10 x0 x1 x2)) _ _ _ (sc3 x0 x1 x2 c i arg2 harg2 arg3 harg3 arg4 harg4 arg5 harg5 arg6 harg6 arg7 harg7 arg8 harg8 arg9 harg9 arg10 harg10) ((st8 x0 x1 x2 c i arg2 harg2 arg3 harg3 arg4 harg4 arg5 harg5 arg6 harg6 arg7 harg7 arg8 harg8 arg9 harg9 arg10 harg10).next 3072 rfl)
    (Scf.trips k0_t2_loop.lb k0_t2_loop.ub k0_t2_loop.st) (by decide +kernel) _ rfl
  rw [show 1024 * Scf.trips k0_t2_loop.lb k0_t2_loop.ub k0_t2_loop.st = 3072 by decide +kernel] at h
  simp only [View.writes_append]
  exact h

theorem sh3 : ScH x0 x1 arg7 (arg7.view.writes (Elt Ideal) arg7.view.junk (kernelRun0_A.sl.HS1_1_2 (F := Ideal) c i arg2 harg2 arg3 harg3 arg4 harg4 arg5 harg5 arg6 harg6 arg7 harg7 arg8 harg8 arg9 harg9 arg10 harg10 x0 x1 x2)) 3584 := by
  unfold kernelRun0_A.sl.HS1_1_2
  rw [s_152]
  exact storeH x0 x1 arg7 _ _ _ _ 3584 fun r j => scoresH x0 x1 arg2 arg3 harg2 harg3 3584 (by norm_num) _ _ r j

theorem st9 : St x0 x1 x2 arg8 arg9 arg10 3072 (nT 3072 (3072 + 512))
      (arg8.view.writes (Elt Ideal) arg8.view.junk (kernelRun0_A.sl.HS2_1_2 (F := Ideal) c i arg2 harg2 arg3 harg3 arg4 harg4 arg5 harg5 arg6 harg6 arg7 harg7 arg8 harg8 arg9 harg9 arg10 harg10 x0 x1 x2))
      (arg9.view.writes (Elt Ideal) arg9.view.junk (kernelRun0_A.sl.HS3_1_2 (F := Ideal) c i arg2 harg2 arg3 harg3 arg4 harg4 arg5 harg5 arg6 harg6 arg7 harg7 arg8 harg8 arg9 harg9 arg10 harg10 x0 x1 x2))
      (arg10.view.writes (Elt Ideal) arg10.view.junk (kernelRun0_A.sl.HS4_1_2 (F := Ideal) c i arg2 harg2 arg3 harg3 arg4 harg4 arg5 harg5 arg6 harg6 arg7 harg7 arg8 harg8 arg9 harg9 arg10 harg10 x0 x1 x2)) := by
  unfold kernelRun0_A.sl.HS2_1_2 kernelRun0_A.sl.HS3_1_2 kernelRun0_A.sl.HS4_1_2 kernelRun0_A.sl.r_41 kernelRun0_A.sl.r_42 kernelRun0_A.sl.r_43 kernelRun0_A.sl.v536 kernelRun0_A.sl.v542 kernelRun0_A.sl.v564 kernelRun0_A.sl.v579
  simp only [covB, covR]
  rw [m_d3, l_d3, a_d3, writes_rows arg8 _ 3072 1024, writes_rows arg9 _ 3072 1024, writes_rows arg10 _ 3072 1024]
  exact ((lp2 x0 x1 x2 c i arg2 harg2 arg3 harg3 arg4 harg4 arg5 harg5 arg6 harg6 arg7 harg7 arg8 harg8 arg9 harg9 arg10 harg10).2).diag (by norm_num) (by norm_num) (lp2 x0 x1 x2 c i arg2 harg2 arg3 harg3 arg4 harg4 arg5 harg5 arg6 harg6 arg7 harg7 arg8 harg8 arg9 harg9 arg10 harg10).1 _ _ _ _ _ _ _ _
    (fun j d => vload x2 arg4 harg4 _ 3072 _ rfl (by norm_num) j d)

theorem st10 : ∃ F8, St x0 x1 x2 arg8 arg9 arg10 3072 (nH 3072 (3072 + 512)) F8
      (arg9.view.writes (Elt Ideal) arg9.view.junk (kernelRun0_A.sl.HS3_2_2 (F := Ideal) c i arg2 harg2 arg3 harg3 arg4 harg4 arg5 harg5 arg6 harg6 arg7 harg7 arg8 harg8 arg9 harg9 arg10 harg10 x0 x1 x2))
      (arg10.view.writes (Elt Ideal) arg10.view.junk (kernelRun0_A.sl.HS4_2_2 (F := Ideal) c i arg2 harg2 arg3 harg3 arg4 harg4 arg5 harg5 arg6 harg6 arg7 harg7 arg8 harg8 arg9 harg9 arg10 harg10 x0 x1 x2)) := by
  unfold kernelRun0_A.sl.HS3_2_2 kernelRun0_A.sl.HS4_2_2 kernelRun0_A.sl.r_45 kernelRun0_A.sl.r_46 kernelRun0_A.sl.r_47 kernelRun0_A.sl.r_48 kernelRun0_A.sl.r_49 kernelRun0_A.sl.v586 kernelRun0_A.sl.v592 kernelRun0_A.sl.v614 kernelRun0_A.sl.v629
  simp only [covH, covR]
  rw [l_h3, a_h3, writes_rows, writes_rows]
  exact ⟨_, (st9 x0 x1 x2 c i arg2 harg2 arg3 harg3 arg4 harg4 arg5 harg5 arg6 harg6 arg7 harg7 arg8 harg8 arg9 harg9 arg10 harg10).half (by norm_num) (by norm_num) 3584 rfl (sh3 x0 x1 x2 c i arg2 harg2 arg3 harg3 arg4 harg4 arg5 harg5 arg6 harg6 arg7 harg7 arg8 harg8 arg9 harg9 arg10 harg10) inb_S4096x128_S512x128_3584_0 _ _ _ _ _ _ _
    (fun j d => vload x2 arg4 harg4 _ 3584 _ rfl (by norm_num) j d)⟩

end

end Cert.FlashIdeal.Step

end
-- ==== Proof.FlashOut.lean ====
module

public import proofs.«01_k».proof.Proof.FlashRun2

/-! What the attention kernel leaves in its output block. -/

@[expose] public section

set_option maxRecDepth 16384

noncomputable section

open Idealize.ShloMosaic Idealize.ShloMosaic.TcCoe Idealize.SL.Sem

namespace Cert.FlashIdeal.Step

open Cert.FlashIdeal Cert.FlashIdeal.Gen Cert.Online

theorem in_rows {κ sp} (v : View sig κ sp S4096x128 .bf16) (f) (b : ℕ) (i) (P : Vec Ideal S1024x128 .bf16) (L) (q : Fin 4096)
    (r : Fin 1024) (l : Fin 128) (h : (q : ℕ) = b + r) :
    v.read (Elt Ideal) (v.writes (Elt Ideal) f (⟨Rect.unit (s := S4096x128) ![b, 0] ![1024, 128] i, P⟩ :: L)) (ix2 q l) = P (ix2 r l) :=
  View.read_writes_cons_rows_of_mem (d := ![4096, 128]) v f i P L (ix2 q l) (ix2 r l) rfl h rfl

theorem off_rows {κ sp} (v : View sig κ sp S4096x128 .bf16) (f) (b : ℕ) (i) (P : Vec Ideal S1024x128 .bf16) (L) (q : Fin 4096)
    (l : Fin 128) (h : (q : ℕ) < b ∨ b + 1024 ≤ q) :
    v.read (Elt Ideal) (v.writes (Elt Ideal) f (⟨Rect.unit (s := S4096x128) ![b, 0] ![1024, 128] i, P⟩ :: L)) (ix2 q l)
      = v.read (Elt Ideal) (v.writes (Elt Ideal) f L) (ix2 q l) :=
  View.read_writes_cons_rows_of_not_mem (d := ![4096, 128]) (W := 1024) v f i P L (ix2 q l) rfl rfl h

section
variable (x0 x1 : Vec Ideal S1x1x4096x192 .bf16) (x2 : Vec Ideal S1x1x4096x128 .bf16)

/-- Row `q`, column `l` of the block's result: the weighted sum over all 4096 keys, over the sum of the weights. -/
def fin (q l : ℕ) : EReal :=
  Ideal.div (AC (sc x0 x1 q) (wv x2 l) 4096) (∑ k ∈ Finset.range 4096, Ideal.exp2 (sc x0 x1 q k - MX (sc x0 x1 q) 4096))

/-- The last step of a tile: the weighted sums over the lanes' sums together. -/
def outB (L A : BigM) : Vec Ideal S1024x128 .bf16 := k0_pay76 (F := Ideal) L A

theorem out_1 (L A : BigM) : k0_pay122 (F := Ideal) L A = outB L A := rfl
theorem out_2 (L A : BigM) : k0_pay149 (F := Ideal) (k0_pay148 (F := Ideal) L) A = outB L A := rfl
theorem out_3 (L A : BigM) : k0_pay175 (F := Ideal) L A = outB L A := rfl
theorem out_0 (L A : BigM) : k0_pay76 (F := Ideal) L A = outB L A := rfl

theorem outB_at (L A : BigM) (r : Fin 1024) (l : Fin 128) :
    outB L A (ix2 r l) = Ideal.div (A (ix2 r l)) (∑ j : Fin 128, L (ix2 r j)) := by
  unfold outB
  pointwise [k0_pay76]

variable {x0 x1 x2}

theorem St.out {a8 a9 a10 : RowB} {lo : ℕ} {F8 F9 F10} (h : St x0 x1 x2 a8 a9 a10 lo (nH lo (lo + 512)) F8 F9 F10)
    (hlo : lo + 1024 ≤ 4096) (i9 i10) (r : Fin 1024) (l : Fin 128) :
    outB (rowsOf a9 F9 lo 1024 i9) (rowsOf a10 F10 lo 1024 i10) (ix2 r l) = fin x0 x1 x2 (lo + r) l := by
  have hr := r.isLt
  obtain ⟨n, hn⟩ : ∃ n, n = nH lo (lo + 512) (lo + r) := ⟨_, rfl⟩
  have h1 : lo + r < n := by rw [hn]; unfold nH nT; split_ifs <;> omega
  have h2 : n ≤ 4096 := by rw [hn]; unfold nH nT; split_ifs <;> omega
  have hm : ∀ k, n ≤ k → sc x0 x1 (lo + r) k = ⊥ := fun k hk => sc_gt x0 x1 (by omega)
  rw [outB_at, rowsOf_at _ _ _ _ _ _ _ (by omega), h.a ⟨lo + r, by omega⟩ l (Nat.le_add_right _ _)]
  have e : ∀ j : Fin 128, rowsOf a9 F9 lo 1024 i9 (ix2 r j) = LS (sc x0 x1 (lo + r)) n j := fun j => by
    rw [rowsOf_at _ _ _ _ _ _ _ (by omega), h.l ⟨lo + r, by omega⟩ j (Nat.le_add_right _ _)]; exact congrArg (LS _ · _) hn.symm
  rw [Finset.sum_congr rfl fun j _ => e j, sum_LS]
  unfold fin
  have s1 := sum_masked (sc x0 x1 (lo + r)) (wv x2 l) h2 hm
  have s2 := sum_masked (sc x0 x1 (lo + r)) (fun _ => 1) h2 hm
  simp only [mul_one] at s2
  rw [s2]
  refine congrArg (Ideal.div · _) ?_
  show AC _ _ (nH lo (lo + 512) (lo + r)) = _
  rw [← hn]
  exact s1.symm

end

section
variable (x0 x1 : Vec Ideal S1x1x4096x192 .bf16) (x2 : Vec Ideal S1x1x4096x128 .bf16)
  (c : Dev nD) (i : grid0.Coords) (arg2 : Memref sig .tc .vmem S1x1x4096x192 .bf16) (harg2 : arg2.IsWhole) (arg3 : Memref sig .tc .vmem S1x1x4096x192 .bf16) (harg3 : arg3.IsWhole)
  (arg4 : Memref sig .tc .vmem S1x1x4096x128 .bf16) (harg4 : arg4.IsWhole) (arg5 : Memref sig .tc .vmem S4096x128 .bf16) (harg5 : arg5.IsWhole) (arg6 : Memref sig .tc .vmem S1024x512 .f32) (harg6 : arg6.IsWhole)
  (arg7 : Memref sig .tc .vmem S1024x512 .f32) (harg7 : arg7.IsWhole) (arg8 : Memref sig .tc .vmem S4096x128 .f32) (harg8 : arg8.IsWhole) (arg9 : Memref sig .tc .vmem S4096x128 .f32) (harg9 : arg9.IsWhole)
  (arg10 : Memref sig .tc .vmem S4096x128 .f32) (harg10 : arg10.IsWhole)
include c i arg2 harg2 arg3 harg3 arg4 harg4 arg5 harg5 arg6 harg6 arg7 harg7 arg8 harg8 arg9 harg9 arg10 harg10 x0 x1 x2

theorem run_out : (kernelRun0_A (F := Ideal) c i arg2 harg2 arg3 harg3 arg4 harg4 arg5 harg5 arg6 harg6 arg7 harg7 arg8 harg8 arg9 harg9 arg10 harg10 x0 x1 x2).1 =
    [⟨Rect.unit (s := S4096x128) ![3072, 0] ![1024, 128] inb_S4096x128_S1024x128_3072_0, outB (rowsOf arg9 (arg9.view.writes (Elt Ideal) arg9.view.junk (kernelRun0_A.sl.HS3_2_2 (F := Ideal) c i arg2 harg2 arg3 harg3 arg4 harg4 arg5 harg5 arg6 harg6 arg7 harg7 arg8 harg8 arg9 harg9 arg10 harg10 x0 x1 x2)) 3072 1024 inb_S4096x128_S1024x128_3072_0)
          (rowsOf arg10 (arg10.view.writes (Elt Ideal) arg10.view.junk (kernelRun0_A.sl.HS4_2_2 (F := Ideal) c i arg2 harg2 arg3 harg3 arg4 harg4 arg5 harg5 arg6 harg6 arg7 harg7 arg8 harg8 arg9 harg9 arg10 harg10 x0 x1 x2)) 3072 1024 inb_S4096x128_S1024x128_3072_0)⟩,
      ⟨Rect.unit (s := S4096x128) ![2048, 0] ![1024, 128] inb_S4096x128_S1024x128_2048_0, outB (rowsOf arg9 (arg9.view.writes (Elt Ideal) arg9.view.junk (kernelRun0_A.sl.HS3_2_1 (F := Ideal) c i arg2 harg2 arg3 harg3 arg4 harg4 arg5 harg5 arg6 harg6 arg7 harg7 arg8 harg8 arg9 harg9 arg10 harg10 x0 x1 x2)) 2048 1024 inb_S4096x128_S1024x128_2048_0)
          (rowsOf arg10 (arg10.view.writes (Elt Ideal) arg10.view.junk (kernelRun0_A.sl.HS4_2_1 (F := Ideal) c i arg2 harg2 arg3 harg3 arg4 harg4 arg5 harg5 arg6 harg6 arg7 harg7 arg8 harg8 arg9 harg9 arg10 harg10 x0 x1 x2)) 2048 1024 inb_S4096x128_S1024x128_2048_0)⟩,
      ⟨Rect.unit (s := S4096x128) ![1024, 0] ![1024, 128] inb_S4096x128_S1024x128_1024_0, outB (rowsOf arg9 (arg9.view.writes (Elt Ideal) arg9.view.junk (kernelRun0_A.sl.HS3_7 (F := Ideal) c arg2 harg2 arg3 harg3 arg6 arg7 arg8 arg9 x0 x1)) 1024 1024 inb_S4096x128_S1024x128_1024_0)
          (rowsOf arg10 (arg10.view.writes (Elt Ideal) arg10.view.junk (kernelRun0_A.sl.HS4_7 (F := Ideal) c arg2 harg2 arg3 harg3 arg4 harg4 arg6 arg7 arg8 arg10 x0 x1 x2)) 1024 1024 inb_S4096x128_S1024x128_1024_0)⟩,
      ⟨Rect.unit (s := S4096x128) ![0, 0] ![1024, 128] inb_S4096x128_S1024x128_0_0, outB (rowsOf arg9 (arg9.view.writes (Elt Ideal) arg9.view.junk (kernelRun0_A.sl.HS3_3 (F := Ideal) c arg2 harg2 arg3 harg3 arg6 arg7 arg8 arg9 x0 x1)) 0 1024 inb_S4096x128_S1024x128_0_0)
          (rowsOf arg10 (arg10.view.writes (Elt Ideal) arg10.view.junk (kernelRun0_A.sl.HS4_3 (F := Ideal) c arg2 harg2 arg3 harg3 arg4 harg4 arg6 arg7 arg8 arg10 x0 x1 x2)) 0 1024 inb_S4096x128_S1024x128_0_0)⟩] := rfl

theorem out_at (q : Fin 4096) (l : Fin 128) : out0_A_3 (F := Ideal) c i arg2 harg2 arg3 harg3 arg4 harg4 arg5 harg5 arg6 harg6 arg7 harg7 arg8 harg8 arg9 harg9 arg10 harg10 x0 x1 x2 (ix2 q l) = fin x0 x1 x2 q l := by
  unfold out0_A_3
  rw [run_out]
  have hq := q.isLt
  by_cases h3072 : 3072 ≤ (q : ℕ)
  · obtain ⟨r, hr⟩ : ∃ r : Fin 1024, (q : ℕ) = 3072 + r := ⟨⟨q - 3072, by omega⟩, by show (q : ℕ) = 3072 + (q - 3072); omega⟩
    rw [in_rows _ _ _ _ _ _ q r l hr, hr]
    obtain ⟨F8, h⟩ := st10 x0 x1 x2 c i arg2 harg2 arg3 harg3 arg4 harg4 arg5 harg5 arg6 harg6 arg7 harg7 arg8 harg8 arg9 harg9 arg10 harg10
    exact (h.out (by norm_num) _ _ r l)
  rw [off_rows _ _ _ _ _ _ q l (by omega)]
  by_cases h2048 : 2048 ≤ (q : ℕ)
  · obtain ⟨r, hr⟩ : ∃ r : Fin 1024, (q : ℕ) = 2048 + r := ⟨⟨q - 2048, by omega⟩, by show (q : ℕ) = 2048 + (q - 2048); omega⟩
    rw [in_rows _ _ _ _ _ _ q r l hr, hr]
    exact ((st8 x0 x1 x2 c i arg2 harg2 arg3 harg3 arg4 harg4 arg5 harg5 arg6 harg6 arg7 harg7 arg8 harg8 arg9 harg9 arg10 harg10).out (by norm_num) _ _ r l)
  rw [off_rows _ _ _ _ _ _ q l (by omega)]
  by_cases h1024 : 1024 ≤ (q : ℕ)
  · obtain ⟨r, hr⟩ : ∃ r : Fin 1024, (q : ℕ) = 1024 + r := ⟨⟨q - 1024, by omega⟩, by show (q : ℕ) = 1024 + (q - 1024); omega⟩
    rw [in_rows _ _ _ _ _ _ q r l hr, hr]
    exact ((st6 x0 x1 x2 c i arg2 harg2 arg3 harg3 arg4 harg4 arg5 harg5 arg6 harg6 arg7 harg7 arg8 harg8 arg9 harg9 arg10 harg10).out (by norm_num) _ _ r l)
  rw [off_rows _ _ _ _ _ _ q l (by omega)]
  by_cases h0 : 0 ≤ (q : ℕ)
  · obtain ⟨r, hr⟩ : ∃ r : Fin 1024, (q : ℕ) = 0 + r := ⟨⟨q - 0, by omega⟩, by show (q : ℕ) = 0 + (q - 0); omega⟩
    rw [in_rows _ _ _ _ _ _ q r l hr, hr]
    exact ((st2 x0 x1 x2 c i arg2 harg2 arg3 harg3 arg4 harg4 arg5 harg5 arg6 harg6 arg7 harg7 arg8 harg8 arg9 harg9 arg10 harg10).out (by norm_num) _ _ r l)
  omega

end

end Cert.FlashIdeal.Step

end
-- ==== Proof.FlashRef.lean ====
module

public import proofs.«01_k».proof.Proof.Gen.FlashRefIdeal.Run
public import Idealize.ShloMosaic.Lib.Pipeline.ValueKit
public import Idealize.ShloMosaic.Lib.WordCmp

/-! The reference attention at an index, read off its operations one stage at a time: the masked scores,
their maximum, the exponentials, their sum, and the weighted sum of the values. -/

@[expose] public section

set_option maxRecDepth 16384

noncomputable section

open Idealize.ShloMosaic Idealize.ShloMosaic.TcCoe Idealize.SL.Sem

namespace Cert.FlashRefIdeal.At

open Cert.FlashRefIdeal Cert.FlashRefIdeal.Gen

abbrev QK := FVec Ideal S4x32x4096x192 .bf16
abbrev Val := FVec Ideal S4x32x4096x128 .bf16
abbrev Scores := FVec Ideal S4x32x4096x4096 .f32
abbrev Rows := FVec Ideal S4x32x4096 .f32

/-- The masked scores. -/
def scores (Q K : QK) : Scores :=
  select (broadcastInDim S4x32x4096x4096 ![2, 3] bcast_S4096x4096_S4x32x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (Host.dotGeneral dot_S4x32x4096x192_S4x32x4096x192_S4x32x4096x4096_3_3_2_2_01_01 none (extf .f32 Q bitsLt_bf16_f32) (extf .f32 K bitsLt_bf16_f32)) (broadcastInDim S4x32x4096x4096 ![] bcast_S_S4x32x4096x4096 (Host.divf (constant S_ .f32 0x3F800000#32) (Host.sqrt (constant S_ .f32 0x43400000#32))))) (broadcastInDim S4x32x4096x4096 ![] bcast_S_S4x32x4096x4096 (id (constant S_ .f32 0xFF800000#32)))

/-- The row maxima. -/
def maxes (S : Scores) : Rows :=
  maximumf (broadcastInDim S4x32x4096 ![] bcast_S_S4x32x4096 (constant S_ .f32 0xFF800000#32)) (Host.reduce FloatOps.maximumf S (constant S_ .f32 0xFF800000#32) reducesTo_S4x32x4096x4096_S4x32x4096_d3 h_S_)

/-- One number per row, along the row. -/
def along (R : Rows) : Scores :=
  broadcastInDim S4x32x4096x4096 ![0, 1, 2, 3] bcast_S4x32x4096x1_S4x32x4096x4096_0_1_2_3 (broadcastInDim S4x32x4096x1 ![0, 1, 2] bcast_S4x32x4096_S4x32x4096x1_0_1_2 R)

/-- The exponentials of the scores less their row's maximum. -/
def exps (S : Scores) : Scores := Host.exp (subf S (along (maxes S)))

/-- The row sums. -/
def sums (E : Scores) : Rows := Host.reduceAdd E (constant S_ .f32 0x00000000#32) reducesTo_S4x32x4096x4096_S4x32x4096_d3 h_S_

/-- The weights. -/
def probs (E : Scores) : Scores := Host.divf E (along (sums E))

/-- The weighted sums of the values, heads side by side. -/
def out (V : Val) (P : Scores) : FVec Ideal S16384x4096 .bf16 :=
  truncf .bf16 (shapeCast _ (transpose S4x4096x32x128 [0, 3, 1, 2] (Host.dotGeneral dot_S4x32x4096x128_S4x32x4096x4096_S4x32x128x4096_2_3_3_2_01_01 none (extf .f32 V bitsLt_bf16_f32) P) transposes_S4x32x128x4096_S4x4096x32x128_0_3_1_2) shapeCasts_S4x4096x32x128_S16384x4096) bitsLt_bf16_f32

/-- The reference's term over the three argument arrays. -/
def REF (Q K : QK) (V : Val) : FVec Ideal S16384x4096 .bf16 := out V (probs (exps (scores Q K)))

theorem res_eq (m : (ℓ : Loc nD τ sig) → Buf (Elt Ideal) ℓ) (c : Dev nD) : Cert.FlashRefIdeal.Value.res_out0 m c
    = REF (m ((c.tc : Thread nD τ).loc main_arg0)) (m ((c.tc : Thread nD τ).loc main_arg1)) (m ((c.tc : Thread nD τ).loc main_arg2)) := rfl

theorem negInf : Ideal.ofBits FTy.f32 4286578688#32 = (⊥ : EReal) := by decide +kernel

theorem fold_max {n : ℕ} (g : Fin n → EReal) :
    Finset.fold max (Ideal.ofBits FTy.f32 4286578688#32) g Finset.univ = Finset.univ.sup g := by
  rw [negInf]; rfl

/-- Comparing two positions small enough to be signed words. -/
theorem select_le {α : Type} (j r : ℕ) (hj : j < 2 ^ 31) (hr : r < 2 ^ 31) (a b : α) :
    Scalar.select (IntOp.cmpi CmpIPredicate.sle (BitVec.ofNat 32 j) (BitVec.ofNat 32 r)) a b = if j ≤ r then a else b := by
  simp (disch := omega) only [hlo_ix]

variable (b : Fin 4) (h : Fin 32) (q k : Fin 4096)

theorem along_at (R : Rows) : along R (ix4 b h q k) = R (ix3 b h q) := by
  pointwise [along]

/-- The maximum along the last of four axes, at any sizes. -/
theorem reduce_max {n0 n1 n2 n3 : ℕ} {u : Shape} (S : FVec Ideal ⟨4, ![n0, n1, n2, n3]⟩ .f32)
    (hr : (⟨4, ![n0, n1, n2, n3]⟩ : Shape).ReducesTo [3] ⟨3, ![n0, n1, n2]⟩) (hu : 0 < u.numel) (a : Fin n0) (b : Fin n1) (c : Fin n2) :
    Host.reduce FloatOps.maximumf S (constant u .f32 0xFF800000#32) hr hu (ix3 a b c)
      = Finset.univ.sup fun j : Fin n3 => S (ix4 a b c j) := by
  rw [← fold_max]
  pointwise

/-- The maximum with minus infinity. -/
theorem max_bot_at (R : Rows) (i) : maximumf (broadcastInDim S4x32x4096 ![] bcast_S_S4x32x4096 (constant (F := Ideal) S_ .f32 0xFF800000#32)) R i = R i := by
  show max (Ideal.ofBits FTy.f32 4286578688#32) (R i) = R i
  rw [negInf, max_eq_right bot_le]

theorem maxes_at (S : Scores) : maxes S (ix3 b h q) = Finset.univ.sup fun j : Fin 4096 => S (ix4 b h q j) :=
  (max_bot_at _ _).trans (reduce_max S _ _ b h q)

theorem sums_at (E : Scores) : sums E (ix3 b h q) = ∑ j : Fin 4096, E (ix4 b h q j) := by
  pointwise [sums]

theorem scores_at (Q K : QK) : scores Q K (ix4 b h q k)
    = if (k : ℕ) ≤ q then (∑ d : Fin 192, Q (ix4 b h q d) * K (ix4 b h k d))
        * Ideal.div (Ideal.ofBits .f32 0x3F800000#32) (Ideal.sqrt (Ideal.ofBits .f32 0x43400000#32)) else ⊥ := by
  rw [← negInf]
  pointwise [scores]
  exact select_le _ _ (by omega) (by omega) _ _

theorem out_at (V : Val) (P : Scores) (l : Fin 128) (i0 : Fin 16384) (i1 : Fin 4096)
    (h0 : (i0 : ℕ) = b * 4096 + q) (h1 : (i1 : ℕ) = h * 128 + l) :
    out V P (ix2 i0 i1) = ∑ j : Fin 4096, V (ix4 b h j l) * P (ix4 b h q j) := by
  have hb := b.isLt
  have hh := h.isLt
  have hq := q.isLt
  have hl := l.isLt
  have e1 : (⟨(i0 : ℕ) / 4096, by omega⟩ : Fin 4) = b := Fin.ext (by simp only; omega)
  have e2 : (⟨(i1 : ℕ) / 128, by omega⟩ : Fin 32) = h := Fin.ext (by simp only; omega)
  have e3 : (⟨(i1 : ℕ) % 128, by omega⟩ : Fin 128) = l := Fin.ext (by simp only; omega)
  have e4 : (⟨(i0 : ℕ) % 4096, by omega⟩ : Fin 4096) = q := Fin.ext (by simp only; omega)
  pointwise [out]
  rw [e1, e2, e3, e4]

end Cert.FlashRefIdeal.At

end
-- ==== Proof.Softmax.lean ====
module

public import proofs.«01_k».proof.Proof.Online
public import Mathlib.Analysis.SpecialFunctions.Pow.Real

/-! A softmax taken in base 2 is the softmax.

The scores of one query are real up to the query's own place and `⊥` after it. Multiplied by the reciprocal
of the natural logarithm of 2 they give, under base-2 exponentials, the weights the scores give under natural
ones; and dividing the weighted sum by the sum of the weights is dividing each weight first, the sum of the
weights being real and positive. -/

@[expose] public section

noncomputable section

open Idealize.ShloMosaic

namespace Cert.Online

/-- A base-2 exponential of a number over the natural logarithm of 2 is the natural exponential. -/
theorem rpow_log (x : ℝ) : Real.rpow 2 ((Real.log 2)⁻¹ * x) = Real.exp x := by
  have h : Real.log 2 ≠ 0 := (Real.log_pos (by norm_num)).ne'
  show (2 : ℝ) ^ ((Real.log 2)⁻¹ * x) = _
  rw [Real.rpow_def_of_pos (by norm_num), ← mul_assoc, mul_inv_cancel₀ h, one_mul]

/-- A finite sum of reals, as extended reals. -/
theorem coe_sum {ι : Type*} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- Dividing by a real that is not zero. -/
theorem div_real (x : EReal) {r : ℝ} (h : r ≠ 0) : Ideal.div x (r : EReal) = x * ((r⁻¹ : ℝ) : EReal) := by
  unfold Ideal.div
  rw [if_neg (by exact_mod_cast h), EReal.coe_inv]

variable {N q : ℕ} (hq : q < N) (a : ℕ → ℝ) (w S f : ℕ → EReal)
  (hS : ∀ k, S k = if k ≤ q then (((Real.log 2)⁻¹ * a k : ℝ) : EReal) else ⊥)
  (hf : ∀ k, f k = if k ≤ q then (a k : EReal) else ⊥)
include hq hS hf

/-- The weighted sum over the sum of the weights, in base 2, is the softmax's weighted sum. -/
theorem softmax_eq : Ideal.div (AC S w N) (∑ k ∈ Finset.range N, Ideal.exp2 (S k - MX S N))
    = ∑ k : Fin N, w k * Ideal.div (Ideal.exp (f k - (Finset.univ : Finset (Fin N)).sup fun j => f j))
        (∑ i : Fin N, Ideal.exp (f i - (Finset.univ : Finset (Fin N)).sup fun j => f j)) := by
  have hκ : 0 < (Real.log 2)⁻¹ := inv_pos.mpr (Real.log_pos (by norm_num))
  obtain ⟨p, hp, hmax⟩ := Finset.exists_max_image (Finset.range (q + 1)) a ⟨0, by simp⟩
  have hpq : p ≤ q := Nat.lt_succ_iff.mp (Finset.mem_range.mp hp)
  have hle : ∀ k, k ≤ q → a k ≤ a p := fun k hk => hmax k (Finset.mem_range.mpr (by omega))
  have eM : MX S N = (((Real.log 2)⁻¹ * a p : ℝ) : EReal) := by
    refine le_antisymm (Finset.sup_le fun k _ => ?_) ?_
    · rw [hS]
      split_ifs with h
      · exact EReal.coe_le_coe_iff.mpr (mul_le_mul_of_nonneg_left (hle k h) hκ.le)
      · exact bot_le
    · refine le_trans (le_of_eq ?_) (le_MX S (show p < N by omega))
      rw [hS, if_pos hpq]
  have eF : ((Finset.univ : Finset (Fin N)).sup fun j => f j) = (a p : EReal) := by
    refine le_antisymm (Finset.sup_le fun k _ => ?_) ?_
    · rw [hf]
      split_ifs with h
      · exact EReal.coe_le_coe_iff.mpr (hle k h)
      · exact bot_le
    · refine le_trans (le_of_eq ?_) (Finset.le_sup (f := fun j : Fin N => f j) (Finset.mem_univ ⟨p, by omega⟩))
      rw [hf, if_pos hpq]
  obtain ⟨E, hE⟩ : ∃ E : ℕ → ℝ, E = fun k => if k ≤ q then Real.exp (a k - a p) else 0 := ⟨_, rfl⟩
  have e2 : ∀ k, Ideal.exp2 (S k - MX S N) = (E k : EReal) := fun k => by
    rw [eM, hS, hE]
    dsimp only
    split_ifs
    · rw [← EReal.coe_sub, ← mul_sub]
      exact congrArg (fun r : ℝ => (r : EReal)) (rpow_log _)
    · rw [EReal.bot_sub]; rfl
  have e1 : ∀ k, Ideal.exp (f k - (Finset.univ : Finset (Fin N)).sup fun j => f j) = (E k : EReal) := fun k => by
    rw [eF, hf, hE]
    dsimp only
    split_ifs
    · rw [← EReal.coe_sub]; rfl
    · rw [EReal.bot_sub]; rfl
  have E0 : ∀ k, 0 ≤ E k := fun k => by
    rw [hE]; dsimp only; split_ifs
    · exact (Real.exp_pos _).le
    · exact le_rfl
  have hL : 0 < ∑ k ∈ Finset.range N, E k := by
    refine lt_of_lt_of_le ?_ (Finset.single_le_sum (fun k _ => E0 k) (Finset.mem_range.mpr (show p < N by omega)))
    rw [hE]; dsimp only; rw [if_pos hpq]; exact Real.exp_pos _
  unfold AC
  simp only [e2, e1]
  rw [coe_sum, coe_sum, ← Finset.sum_range (fun k => E k), div_real _ hL.ne', mul_comm,
    mul_sum_of _ (EReal.coe_nonneg.mpr (inv_nonneg.mpr hL.le)) (EReal.coe_ne_top _), Finset.sum_range]
  refine Finset.sum_congr rfl fun k _ => ?_
  rw [div_real _ hL.ne', mul_left_comm, mul_comm (w k), mul_assoc, mul_left_comm]

end Cert.Online

end
-- ==== Proof.FlashValue.lean ====
module

public import proofs.«01_k».proof.Pre_finite_qk
public import proofs.«01_k».proof.Proof.FlashOut
public import proofs.«01_k».proof.Proof.FlashRef
public import proofs.«01_k».proof.Proof.Softmax

/-! The attention call computes the reference's attention. Block `(b, h)` of the result is head `h` of
batch row `b`; its entry is the base-2 softmax of the scaled scores, which is the reference's softmax
because the queries were multiplied by one over the natural logarithm of 2. This needs the scores real,
and they are when every entry of the queries and the keys is. -/

@[expose] public section

set_option maxRecDepth 16384

noncomputable section

open Idealize.ShloMosaic Idealize.ShloMosaic.TcCoe Idealize.SL.Sem
open Idealize.ShloMosaic.Pipeline (Dat)

namespace Cert.FlashIdeal.FlashValue

open Cert.FlashIdeal Cert.FlashIdeal.Gen Cert.FlashIdeal.Step Cert.Online

/-! ## The two scale factors -/

theorem ofBits_192 : Ideal.ofBits .f32 0x43400000#32 = ((192 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_inf : Ideal.ofBits .f32 0x7F800000#32 = ⊤ := by decide +kernel

theorem sqrt_192 : Ideal.sqrt (Ideal.ofBits .f32 0x43400000#32) = ((Real.sqrt 192 : ℝ) : EReal) := by
  rw [ofBits_192]
  show (if (192 : ℝ) < 0 then ⊥ else ((Real.sqrt 192 : ℝ) : EReal)) = _
  rw [if_neg (by norm_num)]

theorem log_2 : Ideal.log (Ideal.ofBits .f32 0x40000000#32) = ((Real.log 2 : ℝ) : EReal) := by
  rw [ofBits_2]
  show (if (2 : ℝ) ≤ 0 then ⊥ else ((Real.log 2 : ℝ) : EReal)) = _
  rw [if_neg (by norm_num)]

theorem sqrt_ne : Real.sqrt 192 ≠ 0 := (Real.sqrt_pos.mpr (by norm_num)).ne'
theorem log_ne : Real.log 2 ≠ 0 := (Real.log_pos (by norm_num)).ne'

/-- The kernel's scale. -/
def scaleK : EReal := Ideal.div (Ideal.ofBits .f32 0x3F800000#32)
  (Ideal.sqrt (Ideal.ofBits .f32 0x43400000#32) * Ideal.log (Ideal.ofBits .f32 0x40000000#32))

/-- The reference's scale. -/
def scaleR : EReal := Ideal.div (Ideal.ofBits .f32 0x3F800000#32) (Ideal.sqrt (Ideal.ofBits .f32 0x43400000#32))

theorem scaleK_eq : scaleK = (((Real.sqrt 192 * Real.log 2)⁻¹ : ℝ) : EReal) := by
  unfold scaleK
  rw [sqrt_192, log_2, ← EReal.coe_mul, div_real _ (mul_ne_zero sqrt_ne log_ne), Ideal.ofBits_one_f32, one_mul]

theorem scaleR_eq : scaleR = (((Real.sqrt 192)⁻¹ : ℝ) : EReal) := by
  unfold scaleR
  rw [sqrt_192, div_real _ sqrt_ne, Ideal.ofBits_one_f32, one_mul]

/-! ## One entry -/

/-- The reference's score of query row `q` and key row `k`, and its weighted sum. -/
def score (qr : Fin 192 → EReal) (kr : Fin 4096 → Fin 192 → EReal) (q : ℕ) (k : Fin 4096) : EReal :=
  if (k : ℕ) ≤ q then (∑ d : Fin 192, qr d * kr k d) * scaleR else ⊥

/-- The entry both programs compute, in the reference's form. -/
def entry (f : Fin 4096 → EReal) (v : Fin 4096 → EReal) : EReal :=
  ∑ k : Fin 4096, v k * Ideal.div (Ideal.exp (f k - Finset.univ.sup f)) (∑ i : Fin 4096, Ideal.exp (f i - Finset.univ.sup f))

/-- The kernel's entry is the reference's, for real queries and keys. -/
theorem fin_eq (x0 x1 : Vec Ideal S1x1x4096x192 .bf16) (x2 : Vec Ideal S1x1x4096x128 .bf16)
    (qr : Fin 192 → EReal) (kr : Fin 4096 → Fin 192 → EReal) (v : Fin 4096 → EReal) (q : Fin 4096) (l : Fin 128)
    (hq : ∀ d, ∃ r : ℝ, qr d = r) (hk : ∀ k d, ∃ r : ℝ, kr k d = r)
    (h0 : ∀ d, x0 (ix4 0 0 q d) = qr d * scaleK) (h1 : ∀ k d, x1 (ix4 0 0 k d) = kr k d)
    (h2 : ∀ k, x2 (ix4 0 0 k l) = v k) :
    fin x0 x1 x2 q l = entry (score qr kr q) v := by
  choose a ha using hq
  choose b hb using hk
  obtain ⟨s, hs⟩ : ∃ s : ℕ → ℝ, s = fun k => if h : k < 4096 then (∑ d : Fin 192, a d * b ⟨k, h⟩ d) * (Real.sqrt 192)⁻¹ else 0 := ⟨_, rfl⟩
  obtain ⟨f, hf⟩ : ∃ f : ℕ → EReal, f = fun k => if k ≤ (q : ℕ) then (s k : EReal) else ⊥ := ⟨_, rfl⟩
  have hsc : ∀ k, sc x0 x1 q k = if k ≤ (q : ℕ) then (((Real.log 2)⁻¹ * s k : ℝ) : EReal) else ⊥ := fun k => by
    unfold sc
    by_cases hk : k ≤ (q : ℕ)
    · have hk' : k < 4096 := lt_of_le_of_lt hk q.isLt
      rw [if_pos hk, if_pos hk]
      unfold raw
      rw [dif_pos ⟨q.isLt, hk'⟩, hs]
      dsimp only
      rw [dif_pos hk']
      have e : ∀ d : Fin 192, x0 (ix4 0 0 ⟨q, q.isLt⟩ d) * x1 (ix4 0 0 ⟨k, hk'⟩ d)
          = ((a d * (Real.sqrt 192 * Real.log 2)⁻¹ * b ⟨k, hk'⟩ d : ℝ) : EReal) := fun d => by
        rw [h1, hb, EReal.coe_mul, EReal.coe_mul, ← ha, ← scaleK_eq]
        exact congrArg (· * _) (h0 d)
      rw [Finset.sum_congr rfl fun d _ => e d, coe_sum]
      refine congrArg (fun r : ℝ => (r : EReal)) ?_
      rw [Finset.sum_mul, Finset.mul_sum]
      refine Finset.sum_congr rfl fun d _ => ?_
      rw [mul_inv]; ring
    · rw [if_neg hk, if_neg hk]
  have hfs : ∀ k : Fin 4096, f k = score qr kr q k := fun k => by
    rw [hf, hs]; unfold score
    dsimp only
    rw [dif_pos k.isLt]
    by_cases hk : (k : ℕ) ≤ q
    · rw [if_pos hk, if_pos hk, scaleR_eq, EReal.coe_mul, ← coe_sum]
      refine congrArg (· * _) (Finset.sum_congr rfl fun d _ => ?_)
      rw [EReal.coe_mul, ha, hb]
    · rw [if_neg hk, if_neg hk]
  have hw : ∀ k : Fin 4096, wv x2 l k = v k := fun k => by
    unfold wv
    rw [dif_pos ⟨l.isLt, k.isLt⟩]; exact h2 k
  have := softmax_eq (N := 4096) q.isLt s (wv x2 l) (sc x0 x1 q) f hsc (fun k => by rw [hf])
  unfold fin
  rw [this]
  unfold entry
  have hF : (fun j : Fin 4096 => f j) = score qr kr q := funext hfs
  rw [hF]
  simp only [hfs, hw]

/-! ## The blocks -/

variable (m : (ℓ : Loc nD τ sig) → Buf (Elt Ideal) ℓ)

/-- Where the four windows' blocks lie at a grid point. -/
theorem idx : ∀ t : Fin cfg0.N, win0_0.index t = ![t.val / 32, t.val % 32, 0, 0] ∧ win0_1.index t = ![t.val / 32, t.val % 32, 0, 0]
    ∧ win0_2.index t = ![t.val / 32, t.val % 32, 0, 0] ∧ win0_3.index t = ![t.val / 32, t.val % 32] :=
  (by decide +kernel : ∀ t : Fin grid0.N, _)

/-- The batch row and the head of a grid point. -/
def bOf (t : Fin cfg0.N) : Fin 4 := ⟨t.val / 32, by have h : t.val < 128 := t.isLt; omega⟩
def hOf (t : Fin cfg0.N) : Fin 32 := ⟨t.val % 32, by omega⟩

/-- The three argument arrays. -/
abbrev aQ (c : Dev nD) : FVec Ideal S4x32x4096x192 .bf16 := m ((c : Thread nD τ).loc main_arg0)
abbrev aK (c : Dev nD) : FVec Ideal S4x32x4096x192 .bf16 := m ((c : Thread nD τ).loc main_arg1)
abbrev aV (c : Dev nD) : FVec Ideal S4x32x4096x128 .bf16 := m ((c : Thread nD τ).loc main_arg2)

/-- The queries as the kernel's first operand: the argument times the scale. -/
theorem V_q (c : Dev nD) : V m c main_v7
    = truncf .bf16 (mulf (extf .f32 (aQ m c) bitsLt_bf16_f32) (broadcastInDim S4x32x4096x192 ![] bcast_S_S4x32x4096x192 (Host.divf (constant (F := Ideal) S_ .f32 0x3F800000#32) (mulf (Host.sqrt (constant (F := Ideal) S_ .f32 0x43400000#32)) (Host.log (constant (F := Ideal) S_ .f32 0x40000000#32)))))) bitsLt_bf16_f32 := by
  unfold V; after_results <;> rfl

/-- The scaled queries at an index. -/
theorem scaled_at (Q : FVec Ideal S4x32x4096x192 .bf16) (i) : truncf .bf16 (mulf (extf .f32 Q bitsLt_bf16_f32) (broadcastInDim S4x32x4096x192 ![] bcast_S_S4x32x4096x192 (Host.divf (constant (F := Ideal) S_ .f32 0x3F800000#32) (mulf (Host.sqrt (constant (F := Ideal) S_ .f32 0x43400000#32)) (Host.log (constant (F := Ideal) S_ .f32 0x40000000#32)))))) bitsLt_bf16_f32 i
    = Q i * scaleK := rfl

theorem blk_q (c : Dev nD) (t : Fin cfg0.N) (q : Fin 4096) (d : Fin 192) :
    (iblk m c 0 t : Vec Ideal S1x1x4096x192 .bf16) (ix4 0 0 q d) = aQ m c (ix4 (bOf t) (hOf t) q d) * scaleK := by
  refine (congrFun (V_q m c) _).trans ((scaled_at _ _).trans (congrArg (· * scaleK) ?_))
  blk_ext [idx t, bOf, hOf]

theorem blk_k (c : Dev nD) (t : Fin cfg0.N) (k : Fin 4096) (d : Fin 192) :
    (iblk m c 1 t : Vec Ideal S1x1x4096x192 .bf16) (ix4 0 0 k d) = aK m c (ix4 (bOf t) (hOf t) k d) := by
  blk_point [iblk, V, idx t, bOf, hOf]

theorem blk_v (c : Dev nD) (t : Fin cfg0.N) (k : Fin 4096) (l : Fin 128) :
    (iblk m c 2 t : Vec Ideal S1x1x4096x128 .bf16) (ix4 0 0 k l) = aV m c (ix4 (bOf t) (hOf t) k l) := by
  blk_point [iblk, V, idx t, bOf, hOf]

/-! ## The reference and the precondition -/

/-- The reference at an index. -/
theorem ref_at (Q K : Cert.FlashRefIdeal.At.QK) (W : Cert.FlashRefIdeal.At.Val) (b : Fin 4) (h : Fin 32) (q : Fin 4096) (l : Fin 128)
    (i0 : Fin 16384) (i1 : Fin 4096) (h0 : (i0 : ℕ) = b * 4096 + q) (h1 : (i1 : ℕ) = h * 128 + l) :
    Cert.FlashRefIdeal.At.REF Q K W (ix2 i0 i1)
      = entry (score (fun d => Q (ix4 b h q d)) (fun k d => K (ix4 b h k d)) q) fun k => W (ix4 b h k l) := by
  unfold Cert.FlashRefIdeal.At.REF
  rw [Cert.FlashRefIdeal.At.out_at b h q _ _ l i0 i1 h0 h1]
  have hS : ∀ k, Cert.FlashRefIdeal.At.scores Q K (ix4 b h q k) = score (fun d => Q (ix4 b h q d)) (fun k d => K (ix4 b h k d)) q k :=
    fun k => Cert.FlashRefIdeal.At.scores_at b h q k Q K
  have hE : ∀ k, Cert.FlashRefIdeal.At.exps (Cert.FlashRefIdeal.At.scores Q K) (ix4 b h q k)
      = Ideal.exp (score (fun d => Q (ix4 b h q d)) (fun k d => K (ix4 b h k d)) q k
          - Finset.univ.sup (score (fun d => Q (ix4 b h q d)) (fun k d => K (ix4 b h k d)) q)) := fun k => by
    refine congrArg Ideal.exp (congrArg₂ (· - ·) (hS k) ?_)
    rw [Cert.FlashRefIdeal.At.along_at, Cert.FlashRefIdeal.At.maxes_at]
    exact congrArg _ (funext hS)
  unfold entry
  refine Finset.sum_congr rfl fun k _ => congrArg (_ * ·) ?_
  refine congrArg₂ Ideal.div (hE k) ?_
  rw [Cert.FlashRefIdeal.At.along_at, Cert.FlashRefIdeal.At.sums_at]
  exact Finset.sum_congr rfl fun j _ => hE j

/-- An entry whose absolute value is below infinity is real. -/
theorem real_of (x : EReal) (h : Ideal.cmp .olt (max x (-x)) (Ideal.ofBits .f32 0x7F800000#32) = 1#1) : ∃ r : ℝ, x = r := by
  rw [ofBits_inf] at h
  have h' : max x (-x) < ⊤ := by
    by_contra hn
    simp [Ideal.cmp, hn] at h
  induction x with
  | bot => simp at h'
  | coe r => exact ⟨r, rfl⟩
  | top => simp at h'

/-- The side conditions of the precondition's operations. -/
theorem preFacts : Cert.Pre_finite_qk.Facts := ⟨bitsLt_bf16_f32, bcast_S_S4x32x4096x192⟩

theorem pre_q (Q K W) (h : (@Cert.Pre_finite_qk.fn preFacts Ideal _ Q K W).1 = fun _ => 1#1) (i) : ∃ r : ℝ, (Q i : EReal) = r :=
  real_of _ (congrFun h i)

theorem pre_k (Q K W) (h : (@Cert.Pre_finite_qk.fn preFacts Ideal _ Q K W).2 = fun _ => 1#1) (i) : ∃ r : ℝ, (K i : EReal) = r :=
  real_of _ (congrFun h i)

/-! ## The whole array -/

/-- Where entry `(q, l)` of grid point `t`'s block lies in the result. -/
theorem emb_0 (t : Fin cfg0.N) (q : Fin 4096) (l : Fin 128) :
    (((win0_3.rect t).emb (ix2 q l) 0 : Fin _) : Nat) = (bOf t : ℕ) * 4096 + q := by
  have h := Pipeline.Window.rect_emb_val_off win0_3 t (ix2 q l) (0 : Fin 2)
  rw [h, (idx t).2.2.2]; rfl

theorem emb_1 (t : Fin cfg0.N) (q : Fin 4096) (l : Fin 128) :
    (((win0_3.rect t).emb (ix2 q l) 1 : Fin _) : Nat) = (hOf t : ℕ) * 128 + l := by
  have h := Pipeline.Window.rect_emb_val_off win0_3 t (ix2 q l) (1 : Fin 2)
  rw [h, (idx t).2.2.2]; rfl

/-- What grid point `t` leaves at entry `(q, l)` of its block is the reference at the place of that entry. -/
theorem point (c : Dev nD) (hq : ∀ i, ∃ r : ℝ, (aQ m c i : EReal) = r) (hk : ∀ i, ∃ r : ℝ, (aK m c i : EReal) = r)
    (t : Fin cfg0.N) (q : Fin 4096) (l : Fin 128) : outsAt0 m c t (ix2 q l)
      = Cert.FlashRefIdeal.At.REF (aQ m c) (aK m c) (aV m c) ((win0_3.rect t).emb (ix2 q l)) := by
  have h0 := emb_0 t q l
  have h1 := emb_1 t q l
  revert h0 h1
  generalize (win0_3.rect t).emb (ix2 q l) = i
  intro h0 h1
  obtain ⟨i0, i1, rfl⟩ := exists_ix2 (m := 16384) (n := 4096) i
  rw [ref_at _ _ _ (bOf t) (hOf t) q l i0 i1 h0 h1]
  unfold outsAt0
  refine (out_at _ _ _ _ _ _ _ _ _ _ _ _ _ _ _ _ _ _ _ _ _ _ _ q l).trans ?_
  exact fin_eq _ _ _ _ _ _ q l (fun d => hq _) (fun k d => hk _) (blk_q m c t q) (blk_k m c t) (fun k => blk_v m c t k l)

/-- The result array after the run is the reference's term of the arguments, for real queries and keys. -/
theorem final (c : Dev nD) (hq : ∀ i, ∃ r : ℝ, (aQ m c i : EReal) = r) (hk : ∀ i, ∃ r : ℝ, (aK m c i : EReal) = r) :
    (dats m 0 c).arrAt 3 (cfgs 0).N = Cert.FlashRefIdeal.At.REF (aQ m c) (aK m c) (aV m c) := by
  refine (dats m 0 c).arrAt_eq_of_covers 3 _ (by decide +kernel) fun t _ y => ?_
  blk_simp
  rw [after0_3]; frame_out
  obtain ⟨q, l, hy⟩ := exists_ix2 (m := 4096) (n := 128) y
  rw [hy]
  exact point m c hq hk t q l

end Cert.FlashIdeal.FlashValue

end
-- ==== Proof.LatentValue.lean ====
module

public import proofs.«01_k».proof.Proof.Gen.LatentIdeal.Value
public import proofs.«01_k».proof.Proof.Gen.LatentRefIdeal.Run
public import Idealize.ShloMosaic.Lib.Pipeline.ValueKit

/-! The latent projection: row block `t` of the activations times the first 1600 rows of the turned weights, the
last 64 of them once more with their two halves exchanged. The product of a column is the same wherever the column stands. -/

@[expose] public section

set_option maxRecDepth 16384

noncomputable section

open Idealize.ShloMosaic Idealize.ShloMosaic.TcCoe Idealize.SL.Sem
open Idealize.ShloMosaic.Pipeline (Dat)

namespace Cert.LatentRefIdeal.LatentValue

open Cert.LatentRefIdeal Cert.LatentRefIdeal.Gen

/-- The reference's term over the argument arrays. -/
abbrev REF (X : FVec Ideal S16384x4096 .bf16) (W : FVec Ideal S1x4096x30272 .f32) : FVec Ideal S16384x1664 .bf16 :=
  truncf .bf16 ((concatenate S16384x1664 1 [⟨S16384x1024, ((extractStridedSlice S16384x1024 ![0, 0] (extractStridedSlice S16384x1600 ![0, 0] (Host.dotGeneral dot_S16384x4096_S4096x30272_S16384x30272_1_0_0_1_n_n none (extf .f32 X bitsLt_bf16_f32) (shapeCast _ W shapeCasts_S1x4096x30272_S4096x30272)) slices_S16384x30272_S16384x1600_0_0) slices_S16384x1600_S16384x1024_0_0) : (⟨S16384x1024, .f32⟩ : BufTy).Contents (Elt Ideal))⟩, ⟨S16384x512, ((extractStridedSlice S16384x512 ![0, 1024] (extractStridedSlice S16384x1600 ![0, 0] (Host.dotGeneral dot_S16384x4096_S4096x30272_S16384x30272_1_0_0_1_n_n none (extf .f32 X bitsLt_bf16_f32) (shapeCast _ W shapeCasts_S1x4096x30272_S4096x30272)) slices_S16384x30272_S16384x1600_0_0) slices_S16384x1600_S16384x512_0_1024) : (⟨S16384x512, .f32⟩ : BufTy).Contents (Elt Ideal))⟩, ⟨S16384x64, ((extractStridedSlice S16384x64 ![0, 1536] (extractStridedSlice S16384x1600 ![0, 0] (Host.dotGeneral dot_S16384x4096_S4096x30272_S16384x30272_1_0_0_1_n_n none (extf .f32 X bitsLt_bf16_f32) (shapeCast _ W shapeCasts_S1x4096x30272_S4096x30272)) slices_S16384x30272_S16384x1600_0_0) slices_S16384x1600_S16384x64_0_1536) : (⟨S16384x64, .f32⟩ : BufTy).Contents (Elt Ideal))⟩, ⟨S16384x32, ((extractStridedSlice S16384x32 ![0, 32] (extractStridedSlice S16384x64 ![0, 1536] (extractStridedSlice S16384x1600 ![0, 0] (Host.dotGeneral dot_S16384x4096_S4096x30272_S16384x30272_1_0_0_1_n_n none (extf .f32 X bitsLt_bf16_f32) (shapeCast _ W shapeCasts_S1x4096x30272_S4096x30272)) slices_S16384x30272_S16384x1600_0_0) slices_S16384x1600_S16384x64_0_1536) slices_S16384x64_S16384x32_0_32) : (⟨S16384x32, .f32⟩ : BufTy).Contents (Elt Ideal))⟩, ⟨S16384x32, ((extractStridedSlice S16384x32 ![0, 0] (extractStridedSlice S16384x64 ![0, 1536] (extractStridedSlice S16384x1600 ![0, 0] (Host.dotGeneral dot_S16384x4096_S4096x30272_S16384x30272_1_0_0_1_n_n none (extf .f32 X bitsLt_bf16_f32) (shapeCast _ W shapeCasts_S1x4096x30272_S4096x30272)) slices_S16384x30272_S16384x1600_0_0) slices_S16384x1600_S16384x64_0_1536) slices_S16384x64_S16384x32_0_0) : (⟨S16384x32, .f32⟩ : BufTy).Contents (Elt Ideal))⟩] concatenates_S16384x1024_S16384x512_S16384x64_S16384x32_S16384x32_S16384x1664_d1 : (⟨S16384x1664, .f32⟩ : BufTy).Contents (Elt Ideal))) bitsLt_bf16_f32

/-- The weights' column that result column `j` is made of: the first 1600 in order, then columns 1568 to 1600,
then columns 1536 to 1568. -/
def col (j : Nat) : Nat := if j < 1600 then j else if j < 1632 then j - 32 else j - 96

/-- Every such column is one of the weights'. -/
theorem col_lt (j : Nat) (h : j < 1664) : col j < 30272 := by unfold col; split_ifs <;> omega

/-- The reference at an index: the inner product of the row with the named column. -/
theorem ref_at (X W) (i) : REF X W i
    = ∑ x : Fin 4096, X (ix2 (i 0) x) * W (ix3 (n0 := 1) (n1 := 4096) (n2 := 30272) 0 x ⟨col (i 1 : Nat), col_lt _ (i 1).isLt⟩) := by
  have h : (i 1 : Nat) < 1664 := (i 1).isLt
  pointwise [REF]
  unfold col
  split_ifs <;> first
    | omega
    | exact Fin.sum_fin_congr fun x => congrArg (fun k => X (ix2 (i 0) x) * W (ix3 0 x k)) (Fin.ext (by dsimp only; split_ifs <;> omega))

end Cert.LatentRefIdeal.LatentValue

namespace Cert.LatentIdeal.LatentValue

open Cert.LatentIdeal Cert.LatentIdeal.Gen Cert.LatentRefIdeal.LatentValue

variable (m : (ℓ : Loc nD τ sig) → Buf (Elt Ideal) ℓ)

/-- Where the three windows' blocks lie at a grid point. -/
theorem idx : ∀ t : Fin cfg0.N, win0_0.index t = ![t.val, 0] ∧ win0_2.index t = ![t.val, 0] :=
  (by decide +kernel : ∀ t : Fin grid0.N, _)

/-- The weight window is element-indexed: it takes the array from its first row on. -/
theorem idxE : ∀ t : Fin cfg0.N, win0_1.index t = ![0, 0] :=
  (by decide +kernel : ∀ t : Fin grid0.N, _)

/-- The array's row that holds row `y 0` of the weight block. -/
theorem emb1_0 (t : Fin cfg0.N) (y : S1664x4096.Idx) :
    (((win0_1.rect t).emb y 0 : Fin _) : Nat) = (y 0 : Nat) := by
  have h := Pipeline.Window.rect_emb_val_off win0_1 t y (0 : Fin 2)
  rw [h, idxE t]; exact Nat.zero_add _

/-- The weight block takes every column. -/
theorem emb1_1 (t : Fin cfg0.N) (y : S1664x4096.Idx) :
    (((win0_1.rect t).emb y 1 : Fin _) : Nat) = (y 1 : Nat) := by
  have h := Pipeline.Window.rect_emb_val_off win0_1 t y (1 : Fin 2)
  rw [h, idxE t]; exact Nat.zero_add _

/-- The kernel's weight operand as a term of the argument. -/
abbrev WT (W : FVec Ideal S1x4096x30272 .f32) : FVec Ideal S1664x4096 .bf16 :=
  let w : FVec Ideal S30272x4096 .bf16 := truncf .bf16 (transpose S30272x4096 [1, 0] (shapeCast S4096x30272 W shapeCasts_S1x4096x30272_S4096x30272) transposes_S4096x30272_S30272x4096_1_0) bitsLt_bf16_f32
  concatenate S1664x4096 0 [⟨S1600x4096, extractStridedSlice S1600x4096 ![0, 0] w slices_S30272x4096_S1600x4096_0_0⟩,
    ⟨S32x4096, extractStridedSlice S32x4096 ![1568, 0] w slices_S30272x4096_S32x4096_1568_0⟩,
    ⟨S32x4096, extractStridedSlice S32x4096 ![1536, 0] w slices_S30272x4096_S32x4096_1536_0⟩] concatenates_S1600x4096_S32x4096_S32x4096_S1664x4096_d0

/-- The weight operand holds that term. -/
theorem V_w (c : Dev nD) : V m c main_v6 = WT (m ((c : Thread nD τ).loc main_arg1)) := by
  unfold V; after_results <;> rfl

/-- The weight operand at an index: the named column of the weights. -/
theorem w_at (W) (i) : WT W i = W (ix3 (n0 := 1) (n1 := 4096) (n2 := 30272) 0 (i 1) ⟨col (i 0 : Nat), col_lt _ (i 0).isLt⟩) := by
  have h : (i 0 : Nat) < 1664 := (i 0).isLt
  pointwise [WT]
  unfold col
  split_ifs <;> first
    | omega
    | exact congrArg (fun k => W (ix3 0 (i 1) k)) (Fin.ext (by dsimp only <;> (try split_ifs) <;> omega))

/-- The body's block at `y`: the inner product of the two rows. -/
theorem pay (v0 : FVec Ideal S1024x4096 .bf16) (v1 : FVec Ideal S1664x4096 .bf16) (y) :
    k0_pay1 (F := Ideal) v0 v1 y = ∑ x : Fin 4096, v0 (ix2 (y 0) x) * v1 (ix2 (y 1) x) := by
  pointwise [k0_pay1]

/-- What the body stores at `y` of grid point `t` is the reference at the place of `y` in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay _ _ y).trans (Eq.trans ?_ (ref_at _ _ _).symm)
  refine Fin.sum_fin_congr fun x => congrArg₂ (· * ·) ?_ ?_
  · blk_point [iblk, V, idx t]
  · refine (congrFun (V_w m c) _).trans ((w_at _ _).trans ?_)
    blk_ext [idx t]
    · exact emb1_1 t _
    · exact congrArg col (emb1_0 t _)

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.LatentIdeal.LatentValue

end
-- ==== Proof.NormValue.lean ====
module

public import proofs.«01_k».proof.Proof.Gen.NormIdeal.Value
public import proofs.«01_k».proof.Proof.Gen.NormRefIdeal.Run
public import Idealize.ShloMosaic.Lib.Pipeline.ValueKit

/-! A normalization: every row is divided by the root of its mean square and scaled by the gain, block of rows
by block of rows; the same rows in the same order as in the array with two leading axes. -/

@[expose] public section

set_option maxRecDepth 16384

noncomputable section

open Idealize.ShloMosaic Idealize.ShloMosaic.TcCoe Idealize.SL.Sem
open Idealize.ShloMosaic.Pipeline (Dat)

namespace Cert.NormRefIdeal.NormValue

open Cert.NormRefIdeal Cert.NormRefIdeal.Gen

/-- The reference's term over the argument arrays. -/
abbrev REF (X : FVec Ideal S4x4096x4096 .f32) (W : FVec Ideal S1x4096 .f32) : FVec Ideal S16384x4096 .bf16 :=
  truncf .bf16 (shapeCast _ (mulf (mulf X (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf X X) (constant (F := Ideal) S_ .f32 0x00000000#32) reducesTo_S4x4096x4096_S4x4096_d2 h_S_)) (broadcastInDim S4x4096x1 ![] bcast_S_S4x4096x1 (constant (F := Ideal) S_ .f32 0x45800000#32))) (broadcastInDim S4x4096x1 ![] bcast_S_S4x4096x1 (constant (F := Ideal) S_ .f32 0x358637BD#32)))))) (broadcastInDim S4x4096x4096 ![0, 1, 2] bcast_S1x1x4096_S4x4096x4096_0_1_2 (broadcastInDim S1x1x4096 ![2] bcast_S4096_S1x1x4096_2 (shapeCast _ W shapeCasts_S1x4096_S4096)))) shapeCasts_S4x4096x4096_S16384x4096) bitsLt_bf16_f32

/-- The reference at an index, row `r` of the joined axis being row `r % 4096` of batch `r / 4096`. -/
theorem ref_at (X W) (i) : REF X W i = X (ix3 (n0 := 4) (n1 := 4096) (n2 := 4096) ⟨(i 0 : Nat) / 4096, by have := (i 0).isLt; change _ < 16384 at this; omega⟩
      ⟨(i 0 : Nat) % 4096, by omega⟩ (i 1)) * Ideal.rsqrt (Ideal.div (∑ x : Fin 4096, X (ix3 (n0 := 4) (n1 := 4096) (n2 := 4096) ⟨(i 0 : Nat) / 4096, by have := (i 0).isLt; change _ < 16384 at this; omega⟩
      ⟨(i 0 : Nat) % 4096, by omega⟩ x) * X (ix3 (n0 := 4) (n1 := 4096) (n2 := 4096) ⟨(i 0 : Nat) / 4096, by have := (i 0).isLt; change _ < 16384 at this; omega⟩
      ⟨(i 0 : Nat) % 4096, by omega⟩ x)) (Ideal.ofBits .f32 0x45800000#32) + Ideal.ofBits .f32 0x358637BD#32) * W (ix2 0 (i 1)) := by
  pointwise [REF]

end Cert.NormRefIdeal.NormValue

namespace Cert.NormIdeal.NormValue

open Cert.NormIdeal Cert.NormIdeal.Gen Cert.NormRefIdeal.NormValue

variable (m : (ℓ : Loc nD τ sig) → Buf (Elt Ideal) ℓ)

/-- Where the three windows' blocks lie at a grid point. -/
theorem idx : ∀ t : Fin cfg0.N, win0_0.index t = ![t.val, 0] ∧ win0_1.index t = ![0, 0]
    ∧ win0_2.index t = ![t.val, 0] :=
  (by decide +kernel : ∀ t : Fin grid0.N, _)

/-- The body's block at `y`: the row's entry over the root of the row's mean square, times the gain. -/
theorem pay (v0 : FVec Ideal S512x4096 .f32) (v12 : FVec Ideal S1x4096 .f32) (y) :
    k0_pay1 (F := Ideal) v0 v12 y = v0 y * Ideal.rsqrt (Ideal.div (∑ x : Fin 4096, v0 (ix2 (y 0) x) * v0 (ix2 (y 0) x))
      (Ideal.ofBits .f32 0x45800000#32) + Ideal.ofBits .f32 0x358637BD#32) * v12 (ix2 0 (y 1)) := by
  pointwise [k0_pay1]

/-- The first operand: the argument with its two leading axes joined. -/
theorem V_x (c : Dev nD) : V m c main_v0
    = shapeCast S16384x4096 (m ((c : Thread nD τ).loc main_arg0)) shapeCasts_S4x4096x4096_S16384x4096 := by
  unfold V; after_results <;> rfl

/-- The second operand: the gain, cast to a vector and back. -/
theorem V_g (c : Dev nD) : V m c main_v2
    = shapeCast S1x4096 (shapeCast S4096 (m ((c : Thread nD τ).loc main_arg1)) shapeCasts_S1x4096_S4096) shapeCasts_S4096_S1x4096 := by
  unfold V; after_results <;> rfl

/-- The joined argument at an index. -/
theorem x_at (X : FVec Ideal S4x4096x4096 .f32) (i) : shapeCast S16384x4096 X shapeCasts_S4x4096x4096_S16384x4096 i
    = X (ix3 (n0 := 4) (n1 := 4096) (n2 := 4096) ⟨(i 0 : Nat) / 4096, by have := (i 0).isLt; change _ < 16384 at this; omega⟩
      ⟨(i 0 : Nat) % 4096, by omega⟩ (i 1)) := by
  pointwise

/-- The gain at an index. -/
theorem g_at (W : FVec Ideal S1x4096 .f32) (i) :
    shapeCast S1x4096 (shapeCast S4096 W shapeCasts_S1x4096_S4096) shapeCasts_S4096_S1x4096 i = W (ix2 0 (i 1)) := by
  pointwise
  refine congrArg W (funext fun a => ?_)
  fin_cases a
  · exact Subsingleton.elim (α := Fin 1) _ _
  · rfl

/-- The first operand's block, read where the array has it. -/
theorem b0_at (c : Dev nD) (t : Fin cfg0.N) (y) (x : Fin 4096) : iblk m c 0 t (ix2 (y 0) x)
    = (m ((c : Thread nD τ).loc main_arg0) : FVec Ideal S4x4096x4096 .f32) (ix3 (n0 := 4) (n1 := 4096) (n2 := 4096)
      ⟨((((cfg0.win 2).blk t).view.emb y) 0 : Nat) / 4096, by have := ((((cfg0.win 2).blk t).view.emb y) 0).isLt; change _ < 16384 at this; omega⟩
      ⟨((((cfg0.win 2).blk t).view.emb y) 0 : Nat) % 4096, by omega⟩ x) := by
  refine (congrFun (V_x m c) _).trans ((x_at _ _).trans ?_)
  blk_ext [idx t]

/-- What the body stores at `y` of grid point `t` is the reference at the place of `y` in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay _ _ y).trans (Eq.trans ?_ (ref_at _ _ _).symm)
  refine congrArg₂ (· * ·) (congrArg₂ (· * ·) ?_ (congrArg Ideal.rsqrt (congrArg₂ (· + ·) (congrArg₂ Ideal.div
    (Fin.sum_fin_congr fun x => congrArg₂ (· * ·) (b0_at m c t y x) (b0_at m c t y x)) rfl) rfl))) ?_
  · refine (congrFun (V_x m c) _).trans ((x_at _ _).trans ?_)
    blk_ext [idx t]
  · refine (congrFun (V_g m c) _).trans ((g_at _ _).trans ?_)
    blk_ext [idx t]

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.NormValue

end
-- ==== Proof.MemNormValue.lean ====
module

public import proofs.«01_k».proof.Proof.Gen.MemNormIdeal.Value
public import proofs.«01_k».proof.Proof.Gen.MemNormRefIdeal.Run
public import Idealize.ShloMosaic.Lib.Pipeline.ValueKit

/-! A normalization: every row is divided by the root of its mean square and scaled by the gain, block of rows
by block of rows; the same rows in the same order as in the array with two leading axes. -/

@[expose] public section

set_option maxRecDepth 16384

noncomputable section

open Idealize.ShloMosaic Idealize.ShloMosaic.TcCoe Idealize.SL.Sem
open Idealize.ShloMosaic.Pipeline (Dat)

namespace Cert.MemNormRefIdeal.MemNormValue

open Cert.MemNormRefIdeal Cert.MemNormRefIdeal.Gen

/-- The reference's term over the argument arrays. -/
abbrev REF (X : FVec Ideal S4x256x4096 .f32) (W : FVec Ideal S1x4096 .f32) : FVec Ideal S1024x4096 .bf16 :=
  truncf .bf16 (shapeCast _ (mulf (mulf X (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf X X) (constant (F := Ideal) S_ .f32 0x00000000#32) reducesTo_S4x256x4096_S4x256_d2 h_S_)) (broadcastInDim S4x256x1 ![] bcast_S_S4x256x1 (constant (F := Ideal) S_ .f32 0x45800000#32))) (broadcastInDim S4x256x1 ![] bcast_S_S4x256x1 (constant (F := Ideal) S_ .f32 0x358637BD#32)))))) (broadcastInDim S4x256x4096 ![0, 1, 2] bcast_S1x1x4096_S4x256x4096_0_1_2 (broadcastInDim S1x1x4096 ![2] bcast_S4096_S1x1x4096_2 (shapeCast _ W shapeCasts_S1x4096_S4096)))) shapeCasts_S4x256x4096_S1024x4096) bitsLt_bf16_f32

/-- The reference at an index, row `r` of the joined axis being row `r % 256` of batch `r / 256`. -/
theorem ref_at (X W) (i) : REF X W i = X (ix3 (n0 := 4) (n1 := 256) (n2 := 4096) ⟨(i 0 : Nat) / 256, by have := (i 0).isLt; change _ < 1024 at this; omega⟩
      ⟨(i 0 : Nat) % 256, by omega⟩ (i 1)) * Ideal.rsqrt (Ideal.div (∑ x : Fin 4096, X (ix3 (n0 := 4) (n1 := 256) (n2 := 4096) ⟨(i 0 : Nat) / 256, by have := (i 0).isLt; change _ < 1024 at this; omega⟩
      ⟨(i 0 : Nat) % 256, by omega⟩ x) * X (ix3 (n0 := 4) (n1 := 256) (n2 := 4096) ⟨(i 0 : Nat) / 256, by have := (i 0).isLt; change _ < 1024 at this; omega⟩
      ⟨(i 0 : Nat) % 256, by omega⟩ x)) (Ideal.ofBits .f32 0x45800000#32) + Ideal.ofBits .f32 0x358637BD#32) * W (ix2 0 (i 1)) := by
  pointwise [REF]

end Cert.MemNormRefIdeal.MemNormValue

namespace Cert.MemNormIdeal.MemNormValue

open Cert.MemNormIdeal Cert.MemNormIdeal.Gen Cert.MemNormRefIdeal.MemNormValue

variable (m : (ℓ : Loc nD τ sig) → Buf (Elt Ideal) ℓ)

/-- Where the three windows' blocks lie at a grid point. -/
theorem idx : ∀ t : Fin cfg0.N, win0_0.index t = ![t.val, 0] ∧ win0_1.index t = ![0, 0]
    ∧ win0_2.index t = ![t.val, 0] :=
  (by decide +kernel : ∀ t : Fin grid0.N, _)

/-- The body's block at `y`: the row's entry over the root of the row's mean square, times the gain. -/
theorem pay (v0 : FVec Ideal S512x4096 .f32) (v12 : FVec Ideal S1x4096 .f32) (y) :
    k0_pay1 (F := Ideal) v0 v12 y = v0 y * Ideal.rsqrt (Ideal.div (∑ x : Fin 4096, v0 (ix2 (y 0) x) * v0 (ix2 (y 0) x))
      (Ideal.ofBits .f32 0x45800000#32) + Ideal.ofBits .f32 0x358637BD#32) * v12 (ix2 0 (y 1)) := by
  pointwise [k0_pay1]

/-- The first operand: the argument with its two leading axes joined. -/
theorem V_x (c : Dev nD) : V m c main_v0
    = shapeCast S1024x4096 (m ((c : Thread nD τ).loc main_arg0)) shapeCasts_S4x256x4096_S1024x4096 := by
  unfold V; after_results <;> rfl

/-- The second operand: the gain, cast to a vector and back. -/
theorem V_g (c : Dev nD) : V m c main_v2
    = shapeCast S1x4096 (shapeCast S4096 (m ((c : Thread nD τ).loc main_arg1)) shapeCasts_S1x4096_S4096) shapeCasts_S4096_S1x4096 := by
  unfold V; after_results <;> rfl

/-- The joined argument at an index. -/
theorem x_at (X : FVec Ideal S4x256x4096 .f32) (i) : shapeCast S1024x4096 X shapeCasts_S4x256x4096_S1024x4096 i
    = X (ix3 (n0 := 4) (n1 := 256) (n2 := 4096) ⟨(i 0 : Nat) / 256, by have := (i 0).isLt; change _ < 1024 at this; omega⟩
      ⟨(i 0 : Nat) % 256, by omega⟩ (i 1)) := by
  pointwise

/-- The gain at an index. -/
theorem g_at (W : FVec Ideal S1x4096 .f32) (i) :
    shapeCast S1x4096 (shapeCast S4096 W shapeCasts_S1x4096_S4096) shapeCasts_S4096_S1x4096 i = W (ix2 0 (i 1)) := by
  pointwise
  refine congrArg W (funext fun a => ?_)
  fin_cases a
  · exact Subsingleton.elim (α := Fin 1) _ _
  · rfl

/-- The first operand's block, read where the array has it. -/
theorem b0_at (c : Dev nD) (t : Fin cfg0.N) (y) (x : Fin 4096) : iblk m c 0 t (ix2 (y 0) x)
    = (m ((c : Thread nD τ).loc main_arg0) : FVec Ideal S4x256x4096 .f32) (ix3 (n0 := 4) (n1 := 256) (n2 := 4096)
      ⟨((((cfg0.win 2).blk t).view.emb y) 0 : Nat) / 256, by have := ((((cfg0.win 2).blk t).view.emb y) 0).isLt; change _ < 1024 at this; omega⟩
      ⟨((((cfg0.win 2).blk t).view.emb y) 0 : Nat) % 256, by omega⟩ x) := by
  refine (congrFun (V_x m c) _).trans ((x_at _ _).trans ?_)
  blk_ext [idx t]

/-- What the body stores at `y` of grid point `t` is the reference at the place of `y` in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay _ _ y).trans (Eq.trans ?_ (ref_at _ _ _).symm)
  refine congrArg₂ (· * ·) (congrArg₂ (· * ·) ?_ (congrArg Ideal.rsqrt (congrArg₂ (· + ·) (congrArg₂ Ideal.div
    (Fin.sum_fin_congr fun x => congrArg₂ (· * ·) (b0_at m c t y x) (b0_at m c t y x)) rfl) rfl))) ?_
  · refine (congrFun (V_x m c) _).trans ((x_at _ _).trans ?_)
    blk_ext [idx t]
  · refine (congrFun (V_g m c) _).trans ((g_at _ _).trans ?_)
    blk_ext [idx t]

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MemNormIdeal.MemNormValue

end
-- ==== Proof.MemKvValue.lean ====
module

public import proofs.«01_k».proof.Proof.Gen.MemKvIdeal.Value
public import proofs.«01_k».proof.Proof.Gen.MemKvRefIdeal.Run
public import Idealize.ShloMosaic.Lib.Pipeline.ValueKit

/-! The memory keys and values: block `(i, j)` of the result is row block `i` of the normalized memory
times column block `j` of the weights, so the whole array is the product. -/

@[expose] public section

set_option maxRecDepth 16384

noncomputable section

open Idealize.ShloMosaic Idealize.ShloMosaic.TcCoe Idealize.SL.Sem
open Idealize.ShloMosaic.Pipeline (Dat)

namespace Cert.MemKvRefIdeal.MemKvValue

open Cert.MemKvRefIdeal Cert.MemKvRefIdeal.Gen

/-- The reference's term over the argument arrays. -/
abbrev REF (X : FVec Ideal S1024x4096 .bf16) (W : FVec Ideal S1x4096x8192 .f32) : FVec Ideal S1024x8192 .bf16 :=
  truncf .bf16 (Host.dotGeneral dot_S1024x4096_S4096x8192_S1024x8192_1_0_0_1_n_n none (extf .f32 X bitsLt_bf16_f32) (shapeCast _ W shapeCasts_S1x4096x8192_S4096x8192)) bitsLt_bf16_f32

end Cert.MemKvRefIdeal.MemKvValue

namespace Cert.MemKvIdeal.MemKvValue

open Cert.MemKvIdeal Cert.MemKvIdeal.Gen Cert.MemKvRefIdeal.MemKvValue

variable (m : (ℓ : Loc nD τ sig) → Buf (Elt Ideal) ℓ)

/-- Where the three windows' blocks lie at a grid point. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

/-- What the body stores at `y` of grid point `t` is the reference at the place of `y` in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MemKvIdeal.MemKvValue

end
-- ==== Proof.ConvValue.lean ====
module

public import proofs.«01_k».proof.Proof.Gen.ConvIdeal.Value
public import proofs.«01_k».proof.Proof.Gen.ConvRefIdeal.Run
public import Idealize.ShloMosaic.Lib.Pipeline.ValueKit

/-! The short convolution: every entry is the gate times the weighted sum of the product of two columns' entries at
the row, the row before and the row before that; rows before a sequence's first count as zero. A block of 512 rows
takes the two rows it lacks from the eight-row block before it. -/

@[expose] public section

set_option maxRecDepth 16384

noncomputable section

open Idealize.ShloMosaic Idealize.ShloMosaic.TcCoe Idealize.SL.Sem
open Idealize.ShloMosaic.Pipeline (Dat)

namespace Cert.ConvRefIdeal.ConvValue

open Cert.ConvRefIdeal Cert.ConvRefIdeal.Gen

/-- The reference's term over the argument arrays. -/
abbrev REF (X : FVec Ideal S16384x28672 .bf16) (W : FVec Ideal S1x3x4096 .f32) : FVec Ideal S16384x4096 .bf16 :=
  truncf .bf16 (shapeCast _ (mulf (extractStridedSlice S4x4096x4096 ![0, 0, 0] (shapeCast _ (extf .f32 (extractStridedSlice S16384x12288 ![0, 0] X slices_S16384x28672_S16384x12288_0_0) bitsLt_bf16_f32) shapeCasts_S16384x12288_S4x4096x12288) slices_S4x4096x12288_S4x4096x4096_0_0_0) (addf (addf (mulf (extractStridedSlice S4x4096x4096 ![0, 0, 0] (pad S4x4098x4096 ![0, 2, 0] ![0, 0, 0] ![0, 0, 0] (mulf (extractStridedSlice S4x4096x4096 ![0, 0, 4096] (shapeCast _ (extf .f32 (extractStridedSlice S16384x12288 ![0, 0] X slices_S16384x28672_S16384x12288_0_0) bitsLt_bf16_f32) shapeCasts_S16384x12288_S4x4096x12288) slices_S4x4096x12288_S4x4096x4096_0_0_4096) (extractStridedSlice S4x4096x4096 ![0, 0, 8192] (shapeCast _ (extf .f32 (extractStridedSlice S16384x12288 ![0, 0] X slices_S16384x28672_S16384x12288_0_0) bitsLt_bf16_f32) shapeCasts_S16384x12288_S4x4096x12288) slices_S4x4096x12288_S4x4096x4096_0_0_8192)) (sitofp .f32 (constantI S_ 32 0#32)) pads_S4x4096x4096_S4x4098x4096_000_200_000 h_S_) slices_S4x4098x4096_S4x4096x4096_0_0_0) (broadcastInDim S4x4096x4096 ![0, 1, 2] bcast_S1x1x4096_S4x4096x4096_0_1_2 (broadcastInDim S1x1x4096 ![2] bcast_S4096_S1x1x4096_2 (shapeCast _ (extractStridedSlice S1x4096 ![0, 0] (shapeCast _ W shapeCasts_S1x3x4096_S3x4096) slices_S3x4096_S1x4096_0_0) shapeCasts_S1x4096_S4096)))) (mulf (extractStridedSlice S4x4096x4096 ![0, 1, 0] (pad S4x4098x4096 ![0, 2, 0] ![0, 0, 0] ![0, 0, 0] (mulf (extractStridedSlice S4x4096x4096 ![0, 0, 4096] (shapeCast _ (extf .f32 (extractStridedSlice S16384x12288 ![0, 0] X slices_S16384x28672_S16384x12288_0_0) bitsLt_bf16_f32) shapeCasts_S16384x12288_S4x4096x12288) slices_S4x4096x12288_S4x4096x4096_0_0_4096) (extractStridedSlice S4x4096x4096 ![0, 0, 8192] (shapeCast _ (extf .f32 (extractStridedSlice S16384x12288 ![0, 0] X slices_S16384x28672_S16384x12288_0_0) bitsLt_bf16_f32) shapeCasts_S16384x12288_S4x4096x12288) slices_S4x4096x12288_S4x4096x4096_0_0_8192)) (sitofp .f32 (constantI S_ 32 0#32)) pads_S4x4096x4096_S4x4098x4096_000_200_000 h_S_) slices_S4x4098x4096_S4x4096x4096_0_1_0) (broadcastInDim S4x4096x4096 ![0, 1, 2] bcast_S1x1x4096_S4x4096x4096_0_1_2 (broadcastInDim S1x1x4096 ![2] bcast_S4096_S1x1x4096_2 (shapeCast _ (extractStridedSlice S1x4096 ![1, 0] (shapeCast _ W shapeCasts_S1x3x4096_S3x4096) slices_S3x4096_S1x4096_1_0) shapeCasts_S1x4096_S4096))))) (mulf (mulf (extractStridedSlice S4x4096x4096 ![0, 0, 4096] (shapeCast _ (extf .f32 (extractStridedSlice S16384x12288 ![0, 0] X slices_S16384x28672_S16384x12288_0_0) bitsLt_bf16_f32) shapeCasts_S16384x12288_S4x4096x12288) slices_S4x4096x12288_S4x4096x4096_0_0_4096) (extractStridedSlice S4x4096x4096 ![0, 0, 8192] (shapeCast _ (extf .f32 (extractStridedSlice S16384x12288 ![0, 0] X slices_S16384x28672_S16384x12288_0_0) bitsLt_bf16_f32) shapeCasts_S16384x12288_S4x4096x12288) slices_S4x4096x12288_S4x4096x4096_0_0_8192)) (broadcastInDim S4x4096x4096 ![0, 1, 2] bcast_S1x1x4096_S4x4096x4096_0_1_2 (broadcastInDim S1x1x4096 ![2] bcast_S4096_S1x1x4096_2 (shapeCast _ (extractStridedSlice S1x4096 ![2, 0] (shapeCast _ W shapeCasts_S1x3x4096_S3x4096) slices_S3x4096_S1x4096_2_0) shapeCasts_S1x4096_S4096)))))) shapeCasts_S4x4096x4096_S16384x4096) bitsLt_bf16_f32

/-- The product of the two columns `4096 + l` and `8192 + l` at row `r`. -/
def u (X : FVec Ideal S16384x28672 .bf16) (r : Fin 16384) (l : Fin 4096) : EReal :=
  X (ix2 (n0 := 16384) (n1 := 28672) r ⟨4096 + l, by omega⟩) * X (ix2 (n0 := 16384) (n1 := 28672) r ⟨8192 + l, by omega⟩)

/-- The product `d` rows above row `r`, zero when that is before the sequence's first row. -/
def past (X : FVec Ideal S16384x28672 .bf16) (d : Nat) (r : Fin 16384) (l : Fin 4096) : EReal :=
  if (r : Nat) % 4096 < d then 0 else u X ⟨r - d, by omega⟩ l

/-- The integer zero as a number. -/
theorem sitofp_zero : FloatOps.sitofp (F := Ideal) FTy.f32 0#32 = (0 : EReal) := by
  have e : (0#32 : BitVec 32).toInt = 0 := rfl
  show (((0#32 : BitVec 32).toInt : ℝ) : EReal) = 0
  rw [e, Int.cast_zero, EReal.coe_zero]

/-- A product guarded by the row's place in its sequence is the product above it, or zero. -/
theorem past_dite (X : FVec Ideal S16384x28672 .bf16) (d : Nat) (r : Fin 16384) (l : Fin 4096) (P : Prop) [Decidable P]
    (k : P → Fin 16384) {z : EReal} (hz : z = 0) (hP : P ↔ ¬(r : Nat) % 4096 < d) (hk : ∀ h, (k h : Nat) = r - d) :
    (if h : P then X (ix2 (n0 := 16384) (n1 := 28672) (k h) ⟨4096 + l, by omega⟩)
      * X (ix2 (n0 := 16384) (n1 := 28672) (k h) ⟨8192 + l, by omega⟩) else z) = past X d r l := by
  subst hz
  unfold past u
  by_cases h : P
  · have e : k h = ⟨r - d, by omega⟩ := Fin.ext (hk h)
    rw [dif_pos h, if_neg (hP.mp h), e]
  · rw [dif_neg h, if_pos (by by_contra h'; exact h (hP.mpr h'))]

/-- The reference at an index. -/
theorem ref_at (X W) (r : Fin 16384) (l : Fin 4096) : REF X W (ix2 r l)
    = X (ix2 (n0 := 16384) (n1 := 28672) r ⟨l, by omega⟩) * (past X 2 r l * W (ix3 (n0 := 1) (n1 := 3) (n2 := 4096) 0 0 l)
      + past X 1 r l * W (ix3 (n0 := 1) (n1 := 3) (n2 := 4096) 0 1 l) + u X r l * W (ix3 (n0 := 1) (n1 := 3) (n2 := 4096) 0 2 l)) := by
  have hr := r.isLt
  pointwise [REF]
  refine congrArg (fun z => X (ix2 r ⟨l, by omega⟩) * z) (congrArg₂ (· + ·) (congrArg₂ (· + ·)
    (congrArg (· * _) ?_) (congrArg (· * _) ?_)) ?_)
  · exact past_dite X 2 r l _ _ sitofp_zero (by omega) (fun h => by dsimp only; omega)
  · exact past_dite X 1 r l _ _ sitofp_zero (by omega) (fun h => by dsimp only; omega)
  · unfold u; rfl

end Cert.ConvRefIdeal.ConvValue

namespace Cert.ConvIdeal.ConvValue

open Cert.ConvIdeal Cert.ConvIdeal.Gen Cert.ConvRefIdeal.ConvValue

variable (m : (ℓ : Loc nD τ sig) → Buf (Elt Ideal) ℓ)

/-- The grid point's test for a sequence's first block of rows, as the kernel computes it. -/
def first (i : grid0.Coords) : BitVec 1 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 0#32

/-- The test holds at every eighth block of rows. -/
theorem first_at : ∀ t : Fin cfg0.N, first (grid0.coords t) = if t.val / 4 % 8 = 0 then 1#1 else 0#1 :=
  (by decide +kernel : ∀ t : Fin grid0.N, _)

/-- Where the windows' blocks lie at a grid point. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4 * 64 - 1, 4 + t.val % 4]
    ∧ win0_4.index t = ![t.val / 4 * 64 - 1, 8 + t.val % 4] ∧ win0_5.index t = ![0, t.val % 4]
    ∧ win0_6.index t = ![t.val / 4, t.val % 4] :=
  (by decide +kernel : ∀ t : Fin grid0.N, _)

/-- The eight rows before the block and the block's own rows, one under the other, at an index. -/
theorem cat_at (i : grid0.Coords) (v11 v13 : FVec Ideal S512x1024 .bf16) (v16 v18 : FVec Ideal S8x1024 .bf16) (k : Fin 520) (l : Fin 1024) :
    k0_pay3 (F := Ideal) i v11 v13 v16 v18 (ix2 k l) = if h : (k : Nat) < 8 then
        (if first i = 1#1 then 0 else v16 (ix2 (n0 := 8) (n1 := 1024) ⟨k, h⟩ l) * v18 (ix2 (n0 := 8) (n1 := 1024) ⟨k, h⟩ l))
      else v11 (ix2 (n0 := 512) (n1 := 1024) ⟨k - 8, by omega⟩ l) * v13 (ix2 (n0 := 512) (n1 := 1024) ⟨k - 8, by omega⟩ l) := by
  unfold k0_pay3
  change concatenate S520x1024 0 [⟨S8x1024, Scalar.select (first i) _ _⟩, _] _ _ = _
  generalize first i = b
  pointwise [k0_pay2]
  rfl

/-- The rows two above: the rotation by two, past the first eight. -/
theorem pay4_at (i : grid0.Coords) (v11 v13 : FVec Ideal S512x1024 .bf16) (v16 v18 : FVec Ideal S8x1024 .bf16) (w : FVec Ideal S1x1024 .f32) (k : Fin 512) (l : Fin 1024) :
    k0_pay4 (F := Ideal) i v11 v13 v16 v18 w (ix2 k l) = w (ix2 0 l) * k0_pay3 (F := Ideal) i v11 v13 v16 v18 (ix2 (n0 := 520) (n1 := 1024) ⟨k + 6, by omega⟩ l) := by
  unfold k0_pay4
  generalize k0_pay3 (F := Ideal) i v11 v13 v16 v18 = z
  pointwise
  exact congrArg (fun q : Fin 520 => w (ix2 0 l) * z (ix2 q l)) (Fin.ext (by dsimp only; omega))

/-- The rows one above: the rotation by one, past the first eight. -/
theorem pay5_at (i : grid0.Coords) (v11 v13 : FVec Ideal S512x1024 .bf16) (v16 v18 : FVec Ideal S8x1024 .bf16) (w : FVec Ideal S1x1024 .f32) (k : Fin 512) (l : Fin 1024) :
    k0_pay5 (F := Ideal) i v11 v13 v16 v18 w (ix2 k l) = w (ix2 0 l) * k0_pay3 (F := Ideal) i v11 v13 v16 v18 (ix2 (n0 := 520) (n1 := 1024) ⟨k + 7, by omega⟩ l) := by
  unfold k0_pay5
  generalize k0_pay3 (F := Ideal) i v11 v13 v16 v18 = z
  pointwise
  exact congrArg (fun q : Fin 520 => w (ix2 0 l) * z (ix2 q l)) (Fin.ext (by dsimp only; omega))

/-- The stored block at an index. -/
theorem pay1_at (a b d : FVec Ideal S512x1024 .f32) (w : FVec Ideal S1x1024 .f32) (g : FVec Ideal S512x1024 .bf16) (k : Fin 512) (l : Fin 1024) :
    k0_pay1 (F := Ideal) a b d w g (ix2 k l) = g (ix2 k l) * (b (ix2 k l) + d (ix2 k l) + w (ix2 0 l) * a (ix2 k l)) := by
  pointwise [k0_pay1]

/-- An index of a two-axis shape is its two coordinates. -/
theorem exists_ix2 {m n : ℕ} (y : (⟨2, ![m, n]⟩ : Shape).Idx) : ∃ (a : Fin m) (b : Fin n), y = ix2 a b :=
  ⟨y 0, y 1, by funext d; fin_cases d <;> rfl⟩

/-- The big array as the first argument holds it. -/
abbrev aX (c : Dev nD) : FVec Ideal S16384x28672 .bf16 := m ((c : Thread nD τ).loc main_arg0)

/-- The taps as the second argument holds them. -/
abbrev aW (c : Dev nD) : FVec Ideal S1x3x4096 .f32 := m ((c : Thread nD τ).loc main_arg1)

/-- The taps' operand: the argument without its leading axis. -/
theorem V_w (c : Dev nD) : V m c main_v0 = shapeCast S3x4096 (aW m c) shapeCasts_S1x3x4096_S3x4096 := by
  unfold V; after_results <;> rfl

/-- The taps' operand at an index. -/
theorem w_at (W : FVec Ideal S1x3x4096 .f32) (i) : shapeCast S3x4096 W shapeCasts_S1x3x4096_S3x4096 i
    = W (ix3 (n0 := 1) (n1 := 3) (n2 := 4096) 0 (i 0) (i 1)) := by
  pointwise

/-- The block of the columns `4096` on. -/
theorem b1_at (c : Dev nD) (t : Fin cfg0.N) (k : Fin 512) (l : Fin 1024) : iblk m c 1 t (ix2 k l)
    = aX m c (ix2 (n0 := 16384) (n1 := 28672) ⟨t.val / 4 * 512 + k, by have := t.isLt; change _ < 128 at this; omega⟩
        ⟨4096 + (t.val % 4 * 1024 + l), by omega⟩) := by
  blk_point [iblk, V, idx t]

/-- The block of the columns `8192` on. -/
theorem b2_at (c : Dev nD) (t : Fin cfg0.N) (k : Fin 512) (l : Fin 1024) : iblk m c 2 t (ix2 k l)
    = aX m c (ix2 (n0 := 16384) (n1 := 28672) ⟨t.val / 4 * 512 + k, by have := t.isLt; change _ < 128 at this; omega⟩
        ⟨8192 + (t.val % 4 * 1024 + l), by omega⟩) := by
  blk_point [iblk, V, idx t]

/-- The eight rows before, columns `4096` on. -/
theorem b3_at (c : Dev nD) (t : Fin cfg0.N) (k : Fin 8) (l : Fin 1024) : iblk m c 3 t (ix2 k l)
    = aX m c (ix2 (n0 := 16384) (n1 := 28672) ⟨(t.val / 4 * 64 - 1) * 8 + k, by have := t.isLt; change _ < 128 at this; omega⟩
        ⟨4096 + (t.val % 4 * 1024 + l), by omega⟩) := by
  blk_point [iblk, V, idx t]

/-- The eight rows before, columns `8192` on. -/
theorem b4_at (c : Dev nD) (t : Fin cfg0.N) (k : Fin 8) (l : Fin 1024) : iblk m c 4 t (ix2 k l)
    = aX m c (ix2 (n0 := 16384) (n1 := 28672) ⟨(t.val / 4 * 64 - 1) * 8 + k, by have := t.isLt; change _ < 128 at this; omega⟩
        ⟨8192 + (t.val % 4 * 1024 + l), by omega⟩) := by
  blk_point [iblk, V, idx t]

/-- Row `k + 8 - d` of the joined block is the product `d` rows above the block's row `k`. -/
theorem cat_past (c : Dev nD) (t : Fin cfg0.N) (d : Nat) (hd : 1 ≤ d) (hd' : d ≤ 8) (k : Fin 512) (l : Fin 1024)
    (q : Fin 520) (hq : (q : Nat) = k + 8 - d) :
    k0_pay3 (F := Ideal) (grid0.coords t) (iblk m c 1 t) (iblk m c 2 t) (iblk m c 3 t) (iblk m c 4 t) (ix2 q l)
    = past (aX m c) d ⟨t.val / 4 * 512 + k, by have := t.isLt; change _ < 128 at this; omega⟩ ⟨t.val % 4 * 1024 + l, by omega⟩ := by
  have ht : t.val < 128 := t.isLt
  have hk := k.isLt
  rw [cat_at, first_at t]
  unfold past u
  by_cases h : (q : Nat) < 8
  · rw [dif_pos h, b3_at, b4_at]
    by_cases h2 : t.val / 4 % 8 = 0
    · rw [if_pos h2, if_pos rfl, if_pos (by dsimp only; omega)]
    · rw [if_neg h2, if_neg (by decide), if_neg (by dsimp only; omega)]
      exact congrArg (fun z : Fin 16384 => aX m c (ix2 z ⟨4096 + (t.val % 4 * 1024 + l), by omega⟩) * aX m c (ix2 z ⟨8192 + (t.val % 4 * 1024 + l), by omega⟩))
        (Fin.ext (by dsimp only; omega))
  · rw [dif_neg h, b1_at, b2_at, if_neg (by dsimp only; omega)]
    exact congrArg (fun z : Fin 16384 => aX m c (ix2 z ⟨4096 + (t.val % 4 * 1024 + l), by omega⟩) * aX m c (ix2 z ⟨8192 + (t.val % 4 * 1024 + l), by omega⟩))
      (Fin.ext (by dsimp only; omega))

/-- A tap of the block: row `j` of the taps at the block's columns. -/
theorem tap_at (c : Dev nD) (t : Fin cfg0.N) (j : Fin 3) (l : Fin 1024) : iblk m c 5 t (ix2 j l)
    = aW m c (ix3 (n0 := 1) (n1 := 3) (n2 := 4096) 0 j ⟨t.val % 4 * 1024 + l, by omega⟩) := by
  refine (congrFun (V_w m c) _).trans ((w_at _ _).trans ?_)
  blk_ext [idx t]

/-- The body's loads of single taps. -/
theorem ld_0 (x : Vec Ideal S3x1024 .f32) (l : Fin 1024) : View.ld x r0_2 (ix2 0 l) = x (ix2 0 l) := by
  pointwise

theorem ld_1 (x : Vec Ideal S3x1024 .f32) (l : Fin 1024) : View.ld x r0_3 (ix2 0 l) = x (ix2 1 l) := by
  pointwise

theorem ld_2 (x : Vec Ideal S3x1024 .f32) (l : Fin 1024) : View.ld x r0_4 (ix2 0 l) = x (ix2 2 l) := by
  pointwise

/-- What the body stores at `y` of grid point `t` is the reference at the place of `y` in the array. -/
theorem point (c : Dev nD) (t : Fin cfg0.N) (k : Fin 512) (l : Fin 1024) :
    k0_pay1 (F := Ideal) (k0_pay2 (iblk m c 1 t) (iblk m c 2 t))
      (k0_pay4 (grid0.coords t) (iblk m c 1 t) (iblk m c 2 t) (iblk m c 3 t) (iblk m c 4 t) (View.ld (iblk m c 5 t) r0_2))
      (k0_pay5 (grid0.coords t) (iblk m c 1 t) (iblk m c 2 t) (iblk m c 3 t) (iblk m c 4 t) (View.ld (iblk m c 5 t) r0_3))
      (View.ld (iblk m c 5 t) r0_4) (iblk m c 0 t) (ix2 k l)
    = REF (aX m c) (aW m c) (((cfg0.win 6).blk t).view.emb (ix2 k l)) := by
  have ht : t.val < 128 := t.isLt
  have e : (((cfg0.win 6).blk t).view.emb (ix2 k l) : S16384x4096.Idx) = ix2 (n0 := 16384) (n1 := 4096)
      ⟨t.val / 4 * 512 + k, by omega⟩ ⟨t.val % 4 * 1024 + l, by omega⟩ := by
    blk_ext [idx t]
  rw [e, pay1_at, pay4_at, pay5_at, ref_at, ld_0, ld_1, ld_2, tap_at, tap_at, tap_at,
    cat_past m c t 2 (by omega) (by omega) k l _ (by dsimp only; omega),
    cat_past m c t 1 (by omega) (by omega) k l _ (by dsimp only; omega)]
  rw [mul_comm (aW m c _) (past _ _ _ _), mul_comm (aW m c _) (past _ _ _ _), mul_comm (aW m c _) (k0_pay2 (F := Ideal) _ _ _)]
  refine congrArg₂ (· * ·) ?_ (congrArg₂ (· + ·) rfl (congrArg (· * _) ?_))
  · blk_point [iblk, V, idx t]
  · exact congrArg₂ (· * ·) (b1_at m c t k l) (b2_at m c t k l)

/-- The result array after the run is the reference's term of the arguments. -/
theorem final (c : Dev nD) : (dats m 0 c).arrAt 6 (cfgs 0).N
    = REF (m ((c : Thread nD τ).loc main_arg0)) (m ((c : Thread nD τ).loc main_arg1)) := by
  refine (dats m 0 c).arrAt_eq_of_covers 6 _ (by decide +kernel) fun t _ y => ?_
  blk_simp
  rw [after0_6]; frame_out
  obtain ⟨k, l, hy⟩ := exists_ix2 (m := 512) (n := 1024) y
  rw [hy]
  exact point m c t k l

end Cert.ConvIdeal.ConvValue

end
-- ==== Proof.Rope.lean ====
module

public import proofs.«01_k».proof.Proof.Softmax
public import Idealize.ShloMosaic.Lib.Pipeline.ValueKit

/-! The norm and the rotation of a head's vector over the extended reals.

`nrm d f` is the vector `f`, each entry over the root of the mean square (the sum over `d`, plus the small
constant). `rot f c s` turns the pairs `(f j, f (j + 32))` of a vector of 64 entries by the angles whose cosines
and sines are `c` and `s`. The kernels carry the vector of 64 entries twice, the second time with its two halves
exchanged, as one of 128 entries: the mean square is the same over 128 as over 64, and the partner of an entry is
the entry 64 places on. -/

@[expose] public section

noncomputable section

open Idealize.ShloMosaic

namespace Cert.Rope

/-- The constant the norms add to the mean square. -/
abbrev eps : EReal := Ideal.ofBits .f32 0x358637BD#32

/-- A vector over the root of its mean square. -/
def nrm {n : ℕ} (d : EReal) (f : Fin n → EReal) (j : Fin n) : EReal :=
  f j * Ideal.rsqrt (Ideal.div (∑ x : Fin n, f x * f x) d + eps)

/-- The pairs of a vector turned. -/
def rot (f : Fin 64 → EReal) (c s : Fin 32 → EReal) (j : Fin 64) : EReal :=
  if h : (j : ℕ) < 32 then f j * c ⟨j, h⟩ - f ⟨j + 32, by omega⟩ * s ⟨j, h⟩
  else f j * c ⟨j - 32, by omega⟩ + f ⟨j - 32, by omega⟩ * s ⟨j - 32, by omega⟩

/-- Where entry `j` of the doubled vector comes from. -/
def src (j : Fin 128) : Fin 64 :=
  if (j : ℕ) < 64 then ⟨j % 64, Nat.mod_lt _ (by norm_num)⟩ else ⟨(j + 32) % 64, Nat.mod_lt _ (by norm_num)⟩

theorem src_val (j : Fin 128) : (src j : ℕ) = if (j : ℕ) < 64 then (j : ℕ) % 64 else ((j : ℕ) + 32) % 64 := by
  unfold src; split_ifs <;> rfl

/-- The sign of the sine at entry `j` of the doubled vector. -/
def sgn (j : Fin 128) : EReal :=
  if (j : ℕ) % 64 < 32 then -Ideal.ofBits .f32 0x3F800000#32 else Ideal.ofBits .f32 0x3F800000#32

/-- The exchange of the halves as a permutation. -/
def swap : Equiv.Perm (Fin 64) where
  toFun j := ⟨(j + 32) % 64, Nat.mod_lt _ (by norm_num)⟩
  invFun j := ⟨(j + 32) % 64, Nat.mod_lt _ (by norm_num)⟩
  left_inv j := Fin.ext (by show ((j + 32) % 64 + 32) % 64 = (j : ℕ); omega)
  right_inv j := Fin.ext (by show ((j + 32) % 64 + 32) % 64 = (j : ℕ); omega)

/-- A sum over the doubled vector is twice the sum over the vector. -/
theorem sum_src (F : Fin 64 → EReal) : ∑ x : Fin 128, F (src x) = ∑ x, F x + ∑ x, F x := by
  rw [show (∑ x : Fin 128, F (src x)) = ∑ x : Fin (64 + 64), F (src x) from rfl, Fin.sum_univ_add]
  refine congrArg₂ (· + ·) (Finset.sum_congr rfl fun x _ => congrArg F ?_) ?_
  · have := x.isLt
    unfold src
    rw [if_pos (by show (x : ℕ) < 64; omega)]
    exact Fin.ext (by show (x : ℕ) % 64 = x; omega)
  · rw [← Equiv.sum_comp swap F]
    refine Finset.sum_congr rfl fun x _ => congrArg F ?_
    have := x.isLt
    unfold src
    rw [if_neg (by show ¬(64 + (x : ℕ)) < 64; omega)]
    exact Fin.ext (by show (64 + (x : ℕ) + 32) % 64 = (x + 32) % 64; omega)

/-- Twice a sum over 128 is the sum over 64. -/
theorem div_twice (S : EReal) :
    Ideal.div (S + S) (Ideal.ofBits .f32 0x43000000#32) = Ideal.div S (Ideal.ofBits .f32 0x42800000#32) := by
  have e1 : Ideal.ofBits .f32 0x43000000#32 = ((128 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  rw [e1, e2, Cert.Online.div_real _ (by norm_num), Cert.Online.div_real _ (by norm_num)]
  induction S with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe x =>
    rw [← EReal.coe_add, ← EReal.coe_mul, ← EReal.coe_mul]
    exact congrArg _ (by ring)

/-- The constant one. -/
theorem one_eq : Ideal.ofBits .f32 0x3F800000#32 = 1 := Ideal.ofBits_one_f32

/-- What the kernels compute at entry `j` of the first 64 of the doubled vector is the rotation of the norm. -/
theorem rot_eq (f g : Fin 64 → EReal) (c s : Fin 32 → EReal) (f2 g2 C S : Fin 128 → EReal)
    (hf : ∀ j, f2 j = f (src j)) (hg : ∀ j, g2 j = g (src j))
    (hC : ∀ j : Fin 128, C j = c ⟨j % 32, Nat.mod_lt _ (by norm_num)⟩)
    (hS : ∀ j : Fin 128, S j = s ⟨j % 32, Nat.mod_lt _ (by norm_num)⟩ * sgn j) (j : Fin 64) :
    nrm (Ideal.ofBits .f32 0x43000000#32) f2 ⟨j, by omega⟩ * g2 ⟨j, by omega⟩ * C ⟨j, by omega⟩
      + nrm (Ideal.ofBits .f32 0x43000000#32) f2 ⟨j + 64, by omega⟩ * g2 ⟨j + 64, by omega⟩ * S ⟨j, by omega⟩
    = rot (fun j => nrm (Ideal.ofBits .f32 0x42800000#32) f j * g j) c s j := by
  have hj := j.isLt
  have hs : ∑ x : Fin 128, f2 x * f2 x = ∑ x, f x * f x + ∑ x, f x * f x := by
    rw [← sum_src fun x => f x * f x]
    exact Finset.sum_congr rfl fun x _ => by rw [hf]
  have hn : ∀ j, nrm (Ideal.ofBits .f32 0x43000000#32) f2 j = nrm (Ideal.ofBits .f32 0x42800000#32) f (src j) := fun j => by
    unfold nrm
    rw [hs, div_twice, hf]
  rw [hn, hn, hg, hg, hC, hS]
  have e0 : src ⟨j, by omega⟩ = j := by
    unfold src
    rw [if_pos (by show (j : ℕ) < 64; omega)]
    exact Fin.ext (by show (j : ℕ) % 64 = j; omega)
  have e1 : src ⟨j + 64, by omega⟩ = ⟨(j + 32) % 64, Nat.mod_lt _ (by norm_num)⟩ := by
    unfold src
    rw [if_neg (by show ¬(j : ℕ) + 64 < 64; omega)]
    exact Fin.ext (by show ((j : ℕ) + 64 + 32) % 64 = (j + 32) % 64; omega)
  rw [e0, e1]
  unfold rot sgn
  by_cases h : (j : ℕ) < 32
  · rw [dif_pos h, if_pos (by show (j : ℕ) % 64 < 32; omega), one_eq]
    have a : (⟨(j : ℕ) % 32, Nat.mod_lt _ (by norm_num)⟩ : Fin 32) = ⟨j, h⟩ := Fin.ext (by show (j : ℕ) % 32 = j; omega)
    have b : (⟨((j : ℕ) + 32) % 64, Nat.mod_lt _ (by norm_num)⟩ : Fin 64) = ⟨j + 32, by omega⟩ := Fin.ext (by show ((j : ℕ) + 32) % 64 = j + 32; omega)
    rw [a, b, mul_neg, mul_one, mul_neg, sub_eq_add_neg]
  · rw [dif_neg h, if_neg (by show ¬(j : ℕ) % 64 < 32; omega), one_eq, mul_one]
    have a : (⟨(j : ℕ) % 32, Nat.mod_lt _ (by norm_num)⟩ : Fin 32) = ⟨j - 32, by omega⟩ := Fin.ext (by show (j : ℕ) % 32 = j - 32; omega)
    have b : (⟨((j : ℕ) + 32) % 64, Nat.mod_lt _ (by norm_num)⟩ : Fin 64) = ⟨j - 32, by omega⟩ := Fin.ext (by show ((j : ℕ) + 32) % 64 = j - 32; omega)
    rw [a, b]

end Cert.Rope

end
-- ==== Proof.MemSoft.lean ====
module

public import proofs.«01_k».proof.Proof.Rope
public import proofs.«01_k».proof.Proof.Softmax
public import Idealize.ShloMosaic.Lib.Pipeline.ValueKit

/-! The arithmetic of the attention over the memory, over plain vectors. A weighted sum of the values divided
once by the sum of the weights is the sum of the values times the divided weights, for real scores; a
normalized vector is real, whatever its entries; and a scale taken into each query entry is the scale of the score. -/

@[expose] public section

set_option maxRecDepth 16384

noncomputable section

open Idealize.ShloMosaic Idealize.ShloMosaic.TcCoe Idealize.SL.Sem

namespace Cert.MemSoft

open Cert.Online Cert.Rope

theorem negInf : Ideal.ofBits FTy.f32 4286578688#32 = (⊥ : EReal) := by decide +kernel

theorem fold_max {n : ℕ} (g : Fin n → EReal) :
    Finset.fold max (Ideal.ofBits FTy.f32 4286578688#32) g Finset.univ = Finset.univ.sup g := by
  rw [negInf]; rfl

/-- The maximum along the last of four axes, at any sizes. -/
theorem reduce_max {n0 n1 n2 n3 : ℕ} {u : Shape} (S : FVec Ideal ⟨4, ![n0, n1, n2, n3]⟩ .f32)
    (hr : (⟨4, ![n0, n1, n2, n3]⟩ : Shape).ReducesTo [3] ⟨3, ![n0, n1, n2]⟩) (hu : 0 < u.numel) (a : Fin n0) (b : Fin n1) (c : Fin n2) :
    Host.reduce FloatOps.maximumf S (constant u .f32 0xFF800000#32) hr hu (ix3 a b c)
      = Finset.univ.sup fun j : Fin n3 => S (ix4 a b c j) := by
  rw [← fold_max]
  pointwise

/-- An entry whose absolute value is below infinity is real. -/
theorem real_of (x : EReal) (h : Ideal.cmp .olt (max x (-x)) (Ideal.ofBits .f32 0x7F800000#32) = 1#1) : ∃ r : ℝ, x = r := by
  rw [show Ideal.ofBits .f32 0x7F800000#32 = ⊤ by decide +kernel] at h
  have h' : max x (-x) < ⊤ := by
    by_contra hn
    simp [Ideal.cmp, hn] at h
  induction x with
  | bot => simp at h'
  | coe r => exact ⟨r, rfl⟩
  | top => simp at h'

/-- An index of a two-axis shape is its two coordinates. -/
theorem exists_ix2 {m n : ℕ} (y : (⟨2, ![m, n]⟩ : Shape).Idx) : ∃ (a : Fin m) (b : Fin n), y = ix2 a b :=
  ⟨y 0, y 1, by funext d; fin_cases d <;> rfl⟩

/-- The scale, 1/32. -/
def SC : EReal := Ideal.ofBits .f32 0x3D000000#32

theorem SC_eq : SC = ((1 / 32 : ℝ) : EReal) := by
  simp [SC, Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- The small constant is a positive real. -/
theorem eps_real : ∃ e : ℝ, 0 < e ∧ eps = (e : EReal) := by
  refine ⟨_, ?_, by simp [eps, Ideal.ofBits, Ideal.ieee, -EReal.coe_mul]; rfl⟩
  norm_num

/-- A score: the product of the two normalized vectors, scaled. -/
def score (q : Fin 1024 → EReal) (A : Fin 1024 → EReal) (k : Fin 1024 → EReal) : EReal :=
  (∑ d : Fin 1024, nrm (Ideal.ofBits .f32 0x44800000#32) q d * A d * k d) * SC

/-- The scale may be taken with the root, before the gains. -/
theorem score_scaled (q A k : Fin 1024 → EReal) :
    ∑ d : Fin 1024, q d * (Ideal.rsqrt (Ideal.div (∑ x : Fin 1024, q x * q x) (Ideal.ofBits .f32 0x44800000#32) + eps) * SC) * A d * k d
      = score q A k := by
  unfold score nrm
  rw [mul_comm (∑ d : Fin 1024, _) SC, mul_sum_of SC (by rw [SC_eq]; exact EReal.coe_nonneg.mpr (by norm_num)) (by rw [SC_eq]; exact EReal.coe_ne_top _)]
  refine Finset.sum_congr rfl fun d _ => ?_
  ac_rfl

/-- A normalized vector is real: a vector of reals has a positive mean square, the small constant added, and
any other has an infinite one, whose root's inverse is 0. -/
theorem nrm_real (f : Fin 1024 → EReal) (d : Fin 1024) :
    ∃ r : ℝ, nrm (Ideal.ofBits .f32 0x44800000#32) f d = r := by
  obtain ⟨e, he, hE⟩ := eps_real
  by_cases hf : ∀ d, ∃ r : ℝ, f d = r
  · choose a ha using hf
    have hs : ∑ x : Fin 1024, f x * f x = ((∑ x : Fin 1024, a x * a x : ℝ) : EReal) := by
      rw [← coe_sum]
      exact Finset.sum_congr rfl fun x _ => by rw [ha, EReal.coe_mul]
    have hp : 0 < (∑ x : Fin 1024, a x * a x) * (1024 : ℝ)⁻¹ + e :=
      add_pos_of_nonneg_of_pos (mul_nonneg (Finset.sum_nonneg fun x _ => mul_self_nonneg _) (by norm_num)) he
    unfold nrm
    rw [hs, ofBits_1024, div_real _ (by norm_num), hE, ← EReal.coe_mul, ← EReal.coe_add, ha]
    refine ⟨a d * (Real.sqrt ((∑ x : Fin 1024, a x * a x) * (1024 : ℝ)⁻¹ + e))⁻¹, ?_⟩
    rw [EReal.coe_mul]
    refine congrArg (_ * ·) ?_
    show (if _ < 0 then ⊥ else if _ = 0 then ⊤ else _) = _
    rw [if_neg (not_lt.mpr hp.le), if_neg hp.ne']
  · obtain ⟨i, hi⟩ := not_forall.mp hf
    have hsq : ∀ x : EReal, 0 ≤ x * x := fun x => by
      induction x with
      | bot => simp
      | coe r => rw [← EReal.coe_mul]; exact EReal.coe_nonneg.mpr (mul_self_nonneg r)
      | top => simp
    have hit : f i * f i = ⊤ := by
      revert hi
      induction f i with
      | bot => intro _; exact EReal.bot_mul_bot
      | coe r => intro hi; exact absurd ⟨r, rfl⟩ hi
      | top => intro _; exact EReal.top_mul_top
    have hs : ∑ x : Fin 1024, f x * f x = ⊤ :=
      top_le_iff.mp (hit ▸ Finset.single_le_sum (f := fun x => f x * f x) (fun x _ => hsq (f x)) (Finset.mem_univ i))
    refine ⟨0, ?_⟩
    unfold nrm
    rw [hs, ofBits_1024, div_real _ (by norm_num), hE, EReal.top_mul_coe_of_pos (by norm_num), EReal.top_add_coe]
    exact mul_zero _

/-- A score is real when the gains and the key are. -/
theorem score_real (q A k : Fin 1024 → EReal) (hA : ∀ d, ∃ r : ℝ, A d = r) (hk : ∀ d, ∃ r : ℝ, k d = r) :
    ∃ r : ℝ, score q A k = r := by
  choose n hn using nrm_real q
  choose a ha using hA
  choose b hb using hk
  refine ⟨(∑ d : Fin 1024, n d * a d * b d) * (1 / 32), ?_⟩
  unfold score
  rw [EReal.coe_mul, ← coe_sum, SC_eq]
  refine congrArg (· * _) (Finset.sum_congr rfl fun d _ => ?_)
  rw [hn, ha, hb, EReal.coe_mul, EReal.coe_mul]

/-- The entry both programs compute, in the reference's form. -/
def entry (f : Fin 256 → EReal) (v : Fin 256 → EReal) : EReal :=
  ∑ k : Fin 256, v k * Ideal.div (Ideal.exp (f k - Finset.univ.sup f)) (∑ i : Fin 256, Ideal.exp (f i - Finset.univ.sup f))

/-- Dividing once, after the sum. -/
theorem entry_eq (f v : Fin 256 → EReal) (hf : ∀ k, ∃ r : ℝ, f k = r) :
    Ideal.div (∑ k : Fin 256, Ideal.exp (f k - Finset.univ.sup f) * v k) (∑ i : Fin 256, Ideal.exp (f i - Finset.univ.sup f)) = entry f v := by
  choose a ha using hf
  obtain ⟨p, _, hp⟩ := Finset.exists_mem_eq_sup (Finset.univ : Finset (Fin 256)) ⟨0, Finset.mem_univ _⟩ f
  have he : ∀ k, Ideal.exp (f k - Finset.univ.sup f) = ((Real.exp (a k - a p) : ℝ) : EReal) := fun k => by
    rw [hp, ha, ha, ← EReal.coe_sub]; rfl
  have hpos : 0 < ∑ i : Fin 256, Real.exp (a i - a p) := Finset.sum_pos (fun i _ => Real.exp_pos _) ⟨0, Finset.mem_univ _⟩
  unfold entry
  simp only [he]
  rw [coe_sum, div_real _ hpos.ne', mul_comm,
    mul_sum_of _ (EReal.coe_nonneg.mpr (inv_nonneg.mpr hpos.le)) (EReal.coe_ne_top _)]
  refine Finset.sum_congr rfl fun k _ => ?_
  rw [div_real _ hpos.ne', mul_comm _ (v k), mul_left_comm, mul_comm (((∑ i : Fin 256, Real.exp (a i - a p))⁻¹ : ℝ) : EReal)]

end Cert.MemSoft

end
-- ==== Proof.MemAttnPays.lean ====
module

public import proofs.«01_k».proof.Proof.Gen.MemAttnIdeal.Value
public import proofs.«01_k».proof.Proof.MemSoft

/-! The memory attention's kernel: its two payloads at an index, and what its block and its scratch array of
normalized keys hold after a grid point. -/

@[expose] public section

set_option maxRecDepth 16384

noncomputable section

open Idealize.ShloMosaic Idealize.ShloMosaic.TcCoe Idealize.SL.Sem
open Idealize.ShloMosaic.Pipeline (Dat)

namespace Cert.MemAttnIdeal.Pays

open Cert.MemAttnIdeal Cert.MemAttnIdeal.Gen Cert.Rope Cert.MemSoft

/-- The keys, normalized. -/
theorem keys_at (K : Vec Ideal S256x1024 .bf16) (G : Vec Ideal S1x1024 .f32) (k : Fin 256) (d : Fin 1024) :
    k0_pay1 (F := Ideal) K G (ix2 k d) = nrm (Ideal.ofBits .f32 0x44800000#32) (fun d => K (ix2 k d)) d * G (ix2 0 d) := by
  unfold nrm
  pointwise [k0_pay1, eps]

/-- The scores of a block of queries. -/
def scores (Q : FVec Ideal S512x1024 .bf16) (G : FVec Ideal S1x1024 .f32) (K : FVec Ideal S256x1024 .bf16) : FVec Ideal S512x256 .f32 :=
  have v4 : FVec Ideal S512x1024 .f32 := extf .f32 Q bitsLt_bf16_f32
  matmul dot_S512x1024_S256x1024_S512x256_1_1_0_0_n_n none
    (truncf .bf16 (mulf (mulf v4 (broadcastTo S512x1024 (mulf (rsqrt (addf (divf (shapeCast S512x1 (multiReduction .add [1] S512 (mulf v4 v4) 0x00000000#32 reduces_S512x1024_S512 (.inl rfl) rfl) shapeCasts_S512_S512x1)
      (broadcast S512x1 (Scalar.ofBits .f32 0x44800000#32))) (broadcast S512x1 (Scalar.ofBits .f32 0x358637BD#32)))) (broadcast S512x1 (Scalar.ofBits .f32 0x3D000000#32))) broadcasts_S512x1_S512x1024))
      (broadcastTo S512x1024 (shapeCast S1x1024 G shapeCasts_S1x1024_S1x1024) broadcasts_S1x1024_S512x1024)) bitsLt_bf16_f32)
    K (constant S512x256 .f32 0x00000000#32)

/-- The maxima of the rows. -/
def maxes (S : FVec Ideal S512x256 .f32) : FVec Ideal S512x1 .f32 :=
  shapeCast S512x1 (multiReduction .maximumf [1] S512 S 0xFF800000#32 reduces_S512x256_S512 (.inl rfl) rfl) shapeCasts_S512_S512x1

/-- The exponentials of the scores less their row's maximum. -/
def exps (S : FVec Ideal S512x256 .f32) : FVec Ideal S512x256 .f32 := exp (subf S (broadcastTo S512x256 (maxes S) broadcasts_S512x1_S512x256))

/-- The weighted sums of the values, over the sums of the weights. -/
def weigh (E : FVec Ideal S512x256 .f32) (V : FVec Ideal S256x1024 .bf16) : FVec Ideal S512x1024 .bf16 :=
  truncf .bf16 (divf (matmul dot_S512x256_S256x1024_S512x1024_1_0_0_1_n_n none (truncf .bf16 E bitsLt_bf16_f32) V (constant S512x1024 .f32 0x00000000#32))
    (broadcastTo S512x1024 (shapeCast S512x1 (multiReduction .add [1] S512 E 0x00000000#32 reduces_S512x256_S512 (.inl rfl) rfl) shapeCasts_S512_S512x1) broadcasts_S512x1_S512x1024)) bitsLt_bf16_f32

theorem pay2_eq (Q G K V) : k0_pay2 (F := Ideal) Q G K V = weigh (exps (scores Q G K)) V := rfl

theorem scores_at (Q G K) (p : Fin 512) (k : Fin 256) :
    scores Q G K (ix2 p k) = score (fun d => Q (ix2 p d)) (fun d => G (ix2 0 d)) (fun d => K (ix2 k d)) := by
  rw [← score_scaled]
  pointwise [scores, eps, SC]

theorem maxes_at (S) (p : Fin 512) : maxes S (ix2 p 0) = Finset.univ.sup fun k : Fin 256 => S (ix2 p k) := by
  rw [← fold_max]
  pointwise [maxes]

theorem exps_at (S) (p : Fin 512) (k : Fin 256) : exps S (ix2 p k) = Ideal.exp (S (ix2 p k) - Finset.univ.sup fun k : Fin 256 => S (ix2 p k)) := by
  rw [← maxes_at]
  pointwise [exps]

theorem weigh_at (E V) (p : Fin 512) (l : Fin 1024) :
    weigh E V (ix2 p l) = Ideal.div (∑ k : Fin 256, E (ix2 p k) * V (ix2 k l)) (∑ k : Fin 256, E (ix2 p k)) := by
  pointwise [weigh]

/-- An entry of the block. -/
theorem pay2_at (Q G K V) (p : Fin 512) (l : Fin 1024) (f v : Fin 256 → EReal)
    (hf : ∀ k, score (fun d => Q (ix2 p d)) (fun d => G (ix2 0 d)) (fun d => K (ix2 k d)) = f k) (hr : ∀ k, ∃ r : ℝ, f k = r)
    (hv : ∀ k, V (ix2 k l) = v k) : k0_pay2 (F := Ideal) Q G K V (ix2 p l) = entry f v := by
  have hE : ∀ k, exps (scores Q G K) (ix2 p k) = Ideal.exp (f k - Finset.univ.sup f) := fun k => by
    rw [exps_at]
    refine congrArg Ideal.exp (congrArg₂ (· - ·) ((scores_at _ _ _ _ _).trans (hf k)) (congrArg _ (funext fun k => (scores_at _ _ _ _ _).trans (hf k))))
  rw [pay2_eq, weigh_at, ← entry_eq f v hr]
  exact congrArg₂ Ideal.div (Finset.sum_congr rfl fun k _ => congrArg₂ (· * ·) (hE k) (hv k)) (Finset.sum_congr rfl fun k _ => hE k)

variable (m : (ℓ : Loc nD τ sig) → Buf (Elt Ideal) ℓ)

/-- The scratch array after a first point of a block of queries: the keys, normalized. -/
theorem scr_A (c : Dev nD) (t : Fin cfg0.N) (h : t.val % 8 = 0) :
    (outsAt0 m c t.val t.isLt).2 = k0_pay1 (F := Ideal) (iblk m c 1 t) (iblk m c 4 t) := by
  funext y; rw [outsAt0_A m c t h]; frame_out

/-- The scratch array after another point: what the point before left. -/
theorem scr_B (c : Dev nD) (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h]; rfl

/-- The block after a point, over the scratch array the point leaves. -/
theorem out_at (c : Dev nD) (t : Fin cfg0.N) :
    (outsAt0 m c t.val t.isLt).1 = k0_pay2 (F := Ideal) (iblk m c 0 t) (iblk m c 3 t) (outsAt0 m c t.val t.isLt).2 (iblk m c 2 t) := by
  funext y
  by_cases h : t.val % 8 = 0
  · rw [scr_A m c t h, outsAt0_A m c t h]; frame_out
  · rw [scr_B m c t h, outsAt0_B m c t h]; frame_out; rw [(Memref.isWhole_whole cc0_scratch0).read_unread]

end Cert.MemAttnIdeal.Pays

end
-- ==== Proof.MemAttnRef.lean ====
module

public import proofs.«01_k».proof.Proof.Gen.MemAttnRefIdeal.Run
public import proofs.«01_k».proof.Proof.MemSoft

/-! The reference of the attention over the memory at an index, read off its operations one stage at a time. -/

@[expose] public section

set_option maxRecDepth 16384

noncomputable section

open Idealize.ShloMosaic Idealize.ShloMosaic.TcCoe Idealize.SL.Sem

namespace Cert.MemAttnRefIdeal.At

open Cert.MemAttnRefIdeal Cert.MemAttnRefIdeal.Gen Cert.Rope Cert.MemSoft

abbrev Scores := FVec Ideal S4x4x4096x256 .f32
abbrev Rows := FVec Ideal S4x4x4096 .f32

/-- The queries, the keys and the values, head by head. -/
def qs (X : FVec Ideal S16384x28672 .bf16) : FVec Ideal S4x4096x4x1024 .f32 :=
  extf .f32 (shapeCast _ (extractStridedSlice S16384x4096 ![0, 12288] X slices_S16384x28672_S16384x4096_0_12288) shapeCasts_S16384x4096_S4x4096x4x1024) bitsLt_bf16_f32
def mem (W : FVec Ideal S1024x8192 .bf16) : FVec Ideal S4x256x8192 .f32 :=
  shapeCast _ (extf .f32 W bitsLt_bf16_f32) shapeCasts_S1024x8192_S4x256x8192
def ks (W : FVec Ideal S1024x8192 .bf16) : FVec Ideal S4x256x4x1024 .f32 :=
  shapeCast _ (extractStridedSlice S4x256x4096 ![0, 0, 0] (mem W) slices_S4x256x8192_S4x256x4096_0_0_0) shapeCasts_S4x256x4096_S4x256x4x1024
def vs (W : FVec Ideal S1024x8192 .bf16) : FVec Ideal S4x256x4x1024 .f32 :=
  shapeCast _ (extractStridedSlice S4x256x4096 ![0, 0, 4096] (mem W) slices_S4x256x8192_S4x256x4096_0_0_4096) shapeCasts_S4x256x4096_S4x256x4x1024

/-- The queries, normalized. -/
def qn (q : FVec Ideal S4x4096x4x1024 .f32) (A : FVec Ideal S1x1024 .f32) : FVec Ideal S4x4096x4x1024 .f32 :=
  mulf (mulf q (broadcastInDim S4x4096x4x1024 ![0, 1, 2, 3] bcast_S4x4096x4x1_S4x4096x4x1024_0_1_2_3 (Host.rsqrt (addf (Host.divf (broadcastInDim S4x4096x4x1 ![0, 1, 2] bcast_S4x4096x4_S4x4096x4x1_0_1_2
    (Host.reduceAdd (mulf q q) (constant S_ .f32 0x00000000#32) reducesTo_S4x4096x4x1024_S4x4096x4_d3 h_S_)) (broadcastInDim S4x4096x4x1 ![] bcast_S_S4x4096x4x1 (constant S_ .f32 0x44800000#32)))
    (broadcastInDim S4x4096x4x1 ![] bcast_S_S4x4096x4x1 (constant S_ .f32 0x358637BD#32))))))
    (broadcastInDim S4x4096x4x1024 ![0, 1, 2, 3] bcast_S1x1x1x1024_S4x4096x4x1024_0_1_2_3 (broadcastInDim S1x1x1x1024 ![3] bcast_S1024_S1x1x1x1024_3 (shapeCast _ A shapeCasts_S1x1024_S1024)))

/-- The keys, normalized. -/
def kn (k : FVec Ideal S4x256x4x1024 .f32) (B : FVec Ideal S1x1024 .f32) : FVec Ideal S4x256x4x1024 .f32 :=
  mulf (mulf k (broadcastInDim S4x256x4x1024 ![0, 1, 2, 3] bcast_S4x256x4x1_S4x256x4x1024_0_1_2_3 (Host.rsqrt (addf (Host.divf (broadcastInDim S4x256x4x1 ![0, 1, 2] bcast_S4x256x4_S4x256x4x1_0_1_2
    (Host.reduceAdd (mulf k k) (constant S_ .f32 0x00000000#32) reducesTo_S4x256x4x1024_S4x256x4_d3 h_S_)) (broadcastInDim S4x256x4x1 ![] bcast_S_S4x256x4x1 (constant S_ .f32 0x44800000#32)))
    (broadcastInDim S4x256x4x1 ![] bcast_S_S4x256x4x1 (constant S_ .f32 0x358637BD#32))))))
    (broadcastInDim S4x256x4x1024 ![0, 1, 2, 3] bcast_S1x1x1x1024_S4x256x4x1024_0_1_2_3 (broadcastInDim S1x1x1x1024 ![3] bcast_S1024_S1x1x1x1024_3 (shapeCast _ B shapeCasts_S1x1024_S1024)))

/-- The scores. -/
def scores (Q : FVec Ideal S4x4096x4x1024 .f32) (K : FVec Ideal S4x256x4x1024 .f32) : Scores :=
  mulf (Host.dotGeneral dot_S4x4096x4x1024_S4x256x4x1024_S4x4x4096x256_3_3_1_1_02_02 none Q K) (broadcastInDim S4x4x4096x256 ![] bcast_S_S4x4x4096x256 (constant S_ .f32 0x3D000000#32))

/-- The row maxima. -/
def maxes (S : Scores) : Rows :=
  maximumf (broadcastInDim S4x4x4096 ![] bcast_S_S4x4x4096 (constant S_ .f32 0xFF800000#32)) (Host.reduce FloatOps.maximumf S (constant S_ .f32 0xFF800000#32) reducesTo_S4x4x4096x256_S4x4x4096_d3 h_S_)

/-- One number per row, along the row. -/
def along (R : Rows) : Scores :=
  broadcastInDim S4x4x4096x256 ![0, 1, 2, 3] bcast_S4x4x4096x1_S4x4x4096x256_0_1_2_3 (broadcastInDim S4x4x4096x1 ![0, 1, 2] bcast_S4x4x4096_S4x4x4096x1_0_1_2 R)

/-- The exponentials of the scores less their row's maximum. -/
def exps (S : Scores) : Scores := Host.exp (subf S (along (maxes S)))

/-- The row sums. -/
def sums (E : Scores) : Rows := Host.reduceAdd E (constant S_ .f32 0x00000000#32) reducesTo_S4x4x4096x256_S4x4x4096_d3 h_S_

/-- The weights. -/
def probs (E : Scores) : Scores := Host.divf E (along (sums E))

/-- The weighted sums of the values, heads side by side. -/
def out (V : FVec Ideal S4x256x4x1024 .f32) (P : Scores) : FVec Ideal S16384x4096 .bf16 :=
  truncf .bf16 (shapeCast _ (transpose S4x4096x4x1024 [0, 3, 1, 2] (Host.dotGeneral dot_S4x256x4x1024_S4x4x4096x256_S4x4x1024x4096_1_3_3_2_02_01 none V P) transposes_S4x4x1024x4096_S4x4096x4x1024_0_3_1_2) shapeCasts_S4x4096x4x1024_S16384x4096) bitsLt_bf16_f32

/-- The reference's term over the four argument arrays. -/
def REF (X : FVec Ideal S16384x28672 .bf16) (W : FVec Ideal S1024x8192 .bf16) (A B : FVec Ideal S1x1024 .f32) : FVec Ideal S16384x4096 .bf16 :=
  out (vs W) (probs (exps (scores (qn (qs X) A) (kn (ks W) B))))

theorem res_eq (m : (ℓ : Loc nD τ sig) → Buf (Elt Ideal) ℓ) (c : Dev nD) : Cert.MemAttnRefIdeal.Value.res_main_v54 m c
    = REF (m ((c.tc : Thread nD τ).loc main_arg0)) (m ((c.tc : Thread nD τ).loc main_arg1)) (m ((c.tc : Thread nD τ).loc main_arg2)) (m ((c.tc : Thread nD τ).loc main_arg3)) := rfl

variable (b h : Fin 4) (q : Fin 4096) (k : Fin 256)

theorem qs_at (X) (d : Fin 1024) : qs X (ix4 b q h d)
    = X (ix2 (n0 := 16384) (n1 := 28672) ⟨b * 4096 + q, by omega⟩ ⟨12288 + (h * 1024 + d), by omega⟩) := by
  pointwise [qs]

theorem mem_at (W) (j : Fin 8192) : mem W (ix3 b k j) = W (ix2 (n0 := 1024) (n1 := 8192) ⟨b * 256 + k, by omega⟩ j) := by
  pointwise [mem]

theorem ks_at (W) (d : Fin 1024) : ks W (ix4 b k h d)
    = W (ix2 (n0 := 1024) (n1 := 8192) ⟨b * 256 + k, by omega⟩ ⟨h * 1024 + d, by omega⟩) := by
  refine Eq.trans ?_ (mem_at b k W ⟨h * 1024 + d, by omega⟩)
  pointwise [ks]

theorem vs_at (W) (d : Fin 1024) : vs W (ix4 b k h d)
    = W (ix2 (n0 := 1024) (n1 := 8192) ⟨b * 256 + k, by omega⟩ ⟨4096 + (h * 1024 + d), by omega⟩) := by
  refine Eq.trans ?_ (mem_at b k W ⟨4096 + (h * 1024 + d), by omega⟩)
  pointwise [vs]

theorem qn_at (x) (A) (d : Fin 1024) : qn x A (ix4 b q h d)
    = nrm (Ideal.ofBits .f32 0x44800000#32) (fun d => x (ix4 b q h d)) d * A (ix2 0 d) := by
  unfold nrm
  pointwise [qn, eps]

theorem kn_at (x) (B) (d : Fin 1024) : kn x B (ix4 b k h d)
    = nrm (Ideal.ofBits .f32 0x44800000#32) (fun d => x (ix4 b k h d)) d * B (ix2 0 d) := by
  unfold nrm
  pointwise [kn, eps]

theorem scores_at (Q K) : scores Q K (ix4 b h q k) = (∑ d : Fin 1024, Q (ix4 b q h d) * K (ix4 b k h d)) * SC := by
  pointwise [scores, SC]

theorem along_at (R : Rows) : along R (ix4 b h q k) = R (ix3 b h q) := by
  pointwise [along]

/-- The maximum with minus infinity. -/
theorem max_bot_at (R : Rows) (i) : maximumf (broadcastInDim S4x4x4096 ![] bcast_S_S4x4x4096 (constant (F := Ideal) S_ .f32 0xFF800000#32)) R i = R i := by
  show max (Ideal.ofBits FTy.f32 4286578688#32) (R i) = R i
  rw [negInf, max_eq_right bot_le]

theorem maxes_at (S : Scores) : maxes S (ix3 b h q) = Finset.univ.sup fun j : Fin 256 => S (ix4 b h q j) :=
  (max_bot_at _ _).trans (reduce_max S _ _ b h q)

theorem sums_at (E : Scores) : sums E (ix3 b h q) = ∑ j : Fin 256, E (ix4 b h q j) := by
  pointwise [sums]

theorem out_at (V) (P : Scores) (l : Fin 1024) (i0 : Fin 16384) (i1 : Fin 4096)
    (h0 : (i0 : ℕ) = b * 4096 + q) (h1 : (i1 : ℕ) = h * 1024 + l) :
    out V P (ix2 i0 i1) = ∑ j : Fin 256, V (ix4 b j h l) * P (ix4 b h q j) := by
  have hb := b.isLt
  have hh := h.isLt
  have hq := q.isLt
  have hl := l.isLt
  have e1 : (⟨(i0 : ℕ) / 4096, by omega⟩ : Fin 4) = b := Fin.ext (by simp only; omega)
  have e2 : (⟨(i1 : ℕ) / 1024, by omega⟩ : Fin 4) = h := Fin.ext (by simp only; omega)
  have e3 : (⟨(i1 : ℕ) % 1024, by omega⟩ : Fin 1024) = l := Fin.ext (by simp only; omega)
  have e4 : (⟨(i0 : ℕ) % 4096, by omega⟩ : Fin 4096) = q := Fin.ext (by simp only; omega)
  pointwise [out]
  rw [e1, e2, e3, e4]

/-- The score of a query and a key, of the arguments. -/
def sco (X : FVec Ideal S16384x28672 .bf16) (W : FVec Ideal S1024x8192 .bf16) (A B : FVec Ideal S1x1024 .f32) : EReal :=
  score (fun d => X (ix2 (n0 := 16384) (n1 := 28672) ⟨b * 4096 + q, by omega⟩ ⟨12288 + (h * 1024 + d), by omega⟩)) (fun d => A (ix2 0 d))
    (fun d => nrm (Ideal.ofBits .f32 0x44800000#32) (fun d : Fin 1024 => W (ix2 (n0 := 1024) (n1 := 8192) ⟨b * 256 + k, by omega⟩ ⟨h * 1024 + d, by omega⟩)) d * B (ix2 0 d))

theorem sco_at (X W A B) : scores (qn (qs X) A) (kn (ks W) B) (ix4 b h q k) = sco b h q k X W A B := by
  rw [scores_at]
  unfold sco score
  refine congrArg (· * _) (Finset.sum_congr rfl fun d _ => ?_)
  rw [qn_at, kn_at]
  simp only [qs_at, ks_at]

/-- The reference at an index. -/
theorem ref_at (X W A B) (l : Fin 1024) (i0 : Fin 16384) (i1 : Fin 4096)
    (h0 : (i0 : ℕ) = b * 4096 + q) (h1 : (i1 : ℕ) = h * 1024 + l) :
    REF X W A B (ix2 i0 i1) = entry (fun k => sco b h q k X W A B)
      fun k => W (ix2 (n0 := 1024) (n1 := 8192) ⟨b * 256 + k, by omega⟩ ⟨4096 + (h * 1024 + l), by omega⟩) := by
  unfold REF
  rw [out_at b h q _ _ l i0 i1 h0 h1]
  have hE : ∀ k, exps (scores (qn (qs X) A) (kn (ks W) B)) (ix4 b h q k)
      = Ideal.exp (sco b h q k X W A B - Finset.univ.sup fun k => sco b h q k X W A B) := fun k => by
    refine congrArg Ideal.exp (congrArg₂ (· - ·) (sco_at b h q k X W A B) ?_)
    rw [along_at, maxes_at]
    exact congrArg _ (funext fun k => sco_at b h q k X W A B)
  unfold entry
  refine Finset.sum_congr rfl fun k _ => congrArg₂ (· * ·) (vs_at b h k W l) (congrArg₂ Ideal.div (hE k) ?_)
  rw [along_at, sums_at]
  exact Finset.sum_congr rfl fun j _ => hE j

end Cert.MemAttnRefIdeal.At

end
-- ==== Proof.MemAttnValue.lean ====
module

public import proofs.«01_k».proof.Pre_finite_gains
public import proofs.«01_k».proof.Proof.MemAttnPays
public import proofs.«01_k».proof.Proof.MemAttnRef

/-! The attention over the memory: what the kernel leaves in the result array is the reference's array. The
kernel divides once, after the weighted sum; the reference divides each weight. The two agree when the scores
are real, and they are when the two gains are: the normalized queries and keys are real whatever the arguments. -/

@[expose] public section

set_option maxRecDepth 16384

noncomputable section

open Idealize.ShloMosaic Idealize.ShloMosaic.TcCoe Idealize.SL.Sem
open Idealize.ShloMosaic.Pipeline (Dat)

namespace Cert.MemAttnIdeal.MemAttnValue

open Cert.MemAttnIdeal Cert.MemAttnIdeal.Gen Cert.Rope Cert.MemSoft Cert.MemAttnIdeal.Pays Cert.MemAttnRefIdeal.At

/-! ## The precondition -/

/-- The side conditions of the precondition's operations. -/
theorem preFacts : Cert.Pre_finite_gains.Facts :=
  ⟨by decide⟩

section

variable (X : FVec Ideal S16384x28672 .bf16) (W : FVec Ideal S1024x8192 .bf16) (A B : FVec Ideal S1x1024 .f32)

theorem pre_A (h : (@Cert.Pre_finite_gains.fn preFacts Ideal _ X W A B).1 = fun _ => 1#1) (i) : ∃ x : ℝ, (A i : EReal) = x :=
  real_of _ (congrFun h i)

theorem pre_B (h : (@Cert.Pre_finite_gains.fn preFacts Ideal _ X W A B).2 = fun _ => 1#1) (i) : ∃ x : ℝ, (B i : EReal) = x :=
  real_of _ (congrFun h i)

/-- Every score is real when the gains are. -/
theorem sco_real (hA : ∀ i, ∃ x : ℝ, (A i : EReal) = x) (hB : ∀ i, ∃ x : ℝ, (B i : EReal) = x)
    (b h : Fin 4) (q : Fin 4096) (k : Fin 256) : ∃ x : ℝ, sco b h q k X W A B = x := by
  unfold sco
  refine score_real _ _ _ (fun d => hA _) fun d => ?_
  obtain ⟨n, hn⟩ := nrm_real (fun d : Fin 1024 => W (ix2 (n0 := 1024) (n1 := 8192) ⟨b * 256 + k, by omega⟩ ⟨h * 1024 + d, by omega⟩)) d
  obtain ⟨g, hg⟩ := hB (ix2 0 d)
  exact ⟨n * g, by rw [hn, hg, EReal.coe_mul]⟩

end

variable (m : (ℓ : Loc nD τ sig) → Buf (Elt Ideal) ℓ)

/-! ## The blocks -/

/-- Where the windows' blocks lie at a grid point. -/
theorem idx : ∀ t : Fin cfg0.N, win0_0.index t = ![t.val / 32 * 8 + t.val % 8, 12 + t.val / 8 % 4] ∧ win0_1.index t = ![t.val / 32, t.val / 8 % 4]
    ∧ win0_2.index t = ![t.val / 32, 4 + t.val / 8 % 4] ∧ win0_3.index t = ![0, 0] ∧ win0_4.index t = ![0, 0]
    ∧ win0_5.index t = ![t.val / 32 * 8 + t.val % 8, t.val / 8 % 4] :=
  (by decide +kernel : ∀ t : Fin grid0.N, _)

theorem lt (t : Fin cfg0.N) : t.val < 128 := lt_of_lt_of_eq t.isLt (by decide +kernel)

/-- The batch row and the head of grid point `n`, and the position of row `p` of its block. -/
def bb (n : ℕ) (h : n < 128) : Fin 4 := ⟨n / 32, by omega⟩
def hh (n : ℕ) : Fin 4 := ⟨n / 8 % 4, by omega⟩
def ss (n : ℕ) (p : Fin 512) : Fin 4096 := ⟨n % 8 * 512 + p, by omega⟩

abbrev aX (c : Dev nD) : FVec Ideal S16384x28672 .bf16 := m ((c : Thread nD τ).loc main_arg0)
abbrev aW (c : Dev nD) : FVec Ideal S1024x8192 .bf16 := m ((c : Thread nD τ).loc main_arg1)
abbrev aA (c : Dev nD) : FVec Ideal S1x1024 .f32 := m ((c : Thread nD τ).loc main_arg2)
abbrev aB (c : Dev nD) : FVec Ideal S1x1024 .f32 := m ((c : Thread nD τ).loc main_arg3)

theorem V_A (c : Dev nD) : V m c main_v2 = shapeCast S1x1024 (shapeCast S1024 (aA m c) shapeCasts_S1x1024_S1024) shapeCasts_S1024_S1x1024 := by
  unfold V; after_results <;> rfl
theorem V_B (c : Dev nD) : V m c main_v3 = shapeCast S1x1024 (shapeCast S1024 (aB m c) shapeCasts_S1x1024_S1024) shapeCasts_S1024_S1x1024 := by
  unfold V; after_results <;> rfl

theorem twice_at (A : FVec Ideal S1x1024 .f32) (d : Fin 1024) :
    shapeCast S1x1024 (shapeCast S1024 A shapeCasts_S1x1024_S1024) shapeCasts_S1024_S1x1024 (ix2 0 d) = A (ix2 0 d) := by
  pointwise

theorem q_at (c : Dev nD) (t : Fin cfg0.N) (p : Fin 512) (d : Fin 1024) : (iblk m c 0 t : Vec Ideal S512x1024 .bf16) (ix2 p d)
    = aX m c (ix2 (n0 := 16384) (n1 := 28672) ⟨bb t.val (lt t) * 4096 + ss t.val p, by omega⟩ ⟨12288 + (hh t.val * 1024 + d), by omega⟩) := by
  unfold bb ss hh
  blk_point [iblk, V, idx t]

theorem k_at (c : Dev nD) (t : Fin cfg0.N) (k : Fin 256) (d : Fin 1024) : (iblk m c 1 t : Vec Ideal S256x1024 .bf16) (ix2 k d)
    = aW m c (ix2 (n0 := 1024) (n1 := 8192) ⟨bb t.val (lt t) * 256 + k, by omega⟩ ⟨hh t.val * 1024 + d, by omega⟩) := by
  unfold bb hh
  blk_point [iblk, V, idx t]

theorem v_at (c : Dev nD) (t : Fin cfg0.N) (k : Fin 256) (d : Fin 1024) : (iblk m c 2 t : Vec Ideal S256x1024 .bf16) (ix2 k d)
    = aW m c (ix2 (n0 := 1024) (n1 := 8192) ⟨bb t.val (lt t) * 256 + k, by omega⟩ ⟨4096 + (hh t.val * 1024 + d), by omega⟩) := by
  unfold bb hh
  blk_point [iblk, V, idx t]

theorem A_at (c : Dev nD) (t : Fin cfg0.N) (d : Fin 1024) : (iblk m c 3 t : Vec Ideal S1x1024 .f32) (ix2 0 d) = aA m c (ix2 0 d) := by
  refine (congrFun (V_A m c) _).trans (Eq.trans ?_ (twice_at (aA m c) d))
  blk_ext [idx t]

theorem B_at (c : Dev nD) (t : Fin cfg0.N) (d : Fin 1024) : (iblk m c 4 t : Vec Ideal S1x1024 .f32) (ix2 0 d) = aB m c (ix2 0 d) := by
  refine (congrFun (V_B m c) _).trans (Eq.trans ?_ (twice_at (aB m c) d))
  blk_ext [idx t]

/-! ## The normalized keys -/

/-- The normalized keys of a batch row and a head. -/
def key (c : Dev nD) (b h : Fin 4) (k : Fin 256) (d : Fin 1024) : EReal :=
  nrm (Ideal.ofBits .f32 0x44800000#32) (fun d : Fin 1024 => aW m c (ix2 (n0 := 1024) (n1 := 8192) ⟨b * 256 + k, by omega⟩ ⟨h * 1024 + d, by omega⟩)) d
    * aB m c (ix2 0 d)

/-- After every point, the scratch array holds the normalized keys of the point's batch row and head. -/
theorem scr_at (c : Dev nD) : ∀ (n : ℕ) (hn : n < cfg0.N) (h : n < 128) (k : Fin 256) (d : Fin 1024),
    (outsAt0 m c n hn).2 (ix2 k d) = key m c (bb n h) (hh n) k d := by
  intro n
  induction n with
  | zero =>
    intro hn h k d
    refine (congrFun (scr_A m c ⟨0, hn⟩ rfl) _).trans ((keys_at _ _ _ _).trans ?_)
    unfold key
    refine congrArg₂ (· * ·) (congrArg (nrm _ · d) (funext fun d => ?_)) (B_at m c _ d)
    exact k_at m c ⟨0, hn⟩ k d
  | succ n ih =>
    intro hn h k d
    by_cases h8 : (n + 1) % 8 = 0
    · refine (congrFun (scr_A m c ⟨n + 1, hn⟩ h8) _).trans ((keys_at _ _ _ _).trans ?_)
      unfold key
      refine congrArg₂ (· * ·) (congrArg (nrm _ · d) (funext fun d => ?_)) (B_at m c _ d)
      exact k_at m c ⟨n + 1, hn⟩ k d
    · refine (congrFun (scr_B m c ⟨n + 1, hn⟩ h8) _).trans ((ih (Nat.lt_of_succ_lt hn) (by omega) k d).trans ?_)
      have e1 : bb n (by omega) = bb (n + 1) h := Fin.ext (by show n / 32 = (n + 1) / 32; omega)
      have e2 : hh n = hh (n + 1) := Fin.ext (by show n / 8 % 4 = (n + 1) / 8 % 4; omega)
      rw [e1, e2]

/-! ## The whole array -/

/-- Where entry `(p, l)` of grid point `t`'s block lies in the result. -/
theorem emb_0 (t : Fin cfg0.N) (p : Fin 512) (l : Fin 1024) :
    (((win0_5.rect t).emb (ix2 p l) 0 : Fin _) : Nat) = (bb t.val (lt t) : ℕ) * 4096 + ss t.val p := by
  have h := Pipeline.Window.rect_emb_val_off win0_5 t (ix2 p l) (0 : Fin 2)
  rw [h, (idx t).2.2.2.2.2]
  show (t.val / 32 * 8 + t.val % 8) * 512 + (p : ℕ) = t.val / 32 * 4096 + (t.val % 8 * 512 + p)
  omega

theorem emb_1 (t : Fin cfg0.N) (p : Fin 512) (l : Fin 1024) :
    (((win0_5.rect t).emb (ix2 p l) 1 : Fin _) : Nat) = (hh t.val : ℕ) * 1024 + l := by
  have h := Pipeline.Window.rect_emb_val_off win0_5 t (ix2 p l) (1 : Fin 2)
  rw [h, (idx t).2.2.2.2.2]; rfl

/-- What grid point `t` leaves at entry `(p, l)` of its block is the reference at the place of that entry. -/
theorem point (c : Dev nD) (hA : ∀ i, ∃ x : ℝ, (aA m c i : EReal) = x) (hB : ∀ i, ∃ x : ℝ, (aB m c i : EReal) = x) (t : Fin cfg0.N) (p : Fin 512) (l : Fin 1024) :
    (outsAt0 m c t.val t.isLt).1 (ix2 p l) = REF (aX m c) (aW m c) (aA m c) (aB m c) ((win0_5.rect t).emb (ix2 p l)) := by
  have h0 := emb_0 t p l
  have h1 := emb_1 t p l
  revert h0 h1
  generalize (win0_5.rect t).emb (ix2 p l) = i
  intro h0 h1
  obtain ⟨i0, i1, rfl⟩ := exists_ix2 (m := 16384) (n := 4096) i
  rw [ref_at (bb t.val (lt t)) (hh t.val) (ss t.val p) _ _ _ _ l i0 i1 h0 h1]
  refine (congrFun (Pays.out_at m c t) _).trans (pay2_at _ _ _ _ p l _ _ (fun k => ?_) (fun k => sco_real _ _ _ _ hA hB _ _ _ k) fun k => v_at m c t k l)
  unfold sco
  have e1 := funext fun d => q_at m c t p d
  have e2 := funext fun d => A_at m c t d
  have e3 := funext fun d => scr_at m c t.val t.isLt (lt t) k d
  exact (congrArg (score · _ _) e1).trans ((congrArg (score _ · _) e2).trans (congrArg (score _ _) e3))

/-- The result array after the run is the reference's term of the arguments, for real gains. -/
theorem final (c : Dev nD) (hA : ∀ i, ∃ x : ℝ, (aA m c i : EReal) = x) (hB : ∀ i, ∃ x : ℝ, (aB m c i : EReal) = x) :
    (dats m 0 c).arrAt 5 (cfgs 0).N = REF (aX m c) (aW m c) (aA m c) (aB m c) := by
  refine (dats m 0 c).arrAt_eq_of_covers 5 _ (by decide +kernel) fun t _ y => ?_
  blk_simp
  rw [after0_5]
  obtain ⟨p, l, hy⟩ := exists_ix2 (m := 512) (n := 1024) y
  rw [hy]
  exact point m c hA hB t p l

end Cert.MemAttnIdeal.MemAttnValue

end
-- ==== Proof.QProjPays.lean ====
module

public import proofs.«01_k».proof.Proof.Gen.QProjIdeal.Value
public import Idealize.ShloMosaic.Lib.Pipeline.ValueKit
public import proofs.«01_k».proof.Proof.Rope

/-! The queries' kernel at one grid point: what the body stores for one head, and the eight heads together.

The body goes through its eight heads one after another and stores two pieces per head: the 128 entries that are
only normalized and the 64 that are also rotated. The heads' pieces are the same function of the head's columns. -/

@[expose] public section

set_option maxRecDepth 16384

noncomputable section

open Idealize.ShloMosaic Idealize.ShloMosaic.TcCoe Idealize.SL.Sem
open Idealize.ShloMosaic.Pipeline (Dat)

namespace Cert.QProjIdeal.Pays

open Cert.QProjIdeal Cert.QProjIdeal.Gen Cert.Rope

/-- The scale of the scores, as the kernel's literal. -/
abbrev SC : EReal := Ideal.ofBits .f32 0x3DD53B95#32

/-- The normalized latent at a row and a column. -/
theorem latent_at (X : FVec Ideal S512x1024 .bf16) (G : FVec Ideal S1x1024 .f32) (p : Fin 512) (k : Fin 1024) :
    k0_pay3 (F := Ideal) X G (ix2 p k)
      = nrm (Ideal.ofBits .f32 0x44800000#32) (fun k : Fin 1024 => X (ix2 p k)) k * G (ix2 0 k) := by
  unfold nrm
  pointwise [k0_pay3]

/-- The cosine at a row and a column. -/
theorem cos_at (P : IVec S512x1 32) (I : FVec Ideal S1x128 .f32) (p : Fin 512) (k : Fin 128) :
    k0_pay5 (F := Ideal) P I (ix2 p k)
      = Ideal.cos (FloatOps.sitofp (F := Ideal) .f32 (P (ix2 p 0)) * I (ix2 0 k)) := by
  pointwise [k0_pay5, k0_pay4]

/-- The sine, with its sign, at a row and a column. -/
theorem sin_at (P : IVec S512x1 32) (I N : FVec Ideal S1x128 .f32) (p : Fin 512) (k : Fin 128) :
    k0_pay7 (F := Ideal) (k0_pay6 (F := Ideal) P I N) (ix2 p k)
      = Ideal.sin (FloatOps.sitofp (F := Ideal) .f32 (P (ix2 p 0)) * I (ix2 0 k)) * N (ix2 0 k) := by
  pointwise [k0_pay7, k0_pay6, k0_pay4]

/-- A head's piece that is only normalized. -/
def nopeB (A : FVec Ideal S512x1024 .bf16) (B : FVec Ideal S1024x256 .bf16) (G : FVec Ideal S1x128 .f32) : FVec Ideal S1x1x512x128 .bf16 :=
  k0_pay13 (k0_pay9 A B G)

/-- A head's piece that is also rotated. -/
def ropeB (A : FVec Ideal S512x1024 .bf16) (B : FVec Ideal S1024x256 .bf16) (G : FVec Ideal S1x128 .f32) (C S : FVec Ideal S512x128 .f32) :
    FVec Ideal S1x1x512x64 .bf16 :=
  k0_pay14 (k0_pay10 A B) (k0_pay11 G) C S (k0_pay12 A B)

theorem nopeB_at (A B G x) : nopeB A B G x
    = nrm (Ideal.ofBits .f32 0x43000000#32) (fun j : Fin 128 => ∑ k : Fin 1024, A (ix2 (n0 := 512) (x 2) k) * B (ix2 (n1 := 256) k ⟨j, by omega⟩)) (x 3)
      * G (ix2 0 (x 3)) * SC := by
  unfold nrm nopeB
  pointwise [k0_pay13, k0_pay9, k0_pay8]

theorem ropeB_at (A B G C S x) : ropeB A B G C S x
    = (nrm (Ideal.ofBits .f32 0x43000000#32) (fun j : Fin 128 => ∑ k : Fin 1024, A (ix2 (n0 := 512) (x 2) k) * B (ix2 (n1 := 256) k ⟨128 + j, by omega⟩))
          ⟨x 3, by have := (x 3).isLt; change _ < 64 at this; omega⟩ * G (ix2 (n1 := 128) 0 ⟨x 3, by have := (x 3).isLt; change _ < 64 at this; omega⟩)
        * C (ix2 (n0 := 512) (n1 := 128) (x 2) ⟨x 3, by have := (x 3).isLt; change _ < 64 at this; omega⟩)
      + nrm (Ideal.ofBits .f32 0x43000000#32) (fun j : Fin 128 => ∑ k : Fin 1024, A (ix2 (n0 := 512) (x 2) k) * B (ix2 (n1 := 256) k ⟨128 + j, by omega⟩))
          ⟨(x 3 : ℕ) + 64, by have := (x 3).isLt; change _ < 64 at this; omega⟩ * G (ix2 (n1 := 128) 0 ⟨(x 3 : ℕ) + 64, by have := (x 3).isLt; change _ < 64 at this; omega⟩)
        * S (ix2 (n0 := 512) (n1 := 128) (x 2) ⟨x 3, by have := (x 3).isLt; change _ < 64 at this; omega⟩)) * SC := by
  unfold nrm ropeB
  pointwise [k0_pay14, k0_pay10, k0_pay11, k0_pay12, k0_pay8]
  have hx := (x 3).isLt
  change _ < 64 at hx
  simp only [show ((x 3 : ℕ) + 128 - 64) % 128 = x 3 + 64 from by omega]

end Cert.QProjIdeal.Pays

end
-- ==== Proof.QProjHeads.lean ====
module

public import proofs.«01_k».proof.Proof.QProjPays

/-! What the queries' kernel leaves in its block and in its three scratch arrays after a grid point. -/

@[expose] public section

set_option maxRecDepth 16384

noncomputable section

open Idealize.ShloMosaic Idealize.ShloMosaic.TcCoe Idealize.SL.Sem
open Idealize.ShloMosaic.Pipeline (Dat)

namespace Cert.QProjIdeal.Pays

open Cert.QProjIdeal Cert.QProjIdeal.Gen Cert.Rope

/-- Column `n` of the product of the latent's row `p` with the weight's block. -/
def dotc (A : FVec Ideal S512x1024 .bf16) (B : FVec Ideal S1024x2048 .bf16) (p : Fin 512) (n : ℕ) (hn : n < 2048) : EReal :=
  ∑ k : Fin 1024, A (ix2 p k) * B (ix2 k ⟨n, hn⟩)

/-- The slab of head `g` that is rotated, 128 entries from column `g * 256 + 128` on. -/
def slab (A : FVec Ideal S512x1024 .bf16) (B : FVec Ideal S1024x2048 .bf16) (g : Fin 8) (p : Fin 512) (j : Fin 128) : EReal :=
  dotc A B p (g * 256 + 128 + j) (by omega)

/-- The entries of head `g` that are only normalized. -/
def flat (A : FVec Ideal S512x1024 .bf16) (B : FVec Ideal S1024x2048 .bf16) (g : Fin 8) (p : Fin 512) (j : Fin 128) : EReal :=
  dotc A B p (g * 256 + j) (by omega)

/-- What the block holds at head `g`, row `p` and entry `j`. -/
def HEAD (A : FVec Ideal S512x1024 .bf16) (B : FVec Ideal S1024x2048 .bf16) (G : FVec Ideal S1x256 .f32) (C S : FVec Ideal S512x128 .f32)
    (g : Fin 8) (p : Fin 512) (j : Fin 192) : EReal :=
  if h : (j : ℕ) < 128 then nrm (Ideal.ofBits .f32 0x43000000#32) (flat A B g p) ⟨j, h⟩ * G (ix2 (n1 := 256) 0 ⟨j, by omega⟩) * SC
  else (nrm (Ideal.ofBits .f32 0x43000000#32) (slab A B g p) ⟨j - 128, by omega⟩ * G (ix2 (n1 := 256) 0 ⟨128 + (j - 128), by omega⟩) * C (ix2 (n1 := 128) p ⟨j - 128, by omega⟩)
    + nrm (Ideal.ofBits .f32 0x43000000#32) (slab A B g p) ⟨j - 128 + 64, by omega⟩ * G (ix2 (n1 := 256) 0 ⟨128 + (j - 128 + 64), by omega⟩) * S (ix2 (n1 := 128) p ⟨j - 128, by omega⟩)) * SC

/-- A load of a head's 256 columns. -/
def colsB (B : Vec Ideal S1024x2048 .bf16) (o : ℕ) (i : ∀ a, (![0, o] : Fin 2 → Nat) a + S1024x256.size a ≤ S1024x2048.size a) : Vec Ideal S1024x256 .bf16 :=
  View.ld B (Rect.unit (s := S1024x2048) ![0, o] ![1024, 256] i)

/-- A load of a half of the gains. -/
def colsG (G : Vec Ideal S1x256 .f32) (o : ℕ) (i : ∀ a, (![0, o] : Fin 2 → Nat) a + S1x128.size a ≤ S1x256.size a) : Vec Ideal S1x128 .f32 :=
  View.ld G (Rect.unit (s := S1x256) ![0, o] ![1, 128] i)

theorem ldB (B : Vec Ideal S1024x2048 .bf16) (o : ℕ) (i) (k : Fin 1024) (j : Fin 256) (hn : o + j < 2048) :
    colsB B o i (ix2 k j) = B (ix2 k ⟨o + j, hn⟩) := by
  refine View.ld_unit_apply_of _ _ _ _ _ _ fun a => ?_
  fin_cases a
  · exact (Nat.zero_add _).symm
  · rfl

theorem ldG (G : Vec Ideal S1x256 .f32) (o : ℕ) (i) (j : Fin 128) (hn : o + j < 256) :
    colsG G o i (ix2 0 j) = G (ix2 0 ⟨o + j, hn⟩) := by
  refine View.ld_unit_apply_of _ _ _ _ _ _ fun a => ?_
  fin_cases a
  · rfl
  · rfl

/-- A head's first piece is the block's value there. -/
theorem nope_piece (A B G C S) (g : Fin 8) (i i') (x : S1x1x512x128.Idx) (y : S1x8x512x192.Idx)
    (h1 : (y 1 : ℕ) = g + (x 1 : ℕ)) (h2 : (y 2 : ℕ) = (x 2 : ℕ)) (h3 : (y 3 : ℕ) = (x 3 : ℕ)) :
    nopeB A (colsB B (g * 256) i)
      (colsG G 0 i') x = HEAD A B G C S (y 1) (y 2) (y 3) := by
  have b1 := (x 1).isLt
  change _ < 1 at b1
  have b3 := (x 3).isLt
  change _ < 128 at b3
  have e1 : (y 1) = g := Fin.ext (by omega)
  have e2 : (y 2) = (x 2) := Fin.ext h2
  rw [nopeB_at, e1, e2]
  unfold HEAD
  rw [dif_pos (by omega)]
  refine congrArg₂ (· * ·) (congrArg₂ (· * ·) ?_ ?_) rfl
  · have e : (fun j : Fin 128 => ∑ k : Fin 1024, A (ix2 (n0 := 512) (x 2) k) * colsB B (g * 256) i (ix2 (n1 := 256) k ⟨j, by omega⟩))
        = flat A B g (x 2) := funext fun j => Finset.sum_congr rfl fun k _ => congrArg (_ * ·) (ldB B (g * 256) i k ⟨j, by omega⟩ (by show g * 256 + (j : ℕ) < 2048; omega))
    rw [e]
    exact congrArg (nrm _ _) (Fin.ext h3.symm)
  · refine (ldG G 0 i' (x 3) (by omega)).trans (congrArg (fun j => G (ix2 0 j)) (Fin.ext ?_))
    show 0 + (x 3 : ℕ) = y 3
    omega

/-- A head's second piece is the block's value there. -/
theorem rope_piece (A B G C S) (g : Fin 8) (i i') (x : S1x1x512x64.Idx) (y : S1x8x512x192.Idx)
    (h1 : (y 1 : ℕ) = g + (x 1 : ℕ)) (h2 : (y 2 : ℕ) = (x 2 : ℕ)) (h3 : (y 3 : ℕ) = 128 + (x 3 : ℕ)) :
    ropeB A (colsB B (g * 256) i)
      (colsG G 128 i') C S x = HEAD A B G C S (y 1) (y 2) (y 3) := by
  have b1 := (x 1).isLt
  change _ < 1 at b1
  have b3 := (x 3).isLt
  change _ < 64 at b3
  have e1 : (y 1) = g := Fin.ext (by omega)
  have e2 : (y 2) = (x 2) := Fin.ext h2
  have e3 : (y 3 : ℕ) - 128 = x 3 := by omega
  rw [ropeB_at, e1, e2]
  unfold HEAD
  rw [dif_neg (by omega)]
  have e : (fun j : Fin 128 => ∑ k : Fin 1024, A (ix2 (n0 := 512) (x 2) k) * colsB B (g * 256) i (ix2 (n1 := 256) k ⟨128 + j, by omega⟩))
      = slab A B g (x 2) := funext fun j => Finset.sum_congr rfl fun k _ => congrArg (_ * ·)
        ((ldB B (g * 256) i k ⟨128 + j, by omega⟩ (by show g * 256 + (128 + (j : ℕ)) < 2048; omega)).trans (congrArg (fun n => B (ix2 k n)) (Fin.ext (Nat.add_assoc _ _ _).symm)))
  rw [e]
  refine congrArg₂ (· * ·) (congrArg₂ (· + ·) (congrArg₂ (· * ·) (congrArg₂ (· * ·) ?_ ?_) ?_) (congrArg₂ (· * ·) (congrArg₂ (· * ·) ?_ ?_) ?_)) rfl
  · exact congrArg (nrm _ _) (Fin.ext e3.symm)
  · exact (ldG G 128 i' ⟨x 3, by omega⟩ (by show 128 + (x 3 : ℕ) < 256; omega)).trans (congrArg (fun j => G (ix2 0 j)) (Fin.ext (by show 128 + (x 3 : ℕ) = 128 + ((y 3 : ℕ) - 128); omega)))
  · exact congrArg (fun j => C (ix2 _ j)) (Fin.ext e3.symm)
  · exact congrArg (nrm _ _) (Fin.ext (by show (x 3 : ℕ) + 64 = (y 3 : ℕ) - 128 + 64; omega))
  · exact (ldG G 128 i' ⟨(x 3 : ℕ) + 64, by omega⟩ (by show 128 + ((x 3 : ℕ) + 64) < 256; omega)).trans (congrArg (fun j => G (ix2 0 j)) (Fin.ext (by show 128 + ((x 3 : ℕ) + 64) = 128 + ((y 3 : ℕ) - 128 + 64); omega)))
  · exact congrArg (fun j => S (ix2 _ j)) (Fin.ext e3.symm)

/-- The sixteen stores of a point, the last first. -/
def pieces (A : Vec Ideal S512x1024 .bf16) (B : Vec Ideal S1024x2048 .bf16) (G : Vec Ideal S1x256 .f32) (C S : Vec Ideal S512x128 .f32) :
    List (View.Piece (Elt Ideal) S1x8x512x192 .bf16) :=
  [
   ⟨Rect.unit (s := S1x8x512x192) ![0, 7, 0, 128] ![1, 1, 512, 64] inb_S1x8x512x192_S1x1x512x64_0_7_0_128,
      ropeB A (colsB B 1792 inb_S1024x2048_S1024x256_0_1792) (colsG G 128 inb_S1x256_S1x128_0_128) C S⟩,
   ⟨Rect.unit (s := S1x8x512x192) ![0, 7, 0, 0] ![1, 1, 512, 128] inb_S1x8x512x192_S1x1x512x128_0_7_0_0,
      nopeB A (colsB B 1792 inb_S1024x2048_S1024x256_0_1792) (colsG G 0 inb_S1x256_S1x128_0_0)⟩,
   ⟨Rect.unit (s := S1x8x512x192) ![0, 6, 0, 128] ![1, 1, 512, 64] inb_S1x8x512x192_S1x1x512x64_0_6_0_128,
      ropeB A (colsB B 1536 inb_S1024x2048_S1024x256_0_1536) (colsG G 128 inb_S1x256_S1x128_0_128) C S⟩,
   ⟨Rect.unit (s := S1x8x512x192) ![0, 6, 0, 0] ![1, 1, 512, 128] inb_S1x8x512x192_S1x1x512x128_0_6_0_0,
      nopeB A (colsB B 1536 inb_S1024x2048_S1024x256_0_1536) (colsG G 0 inb_S1x256_S1x128_0_0)⟩,
   ⟨Rect.unit (s := S1x8x512x192) ![0, 5, 0, 128] ![1, 1, 512, 64] inb_S1x8x512x192_S1x1x512x64_0_5_0_128,
      ropeB A (colsB B 1280 inb_S1024x2048_S1024x256_0_1280) (colsG G 128 inb_S1x256_S1x128_0_128) C S⟩,
   ⟨Rect.unit (s := S1x8x512x192) ![0, 5, 0, 0] ![1, 1, 512, 128] inb_S1x8x512x192_S1x1x512x128_0_5_0_0,
      nopeB A (colsB B 1280 inb_S1024x2048_S1024x256_0_1280) (colsG G 0 inb_S1x256_S1x128_0_0)⟩,
   ⟨Rect.unit (s := S1x8x512x192) ![0, 4, 0, 128] ![1, 1, 512, 64] inb_S1x8x512x192_S1x1x512x64_0_4_0_128,
      ropeB A (colsB B 1024 inb_S1024x2048_S1024x256_0_1024) (colsG G 128 inb_S1x256_S1x128_0_128) C S⟩,
   ⟨Rect.unit (s := S1x8x512x192) ![0, 4, 0, 0] ![1, 1, 512, 128] inb_S1x8x512x192_S1x1x512x128_0_4_0_0,
      nopeB A (colsB B 1024 inb_S1024x2048_S1024x256_0_1024) (colsG G 0 inb_S1x256_S1x128_0_0)⟩,
   ⟨Rect.unit (s := S1x8x512x192) ![0, 3, 0, 128] ![1, 1, 512, 64] inb_S1x8x512x192_S1x1x512x64_0_3_0_128,
      ropeB A (colsB B 768 inb_S1024x2048_S1024x256_0_768) (colsG G 128 inb_S1x256_S1x128_0_128) C S⟩,
   ⟨Rect.unit (s := S1x8x512x192) ![0, 3, 0, 0] ![1, 1, 512, 128] inb_S1x8x512x192_S1x1x512x128_0_3_0_0,
      nopeB A (colsB B 768 inb_S1024x2048_S1024x256_0_768) (colsG G 0 inb_S1x256_S1x128_0_0)⟩,
   ⟨Rect.unit (s := S1x8x512x192) ![0, 2, 0, 128] ![1, 1, 512, 64] inb_S1x8x512x192_S1x1x512x64_0_2_0_128,
      ropeB A (colsB B 512 inb_S1024x2048_S1024x256_0_512) (colsG G 128 inb_S1x256_S1x128_0_128) C S⟩,
   ⟨Rect.unit (s := S1x8x512x192) ![0, 2, 0, 0] ![1, 1, 512, 128] inb_S1x8x512x192_S1x1x512x128_0_2_0_0,
      nopeB A (colsB B 512 inb_S1024x2048_S1024x256_0_512) (colsG G 0 inb_S1x256_S1x128_0_0)⟩,
   ⟨Rect.unit (s := S1x8x512x192) ![0, 1, 0, 128] ![1, 1, 512, 64] inb_S1x8x512x192_S1x1x512x64_0_1_0_128,
      ropeB A (colsB B 256 inb_S1024x2048_S1024x256_0_256) (colsG G 128 inb_S1x256_S1x128_0_128) C S⟩,
   ⟨Rect.unit (s := S1x8x512x192) ![0, 1, 0, 0] ![1, 1, 512, 128] inb_S1x8x512x192_S1x1x512x128_0_1_0_0,
      nopeB A (colsB B 256 inb_S1024x2048_S1024x256_0_256) (colsG G 0 inb_S1x256_S1x128_0_0)⟩,
   ⟨Rect.unit (s := S1x8x512x192) ![0, 0, 0, 128] ![1, 1, 512, 64] inb_S1x8x512x192_S1x1x512x64_0_0_0_128,
      ropeB A (colsB B 0 inb_S1024x2048_S1024x256_0_0) (colsG G 128 inb_S1x256_S1x128_0_128) C S⟩,
   ⟨Rect.unit (s := S1x8x512x192) ![0, 0, 0, 0] ![1, 1, 512, 128] inb_S1x8x512x192_S1x1x512x128_0_0_0_0,
      nopeB A (colsB B 0 inb_S1024x2048_S1024x256_0_0) (colsG G 0 inb_S1x256_S1x128_0_0)⟩]

/-- The sixteen stores fill the block with the heads' values. -/
theorem heads (A B G C S) (y : S1x8x512x192.Idx) : View.canon (pieces A B G C S) y = HEAD A B G C S (y 1) (y 2) (y 3) := by
  unfold pieces
  canon_tiles x hx using View.cover_of_tiledBy _ ![1, 1, 512, 64] (by sl_kernel_rfl) y
  · exact rope_piece A B G C S 7 inb_S1024x2048_S1024x256_0_1792 inb_S1x256_S1x128_0_128 x y (by first | exact hx1 | exact hx1.trans (Nat.zero_add _).symm) hx2 hx3
  · exact nope_piece A B G C S 7 inb_S1024x2048_S1024x256_0_1792 inb_S1x256_S1x128_0_0 x y (by first | exact hx1 | exact hx1.trans (Nat.zero_add _).symm) hx2 hx3
  · exact rope_piece A B G C S 6 inb_S1024x2048_S1024x256_0_1536 inb_S1x256_S1x128_0_128 x y (by first | exact hx1 | exact hx1.trans (Nat.zero_add _).symm) hx2 hx3
  · exact nope_piece A B G C S 6 inb_S1024x2048_S1024x256_0_1536 inb_S1x256_S1x128_0_0 x y (by first | exact hx1 | exact hx1.trans (Nat.zero_add _).symm) hx2 hx3
  · exact rope_piece A B G C S 5 inb_S1024x2048_S1024x256_0_1280 inb_S1x256_S1x128_0_128 x y (by first | exact hx1 | exact hx1.trans (Nat.zero_add _).symm) hx2 hx3
  · exact nope_piece A B G C S 5 inb_S1024x2048_S1024x256_0_1280 inb_S1x256_S1x128_0_0 x y (by first | exact hx1 | exact hx1.trans (Nat.zero_add _).symm) hx2 hx3
  · exact rope_piece A B G C S 4 inb_S1024x2048_S1024x256_0_1024 inb_S1x256_S1x128_0_128 x y (by first | exact hx1 | exact hx1.trans (Nat.zero_add _).symm) hx2 hx3
  · exact nope_piece A B G C S 4 inb_S1024x2048_S1024x256_0_1024 inb_S1x256_S1x128_0_0 x y (by first | exact hx1 | exact hx1.trans (Nat.zero_add _).symm) hx2 hx3
  · exact rope_piece A B G C S 3 inb_S1024x2048_S1024x256_0_768 inb_S1x256_S1x128_0_128 x y (by first | exact hx1 | exact hx1.trans (Nat.zero_add _).symm) hx2 hx3
  · exact nope_piece A B G C S 3 inb_S1024x2048_S1024x256_0_768 inb_S1x256_S1x128_0_0 x y (by first | exact hx1 | exact hx1.trans (Nat.zero_add _).symm) hx2 hx3
  · exact rope_piece A B G C S 2 inb_S1024x2048_S1024x256_0_512 inb_S1x256_S1x128_0_128 x y (by first | exact hx1 | exact hx1.trans (Nat.zero_add _).symm) hx2 hx3
  · exact nope_piece A B G C S 2 inb_S1024x2048_S1024x256_0_512 inb_S1x256_S1x128_0_0 x y (by first | exact hx1 | exact hx1.trans (Nat.zero_add _).symm) hx2 hx3
  · exact rope_piece A B G C S 1 inb_S1024x2048_S1024x256_0_256 inb_S1x256_S1x128_0_128 x y (by first | exact hx1 | exact hx1.trans (Nat.zero_add _).symm) hx2 hx3
  · exact nope_piece A B G C S 1 inb_S1024x2048_S1024x256_0_256 inb_S1x256_S1x128_0_0 x y (by first | exact hx1 | exact hx1.trans (Nat.zero_add _).symm) hx2 hx3
  · exact rope_piece A B G C S 0 inb_S1024x2048_S1024x256_0_0 inb_S1x256_S1x128_0_128 x y (by first | exact hx1 | exact hx1.trans (Nat.zero_add _).symm) hx2 hx3
  · exact nope_piece A B G C S 0 inb_S1024x2048_S1024x256_0_0 inb_S1x256_S1x128_0_0 x y (by first | exact hx1 | exact hx1.trans (Nat.zero_add _).symm) hx2 hx3

section

variable (A : Vec Ideal S512x1024 .bf16) (B : Vec Ideal S1024x256 .bf16) (G : Vec Ideal S1x128 .f32) (C S : Vec Ideal S512x128 .f32)

/-! Every head's pieces are the first head's. -/

theorem r0 : k0_pay14 (k0_pay10 A B) (k0_pay11 G) C S (k0_pay12 A B) = ropeB A B G C S := rfl
theorem n0 : k0_pay13 (k0_pay9 A B G) = nopeB A B G := rfl
theorem r1 : k0_pay19 (k0_pay15 A B) G C S = ropeB A B G C S := rfl
theorem n1 : k0_pay18 (k0_pay16 A B) (k0_pay17 G) = nopeB A B G := rfl
theorem r2 : k0_pay25 (k0_pay22 A B G C S) = ropeB A B G C S := rfl
theorem n2 : k0_pay24 (k0_pay21 A B G) k0_pay23 = nopeB A B G := rfl
theorem r3 : k0_pay31 (k0_pay28 A B) (k0_pay29 G) C S = ropeB A B G C S := rfl
theorem n3 : k0_pay30 (k0_pay27 A B G) = nopeB A B G := rfl
theorem r4 : k0_pay37 (k0_pay35 (k0_pay32 A B) G C S) = ropeB A B G C S := rfl
theorem n4 : k0_pay36 (k0_pay33 A B) (k0_pay34 A B) G = nopeB A B G := rfl
theorem r5 : k0_pay44 (k0_pay40 A B) (k0_pay41 G) C S (k0_pay42 A B) = ropeB A B G C S := rfl
theorem n5 : k0_pay43 (k0_pay39 A B G) = nopeB A B G := rfl
theorem r6 : k0_pay50 (k0_pay49 (k0_pay45 A B) G C S) = ropeB A B G C S := rfl
theorem n6 : k0_pay48 (k0_pay46 A B) (k0_pay47 A B) G = nopeB A B G := rfl
theorem r7 : k0_pay2 S (k0_pay53 A B G) (k0_pay54 A B G C) 64#32 = ropeB A B G C S := rfl
theorem n7 : k0_pay1 (k0_pay52 A B G) = nopeB A B G := rfl

end

variable (m : (ℓ : Loc nD τ sig) → Buf (Elt Ideal) ℓ)

/-- The scratch arrays after a first point of a block of rows. -/
theorem scr0_A (c : Dev nD) (t : Fin cfg0.N) (h : t.val % 4 = 0) :
    (outsAt0 m c t.val t.isLt).2.1 = k0_pay3 (F := Ideal) (X0_0 m c t) (iblk m c 4 t) := by
  funext y; rw [outsAt0_A m c t h]; frame_out

theorem scr1_A (c : Dev nD) (t : Fin cfg0.N) (h : t.val % 4 = 0) :
    (outsAt0 m c t.val t.isLt).2.2.1 = k0_pay5 (F := Ideal) (iblk m c 1 t) (iblk m c 2 t) := by
  funext y; rw [outsAt0_A m c t h]; frame_out

theorem scr2_A (c : Dev nD) (t : Fin cfg0.N) (h : t.val % 4 = 0) :
    (outsAt0 m c t.val t.isLt).2.2.2 = k0_pay7 (F := Ideal) (k0_pay6 (F := Ideal) (iblk m c 1 t) (iblk m c 2 t) (iblk m c 3 t)) := by
  funext y; rw [outsAt0_A m c t h]; frame_out

/-- The scratch arrays after another point: what the point before left. -/
theorem scr_B (c : Dev nD) (t : Fin cfg0.N) (h : ¬ t.val % 4 = 0) :
    (outsAt0 m c t.val t.isLt).2 = (outsAt0 m c (t.val - 1) (Nat.lt_of_le_of_lt (Nat.sub_le _ _) t.isLt)).2 := by
  rw [outsAt0_B m c t h]; rfl

/-- The block after a point, over the scratch arrays the point leaves. -/
theorem out_at (c : Dev nD) (t : Fin cfg0.N) (y) :
    (outsAt0 m c t.val t.isLt).1 y = HEAD (outsAt0 m c t.val t.isLt).2.1 (iblk m c 6 t) (iblk m c 5 t)
      (outsAt0 m c t.val t.isLt).2.2.1 (outsAt0 m c t.val t.isLt).2.2.2 (y 1) (y 2) (y 3) := by
  by_cases h : t.val % 4 = 0
  · rw [scr0_A m c t h, scr1_A m c t h, scr2_A m c t h, outsAt0_A m c t h]; frame_out
    rw [r7, n7, r6, n6, r5, n5, r4, n4, r3, n3, r2, n2, r1, n1, r0, n0]
    exact heads (k0_pay3 (F := Ideal) (X0_0 m c t) (iblk m c 4 t)) (iblk m c 6 t) (iblk m c 5 t) (k0_pay5 (F := Ideal) (iblk m c 1 t) (iblk m c 2 t)) (k0_pay7 (F := Ideal) (k0_pay6 (F := Ideal) (iblk m c 1 t) (iblk m c 2 t) (iblk m c 3 t))) y
  · rw [scr_B m c t h, outsAt0_B m c t h]; frame_out
    rw [(Memref.isWhole_whole cc0_scratch0).read_unread, (Memref.isWhole_whole cc0_scratch1).read_unread, (Memref.isWhole_whole cc0_scratch2).read_unread]
    rw [r7, n7, r6, n6, r5, n5, r4, n4, r3, n3, r2, n2, r1, n1, r0, n0]
    exact heads ((outsAt0 m c (t.val - 1) (Nat.lt_of_le_of_lt (Nat.sub_le _ _) t.isLt)).2.1) (iblk m c 6 t) (iblk m c 5 t) ((outsAt0 m c (t.val - 1) (Nat.lt_of_le_of_lt (Nat.sub_le _ _) t.isLt)).2.2.1) (outsAt0 m c (t.val - 1) (Nat.lt_of_le_of_lt (Nat.sub_le _ _) t.isLt)).2.2.2 y

end Cert.QProjIdeal.Pays

end
-- ==== Proof.QProjRef.lean ====
module

public import proofs.«01_k».proof.Proof.Gen.QProjRefIdeal.Run
public import Idealize.ShloMosaic.Lib.Pipeline.ValueKit
public import proofs.«01_k».proof.Proof.Rope

/-! The queries' reference, stage by stage, at an index: the normalized latent, its product with the weight, the
heads' norms, the rotation of the last 64 entries of every head, the scale. -/

@[expose] public section

set_option maxRecDepth 16384

noncomputable section

open Idealize.ShloMosaic Idealize.ShloMosaic.TcCoe Idealize.SL.Sem

namespace Cert.QProjRefIdeal.QValue

open Cert.QProjRefIdeal Cert.QProjRefIdeal.Gen Cert.Rope

/-- The latent's columns, with the rows in their two axes. -/
def lat0 (X : FVec Ideal S16384x1664 .bf16) : FVec Ideal S4x4096x1024 .f32 :=
  shapeCast _ (extf .f32 (extractStridedSlice S16384x1024 ![0, 0] X slices_S16384x1664_S16384x1024_0_0) bitsLt_bf16_f32) shapeCasts_S16384x1024_S4x4096x1024

/-- The latent's norm. -/
def lat1 (x : FVec Ideal S4x4096x1024 .f32) (A : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32))))))
    (broadcastInDim S4x4096x1024 ![0, 1, 2] bcast_S1x1x1024_S4x4096x1024_0_1_2 (broadcastInDim S1x1x1024 ![2] bcast_S1024_S1x1x1024_2 (shapeCast _ A shapeCasts_S1x1024_S1024)))

/-- The heads' vectors. -/
def heads (l : FVec Ideal S4x4096x1024 .f32) (B : FVec Ideal S1x1024x6144 .f32) : FVec Ideal S4x4096x32x192 .f32 :=
  shapeCast _ (Host.dotGeneral dot_S4x4096x1024_S1024x6144_S4x4096x6144_2_0_01_1_n_n none l (shapeCast _ B shapeCasts_S1x1024x6144_S1024x6144)) shapeCasts_S4x4096x6144_S4x4096x32x192

/-- The angles' factors. -/
def invf : FVec Ideal S32 .f32 :=
  Host.powf (broadcastInDim S32 ![] bcast_S_S32 (constant (F := Ideal) S_ .f32 0x461C4000#32)) (Host.divf (Host.negf (addf (broadcastInDim S32 ![] bcast_S_S32 (constant (F := Ideal) S_ .f32 0x00000000#32)) (mulf (broadcastInDim S32 ![] bcast_S_S32 (constant (F := Ideal) S_ .f32 0x40000000#32)) (sitofp .f32 (iotaInDim S32 32 0))))) (broadcastInDim S32 ![] bcast_S_S32 (constant (F := Ideal) S_ .f32 0x42800000#32)))

/-- The angles. -/
def angles (W : IVec S4x4096 32) (v : FVec Ideal S32 .f32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 W)))
    (broadcastInDim S4x4096x32 ![0, 1, 2] bcast_S1x1x32_S4x4096x32_0_1_2 (broadcastInDim S1x1x32 ![2] bcast_S32_S1x1x32_2 v))

/-- A head's first 128 entries, normalized. -/
def nope (q : FVec Ideal S4x4096x32x128 .f32) (C : FVec Ideal S1x128 .f32) : FVec Ideal S4x4096x32x128 .f32 :=
  mulf (mulf q (broadcastInDim S4x4096x32x128 ![0, 1, 2, 3] bcast_S4x4096x32x1_S4x4096x32x128_0_1_2_3 (Host.rsqrt (addf (Host.divf (broadcastInDim S4x4096x32x1 ![0, 1, 2] bcast_S4x4096x32_S4x4096x32x1_0_1_2 (Host.reduceAdd (mulf q q) (constant (F := Ideal) S_ .f32 0x00000000#32) reducesTo_S4x4096x32x128_S4x4096x32_d3 h_S_)) (broadcastInDim S4x4096x32x1 ![] bcast_S_S4x4096x32x1 (constant (F := Ideal) S_ .f32 0x43000000#32))) (broadcastInDim S4x4096x32x1 ![] bcast_S_S4x4096x32x1 (constant (F := Ideal) S_ .f32 0x358637BD#32))))))
    (broadcastInDim S4x4096x32x128 ![0, 1, 2, 3] bcast_S1x1x1x128_S4x4096x32x128_0_1_2_3 (broadcastInDim S1x1x1x128 ![3] bcast_S128_S1x1x1x128_3 (shapeCast _ C shapeCasts_S1x128_S128)))

/-- A head's last 64 entries, normalized. -/
def rope (q : FVec Ideal S4x4096x32x64 .f32) (D : FVec Ideal S1x64 .f32) : FVec Ideal S4x4096x32x64 .f32 :=
  mulf (mulf q (broadcastInDim S4x4096x32x64 ![0, 1, 2, 3] bcast_S4x4096x32x1_S4x4096x32x64_0_1_2_3 (Host.rsqrt (addf (Host.divf (broadcastInDim S4x4096x32x1 ![0, 1, 2] bcast_S4x4096x32_S4x4096x32x1_0_1_2 (Host.reduceAdd (mulf q q) (constant (F := Ideal) S_ .f32 0x00000000#32) reducesTo_S4x4096x32x64_S4x4096x32_d3 h_S_)) (broadcastInDim S4x4096x32x1 ![] bcast_S_S4x4096x32x1 (constant (F := Ideal) S_ .f32 0x42800000#32))) (broadcastInDim S4x4096x32x1 ![] bcast_S_S4x4096x32x1 (constant (F := Ideal) S_ .f32 0x358637BD#32))))))
    (broadcastInDim S4x4096x32x64 ![0, 1, 2, 3] bcast_S1x1x1x64_S4x4096x32x64_0_1_2_3 (broadcastInDim S1x1x1x64 ![3] bcast_S64_S1x1x1x64_3 (shapeCast _ D shapeCasts_S1x64_S64)))

/-- A number per token and pair, the same for every head. -/
def toHeads (v : FVec Ideal S4x4096x32 .f32) : FVec Ideal S4x4096x32x32 .f32 :=
  broadcastInDim S4x4096x32x32 ![0, 1, 2, 3] bcast_S4x4096x1x32_S4x4096x32x32_0_1_2_3 (broadcastInDim S4x4096x1x32 ![0, 1, 3] bcast_S4x4096x32_S4x4096x1x32_0_1_3 v)

/-- The rotation. -/
def turn (r : FVec Ideal S4x4096x32x64 .f32) (c s : FVec Ideal S4x4096x32x32 .f32) : FVec Ideal S4x4096x32x64 .f32 :=
  concatenate S4x4096x32x64 3 [⟨S4x4096x32x32, (subf (mulf (extractStridedSlice S4x4096x32x32 ![0, 0, 0, 0] r slices_S4x4096x32x64_S4x4096x32x32_0_0_0_0) c) (mulf (extractStridedSlice S4x4096x32x32 ![0, 0, 0, 32] r slices_S4x4096x32x64_S4x4096x32x32_0_0_0_32) s))⟩,
    ⟨S4x4096x32x32, (addf (mulf (extractStridedSlice S4x4096x32x32 ![0, 0, 0, 32] r slices_S4x4096x32x64_S4x4096x32x32_0_0_0_32) c) (mulf (extractStridedSlice S4x4096x32x32 ![0, 0, 0, 0] r slices_S4x4096x32x64_S4x4096x32x32_0_0_0_0) s))⟩] concatenates_S4x4096x32x32_S4x4096x32x32_S4x4096x32x64_d3

/-- The two parts of every head together, scaled, the heads before the rows. -/
def fin (n : FVec Ideal S4x4096x32x128 .f32) (r : FVec Ideal S4x4096x32x64 .f32) : FVec Ideal S4x32x4096x192 .bf16 :=
  truncf .bf16 (transpose S4x32x4096x192 [0, 2, 1, 3] (mulf (concatenate S4x4096x32x192 3 [⟨S4x4096x32x128, n⟩, ⟨S4x4096x32x64, r⟩] concatenates_S4x4096x32x128_S4x4096x32x64_S4x4096x32x192_d3) (broadcastInDim S4x4096x32x192 ![] bcast_S_S4x4096x32x192 (constant (F := Ideal) S_ .f32 0x3DD53B95#32))) transposes_S4x4096x32x192_S4x32x4096x192_0_2_1_3) bitsLt_bf16_f32

/-- The heads' vectors of the arguments. -/
def HV (X : FVec Ideal S16384x1664 .bf16) (A : FVec Ideal S1x1024 .f32) (B : FVec Ideal S1x1024x6144 .f32) := heads (lat1 (lat0 X) A) B

/-- The reference's term over the argument arrays. -/
def REF (X : FVec Ideal S16384x1664 .bf16) (W : IVec S4x4096 32) (A : FVec Ideal S1x1024 .f32) (B : FVec Ideal S1x1024x6144 .f32)
    (C : FVec Ideal S1x128 .f32) (D : FVec Ideal S1x64 .f32) : FVec Ideal S4x32x4096x192 .bf16 :=
  fin (nope (extractStridedSlice S4x4096x32x128 ![0, 0, 0, 0] (HV X A B) slices_S4x4096x32x192_S4x4096x32x128_0_0_0_0) C)
    (turn (rope (extractStridedSlice S4x4096x32x64 ![0, 0, 0, 128] (HV X A B) slices_S4x4096x32x192_S4x4096x32x64_0_0_0_128) D)
      (toHeads (Host.cos (angles W invf))) (toHeads (Host.sin (angles W invf))))

/-- The normalized latent of token `(b, s)` at column `k`. -/
def latv (X : FVec Ideal S16384x1664 .bf16) (A : FVec Ideal S1x1024 .f32) (b : Fin 4) (s : Fin 4096) (k : Fin 1024) : EReal :=
  nrm (Ideal.ofBits .f32 0x44800000#32) (fun k : Fin 1024 => X (ix2 (n0 := 16384) (n1 := 1664) ⟨b * 4096 + s, by omega⟩ ⟨k, by omega⟩)) k * A (ix2 0 k)

/-- Column `n` of the product with the weight. -/
def qv (X : FVec Ideal S16384x1664 .bf16) (A : FVec Ideal S1x1024 .f32) (B : FVec Ideal S1x1024x6144 .f32) (b : Fin 4) (s : Fin 4096) (n : Fin 6144) : EReal :=
  ∑ k : Fin 1024, latv X A b s k * B (ix3 0 k n)

/-- An angle. -/
def ang (W : IVec S4x4096 32) (b : Fin 4) (s : Fin 4096) (j : Fin 32) : EReal :=
  FloatOps.sitofp (F := Ideal) .f32 (W (ix2 b s)) * invf (ix1 j)

/-- Entry `j` of head `h` of token `(b, s)`. -/
def QV (X : FVec Ideal S16384x1664 .bf16) (W : IVec S4x4096 32) (A : FVec Ideal S1x1024 .f32) (B : FVec Ideal S1x1024x6144 .f32) (C : FVec Ideal S1x128 .f32) (D : FVec Ideal S1x64 .f32) (b : Fin 4) (h : Fin 32) (s : Fin 4096) (j : Fin 192) : EReal :=
  if hj : (j : ℕ) < 128 then nrm (Ideal.ofBits .f32 0x43000000#32) (fun j : Fin 128 => qv X A B b s ⟨h * 192 + j, by omega⟩) ⟨j, hj⟩ * C (ix2 (n1 := 128) 0 ⟨j, hj⟩)
      * Ideal.ofBits .f32 0x3DD53B95#32
  else rot (fun j => nrm (Ideal.ofBits .f32 0x42800000#32) (fun j : Fin 64 => qv X A B b s ⟨h * 192 + 128 + j, by omega⟩) j * D (ix2 0 j))
    (fun j => Ideal.cos (ang W b s j)) (fun j => Ideal.sin (ang W b s j)) ⟨j - 128, by omega⟩ * Ideal.ofBits .f32 0x3DD53B95#32

theorem lat0_at (X) (b : Fin 4) (s : Fin 4096) (k : Fin 1024) : lat0 X (ix3 b s k) = X (ix2 (n0 := 16384) (n1 := 1664) ⟨b * 4096 + s, by omega⟩ ⟨k, by omega⟩) := by
  pointwise [lat0]

theorem lat1_at (x A) (b : Fin 4) (s : Fin 4096) (k : Fin 1024) : lat1 x A (ix3 b s k)
    = nrm (Ideal.ofBits .f32 0x44800000#32) (fun k : Fin 1024 => x (ix3 b s k)) k * A (ix2 0 k) := by
  unfold nrm
  pointwise [lat1]

theorem heads_at (l B) (b : Fin 4) (s : Fin 4096) (h : Fin 32) (j : Fin 192) : heads l B (ix4 b s h j)
    = ∑ k : Fin 1024, l (ix3 b s k) * B (ix3 (n2 := 6144) 0 k ⟨h * 192 + j, by omega⟩) := by
  pointwise [heads]

theorem angles_at (W v) (b : Fin 4) (s : Fin 4096) (j : Fin 32) : angles W v (ix3 b s j)
    = FloatOps.sitofp (F := Ideal) .f32 (W (ix2 b s)) * v (ix1 j) := by
  pointwise [angles]

theorem nope_at (q C) (b : Fin 4) (s : Fin 4096) (h : Fin 32) (j : Fin 128) : nope q C (ix4 b s h j)
    = nrm (Ideal.ofBits .f32 0x43000000#32) (fun j : Fin 128 => q (ix4 b s h j)) j * C (ix2 0 j) := by
  unfold nrm
  pointwise [nope]

theorem rope_at (q D) (b : Fin 4) (s : Fin 4096) (h : Fin 32) (j : Fin 64) : rope q D (ix4 b s h j)
    = nrm (Ideal.ofBits .f32 0x42800000#32) (fun j : Fin 64 => q (ix4 b s h j)) j * D (ix2 0 j) := by
  unfold nrm
  pointwise [rope]

theorem turn_at (r c s') (b : Fin 4) (s : Fin 4096) (h : Fin 32) (j : Fin 64) : turn r c s' (ix4 b s h j)
    = if hj : (j : ℕ) < 32 then r (ix4 b s h j) * c (ix4 (n3 := 32) b s h ⟨j, hj⟩) - r (ix4 (n3 := 64) b s h ⟨j + 32, by omega⟩) * s' (ix4 (n3 := 32) b s h ⟨j, hj⟩)
      else r (ix4 b s h j) * c (ix4 (n3 := 32) b s h ⟨j - 32, by omega⟩) + r (ix4 (n3 := 64) b s h ⟨j - 32, by omega⟩) * s' (ix4 (n3 := 32) b s h ⟨j - 32, by omega⟩) := by
  pointwise [turn]
  by_cases hj : (j : ℕ) < 32
  · rw [dif_pos hj, dif_pos hj]
    have e : (⟨32 + (j : ℕ), by omega⟩ : Fin 64) = ⟨j + 32, by omega⟩ := Fin.ext (Nat.add_comm _ _)
    rw [e]
  · rw [dif_neg hj, dif_neg hj]
    have e : (⟨32 + ((j : ℕ) - 32), by omega⟩ : Fin 64) = j := Fin.ext (by show 32 + ((j : ℕ) - 32) = j; omega)
    rw [e]

theorem toHeads_at (v) (b : Fin 4) (s : Fin 4096) (h : Fin 32) (j : Fin 32) : toHeads v (ix4 b s h j) = v (ix3 b s j) := by
  pointwise [toHeads]

theorem fin_at (n r) (b : Fin 4) (s : Fin 4096) (h : Fin 32) (j : Fin 192) : fin n r (ix4 b h s j)
    = (if hj : (j : ℕ) < 128 then n (ix4 (n3 := 128) b s h ⟨j, hj⟩) else r (ix4 (n3 := 64) b s h ⟨j - 128, by omega⟩)) * Ideal.ofBits .f32 0x3DD53B95#32 := by
  pointwise [fin]

theorem HV_at (X A B) (b : Fin 4) (s : Fin 4096) (h : Fin 32) (j : Fin 192) : HV X A B (ix4 b s h j) = qv X A B b s ⟨h * 192 + j, by omega⟩ := by
  unfold HV qv latv
  rw [heads_at]
  refine Finset.sum_congr rfl fun k _ => congrArg (· * _) ?_
  rw [lat1_at]
  simp only [lat0_at]

/-- The reference at an index. -/
theorem ref_at (X W A B C D) (b : Fin 4) (h : Fin 32) (s : Fin 4096) (j : Fin 192) : REF X W A B C D (ix4 b h s j) = QV X W A B C D b h s j := by
  unfold REF QV
  rw [fin_at]
  split_ifs with hj
  · refine congrArg (· * _) ((nope_at _ _ _ _ _ _).trans (congrArg (· * _) (congrArg (nrm _ · _) (funext fun j => ?_))))
    refine Eq.trans (b := HV X A B (ix4 (n3 := 192) b s h ⟨j, by omega⟩)) ?_ (HV_at X A B b s h ⟨j, by omega⟩)
    pointwise
  · have e : ∀ j : Fin 64, rope (extractStridedSlice S4x4096x32x64 ![0, 0, 0, 128] (HV X A B) slices_S4x4096x32x192_S4x4096x32x64_0_0_0_128) D (ix4 b s h j)
        = nrm (Ideal.ofBits .f32 0x42800000#32) (fun j : Fin 64 => qv X A B b s ⟨h * 192 + 128 + j, by omega⟩) j * D (ix2 0 j) := fun j => by
      refine (rope_at _ _ _ _ _ _).trans (congrArg (· * _) (congrArg (nrm _ · _) (funext fun j => ?_)))
      refine Eq.trans (b := HV X A B (ix4 (n3 := 192) b s h ⟨128 + j, by omega⟩)) ?_ ((HV_at X A B b s h ⟨128 + j, by omega⟩).trans
        (congrArg (qv X A B b s) (Fin.ext (Nat.add_assoc _ _ _).symm)))
      pointwise
    have ec : ∀ j : Fin 32, toHeads (Host.cos (angles W invf)) (ix4 b s h j) = Ideal.cos (ang W b s j) := fun j =>
      (toHeads_at _ _ _ _ _).trans (congrArg Ideal.cos (angles_at W invf b s j))
    have es : ∀ j : Fin 32, toHeads (Host.sin (angles W invf)) (ix4 b s h j) = Ideal.sin (ang W b s j) := fun j =>
      (toHeads_at _ _ _ _ _).trans (congrArg Ideal.sin (angles_at W invf b s j))
    refine congrArg (· * _) ((turn_at _ _ _ _ _ _ _).trans ?_)
    simp only [e, ec, es]
    rfl

theorem res_eq (m : (ℓ : Loc nD τ sig) → Buf (Elt Ideal) ℓ) (c : Dev nD) : Cert.QProjRefIdeal.Value.res_main_v87 m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.QProjRefIdeal.QValue

end
-- ==== Proof.QProjHost.lean ====
module

public import proofs.«01_k».proof.Proof.QProjHeads
public import proofs.«01_k».proof.Proof.QProjRef

/-! The arrays that the program hands the queries' kernel, as functions of the arguments. -/

@[expose] public section

set_option maxRecDepth 16384

noncomputable section

open Idealize.ShloMosaic Idealize.ShloMosaic.TcCoe Idealize.SL.Sem
open Idealize.ShloMosaic.Pipeline (Dat)

namespace Cert.QProjIdeal.QValue

open Cert.QProjIdeal Cert.QProjIdeal.Gen Cert.Rope Cert.QProjRefIdeal.QValue

variable (m : (ℓ : Loc nD τ sig) → Buf (Elt Ideal) ℓ)

/-- The weight's columns head by head, every head's last 64 twice. -/
def wide (B : FVec Ideal S1x1024x6144 .f32) : FVec Ideal S1024x8192 .bf16 :=
  truncf .bf16 (shapeCast S1024x8192 (concatenate S1024x32x256 2 [⟨S1024x32x192, shapeCast S1024x32x192 (shapeCast S1024x6144 B shapeCasts_S1x1024x6144_S1024x6144) shapeCasts_S1024x6144_S1024x32x192⟩,
    ⟨S1024x32x32, extractStridedSlice S1024x32x32 ![0, 0, 160] (shapeCast S1024x32x192 (shapeCast S1024x6144 B shapeCasts_S1x1024x6144_S1024x6144) shapeCasts_S1024x6144_S1024x32x192) slices_S1024x32x192_S1024x32x32_0_0_160⟩,
    ⟨S1024x32x32, extractStridedSlice S1024x32x32 ![0, 0, 128] (shapeCast S1024x32x192 (shapeCast S1024x6144 B shapeCasts_S1x1024x6144_S1024x6144) shapeCasts_S1024x6144_S1024x32x192) slices_S1024x32x192_S1024x32x32_0_0_128⟩]
    concatenates_S1024x32x192_S1024x32x32_S1024x32x32_S1024x32x256_d2) shapeCasts_S1024x32x256_S1024x8192) bitsLt_bf16_f32

/-- The angles' factors four times. -/
def tile4 (v : FVec Ideal S32 .f32) : FVec Ideal S1x128 .f32 :=
  shapeCast S1x128 (shapeCast S128 (broadcastInDim S4x32 ![0, 1] bcast_S1x32_S4x32_0_1 (shapeCast S1x32 v shapeCasts_S32_S1x32)) shapeCasts_S4x32_S128) shapeCasts_S128_S1x128

/-- The sines' signs. -/
def signs : FVec Ideal S1x128 .f32 :=
  shapeCast S1x128 (shapeCast S128 (broadcastInDim S2x64 ![0, 1] bcast_S1x64_S2x64_0_1 (shapeCast S1x64 (concatenate S64 0 [⟨S32, Host.negf (broadcastInDim S32 ![] bcast_S_S32 (constant (F := Ideal) S_ .f32 0x3F800000#32))⟩,
    ⟨S32, broadcastInDim S32 ![] bcast_S_S32 (constant (F := Ideal) S_ .f32 0x3F800000#32)⟩] concatenates_S32_S32_S64_d0) shapeCasts_S64_S1x64)) shapeCasts_S2x64_S128) shapeCasts_S128_S1x128

/-- The gains one after another, the second's halves exchanged after it. -/
def gains (C : FVec Ideal S1x128 .f32) (D : FVec Ideal S1x64 .f32) : FVec Ideal S1x256 .f32 :=
  shapeCast S1x256 (concatenate S256 0 [⟨S128, shapeCast S128 C shapeCasts_S1x128_S128⟩, ⟨S64, shapeCast S64 D shapeCasts_S1x64_S64⟩,
    ⟨S64, concatenate S64 0 [⟨S32, extractStridedSlice S32 ![32] (shapeCast S64 D shapeCasts_S1x64_S64) slices_S64_S32_32⟩,
      ⟨S32, extractStridedSlice S32 ![0] (shapeCast S64 D shapeCasts_S1x64_S64) slices_S64_S32_0⟩] concatenates_S32_S32_S64_d0⟩] concatenates_S128_S64_S64_S256_d0) shapeCasts_S256_S1x256

theorem V_w (c : Dev nD) : V m c main_v6 = wide (m ((c : Thread nD τ).loc main_arg3)) := by
  unfold V; after_results <;> rfl

theorem V_p (c : Dev nD) : V m c main_v7 = shapeCast S16384x1 (m ((c : Thread nD τ).loc main_arg1)) shapeCasts_S4x4096_S16384x1 := by
  unfold V; after_results <;> rfl

theorem V_f (c : Dev nD) : V m c main_v24 = tile4 invf := by
  unfold V; after_results <;> rfl

theorem V_s (c : Dev nD) : V m c main_v32 = signs := by
  unfold V; after_results <;> rfl

theorem V_g (c : Dev nD) : V m c main_v37 = gains (m ((c : Thread nD τ).loc main_arg4)) (m ((c : Thread nD τ).loc main_arg5)) := by
  unfold V; after_results <;> rfl

theorem V_l (c : Dev nD) : V m c main_v38 = shapeCast S1x1024 (shapeCast S1024 (m ((c : Thread nD τ).loc main_arg2)) shapeCasts_S1x1024_S1024) shapeCasts_S1024_S1x1024 := by
  unfold V; after_results <;> rfl

theorem wide_flat (B) (k : Fin 1024) (h : Fin 32) (j : Fin 128) :
    wide B (ix2 (n1 := 8192) k ⟨h * 256 + j, by omega⟩) = B (ix3 (n2 := 6144) 0 k ⟨h * 192 + j, by omega⟩) := by
  pointwise [wide]
  have hj := j.isLt
  split_ifs <;> first | omega | exact congrArg (fun n => B (ix3 0 k n)) (Fin.ext (by dsimp only <;> omega))

theorem wide_slab (B) (k : Fin 1024) (h : Fin 32) (j : Fin 128) :
    wide B (ix2 (n1 := 8192) k ⟨h * 256 + 128 + j, by omega⟩) = B (ix3 (n2 := 6144) 0 k ⟨h * 192 + 128 + src j, by omega⟩) := by
  pointwise [wide]
  have hj := j.isLt
  have e : ((j : ℕ) < 64 ∧ (src j : ℕ) = j) ∨ (64 ≤ (j : ℕ) ∧ (src j : ℕ) = (j + 32) % 64) := by
    rw [src_val]; split_ifs <;> omega
  split_ifs <;> first | omega | exact congrArg (fun n => B (ix3 0 k n)) (Fin.ext (by dsimp only <;> omega))

theorem tile4_at (v) (j : Fin 128) : tile4 v (ix2 0 j) = v (ix1 (n0 := 32) ⟨j % 32, Nat.mod_lt _ (by norm_num)⟩) := by
  pointwise [tile4]

theorem signs_at (j : Fin 128) : signs (ix2 0 j) = sgn j := by
  pointwise [signs]
  unfold sgn
  rw [one_eq]
  split_ifs <;> rfl

theorem gains_flat (C D) (j : Fin 128) : gains C D (ix2 (n1 := 256) 0 ⟨j, by omega⟩) = C (ix2 0 j) := by
  pointwise [gains]

theorem gains_slab (C D) (j : Fin 128) : gains C D (ix2 (n1 := 256) 0 ⟨128 + j, by omega⟩) = D (ix2 0 (src j)) := by
  pointwise [gains]
  have hj := j.isLt
  have e : ((j : ℕ) < 64 ∧ (src j : ℕ) = j) ∨ (64 ≤ (j : ℕ) ∧ (src j : ℕ) = (j + 32) % 64) := by
    rw [src_val]; split_ifs <;> omega
  split_ifs <;> first | omega | exact congrArg (fun n => D (ix2 0 n)) (Fin.ext (by dsimp only <;> omega))

end Cert.QProjIdeal.QValue

end
-- ==== Proof.QProjValue.lean ====
module

public import proofs.«01_k».proof.Proof.QProjHost

/-! The queries: what the kernel leaves in the result array is the reference's array. -/

@[expose] public section

set_option maxRecDepth 16384

noncomputable section

open Idealize.ShloMosaic Idealize.ShloMosaic.TcCoe Idealize.SL.Sem
open Idealize.ShloMosaic.Pipeline (Dat)

namespace Cert.QProjIdeal.QValue

open Cert.QProjIdeal Cert.QProjIdeal.Gen Cert.Rope Cert.QProjRefIdeal.QValue Cert.QProjIdeal.Pays

variable (m : (ℓ : Loc nD τ sig) → Buf (Elt Ideal) ℓ)

/-- Where the windows' blocks lie at a grid point. -/
theorem idx : ∀ t : Fin cfg0.N, win0_0.index t = ![t.val / 4, 0] ∧ win0_1.index t = ![t.val / 4, 0] ∧ win0_2.index t = ![0, 0]
    ∧ win0_3.index t = ![0, 0] ∧ win0_4.index t = ![0, 0] ∧ win0_5.index t = ![0, 0] ∧ win0_6.index t = ![0, t.val % 4]
    ∧ win0_7.index t = ![t.val / 4 / 8, t.val % 4, t.val / 4 % 8, 0] :=
  (by decide +kernel : ∀ t : Fin grid0.N, _)

theorem lt (t : Fin cfg0.N) : t.val < 128 := lt_of_lt_of_eq t.isLt (by decide +kernel)

/-- The batch and the position of row `p` of the block of rows at grid point `n`. -/
def bb (n : ℕ) (h : n < 128) (p : Fin 512) : Fin 4 := ⟨(n / 4 * 512 + p) / 4096, by omega⟩
def ss (n : ℕ) (p : Fin 512) : Fin 4096 := ⟨(n / 4 * 512 + p) % 4096, by omega⟩

abbrev aX (c : Dev nD) : FVec Ideal S16384x1664 .bf16 := m ((c : Thread nD τ).loc main_arg0)
abbrev aW (c : Dev nD) : IVec S4x4096 32 := m ((c : Thread nD τ).loc main_arg1)
abbrev aA (c : Dev nD) : FVec Ideal S1x1024 .f32 := m ((c : Thread nD τ).loc main_arg2)
abbrev aB (c : Dev nD) : FVec Ideal S1x1024x6144 .f32 := m ((c : Thread nD τ).loc main_arg3)
abbrev aC (c : Dev nD) : FVec Ideal S1x128 .f32 := m ((c : Thread nD τ).loc main_arg4)
abbrev aD (c : Dev nD) : FVec Ideal S1x64 .f32 := m ((c : Thread nD τ).loc main_arg5)

theorem V_x (c : Dev nD) : V m c main_arg0 = aX m c := by
  unfold V; after_results <;> rfl

theorem x_at (c : Dev nD) (t : Fin cfg0.N) (p : Fin 512) (k : Fin 1024) : X0_0 m c t (ix2 p k)
    = aX m c (ix2 (n0 := 16384) (n1 := 1664) ⟨bb t.val (lt t) p * 4096 + ss t.val p, by omega⟩ ⟨k, by omega⟩) := by
  unfold X0_0 Pipeline.Window.fill
  rw [dif_pos (moved0_0 t _)]
  refine (congrFun (V_x m c) _).trans ?_
  unfold bb ss
  blk_ext [idx t]

theorem pcast (W : IVec S4x4096 32) (r : Fin 16384) : shapeCast S16384x1 W shapeCasts_S4x4096_S16384x1 (ix2 r 0)
    = W (ix2 (n0 := 4) (n1 := 4096) ⟨r / 4096, by omega⟩ ⟨r % 4096, by omega⟩) := by
  pointwise

theorem p_at (c : Dev nD) (t : Fin cfg0.N) (p : Fin 512) : iblk m c 1 t (ix2 p 0) = aW m c (ix2 (bb t.val (lt t) p) (ss t.val p)) := by
  refine (congrFun (V_p m c) _).trans (Eq.trans ?_ (pcast (aW m c) ⟨t.val / 4 * 512 + p, by have := lt t; omega⟩))
  blk_ext [idx t]

theorem f_at (c : Dev nD) (t : Fin cfg0.N) (k : Fin 128) : iblk m c 2 t (ix2 0 k) = invf (ix1 (n0 := 32) ⟨k % 32, Nat.mod_lt _ (by norm_num)⟩) := by
  refine (congrFun (V_f m c) _).trans (Eq.trans ?_ (tile4_at _ _))
  blk_ext [idx t]

theorem s_at (c : Dev nD) (t : Fin cfg0.N) (k : Fin 128) : iblk m c 3 t (ix2 0 k) = sgn k := by
  refine (congrFun (V_s m c) _).trans (Eq.trans ?_ (signs_at _))
  blk_ext [idx t]

theorem lcast (A : FVec Ideal S1x1024 .f32) (k : Fin 1024) : shapeCast S1x1024 (shapeCast S1024 A shapeCasts_S1x1024_S1024) shapeCasts_S1024_S1x1024 (ix2 0 k) = A (ix2 0 k) := by
  pointwise

theorem l_at (c : Dev nD) (t : Fin cfg0.N) (k : Fin 1024) : iblk m c 4 t (ix2 0 k) = aA m c (ix2 0 k) := by
  refine (congrFun (V_l m c) _).trans (Eq.trans ?_ (lcast _ _))
  blk_ext [idx t]

theorem gf_at (c : Dev nD) (t : Fin cfg0.N) (j : Fin 128) : iblk m c 5 t (ix2 (n1 := 256) 0 ⟨j, by omega⟩) = aC m c (ix2 0 j) := by
  refine (congrFun (V_g m c) _).trans (Eq.trans ?_ (gains_flat _ (aD m c) _))
  blk_ext [idx t]

theorem gs_at (c : Dev nD) (t : Fin cfg0.N) (j : Fin 128) : iblk m c 5 t (ix2 (n1 := 256) 0 ⟨128 + j, by omega⟩) = aD m c (ix2 0 (src j)) := by
  refine (congrFun (V_g m c) _).trans (Eq.trans ?_ (gains_slab (aC m c) _ _))
  blk_ext [idx t]

theorem wf_at (c : Dev nD) (t : Fin cfg0.N) (k : Fin 1024) (g : Fin 8) (j : Fin 128) : iblk m c 6 t (ix2 (n1 := 2048) k ⟨g * 256 + j, by omega⟩)
    = aB m c (ix3 (n2 := 6144) 0 k ⟨(t.val % 4 * 8 + g) * 192 + j, by omega⟩) := by
  refine (congrFun (V_w m c) _).trans (Eq.trans ?_ (wide_flat (aB m c) k ⟨t.val % 4 * 8 + g, by omega⟩ j))
  blk_ext [idx t]

theorem ws_at (c : Dev nD) (t : Fin cfg0.N) (k : Fin 1024) (g : Fin 8) (j : Fin 128) : iblk m c 6 t (ix2 (n1 := 2048) k ⟨g * 256 + 128 + j, by omega⟩)
    = aB m c (ix3 (n2 := 6144) 0 k ⟨(t.val % 4 * 8 + g) * 192 + 128 + src j, by have := (src j).isLt; omega⟩) := by
  refine (congrFun (V_w m c) _).trans (Eq.trans ?_ (wide_slab (aB m c) k ⟨t.val % 4 * 8 + g, by omega⟩ j))
  blk_ext [idx t]

/-- The three scratch arrays after a grid point: the norm, the cosines and the signed sines of its block of rows. -/
structure Scr (c : Dev nD) (n : ℕ) (hn : n < cfg0.N) (h : n < 128) : Prop where
  lat : ∀ p k, (outsAt0 m c n hn).2.1 (ix2 p k) = latv (aX m c) (aA m c) (bb n h p) (ss n p) k
  cos : ∀ p (k : Fin 128), (outsAt0 m c n hn).2.2.1 (ix2 p k) = Ideal.cos (ang (aW m c) (bb n h p) (ss n p) ⟨k % 32, Nat.mod_lt _ (by norm_num)⟩)
  sin : ∀ p (k : Fin 128), (outsAt0 m c n hn).2.2.2 (ix2 p k) = Ideal.sin (ang (aW m c) (bb n h p) (ss n p) ⟨k % 32, Nat.mod_lt _ (by norm_num)⟩) * sgn k

theorem scr_first (c : Dev nD) (t : Fin cfg0.N) (h : t.val % 4 = 0) : Scr m c t.val t.isLt (lt t) where
  lat p k := by
    rw [scr0_A m c t h, latent_at, l_at]
    unfold latv
    simp only [x_at]
  cos p k := by
    rw [scr1_A m c t h, cos_at, f_at, p_at]
    rfl
  sin p k := by
    rw [scr2_A m c t h, sin_at, f_at, p_at, s_at]
    rfl

theorem scr (c : Dev nD) : ∀ (n : ℕ) (hn : n < cfg0.N) (h : n < 128), Scr m c n hn h
  | 0, hn, h => scr_first m c ⟨0, hn⟩ rfl
  | n + 1, hn, h => by
    by_cases h4 : (n + 1) % 4 = 0
    · exact scr_first m c ⟨n + 1, hn⟩ h4
    · have ih := scr c n (Nat.lt_of_succ_lt hn) (Nat.lt_of_succ_lt h)
      have e := scr_B m c ⟨n + 1, hn⟩ h4
      have eb : ∀ p, bb (n + 1) h p = bb n (Nat.lt_of_succ_lt h) p := fun p => Fin.ext (by show ((n + 1) / 4 * 512 + (p : ℕ)) / 4096 = (n / 4 * 512 + p) / 4096; rw [show (n + 1) / 4 = n / 4 by omega])
      have es : ∀ p, ss (n + 1) p = ss n p := fun p => Fin.ext (by show ((n + 1) / 4 * 512 + (p : ℕ)) % 4096 = (n / 4 * 512 + p) % 4096; rw [show (n + 1) / 4 = n / 4 by omega])
      exact
        { lat := fun p k => by rw [eb, es]; exact (congrFun (congrArg (fun q => q.1) e) _).trans (ih.lat p k)
          cos := fun p k => by rw [eb, es]; exact (congrFun (congrArg (fun q => q.2.1) e) _).trans (ih.cos p k)
          sin := fun p k => by rw [eb, es]; exact (congrFun (congrArg (fun q => q.2.2) e) _).trans (ih.sin p k) }

/-- What a grid point leaves in its block is the reference's entry. -/
theorem point (c : Dev nD) (t : Fin cfg0.N) (g : Fin 8) (p : Fin 512) (j : Fin 192) :
    HEAD (outsAt0 m c t.val t.isLt).2.1 (iblk m c 6 t) (iblk m c 5 t) (outsAt0 m c t.val t.isLt).2.2.1 (outsAt0 m c t.val t.isLt).2.2.2 g p j
    = QV (aX m c) (aW m c) (aA m c) (aB m c) (aC m c) (aD m c) (bb t.val (lt t) p) ⟨t.val % 4 * 8 + g, by omega⟩ (ss t.val p) j := by
  have S := scr m c t.val t.isLt (lt t)
  have ef : flat (outsAt0 m c t.val t.isLt).2.1 (iblk m c 6 t) g p
      = fun j : Fin 128 => qv (aX m c) (aA m c) (aB m c) (bb t.val (lt t) p) (ss t.val p) ⟨(t.val % 4 * 8 + g) * 192 + j, by omega⟩ :=
    funext fun j => by
      unfold flat dotc qv
      exact Finset.sum_congr rfl fun k _ => congrArg₂ (· * ·) (S.lat p k) (wf_at m c t k g j)
  have es : ∀ j, slab (outsAt0 m c t.val t.isLt).2.1 (iblk m c 6 t) g p j
      = (fun j : Fin 64 => qv (aX m c) (aA m c) (aB m c) (bb t.val (lt t) p) (ss t.val p) ⟨(t.val % 4 * 8 + g) * 192 + 128 + j, by omega⟩) (src j) :=
    fun j => by
      unfold slab dotc qv
      exact Finset.sum_congr rfl fun k _ => congrArg₂ (· * ·) (S.lat p k) (ws_at m c t k g j)
  unfold HEAD QV
  split_ifs with hj
  · rw [ef]
    exact congrArg (· * _) (congrArg (_ * ·) (gf_at m c t ⟨j, hj⟩))
  · refine congrArg (· * _) ?_
    exact rot_eq (fun j : Fin 64 => qv (aX m c) (aA m c) (aB m c) (bb t.val (lt t) p) (ss t.val p) ⟨(t.val % 4 * 8 + g) * 192 + 128 + j, by omega⟩)
      (fun j => aD m c (ix2 0 j)) (fun j => Ideal.cos (ang (aW m c) (bb t.val (lt t) p) (ss t.val p) j)) (fun j => Ideal.sin (ang (aW m c) (bb t.val (lt t) p) (ss t.val p) j))
      _ (fun j => iblk m c 5 t (ix2 (n1 := 256) 0 ⟨128 + j, by omega⟩)) (fun j => (outsAt0 m c t.val t.isLt).2.2.1 (ix2 p j)) (fun j => (outsAt0 m c t.val t.isLt).2.2.2 (ix2 p j))
      es (gs_at m c t) (S.cos p) (S.sin p) ⟨j - 128, by omega⟩

/-- The result array after the run is the reference's term of the arguments. -/
theorem final (c : Dev nD) : (dats m 0 c).arrAt 7 (cfgs 0).N = REF (aX m c) (aW m c) (aA m c) (aB m c) (aC m c) (aD m c) := by
  refine (dats m 0 c).arrAt_eq_of_covers 7 _ (by decide +kernel) fun t hf y => ?_
  blk_simp
  rw [after0_7]
  refine (out_at m c t y).trans ((point m c t (y 1) (y 2) (y 3)).trans ((ref_at _ _ _ _ _ _ _ _ _ _).symm.trans ?_))
  unfold bb ss
  blk_ext [idx t]

end Cert.QProjIdeal.QValue

end
-- ==== Proof.KvProjPays.lean ====
module

public import proofs.«01_k».proof.Proof.Gen.KvProjIdeal.Value
public import Idealize.ShloMosaic.Lib.Pipeline.ValueKit
public import proofs.«01_k».proof.Proof.Rope

/-! The keys' and values' kernel at one grid point: what the body stores for one head.

The body goes through its eight heads one after another and stores three pieces per head: the 128 normalized
entries of the key, the 64 rotated ones, which all heads share, and the 128 entries of the value. -/

@[expose] public section

set_option maxRecDepth 16384

noncomputable section

open Idealize.ShloMosaic Idealize.ShloMosaic.TcCoe Idealize.SL.Sem
open Idealize.ShloMosaic.Pipeline (Dat)

namespace Cert.KvProjIdeal.Pays

open Cert.KvProjIdeal Cert.KvProjIdeal.Gen Cert.Rope

/-- The normalized latent at a row and a column. -/
theorem latent_at (X : FVec Ideal S512x512 .bf16) (G : FVec Ideal S1x512 .f32) (p : Fin 512) (k : Fin 512) :
    k0_pay1 (F := Ideal) X G (ix2 p k)
      = nrm (Ideal.ofBits .f32 0x44000000#32) (fun k : Fin 512 => X (ix2 p k)) k * G (ix2 0 k) := by
  unfold nrm
  pointwise [k0_pay1]

/-- The cosine at a row and a column. -/
theorem cos_at (P : IVec S512x1 32) (I : FVec Ideal S1x128 .f32) (p : Fin 512) (k : Fin 128) :
    k0_pay3 (F := Ideal) P I (ix2 p k)
      = Ideal.cos (FloatOps.sitofp (F := Ideal) .f32 (P (ix2 p 0)) * I (ix2 0 k)) := by
  pointwise [k0_pay3, k0_pay2]

/-- The sine, with its sign, at a row and a column. -/
theorem sin_at (P : IVec S512x1 32) (I N : FVec Ideal S1x128 .f32) (p : Fin 512) (k : Fin 128) :
    k0_pay5 (F := Ideal) (k0_pay4 (F := Ideal) P I N) (ix2 p k)
      = Ideal.sin (FloatOps.sitofp (F := Ideal) .f32 (P (ix2 p 0)) * I (ix2 0 k)) * N (ix2 0 k) := by
  pointwise [k0_pay5, k0_pay4, k0_pay2]

/-- The shared key's rotated entries at a row and a column. -/
theorem key_at (X : FVec Ideal S512x128 .bf16) (G : FVec Ideal S1x128 .f32) (C S : FVec Ideal S512x128 .f32) (p : Fin 512) (j : Fin 64) :
    k0_pay6 (F := Ideal) X G C S (ix2 (n1 := 128) p ⟨j, by omega⟩)
      = nrm (Ideal.ofBits .f32 0x43000000#32) (fun k : Fin 128 => X (ix2 p k)) ⟨j, by omega⟩ * G (ix2 (n1 := 128) 0 ⟨j, by omega⟩) * C (ix2 (n1 := 128) p ⟨j, by omega⟩)
        + nrm (Ideal.ofBits .f32 0x43000000#32) (fun k : Fin 128 => X (ix2 p k)) ⟨j + 64, by omega⟩ * G (ix2 (n1 := 128) 0 ⟨j + 64, by omega⟩) * S (ix2 (n1 := 128) p ⟨j, by omega⟩) := by
  unfold nrm
  pointwise [k0_pay6]
  have hj := j.isLt
  simp only [show ((j : ℕ) + 128 - 64) % 128 = j + 64 from by omega]

/-- A head's normalized piece of the key. -/
def nopeB (A : FVec Ideal S512x512 .bf16) (B : FVec Ideal S512x256 .bf16) (G : FVec Ideal S1x128 .f32) : FVec Ideal S1x1x512x128 .bf16 :=
  k0_pay8 A B G

/-- A head's rotated piece of the key. -/
def ropeB (L : FVec Ideal S512x64 .bf16) : FVec Ideal S1x1x512x64 .bf16 := k0_pay9 L

/-- A head's value. -/
def valB (A : FVec Ideal S512x512 .bf16) (B : FVec Ideal S512x256 .bf16) : FVec Ideal S1x1x512x128 .bf16 :=
  k0_pay11 (k0_pay10 A B)

theorem nopeB_at (A B G x) : nopeB A B G x
    = nrm (Ideal.ofBits .f32 0x43000000#32) (fun j : Fin 128 => ∑ k : Fin 512, A (ix2 (n0 := 512) (x 2) k) * B (ix2 (n1 := 256) k ⟨j, by omega⟩)) (x 3)
      * G (ix2 0 (x 3)) := by
  unfold nrm nopeB
  pointwise [k0_pay8, k0_pay7]

theorem ropeB_at (L x) : ropeB L x = L (ix2 (x 2) (x 3)) := by
  unfold ropeB
  pointwise [k0_pay9]

theorem valB_at (A B x) : valB A B x
    = ∑ k : Fin 512, A (ix2 (n0 := 512) (x 2) k) * B (ix2 (n1 := 256) k ⟨128 + x 3, by have := (x 3).isLt; change _ < 128 at this; omega⟩) := by
  unfold valB
  pointwise [k0_pay11, k0_pay10, k0_pay7]

end Cert.KvProjIdeal.Pays

end
-- ==== Proof.KvProjHeads.lean ====
module

public import proofs.«01_k».proof.Proof.KvProjPays
public import Idealize.ShloMosaic.Lib.Pipeline.ReadBack

/-! What the keys' and values' kernel leaves in its blocks and in its scratch arrays after a grid point. -/

@[expose] public section

set_option maxRecDepth 16384

noncomputable section

open Idealize.ShloMosaic Idealize.ShloMosaic.TcCoe Idealize.SL.Sem
open Idealize.ShloMosaic.Pipeline (Dat)

namespace Cert.KvProjIdeal.Pays

open Cert.KvProjIdeal Cert.KvProjIdeal.Gen Cert.Rope

/-- Column `n` of the product of the latent's row `p` with the weight's block. -/
def dotc (A : FVec Ideal S512x512 .bf16) (B : FVec Ideal S512x2048 .bf16) (p : Fin 512) (n : ℕ) (hn : n < 2048) : EReal :=
  ∑ k : Fin 512, A (ix2 p k) * B (ix2 k ⟨n, hn⟩)

/-- The entries of head `g`'s key before the norm. -/
def flat (A : FVec Ideal S512x512 .bf16) (B : FVec Ideal S512x2048 .bf16) (g : Fin 8) (p : Fin 512) (j : Fin 128) : EReal :=
  dotc A B p (g * 256 + j) (by omega)

/-- What the keys' block holds at head `g`, row `p` and entry `j`. -/
def KEY (A : FVec Ideal S512x512 .bf16) (B : FVec Ideal S512x2048 .bf16) (G : FVec Ideal S1x128 .f32) (L : FVec Ideal S512x128 .bf16)
    (g : Fin 8) (p : Fin 512) (j : Fin 192) : EReal :=
  if h : (j : ℕ) < 128 then nrm (Ideal.ofBits .f32 0x43000000#32) (flat A B g p) ⟨j, h⟩ * G (ix2 (n1 := 128) 0 ⟨j, h⟩)
  else L (ix2 (n1 := 128) p ⟨j - 128, by omega⟩)

/-- What the values' block holds at head `g`, row `p` and entry `j`. -/
def VAL (A : FVec Ideal S512x512 .bf16) (B : FVec Ideal S512x2048 .bf16) (g : Fin 8) (p : Fin 512) (j : Fin 128) : EReal :=
  dotc A B p (g * 256 + 128 + j) (by omega)

/-- A load of a head's 256 columns. -/
def colsB (B : Vec Ideal S512x2048 .bf16) (o : ℕ) (i : ∀ a, (![0, o] : Fin 2 → Nat) a + S512x256.size a ≤ S512x2048.size a) : Vec Ideal S512x256 .bf16 :=
  View.ld B (Rect.unit (s := S512x2048) ![0, o] ![512, 256] i)

/-- A load of the first half of the rotated key. -/
def colsL (L : Vec Ideal S512x128 .bf16) (i : ∀ a, (![0, 0] : Fin 2 → Nat) a + S512x64.size a ≤ S512x128.size a) : Vec Ideal S512x64 .bf16 :=
  View.ld L (Rect.unit (s := S512x128) ![0, 0] ![512, 64] i)

theorem ldB (B : Vec Ideal S512x2048 .bf16) (o : ℕ) (i) (k : Fin 512) (j : Fin 256) (hn : o + j < 2048) :
    colsB B o i (ix2 k j) = B (ix2 k ⟨o + j, hn⟩) := by
  refine View.ld_unit_apply_of _ _ _ _ _ _ fun a => ?_
  fin_cases a
  · exact (Nat.zero_add _).symm
  · rfl

theorem ldL (L : Vec Ideal S512x128 .bf16) (i) (p : Fin 512) (j : Fin 64) :
    colsL L i (ix2 p j) = L (ix2 (n1 := 128) p ⟨j, by omega⟩) := by
  refine View.ld_unit_apply_of _ _ _ _ _ _ fun a => ?_
  fin_cases a
  · exact (Nat.zero_add _).symm
  · exact (Nat.zero_add _).symm

/-- A head's first piece is the block's value there. -/
theorem nope_piece (A B G L) (g : Fin 8) (i) (x : S1x1x512x128.Idx) (y : S1x8x512x192.Idx)
    (h1 : (y 1 : ℕ) = g + (x 1 : ℕ)) (h2 : (y 2 : ℕ) = (x 2 : ℕ)) (h3 : (y 3 : ℕ) = (x 3 : ℕ)) :
    nopeB A (colsB B (g * 256) i) G x = KEY A B G L (y 1) (y 2) (y 3) := by
  have b1 := (x 1).isLt
  change _ < 1 at b1
  have b3 := (x 3).isLt
  change _ < 128 at b3
  have e1 : (y 1) = g := Fin.ext (by omega)
  have e2 : (y 2) = (x 2) := Fin.ext h2
  rw [nopeB_at, e1, e2]
  unfold KEY
  rw [dif_pos (by omega)]
  refine congrArg₂ (· * ·) ?_ (congrArg (fun j => G (ix2 0 j)) (Fin.ext h3.symm))
  have e : (fun j : Fin 128 => ∑ k : Fin 512, A (ix2 (n0 := 512) (x 2) k) * colsB B (g * 256) i (ix2 (n1 := 256) k ⟨j, by omega⟩))
      = flat A B g (x 2) := funext fun j => Finset.sum_congr rfl fun k _ => congrArg (_ * ·) (ldB B (g * 256) i k ⟨j, by omega⟩ (by show g * 256 + (j : ℕ) < 2048; omega))
  rw [e]
  exact congrArg (nrm _ _) (Fin.ext h3.symm)

/-- A head's second piece is the block's value there. -/
theorem rope_piece (A B G L) (g : Fin 8) (i) (x : S1x1x512x64.Idx) (y : S1x8x512x192.Idx)
    (h1 : (y 1 : ℕ) = g + (x 1 : ℕ)) (h2 : (y 2 : ℕ) = (x 2 : ℕ)) (h3 : (y 3 : ℕ) = 128 + (x 3 : ℕ)) :
    ropeB (colsL L i) x = KEY A B G L (y 1) (y 2) (y 3) := by
  have b3 := (x 3).isLt
  change _ < 64 at b3
  have e2 : (y 2) = (x 2) := Fin.ext h2
  rw [ropeB_at, e2]
  unfold KEY
  rw [dif_neg (by omega)]
  exact (ldL L i (x 2) (x 3)).trans (congrArg (fun j => L (ix2 _ j)) (Fin.ext (by show (x 3 : ℕ) = (y 3 : ℕ) - 128; omega)))

/-- A head's value is the block's value there. -/
theorem val_piece (A B) (g : Fin 8) (i) (x : S1x1x512x128.Idx) (y : S1x8x512x128.Idx)
    (h1 : (y 1 : ℕ) = g + (x 1 : ℕ)) (h2 : (y 2 : ℕ) = (x 2 : ℕ)) (h3 : (y 3 : ℕ) = (x 3 : ℕ)) :
    valB A (colsB B (g * 256) i) x = VAL A B (y 1) (y 2) (y 3) := by
  have b1 := (x 1).isLt
  change _ < 1 at b1
  have b3 := (x 3).isLt
  change _ < 128 at b3
  have e1 : (y 1) = g := Fin.ext (by omega)
  have e2 : (y 2) = (x 2) := Fin.ext h2
  rw [valB_at, e1, e2]
  unfold VAL dotc
  refine Finset.sum_congr rfl fun k _ => congrArg (_ * ·) ?_
  exact (ldB B (g * 256) i k ⟨128 + x 3, by omega⟩ (by show g * 256 + (128 + (x 3 : ℕ)) < 2048; omega)).trans
    (congrArg (fun n => B (ix2 k n)) (Fin.ext (by show g * 256 + (128 + (x 3 : ℕ)) = g * 256 + 128 + (y 3 : ℕ); omega)))

/-- The stores of a point into the keys' block, the last first. -/
def pieces (A : Vec Ideal S512x512 .bf16) (B : Vec Ideal S512x2048 .bf16) (G : Vec Ideal S1x128 .f32) (L : Vec Ideal S512x128 .bf16) :
    List (View.Piece (Elt Ideal) S1x8x512x192 .bf16) :=
  [
   ⟨Rect.unit (s := S1x8x512x192) ![0, 7, 0, 128] ![1, 1, 512, 64] inb_S1x8x512x192_S1x1x512x64_0_7_0_128,
      ropeB (colsL L inb_S512x128_S512x64_0_0)⟩,
   ⟨Rect.unit (s := S1x8x512x192) ![0, 7, 0, 0] ![1, 1, 512, 128] inb_S1x8x512x192_S1x1x512x128_0_7_0_0,
      nopeB A (colsB B 1792 inb_S512x2048_S512x256_0_1792) G⟩,
   ⟨Rect.unit (s := S1x8x512x192) ![0, 6, 0, 128] ![1, 1, 512, 64] inb_S1x8x512x192_S1x1x512x64_0_6_0_128,
      ropeB (colsL L inb_S512x128_S512x64_0_0)⟩,
   ⟨Rect.unit (s := S1x8x512x192) ![0, 6, 0, 0] ![1, 1, 512, 128] inb_S1x8x512x192_S1x1x512x128_0_6_0_0,
      nopeB A (colsB B 1536 inb_S512x2048_S512x256_0_1536) G⟩,
   ⟨Rect.unit (s := S1x8x512x192) ![0, 5, 0, 128] ![1, 1, 512, 64] inb_S1x8x512x192_S1x1x512x64_0_5_0_128,
      ropeB (colsL L inb_S512x128_S512x64_0_0)⟩,
   ⟨Rect.unit (s := S1x8x512x192) ![0, 5, 0, 0] ![1, 1, 512, 128] inb_S1x8x512x192_S1x1x512x128_0_5_0_0,
      nopeB A (colsB B 1280 inb_S512x2048_S512x256_0_1280) G⟩,
   ⟨Rect.unit (s := S1x8x512x192) ![0, 4, 0, 128] ![1, 1, 512, 64] inb_S1x8x512x192_S1x1x512x64_0_4_0_128,
      ropeB (colsL L inb_S512x128_S512x64_0_0)⟩,
   ⟨Rect.unit (s := S1x8x512x192) ![0, 4, 0, 0] ![1, 1, 512, 128] inb_S1x8x512x192_S1x1x512x128_0_4_0_0,
      nopeB A (colsB B 1024 inb_S512x2048_S512x256_0_1024) G⟩,
   ⟨Rect.unit (s := S1x8x512x192) ![0, 3, 0, 128] ![1, 1, 512, 64] inb_S1x8x512x192_S1x1x512x64_0_3_0_128,
      ropeB (colsL L inb_S512x128_S512x64_0_0)⟩,
   ⟨Rect.unit (s := S1x8x512x192) ![0, 3, 0, 0] ![1, 1, 512, 128] inb_S1x8x512x192_S1x1x512x128_0_3_0_0,
      nopeB A (colsB B 768 inb_S512x2048_S512x256_0_768) G⟩,
   ⟨Rect.unit (s := S1x8x512x192) ![0, 2, 0, 128] ![1, 1, 512, 64] inb_S1x8x512x192_S1x1x512x64_0_2_0_128,
      ropeB (colsL L inb_S512x128_S512x64_0_0)⟩,
   ⟨Rect.unit (s := S1x8x512x192) ![0, 2, 0, 0] ![1, 1, 512, 128] inb_S1x8x512x192_S1x1x512x128_0_2_0_0,
      nopeB A (colsB B 512 inb_S512x2048_S512x256_0_512) G⟩,
   ⟨Rect.unit (s := S1x8x512x192) ![0, 1, 0, 128] ![1, 1, 512, 64] inb_S1x8x512x192_S1x1x512x64_0_1_0_128,
      ropeB (colsL L inb_S512x128_S512x64_0_0)⟩,
   ⟨Rect.unit (s := S1x8x512x192) ![0, 1, 0, 0] ![1, 1, 512, 128] inb_S1x8x512x192_S1x1x512x128_0_1_0_0,
      nopeB A (colsB B 256 inb_S512x2048_S512x256_0_256) G⟩,
   ⟨Rect.unit (s := S1x8x512x192) ![0, 0, 0, 128] ![1, 1, 512, 64] inb_S1x8x512x192_S1x1x512x64_0_0_0_128,
      ropeB (colsL L inb_S512x128_S512x64_0_0)⟩,
   ⟨Rect.unit (s := S1x8x512x192) ![0, 0, 0, 0] ![1, 1, 512, 128] inb_S1x8x512x192_S1x1x512x128_0_0_0_0,
      nopeB A (colsB B 0 inb_S512x2048_S512x256_0_0) G⟩]

/-- The stores of a point into the values' block, the last first. -/
def piecesV (A : Vec Ideal S512x512 .bf16) (B : Vec Ideal S512x2048 .bf16) : List (View.Piece (Elt Ideal) S1x8x512x128 .bf16) :=
  [
   ⟨Rect.unit (s := S1x8x512x128) ![0, 7, 0, 0] ![1, 1, 512, 128] inb_S1x8x512x128_S1x1x512x128_0_7_0_0, valB A (colsB B 1792 inb_S512x2048_S512x256_0_1792)⟩,
   ⟨Rect.unit (s := S1x8x512x128) ![0, 6, 0, 0] ![1, 1, 512, 128] inb_S1x8x512x128_S1x1x512x128_0_6_0_0, valB A (colsB B 1536 inb_S512x2048_S512x256_0_1536)⟩,
   ⟨Rect.unit (s := S1x8x512x128) ![0, 5, 0, 0] ![1, 1, 512, 128] inb_S1x8x512x128_S1x1x512x128_0_5_0_0, valB A (colsB B 1280 inb_S512x2048_S512x256_0_1280)⟩,
   ⟨Rect.unit (s := S1x8x512x128) ![0, 4, 0, 0] ![1, 1, 512, 128] inb_S1x8x512x128_S1x1x512x128_0_4_0_0, valB A (colsB B 1024 inb_S512x2048_S512x256_0_1024)⟩,
   ⟨Rect.unit (s := S1x8x512x128) ![0, 3, 0, 0] ![1, 1, 512, 128] inb_S1x8x512x128_S1x1x512x128_0_3_0_0, valB A (colsB B 768 inb_S512x2048_S512x256_0_768)⟩,
   ⟨Rect.unit (s := S1x8x512x128) ![0, 2, 0, 0] ![1, 1, 512, 128] inb_S1x8x512x128_S1x1x512x128_0_2_0_0, valB A (colsB B 512 inb_S512x2048_S512x256_0_512)⟩,
   ⟨Rect.unit (s := S1x8x512x128) ![0, 1, 0, 0] ![1, 1, 512, 128] inb_S1x8x512x128_S1x1x512x128_0_1_0_0, valB A (colsB B 256 inb_S512x2048_S512x256_0_256)⟩,
   ⟨Rect.unit (s := S1x8x512x128) ![0, 0, 0, 0] ![1, 1, 512, 128] inb_S1x8x512x128_S1x1x512x128_0_0_0_0, valB A (colsB B 0 inb_S512x2048_S512x256_0_0)⟩]

/-- The stores fill the block with the heads' keys. -/
theorem heads (A B G L) (y : S1x8x512x192.Idx) : View.canon (pieces A B G L) y = KEY A B G L (y 1) (y 2) (y 3) := by
  unfold pieces
  canon_tiles x hx using View.cover_of_tiledBy _ ![1, 1, 512, 64] (by sl_kernel_rfl) y
  · exact rope_piece A B G L 7 inb_S512x128_S512x64_0_0 x y (by first | exact hx1 | exact hx1.trans (Nat.zero_add _).symm) hx2 hx3
  · exact nope_piece A B G L 7 inb_S512x2048_S512x256_0_1792 x y (by first | exact hx1 | exact hx1.trans (Nat.zero_add _).symm) hx2 hx3
  · exact rope_piece A B G L 6 inb_S512x128_S512x64_0_0 x y (by first | exact hx1 | exact hx1.trans (Nat.zero_add _).symm) hx2 hx3
  · exact nope_piece A B G L 6 inb_S512x2048_S512x256_0_1536 x y (by first | exact hx1 | exact hx1.trans (Nat.zero_add _).symm) hx2 hx3
  · exact rope_piece A B G L 5 inb_S512x128_S512x64_0_0 x y (by first | exact hx1 | exact hx1.trans (Nat.zero_add _).symm) hx2 hx3
  · exact nope_piece A B G L 5 inb_S512x2048_S512x256_0_1280 x y (by first | exact hx1 | exact hx1.trans (Nat.zero_add _).symm) hx2 hx3
  · exact rope_piece A B G L 4 inb_S512x128_S512x64_0_0 x y (by first | exact hx1 | exact hx1.trans (Nat.zero_add _).symm) hx2 hx3
  · exact nope_piece A B G L 4 inb_S512x2048_S512x256_0_1024 x y (by first | exact hx1 | exact hx1.trans (Nat.zero_add _).symm) hx2 hx3
  · exact rope_piece A B G L 3 inb_S512x128_S512x64_0_0 x y (by first | exact hx1 | exact hx1.trans (Nat.zero_add _).symm) hx2 hx3
  · exact nope_piece A B G L 3 inb_S512x2048_S512x256_0_768 x y (by first | exact hx1 | exact hx1.trans (Nat.zero_add _).symm) hx2 hx3
  · exact rope_piece A B G L 2 inb_S512x128_S512x64_0_0 x y (by first | exact hx1 | exact hx1.trans (Nat.zero_add _).symm) hx2 hx3
  · exact nope_piece A B G L 2 inb_S512x2048_S512x256_0_512 x y (by first | exact hx1 | exact hx1.trans (Nat.zero_add _).symm) hx2 hx3
  · exact rope_piece A B G L 1 inb_S512x128_S512x64_0_0 x y (by first | exact hx1 | exact hx1.trans (Nat.zero_add _).symm) hx2 hx3
  · exact nope_piece A B G L 1 inb_S512x2048_S512x256_0_256 x y (by first | exact hx1 | exact hx1.trans (Nat.zero_add _).symm) hx2 hx3
  · exact rope_piece A B G L 0 inb_S512x128_S512x64_0_0 x y (by first | exact hx1 | exact hx1.trans (Nat.zero_add _).symm) hx2 hx3
  · exact nope_piece A B G L 0 inb_S512x2048_S512x256_0_0 x y (by first | exact hx1 | exact hx1.trans (Nat.zero_add _).symm) hx2 hx3

/-- The stores fill the block with the heads' values. -/
theorem headsV (A B) (y : S1x8x512x128.Idx) : View.canon (piecesV A B) y = VAL A B (y 1) (y 2) (y 3) := by
  unfold piecesV
  canon_tiles x hx using View.cover_of_tiledBy _ ![1, 1, 512, 128] (by sl_kernel_rfl) y
  · exact val_piece A B 7 inb_S512x2048_S512x256_0_1792 x y (by first | exact hx1 | exact hx1.trans (Nat.zero_add _).symm) hx2 hx3
  · exact val_piece A B 6 inb_S512x2048_S512x256_0_1536 x y (by first | exact hx1 | exact hx1.trans (Nat.zero_add _).symm) hx2 hx3
  · exact val_piece A B 5 inb_S512x2048_S512x256_0_1280 x y (by first | exact hx1 | exact hx1.trans (Nat.zero_add _).symm) hx2 hx3
  · exact val_piece A B 4 inb_S512x2048_S512x256_0_1024 x y (by first | exact hx1 | exact hx1.trans (Nat.zero_add _).symm) hx2 hx3
  · exact val_piece A B 3 inb_S512x2048_S512x256_0_768 x y (by first | exact hx1 | exact hx1.trans (Nat.zero_add _).symm) hx2 hx3
  · exact val_piece A B 2 inb_S512x2048_S512x256_0_512 x y (by first | exact hx1 | exact hx1.trans (Nat.zero_add _).symm) hx2 hx3
  · exact val_piece A B 1 inb_S512x2048_S512x256_0_256 x y (by first | exact hx1 | exact hx1.trans (Nat.zero_add _).symm) hx2 hx3
  · exact val_piece A B 0 inb_S512x2048_S512x256_0_0 x y (by first | exact hx1 | exact hx1.trans (Nat.zero_add _).symm) hx2 hx3

section

variable (A : Vec Ideal S512x512 .bf16) (B : Vec Ideal S512x256 .bf16) (G : Vec Ideal S1x128 .f32) (L : Vec Ideal S512x64 .bf16)

/-! Every head's pieces are the first head's. -/

theorem r0 : k0_pay9 L = ropeB L := rfl
theorem n0 : k0_pay8 A B G = nopeB A B G := rfl
theorem v0 : k0_pay11 (k0_pay10 A B) = valB A B := rfl
theorem r1 : k0_pay14 L = ropeB L := rfl
theorem n1 : k0_pay13 A B G = nopeB A B G := rfl
theorem v1 : k0_pay16 (k0_pay15 A B) = valB A B := rfl
theorem r2 : k0_pay19 L = ropeB L := rfl
theorem n2 : k0_pay18 A B G = nopeB A B G := rfl
theorem v2 : k0_pay21 (k0_pay20 A B) = valB A B := rfl
theorem r3 : k0_pay24 L = ropeB L := rfl
theorem n3 : k0_pay23 A B G = nopeB A B G := rfl
theorem v3 : k0_pay26 (k0_pay25 A B) = valB A B := rfl
theorem r4 : k0_pay29 L = ropeB L := rfl
theorem n4 : k0_pay28 A B G = nopeB A B G := rfl
theorem v4 : k0_pay31 (k0_pay30 A B) = valB A B := rfl
theorem r5 : k0_pay34 L = ropeB L := rfl
theorem n5 : k0_pay33 A B G = nopeB A B G := rfl
theorem v5 : k0_pay36 (k0_pay35 A B) = valB A B := rfl
theorem r6 : k0_pay39 L = ropeB L := rfl
theorem n6 : k0_pay38 A B G = nopeB A B G := rfl
theorem v6 : k0_pay40 A B = valB A B := rfl
theorem r7 : k0_pay43 L = ropeB L := rfl
theorem n7 : k0_pay42 A B G = nopeB A B G := rfl
theorem v7 : k0_pay44 A B = valB A B := rfl

end

variable (m : (ℓ : Loc nD τ sig) → Buf (Elt Ideal) ℓ)

/-- The normalized latent after a first point of a block of rows. -/
theorem scr0_A (c : Dev nD) (t : Fin cfg0.N) (h : t.val % 4 = 0) :
    (outsAt0 m c t.val t.isLt).2.2.1 = k0_pay1 (F := Ideal) (X0_0 m c t) (iblk m c 5 t) := by
  funext y; rw [outsAt0_A m c t h]; frame_out

/-- The rotated key after a first point of a block of rows. -/
theorem scr1_A (c : Dev nD) (t : Fin cfg0.N) (h : t.val % 4 = 0) :
    (outsAt0 m c t.val t.isLt).2.2.2 = k0_pay6 (F := Ideal) (iblk m c 1 t) (iblk m c 6 t) (k0_pay3 (F := Ideal) (iblk m c 2 t) (iblk m c 3 t))
      (k0_pay5 (F := Ideal) (k0_pay4 (F := Ideal) (iblk m c 2 t) (iblk m c 3 t) (iblk m c 4 t))) := by
  funext y; rw [outsAt0_A m c t h]; frame_out

/-- The scratch arrays after another point: what the point before left. -/
theorem scr_B (c : Dev nD) (t : Fin cfg0.N) (h : ¬ t.val % 4 = 0) :
    (outsAt0 m c t.val t.isLt).2.2 = (outsAt0 m c (t.val - 1) (Nat.lt_of_le_of_lt (Nat.sub_le _ _) t.isLt)).2.2 := by
  rw [outsAt0_B m c t h]; rfl

/-- The keys' block after a point, over the scratch arrays the point leaves. -/
theorem out_at (c : Dev nD) (t : Fin cfg0.N) (y) :
    (outsAt0 m c t.val t.isLt).1 y = KEY (outsAt0 m c t.val t.isLt).2.2.1 (iblk m c 8 t) (iblk m c 7 t)
      (outsAt0 m c t.val t.isLt).2.2.2 (y 1) (y 2) (y 3) := by
  by_cases h : t.val % 4 = 0
  · rw [scr0_A m c t h, scr1_A m c t h, outsAt0_A m c t h]; frame_out
    rw [View.readCov_fill _ _ _ _ _ (by intro a; fin_cases a <;> rfl)]
    rw [r7, n7, r6, n6, r5, n5, r4, n4, r3, n3, r2, n2, r1, n1, r0, n0]
    exact heads (k0_pay1 (F := Ideal) (X0_0 m c t) (iblk m c 5 t)) (iblk m c 8 t) (iblk m c 7 t)
      (k0_pay6 (F := Ideal) (iblk m c 1 t) (iblk m c 6 t) (k0_pay3 (F := Ideal) (iblk m c 2 t) (iblk m c 3 t))
        (k0_pay5 (F := Ideal) (k0_pay4 (F := Ideal) (iblk m c 2 t) (iblk m c 3 t) (iblk m c 4 t)))) y
  · rw [scr_B m c t h, outsAt0_B m c t h]; frame_out
    rw [(Memref.isWhole_whole cc0_scratch0).read_unread, (Memref.isWhole_whole cc0_scratch1).read_unread]
    rw [r7, n7, r6, n6, r5, n5, r4, n4, r3, n3, r2, n2, r1, n1, r0, n0]
    exact heads ((outsAt0 m c (t.val - 1) (Nat.lt_of_le_of_lt (Nat.sub_le _ _) t.isLt)).2.2.1) (iblk m c 8 t) (iblk m c 7 t)
      ((outsAt0 m c (t.val - 1) (Nat.lt_of_le_of_lt (Nat.sub_le _ _) t.isLt)).2.2.2) y

/-- The values' block after a point, over the scratch array the point leaves. -/
theorem outV_at (c : Dev nD) (t : Fin cfg0.N) (y) :
    (outsAt0 m c t.val t.isLt).2.1 y = VAL (outsAt0 m c t.val t.isLt).2.2.1 (iblk m c 8 t) (y 1) (y 2) (y 3) := by
  by_cases h : t.val % 4 = 0
  · rw [scr0_A m c t h, outsAt0_A m c t h]; frame_out
    rw [v7, v6, v5, v4, v3, v2, v1, v0]
    exact headsV (k0_pay1 (F := Ideal) (X0_0 m c t) (iblk m c 5 t)) (iblk m c 8 t) y
  · rw [scr_B m c t h, outsAt0_B m c t h]; frame_out
    rw [(Memref.isWhole_whole cc0_scratch0).read_unread]
    rw [v7, v6, v5, v4, v3, v2, v1, v0]
    exact headsV ((outsAt0 m c (t.val - 1) (Nat.lt_of_le_of_lt (Nat.sub_le _ _) t.isLt)).2.2.1) (iblk m c 8 t) y

end Cert.KvProjIdeal.Pays

end
-- ==== Proof.KvProjRef.lean ====
module

public import proofs.«01_k».proof.Proof.Gen.KvProjRefIdeal.Run
public import Idealize.ShloMosaic.Lib.Pipeline.ValueKit
public import proofs.«01_k».proof.Proof.Rope

/-! The keys' and values' reference, stage by stage, at an index: the normalized latent, its product with the
weight, the norm of every head's key, the rotation of the 64 entries that all heads share, the values. -/

@[expose] public section

set_option maxRecDepth 16384

noncomputable section

open Idealize.ShloMosaic Idealize.ShloMosaic.TcCoe Idealize.SL.Sem

namespace Cert.KvProjRefIdeal.KValue

open Cert.KvProjRefIdeal Cert.KvProjRefIdeal.Gen Cert.Rope

/-- The latent's columns, with the rows in their two axes. -/
def lat0 (X : FVec Ideal S16384x1600 .bf16) : FVec Ideal S4x4096x512 .f32 :=
  shapeCast _ (extf .f32 (extractStridedSlice S16384x512 ![0, 1024] X slices_S16384x1600_S16384x512_0_1024) bitsLt_bf16_f32) shapeCasts_S16384x512_S4x4096x512

/-- The shared key's columns, with the rows in their two axes. -/
def key0 (X : FVec Ideal S16384x1600 .bf16) : FVec Ideal S4x4096x64 .f32 :=
  shapeCast _ (extf .f32 (extractStridedSlice S16384x64 ![0, 1536] X slices_S16384x1600_S16384x64_0_1536) bitsLt_bf16_f32) shapeCasts_S16384x64_S4x4096x64

/-- The latent's norm. -/
def lat1 (x : FVec Ideal S4x4096x512 .f32) (A : FVec Ideal S1x512 .f32) : FVec Ideal S4x4096x512 .f32 :=
  mulf (mulf x (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf x x) (constant (F := Ideal) S_ .f32 0x00000000#32) reducesTo_S4x4096x512_S4x4096_d2 h_S_)) (broadcastInDim S4x4096x1 ![] bcast_S_S4x4096x1 (constant (F := Ideal) S_ .f32 0x44000000#32))) (broadcastInDim S4x4096x1 ![] bcast_S_S4x4096x1 (constant (F := Ideal) S_ .f32 0x358637BD#32))))))
    (broadcastInDim S4x4096x512 ![0, 1, 2] bcast_S1x1x512_S4x4096x512_0_1_2 (broadcastInDim S1x1x512 ![2] bcast_S512_S1x1x512_2 (shapeCast _ A shapeCasts_S1x512_S512)))

/-- The heads' vectors: a key's 128 entries and a value's 128. -/
def heads (l : FVec Ideal S4x4096x512 .f32) (B : FVec Ideal S1x512x8192 .f32) : FVec Ideal S4x4096x32x256 .f32 :=
  shapeCast _ (Host.dotGeneral dot_S4x4096x512_S512x8192_S4x4096x8192_2_0_01_1_n_n none l (shapeCast _ B shapeCasts_S1x512x8192_S512x8192)) shapeCasts_S4x4096x8192_S4x4096x32x256

/-- The angles' factors. -/
def invf : FVec Ideal S32 .f32 :=
  Host.powf (broadcastInDim S32 ![] bcast_S_S32 (constant (F := Ideal) S_ .f32 0x461C4000#32)) (Host.divf (Host.negf (addf (broadcastInDim S32 ![] bcast_S_S32 (constant (F := Ideal) S_ .f32 0x00000000#32)) (mulf (broadcastInDim S32 ![] bcast_S_S32 (constant (F := Ideal) S_ .f32 0x40000000#32)) (sitofp .f32 (iotaInDim S32 32 0))))) (broadcastInDim S32 ![] bcast_S_S32 (constant (F := Ideal) S_ .f32 0x42800000#32)))

/-- The angles. -/
def angles (W : IVec S4x4096 32) (v : FVec Ideal S32 .f32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 W)))
    (broadcastInDim S4x4096x32 ![0, 1, 2] bcast_S1x1x32_S4x4096x32_0_1_2 (broadcastInDim S1x1x32 ![2] bcast_S32_S1x1x32_2 v))

/-- A head's first 128 entries, normalized. -/
def nope (q : FVec Ideal S4x4096x32x128 .f32) (C : FVec Ideal S1x128 .f32) : FVec Ideal S4x4096x32x128 .f32 :=
  mulf (mulf q (broadcastInDim S4x4096x32x128 ![0, 1, 2, 3] bcast_S4x4096x32x1_S4x4096x32x128_0_1_2_3 (Host.rsqrt (addf (Host.divf (broadcastInDim S4x4096x32x1 ![0, 1, 2] bcast_S4x4096x32_S4x4096x32x1_0_1_2 (Host.reduceAdd (mulf q q) (constant (F := Ideal) S_ .f32 0x00000000#32) reducesTo_S4x4096x32x128_S4x4096x32_d3 h_S_)) (broadcastInDim S4x4096x32x1 ![] bcast_S_S4x4096x32x1 (constant (F := Ideal) S_ .f32 0x43000000#32))) (broadcastInDim S4x4096x32x1 ![] bcast_S_S4x4096x32x1 (constant (F := Ideal) S_ .f32 0x358637BD#32))))))
    (broadcastInDim S4x4096x32x128 ![0, 1, 2, 3] bcast_S1x1x1x128_S4x4096x32x128_0_1_2_3 (broadcastInDim S1x1x1x128 ![3] bcast_S128_S1x1x1x128_3 (shapeCast _ C shapeCasts_S1x128_S128)))

/-- The shared key, normalized. -/
def rope (q : FVec Ideal S4x4096x64 .f32) (D : FVec Ideal S1x64 .f32) : FVec Ideal S4x4096x64 .f32 :=
  mulf (mulf q (broadcastInDim S4x4096x64 ![0, 1, 2] bcast_S4x4096x1_S4x4096x64_0_1_2 (Host.rsqrt (addf (Host.divf (broadcastInDim S4x4096x1 ![0, 1] bcast_S4x4096_S4x4096x1_0_1 (Host.reduceAdd (mulf q q) (constant (F := Ideal) S_ .f32 0x00000000#32) reducesTo_S4x4096x64_S4x4096_d2 h_S_)) (broadcastInDim S4x4096x1 ![] bcast_S_S4x4096x1 (constant (F := Ideal) S_ .f32 0x42800000#32))) (broadcastInDim S4x4096x1 ![] bcast_S_S4x4096x1 (constant (F := Ideal) S_ .f32 0x358637BD#32))))))
    (broadcastInDim S4x4096x64 ![0, 1, 2] bcast_S1x1x64_S4x4096x64_0_1_2 (broadcastInDim S1x1x64 ![2] bcast_S64_S1x1x64_2 (shapeCast _ D shapeCasts_S1x64_S64)))

/-- The rotation. -/
def turn (r : FVec Ideal S4x4096x64 .f32) (c s : FVec Ideal S4x4096x32 .f32) : FVec Ideal S4x4096x64 .f32 :=
  concatenate S4x4096x64 2 [⟨S4x4096x32, (subf (mulf (extractStridedSlice S4x4096x32 ![0, 0, 0] r slices_S4x4096x64_S4x4096x32_0_0_0) c) (mulf (extractStridedSlice S4x4096x32 ![0, 0, 32] r slices_S4x4096x64_S4x4096x32_0_0_32) s))⟩,
    ⟨S4x4096x32, (addf (mulf (extractStridedSlice S4x4096x32 ![0, 0, 32] r slices_S4x4096x64_S4x4096x32_0_0_32) c) (mulf (extractStridedSlice S4x4096x32 ![0, 0, 0] r slices_S4x4096x64_S4x4096x32_0_0_0) s))⟩] concatenates_S4x4096x32_S4x4096x32_S4x4096x64_d2

/-- Every head's part and the shared part together, the heads before the rows. -/
def fin (n : FVec Ideal S4x4096x32x128 .f32) (r : FVec Ideal S4x4096x64 .f32) : FVec Ideal S4x32x4096x192 .bf16 :=
  truncf .bf16 (transpose S4x32x4096x192 [0, 2, 1, 3] (concatenate S4x4096x32x192 3 [⟨S4x4096x32x128, n⟩, ⟨S4x4096x32x64, (broadcastInDim S4x4096x32x64 ![0, 1, 2, 3] bcast_S4x4096x1x64_S4x4096x32x64_0_1_2_3 (broadcastInDim S4x4096x1x64 ![0, 1, 3] bcast_S4x4096x64_S4x4096x1x64_0_1_3 r))⟩] concatenates_S4x4096x32x128_S4x4096x32x64_S4x4096x32x192_d3) transposes_S4x4096x32x192_S4x32x4096x192_0_2_1_3) bitsLt_bf16_f32

/-- The heads' vectors of the arguments. -/
def HV (X : FVec Ideal S16384x1600 .bf16) (A : FVec Ideal S1x512 .f32) (B : FVec Ideal S1x512x8192 .f32) := heads (lat1 (lat0 X) A) B

/-- The reference's keys over the argument arrays. -/
def REF (X : FVec Ideal S16384x1600 .bf16) (W : IVec S4x4096 32) (A : FVec Ideal S1x512 .f32) (B : FVec Ideal S1x512x8192 .f32)
    (C : FVec Ideal S1x128 .f32) (D : FVec Ideal S1x64 .f32) : FVec Ideal S4x32x4096x192 .bf16 :=
  fin (nope (extractStridedSlice S4x4096x32x128 ![0, 0, 0, 0] (HV X A B) slices_S4x4096x32x256_S4x4096x32x128_0_0_0_0) C)
    (turn (rope (key0 X) D) (Host.cos (angles W invf)) (Host.sin (angles W invf)))

/-- The reference's values over the argument arrays. -/
def REFV (X : FVec Ideal S16384x1600 .bf16) (A : FVec Ideal S1x512 .f32) (B : FVec Ideal S1x512x8192 .f32) : FVec Ideal S4x32x4096x128 .bf16 :=
  truncf .bf16 (transpose S4x32x4096x128 [0, 2, 1, 3] (extractStridedSlice S4x4096x32x128 ![0, 0, 0, 128] (HV X A B) slices_S4x4096x32x256_S4x4096x32x128_0_0_0_128) transposes_S4x4096x32x128_S4x32x4096x128_0_2_1_3) bitsLt_bf16_f32

/-- The normalized latent of token `(b, s)` at column `k`. -/
def latv (X : FVec Ideal S16384x1600 .bf16) (A : FVec Ideal S1x512 .f32) (b : Fin 4) (s : Fin 4096) (k : Fin 512) : EReal :=
  nrm (Ideal.ofBits .f32 0x44000000#32) (fun k : Fin 512 => X (ix2 (n0 := 16384) (n1 := 1600) ⟨b * 4096 + s, by omega⟩ ⟨1024 + k, by omega⟩)) k * A (ix2 0 k)

/-- Column `n` of the product with the weight. -/
def qv (X : FVec Ideal S16384x1600 .bf16) (A : FVec Ideal S1x512 .f32) (B : FVec Ideal S1x512x8192 .f32) (b : Fin 4) (s : Fin 4096) (n : Fin 8192) : EReal :=
  ∑ k : Fin 512, latv X A b s k * B (ix3 0 k n)

/-- An angle. -/
def ang (W : IVec S4x4096 32) (b : Fin 4) (s : Fin 4096) (j : Fin 32) : EReal :=
  FloatOps.sitofp (F := Ideal) .f32 (W (ix2 b s)) * invf (ix1 j)

/-- The shared key of token `(b, s)`, rotated. -/
def keyv (X : FVec Ideal S16384x1600 .bf16) (W : IVec S4x4096 32) (D : FVec Ideal S1x64 .f32) (b : Fin 4) (s : Fin 4096) (j : Fin 64) : EReal :=
  rot (fun j => nrm (Ideal.ofBits .f32 0x42800000#32) (fun j : Fin 64 => X (ix2 (n0 := 16384) (n1 := 1600) ⟨b * 4096 + s, by omega⟩ ⟨1536 + j, by omega⟩)) j * D (ix2 0 j))
    (fun j => Ideal.cos (ang W b s j)) (fun j => Ideal.sin (ang W b s j)) j

/-- Entry `j` of head `h`'s key of token `(b, s)`. -/
def KV (X : FVec Ideal S16384x1600 .bf16) (W : IVec S4x4096 32) (A : FVec Ideal S1x512 .f32) (B : FVec Ideal S1x512x8192 .f32) (C : FVec Ideal S1x128 .f32) (D : FVec Ideal S1x64 .f32) (b : Fin 4) (h : Fin 32) (s : Fin 4096) (j : Fin 192) : EReal :=
  if hj : (j : ℕ) < 128 then nrm (Ideal.ofBits .f32 0x43000000#32) (fun j : Fin 128 => qv X A B b s ⟨h * 256 + j, by omega⟩) ⟨j, hj⟩ * C (ix2 (n1 := 128) 0 ⟨j, hj⟩)
  else keyv X W D b s ⟨j - 128, by omega⟩

/-- Entry `j` of head `h`'s value of token `(b, s)`. -/
def VV (X : FVec Ideal S16384x1600 .bf16) (A : FVec Ideal S1x512 .f32) (B : FVec Ideal S1x512x8192 .f32) (b : Fin 4) (h : Fin 32) (s : Fin 4096) (j : Fin 128) : EReal :=
  qv X A B b s ⟨h * 256 + 128 + j, by omega⟩

theorem lat0_at (X) (b : Fin 4) (s : Fin 4096) (k : Fin 512) : lat0 X (ix3 b s k) = X (ix2 (n0 := 16384) (n1 := 1600) ⟨b * 4096 + s, by omega⟩ ⟨1024 + k, by omega⟩) := by
  pointwise [lat0]

theorem key0_at (X) (b : Fin 4) (s : Fin 4096) (k : Fin 64) : key0 X (ix3 b s k) = X (ix2 (n0 := 16384) (n1 := 1600) ⟨b * 4096 + s, by omega⟩ ⟨1536 + k, by omega⟩) := by
  pointwise [key0]

theorem lat1_at (x A) (b : Fin 4) (s : Fin 4096) (k : Fin 512) : lat1 x A (ix3 b s k)
    = nrm (Ideal.ofBits .f32 0x44000000#32) (fun k : Fin 512 => x (ix3 b s k)) k * A (ix2 0 k) := by
  unfold nrm
  pointwise [lat1]

theorem heads_at (l B) (b : Fin 4) (s : Fin 4096) (h : Fin 32) (j : Fin 256) : heads l B (ix4 b s h j)
    = ∑ k : Fin 512, l (ix3 b s k) * B (ix3 (n2 := 8192) 0 k ⟨h * 256 + j, by omega⟩) := by
  pointwise [heads]

theorem angles_at (W v) (b : Fin 4) (s : Fin 4096) (j : Fin 32) : angles W v (ix3 b s j)
    = FloatOps.sitofp (F := Ideal) .f32 (W (ix2 b s)) * v (ix1 j) := by
  pointwise [angles]

theorem nope_at (q C) (b : Fin 4) (s : Fin 4096) (h : Fin 32) (j : Fin 128) : nope q C (ix4 b s h j)
    = nrm (Ideal.ofBits .f32 0x43000000#32) (fun j : Fin 128 => q (ix4 b s h j)) j * C (ix2 0 j) := by
  unfold nrm
  pointwise [nope]

theorem rope_at (q D) (b : Fin 4) (s : Fin 4096) (j : Fin 64) : rope q D (ix3 b s j)
    = nrm (Ideal.ofBits .f32 0x42800000#32) (fun j : Fin 64 => q (ix3 b s j)) j * D (ix2 0 j) := by
  unfold nrm
  pointwise [rope]

theorem turn_at (r c s') (b : Fin 4) (s : Fin 4096) (j : Fin 64) : turn r c s' (ix3 b s j)
    = if hj : (j : ℕ) < 32 then r (ix3 b s j) * c (ix3 (n2 := 32) b s ⟨j, hj⟩) - r (ix3 (n2 := 64) b s ⟨j + 32, by omega⟩) * s' (ix3 (n2 := 32) b s ⟨j, hj⟩)
      else r (ix3 b s j) * c (ix3 (n2 := 32) b s ⟨j - 32, by omega⟩) + r (ix3 (n2 := 64) b s ⟨j - 32, by omega⟩) * s' (ix3 (n2 := 32) b s ⟨j - 32, by omega⟩) := by
  pointwise [turn]
  by_cases hj : (j : ℕ) < 32
  · rw [dif_pos hj, dif_pos hj]
    have e : (⟨32 + (j : ℕ), by omega⟩ : Fin 64) = ⟨j + 32, by omega⟩ := Fin.ext (Nat.add_comm _ _)
    rw [e]
  · rw [dif_neg hj, dif_neg hj]
    have e : (⟨32 + ((j : ℕ) - 32), by omega⟩ : Fin 64) = j := Fin.ext (by show 32 + ((j : ℕ) - 32) = j; omega)
    rw [e]

theorem fin_at (n r) (b : Fin 4) (s : Fin 4096) (h : Fin 32) (j : Fin 192) : fin n r (ix4 b h s j)
    = if hj : (j : ℕ) < 128 then n (ix4 (n3 := 128) b s h ⟨j, hj⟩) else r (ix3 (n2 := 64) b s ⟨j - 128, by omega⟩) := by
  pointwise [fin]

theorem HV_at (X A B) (b : Fin 4) (s : Fin 4096) (h : Fin 32) (j : Fin 256) : HV X A B (ix4 b s h j) = qv X A B b s ⟨h * 256 + j, by omega⟩ := by
  unfold HV qv latv
  rw [heads_at]
  refine Finset.sum_congr rfl fun k _ => congrArg (· * _) ?_
  rw [lat1_at]
  simp only [lat0_at]

/-- The reference's keys at an index. -/
theorem ref_at (X W A B C D) (b : Fin 4) (h : Fin 32) (s : Fin 4096) (j : Fin 192) : REF X W A B C D (ix4 b h s j) = KV X W A B C D b h s j := by
  unfold REF KV
  rw [fin_at]
  split_ifs with hj
  · refine (nope_at _ _ _ _ _ _).trans (congrArg (· * _) (congrArg (nrm _ · _) (funext fun j => ?_)))
    refine Eq.trans (b := HV X A B (ix4 (n3 := 256) b s h ⟨j, by omega⟩)) ?_ (HV_at X A B b s h ⟨j, by omega⟩)
    pointwise
  · have e : ∀ j : Fin 64, rope (key0 X) D (ix3 b s j)
        = nrm (Ideal.ofBits .f32 0x42800000#32) (fun j : Fin 64 => X (ix2 (n0 := 16384) (n1 := 1600) ⟨b * 4096 + s, by omega⟩ ⟨1536 + j, by omega⟩)) j * D (ix2 0 j) := fun j =>
      (rope_at _ _ _ _ _).trans (congrArg (· * _) (congrArg (nrm _ · _) (funext fun j => key0_at X b s j)))
    have ec : ∀ j : Fin 32, Host.cos (angles W invf) (ix3 b s j) = Ideal.cos (ang W b s j) := fun j =>
      congrArg Ideal.cos (angles_at W invf b s j)
    have es : ∀ j : Fin 32, Host.sin (angles W invf) (ix3 b s j) = Ideal.sin (ang W b s j) := fun j =>
      congrArg Ideal.sin (angles_at W invf b s j)
    refine (turn_at _ _ _ _ _ _).trans ?_
    simp only [e, ec, es]
    rfl

/-- The reference's values at an index. -/
theorem refV_at (X A B) (b : Fin 4) (h : Fin 32) (s : Fin 4096) (j : Fin 128) : REFV X A B (ix4 b h s j) = VV X A B b h s j := by
  refine Eq.trans (b := HV X A B (ix4 (n3 := 256) b s h ⟨128 + j, by omega⟩)) ?_ ((HV_at X A B b s h ⟨128 + j, by omega⟩).trans
    (congrArg (qv X A B b s) (Fin.ext (Nat.add_assoc _ _ _).symm)))
  unfold REFV
  pointwise

theorem res_eq (m : (ℓ : Loc nD τ sig) → Buf (Elt Ideal) ℓ) (c : Dev nD) : Cert.KvProjRefIdeal.Value.res_main_v84 m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.KvProjRefIdeal.KValue

end
-- ==== Proof.KvProjHost.lean ====
module

public import proofs.«01_k».proof.Proof.KvProjHeads
public import proofs.«01_k».proof.Proof.KvProjRef

/-! The arrays that the program hands the keys' and values' kernel, as functions of the arguments. -/

@[expose] public section

set_option maxRecDepth 16384

noncomputable section

open Idealize.ShloMosaic Idealize.ShloMosaic.TcCoe Idealize.SL.Sem
open Idealize.ShloMosaic.Pipeline (Dat)

namespace Cert.KvProjIdeal.KValue

open Cert.KvProjIdeal Cert.KvProjIdeal.Gen Cert.Rope Cert.KvProjRefIdeal.KValue

variable (m : (ℓ : Loc nD τ sig) → Buf (Elt Ideal) ℓ)

/-- The rows, the shared key's columns twice, the second time with the halves exchanged. -/
def wide (X : FVec Ideal S16384x1600 .bf16) : FVec Ideal S16384x1664 .bf16 :=
  concatenate S16384x1664 1 [⟨S16384x1600, X⟩, ⟨S16384x64, concatenate S16384x64 1 [⟨S16384x32, extractStridedSlice S16384x32 ![0, 32] (extractStridedSlice S16384x64 ![0, 1536] X slices_S16384x1600_S16384x64_0_1536) slices_S16384x64_S16384x32_0_32⟩,
    ⟨S16384x32, extractStridedSlice S16384x32 ![0, 0] (extractStridedSlice S16384x64 ![0, 1536] X slices_S16384x1600_S16384x64_0_1536) slices_S16384x64_S16384x32_0_0⟩] concatenates_S16384x32_S16384x32_S16384x64_d1⟩] concatenates_S16384x1600_S16384x64_S16384x1664_d1

/-- The weight. -/
def weight (B : FVec Ideal S1x512x8192 .f32) : FVec Ideal S512x8192 .bf16 :=
  truncf .bf16 (shapeCast S512x8192 B shapeCasts_S1x512x8192_S512x8192) bitsLt_bf16_f32

/-- The angles' factors four times. -/
def tile4 (v : FVec Ideal S32 .f32) : FVec Ideal S1x128 .f32 :=
  shapeCast S1x128 (shapeCast S128 (broadcastInDim S4x32 ![0, 1] bcast_S1x32_S4x32_0_1 (shapeCast S1x32 v shapeCasts_S32_S1x32)) shapeCasts_S4x32_S128) shapeCasts_S128_S1x128

/-- The sines' signs. -/
def signs : FVec Ideal S1x128 .f32 :=
  shapeCast S1x128 (shapeCast S128 (broadcastInDim S2x64 ![0, 1] bcast_S1x64_S2x64_0_1 (shapeCast S1x64 (concatenate S64 0 [⟨S32, Host.negf (broadcastInDim S32 ![] bcast_S_S32 (constant (F := Ideal) S_ .f32 0x3F800000#32))⟩,
    ⟨S32, broadcastInDim S32 ![] bcast_S_S32 (constant (F := Ideal) S_ .f32 0x3F800000#32)⟩] concatenates_S32_S32_S64_d0) shapeCasts_S64_S1x64)) shapeCasts_S2x64_S128) shapeCasts_S128_S1x128

/-- The shared key's gains twice, the second time with the halves exchanged. -/
def gains (D : FVec Ideal S1x64 .f32) : FVec Ideal S1x128 .f32 :=
  shapeCast S1x128 (concatenate S128 0 [⟨S64, shapeCast S64 D shapeCasts_S1x64_S64⟩,
    ⟨S64, concatenate S64 0 [⟨S32, extractStridedSlice S32 ![32] (shapeCast S64 D shapeCasts_S1x64_S64) slices_S64_S32_32⟩,
      ⟨S32, extractStridedSlice S32 ![0] (shapeCast S64 D shapeCasts_S1x64_S64) slices_S64_S32_0⟩] concatenates_S32_S32_S64_d0⟩] concatenates_S64_S64_S128_d0) shapeCasts_S128_S1x128

theorem V_x (c : Dev nD) : V m c main_v4 = wide (m ((c : Thread nD τ).loc main_arg0)) := by
  unfold V; after_results <;> rfl

theorem V_p (c : Dev nD) : V m c main_v5 = shapeCast S16384x1 (m ((c : Thread nD τ).loc main_arg1)) shapeCasts_S4x4096_S16384x1 := by
  unfold V; after_results <;> rfl

theorem V_w (c : Dev nD) : V m c main_v8 = weight (m ((c : Thread nD τ).loc main_arg3)) := by
  unfold V; after_results <;> rfl

theorem V_f (c : Dev nD) : V m c main_v24 = tile4 invf := by
  unfold V; after_results <;> rfl

theorem V_s (c : Dev nD) : V m c main_v32 = signs := by
  unfold V; after_results <;> rfl

theorem V_k (c : Dev nD) : V m c main_v37 = gains (m ((c : Thread nD τ).loc main_arg5)) := by
  unfold V; after_results <;> rfl

theorem V_l (c : Dev nD) : V m c main_v38 = shapeCast S1x512 (shapeCast S512 (m ((c : Thread nD τ).loc main_arg2)) shapeCasts_S1x512_S512) shapeCasts_S512_S1x512 := by
  unfold V; after_results <;> rfl

theorem V_n (c : Dev nD) : V m c main_v39 = shapeCast S1x128 (shapeCast S128 (m ((c : Thread nD τ).loc main_arg4)) shapeCasts_S1x128_S128) shapeCasts_S128_S1x128 := by
  unfold V; after_results <;> rfl

theorem wide_lat (X) (r : Fin 16384) (k : Fin 512) :
    wide X (ix2 (n1 := 1664) r ⟨1024 + k, by omega⟩) = X (ix2 (n1 := 1600) r ⟨1024 + k, by omega⟩) := by
  have hk := k.isLt
  pointwise [wide]
  rw [dif_pos (by omega)]

theorem wide_key (X) (r : Fin 16384) (j : Fin 128) :
    wide X (ix2 (n1 := 1664) r ⟨1536 + j, by omega⟩) = X (ix2 (n1 := 1600) r ⟨1536 + src j, by omega⟩) := by
  have hj := j.isLt
  have e : ((j : ℕ) < 64 ∧ (src j : ℕ) = j) ∨ (64 ≤ (j : ℕ) ∧ (src j : ℕ) = (j + 32) % 64) := by
    rw [src_val]; split_ifs <;> omega
  pointwise [wide]
  split_ifs <;> first | omega | exact congrArg (fun n => X (ix2 r n)) (Fin.ext (by dsimp only <;> omega))

theorem weight_at (B) (k : Fin 512) (n : Fin 8192) : weight B (ix2 k n) = B (ix3 0 k n) := by
  pointwise [weight]

theorem tile4_at (v) (j : Fin 128) : tile4 v (ix2 0 j) = v (ix1 (n0 := 32) ⟨j % 32, Nat.mod_lt _ (by norm_num)⟩) := by
  pointwise [tile4]

theorem signs_at (j : Fin 128) : signs (ix2 0 j) = sgn j := by
  pointwise [signs]
  unfold sgn
  rw [one_eq]
  split_ifs <;> rfl

theorem gains_at (D) (j : Fin 128) : gains D (ix2 0 j) = D (ix2 0 (src j)) := by
  pointwise [gains]
  have hj := j.isLt
  have e : ((j : ℕ) < 64 ∧ (src j : ℕ) = j) ∨ (64 ≤ (j : ℕ) ∧ (src j : ℕ) = (j + 32) % 64) := by
    rw [src_val]; split_ifs <;> omega
  split_ifs <;> first | omega | exact congrArg (fun n => D (ix2 0 n)) (Fin.ext (by dsimp only <;> omega))

end Cert.KvProjIdeal.KValue

end
-- ==== Proof.KvProjValue.lean ====
module

public import proofs.«01_k».proof.Proof.KvProjHost

/-! The keys and the values: what the kernel leaves in its two result arrays are the reference's arrays. -/

@[expose] public section

set_option maxRecDepth 16384

noncomputable section

open Idealize.ShloMosaic Idealize.ShloMosaic.TcCoe Idealize.SL.Sem
open Idealize.ShloMosaic.Pipeline (Dat)

namespace Cert.KvProjIdeal.KValue

open Cert.KvProjIdeal Cert.KvProjIdeal.Gen Cert.Rope Cert.KvProjRefIdeal.KValue Cert.KvProjIdeal.Pays

variable (m : (ℓ : Loc nD τ sig) → Buf (Elt Ideal) ℓ)

/-- Where the windows' blocks lie at a grid point. -/
theorem idx : ∀ t : Fin cfg0.N, win0_0.index t = ![t.val / 4, 2] ∧ win0_1.index t = ![t.val / 4, 12] ∧ win0_2.index t = ![t.val / 4, 0]
    ∧ win0_3.index t = ![0, 0] ∧ win0_4.index t = ![0, 0] ∧ win0_5.index t = ![0, 0] ∧ win0_6.index t = ![0, 0] ∧ win0_7.index t = ![0, 0]
    ∧ win0_8.index t = ![0, t.val % 4] ∧ win0_9.index t = ![t.val / 4 / 8, t.val % 4, t.val / 4 % 8, 0]
    ∧ win0_10.index t = ![t.val / 4 / 8, t.val % 4, t.val / 4 % 8, 0] :=
  (by decide +kernel : ∀ t : Fin grid0.N, _)

theorem lt (t : Fin cfg0.N) : t.val < 128 := lt_of_lt_of_eq t.isLt (by decide +kernel)

/-- The batch and the position of row `p` of the block of rows at grid point `n`. -/
def bb (n : ℕ) (h : n < 128) (p : Fin 512) : Fin 4 := ⟨(n / 4 * 512 + p) / 4096, by omega⟩
def ss (n : ℕ) (p : Fin 512) : Fin 4096 := ⟨(n / 4 * 512 + p) % 4096, by omega⟩

abbrev aX (c : Dev nD) : FVec Ideal S16384x1600 .bf16 := m ((c : Thread nD τ).loc main_arg0)
abbrev aW (c : Dev nD) : IVec S4x4096 32 := m ((c : Thread nD τ).loc main_arg1)
abbrev aA (c : Dev nD) : FVec Ideal S1x512 .f32 := m ((c : Thread nD τ).loc main_arg2)
abbrev aB (c : Dev nD) : FVec Ideal S1x512x8192 .f32 := m ((c : Thread nD τ).loc main_arg3)
abbrev aC (c : Dev nD) : FVec Ideal S1x128 .f32 := m ((c : Thread nD τ).loc main_arg4)
abbrev aD (c : Dev nD) : FVec Ideal S1x64 .f32 := m ((c : Thread nD τ).loc main_arg5)

theorem x_at (c : Dev nD) (t : Fin cfg0.N) (p : Fin 512) (k : Fin 512) : X0_0 m c t (ix2 p k)
    = aX m c (ix2 (n0 := 16384) (n1 := 1600) ⟨bb t.val (lt t) p * 4096 + ss t.val p, by omega⟩ ⟨1024 + k, by omega⟩) := by
  unfold X0_0 Pipeline.Window.fill
  rw [dif_pos (moved0_0 t _)]
  refine (congrFun (V_x m c) _).trans (Eq.trans ?_ (wide_lat (aX m c) ⟨bb t.val (lt t) p * 4096 + ss t.val p, by omega⟩ k))
  unfold bb ss
  blk_ext [idx t]

theorem k_at (c : Dev nD) (t : Fin cfg0.N) (p : Fin 512) (j : Fin 128) : iblk m c 1 t (ix2 p j)
    = aX m c (ix2 (n0 := 16384) (n1 := 1600) ⟨bb t.val (lt t) p * 4096 + ss t.val p, by omega⟩ ⟨1536 + src j, by omega⟩) := by
  refine (congrFun (V_x m c) _).trans (Eq.trans ?_ (wide_key (aX m c) ⟨bb t.val (lt t) p * 4096 + ss t.val p, by omega⟩ j))
  unfold bb ss
  blk_ext [idx t]

theorem pcast (W : IVec S4x4096 32) (r : Fin 16384) : shapeCast S16384x1 W shapeCasts_S4x4096_S16384x1 (ix2 r 0)
    = W (ix2 (n0 := 4) (n1 := 4096) ⟨r / 4096, by omega⟩ ⟨r % 4096, by omega⟩) := by
  pointwise

theorem p_at (c : Dev nD) (t : Fin cfg0.N) (p : Fin 512) : iblk m c 2 t (ix2 p 0) = aW m c (ix2 (bb t.val (lt t) p) (ss t.val p)) := by
  refine (congrFun (V_p m c) _).trans (Eq.trans ?_ (pcast (aW m c) ⟨t.val / 4 * 512 + p, by have := lt t; omega⟩))
  blk_ext [idx t]

theorem f_at (c : Dev nD) (t : Fin cfg0.N) (k : Fin 128) : iblk m c 3 t (ix2 0 k) = invf (ix1 (n0 := 32) ⟨k % 32, Nat.mod_lt _ (by norm_num)⟩) := by
  refine (congrFun (V_f m c) _).trans (Eq.trans ?_ (tile4_at _ _))
  blk_ext [idx t]

theorem s_at (c : Dev nD) (t : Fin cfg0.N) (k : Fin 128) : iblk m c 4 t (ix2 0 k) = sgn k := by
  refine (congrFun (V_s m c) _).trans (Eq.trans ?_ (signs_at _))
  blk_ext [idx t]

theorem lcast (A : FVec Ideal S1x512 .f32) (k : Fin 512) : shapeCast S1x512 (shapeCast S512 A shapeCasts_S1x512_S512) shapeCasts_S512_S1x512 (ix2 0 k) = A (ix2 0 k) := by
  pointwise

theorem l_at (c : Dev nD) (t : Fin cfg0.N) (k : Fin 512) : iblk m c 5 t (ix2 0 k) = aA m c (ix2 0 k) := by
  refine (congrFun (V_l m c) _).trans (Eq.trans ?_ (lcast _ _))
  blk_ext [idx t]

theorem gk_at (c : Dev nD) (t : Fin cfg0.N) (j : Fin 128) : iblk m c 6 t (ix2 0 j) = aD m c (ix2 0 (src j)) := by
  refine (congrFun (V_k m c) _).trans (Eq.trans ?_ (gains_at _ _))
  blk_ext [idx t]

theorem ncast (C : FVec Ideal S1x128 .f32) (k : Fin 128) : shapeCast S1x128 (shapeCast S128 C shapeCasts_S1x128_S128) shapeCasts_S128_S1x128 (ix2 0 k) = C (ix2 0 k) := by
  pointwise

theorem gn_at (c : Dev nD) (t : Fin cfg0.N) (j : Fin 128) : iblk m c 7 t (ix2 0 j) = aC m c (ix2 0 j) := by
  refine (congrFun (V_n m c) _).trans (Eq.trans ?_ (ncast _ _))
  blk_ext [idx t]

theorem w_at (c : Dev nD) (t : Fin cfg0.N) (k : Fin 512) (n : Fin 2048) : iblk m c 8 t (ix2 k n)
    = aB m c (ix3 (n2 := 8192) 0 k ⟨t.val % 4 * 2048 + n, by omega⟩) := by
  refine (congrFun (V_w m c) _).trans (Eq.trans ?_ (weight_at (aB m c) k ⟨t.val % 4 * 2048 + n, by omega⟩))
  blk_ext [idx t]

/-- The two scratch arrays after a grid point: the norm and the first half of the rotated key of its block of rows. -/
structure Scr (c : Dev nD) (n : ℕ) (hn : n < cfg0.N) (h : n < 128) : Prop where
  lat : ∀ p k, (outsAt0 m c n hn).2.2.1 (ix2 p k) = latv (aX m c) (aA m c) (bb n h p) (ss n p) k
  key : ∀ p (j : Fin 64), (outsAt0 m c n hn).2.2.2 (ix2 (n1 := 128) p ⟨j, by omega⟩) = keyv (aX m c) (aW m c) (aD m c) (bb n h p) (ss n p) j

theorem scr_first (c : Dev nD) (t : Fin cfg0.N) (h : t.val % 4 = 0) : Scr m c t.val t.isLt (lt t) where
  lat p k := by
    rw [scr0_A m c t h, latent_at, l_at]
    unfold latv
    simp only [x_at]
  key p j := by
    rw [scr1_A m c t h, key_at]
    exact rot_eq (fun j : Fin 64 => aX m c (ix2 (n0 := 16384) (n1 := 1600) ⟨bb t.val (lt t) p * 4096 + ss t.val p, by omega⟩ ⟨1536 + j, by omega⟩))
      (fun j => aD m c (ix2 0 j)) (fun j => Ideal.cos (ang (aW m c) (bb t.val (lt t) p) (ss t.val p) j)) (fun j => Ideal.sin (ang (aW m c) (bb t.val (lt t) p) (ss t.val p) j))
      (fun j : Fin 128 => iblk m c 1 t (ix2 p j)) (fun j : Fin 128 => iblk m c 6 t (ix2 0 j))
      (fun j : Fin 128 => k0_pay3 (F := Ideal) (iblk m c 2 t) (iblk m c 3 t) (ix2 p j))
      (fun j : Fin 128 => k0_pay5 (F := Ideal) (k0_pay4 (F := Ideal) (iblk m c 2 t) (iblk m c 3 t) (iblk m c 4 t)) (ix2 p j))
      (k_at m c t p) (gk_at m c t) (fun j => by rw [cos_at, f_at, p_at]; rfl) (fun j => by rw [sin_at, f_at, p_at, s_at]; rfl) j

theorem scr (c : Dev nD) : ∀ (n : ℕ) (hn : n < cfg0.N) (h : n < 128), Scr m c n hn h
  | 0, hn, h => scr_first m c ⟨0, hn⟩ rfl
  | n + 1, hn, h => by
    by_cases h4 : (n + 1) % 4 = 0
    · exact scr_first m c ⟨n + 1, hn⟩ h4
    · have ih := scr c n (Nat.lt_of_succ_lt hn) (Nat.lt_of_succ_lt h)
      have e := scr_B m c ⟨n + 1, hn⟩ h4
      have eb : ∀ p, bb (n + 1) h p = bb n (Nat.lt_of_succ_lt h) p := fun p => Fin.ext (by show ((n + 1) / 4 * 512 + (p : ℕ)) / 4096 = (n / 4 * 512 + p) / 4096; rw [show (n + 1) / 4 = n / 4 by omega])
      have es : ∀ p, ss (n + 1) p = ss n p := fun p => Fin.ext (by show ((n + 1) / 4 * 512 + (p : ℕ)) % 4096 = (n / 4 * 512 + p) % 4096; rw [show (n + 1) / 4 = n / 4 by omega])
      exact
        { lat := fun p k => by rw [eb, es]; exact (congrFun (congrArg (fun q => q.1) e) _).trans (ih.lat p k)
          key := fun p j => by rw [eb, es]; exact (congrFun (congrArg (fun q => q.2) e) _).trans (ih.key p j) }

/-- What a grid point leaves in its block of keys is the reference's entry. -/
theorem point (c : Dev nD) (t : Fin cfg0.N) (g : Fin 8) (p : Fin 512) (j : Fin 192) :
    KEY (outsAt0 m c t.val t.isLt).2.2.1 (iblk m c 8 t) (iblk m c 7 t) (outsAt0 m c t.val t.isLt).2.2.2 g p j
    = KV (aX m c) (aW m c) (aA m c) (aB m c) (aC m c) (aD m c) (bb t.val (lt t) p) ⟨t.val % 4 * 8 + g, by omega⟩ (ss t.val p) j := by
  have S := scr m c t.val t.isLt (lt t)
  have ef : flat (outsAt0 m c t.val t.isLt).2.2.1 (iblk m c 8 t) g p
      = fun j : Fin 128 => qv (aX m c) (aA m c) (aB m c) (bb t.val (lt t) p) (ss t.val p) ⟨(t.val % 4 * 8 + g) * 256 + j, by omega⟩ :=
    funext fun j => by
      unfold flat dotc qv
      exact Finset.sum_congr rfl fun k _ => congrArg₂ (· * ·) (S.lat p k) ((w_at m c t k _).trans
        (congrArg (fun n => aB m c (ix3 0 k n)) (Fin.ext (by show t.val % 4 * 2048 + ((g : ℕ) * 256 + j) = (t.val % 4 * 8 + g) * 256 + j; omega))))
  unfold KEY KV
  split_ifs with hj
  · rw [ef]
    exact congrArg (_ * ·) (gn_at m c t ⟨j, hj⟩)
  · exact S.key p ⟨j - 128, by omega⟩

/-- What a grid point leaves in its block of values is the reference's entry. -/
theorem pointV (c : Dev nD) (t : Fin cfg0.N) (g : Fin 8) (p : Fin 512) (j : Fin 128) :
    VAL (outsAt0 m c t.val t.isLt).2.2.1 (iblk m c 8 t) g p j
    = VV (aX m c) (aA m c) (aB m c) (bb t.val (lt t) p) ⟨t.val % 4 * 8 + g, by omega⟩ (ss t.val p) j := by
  have S := scr m c t.val t.isLt (lt t)
  unfold VAL dotc VV qv
  exact Finset.sum_congr rfl fun k _ => congrArg₂ (· * ·) (S.lat p k) ((w_at m c t k _).trans
    (congrArg (fun n => aB m c (ix3 0 k n)) (Fin.ext (by show t.val % 4 * 2048 + ((g : ℕ) * 256 + 128 + j) = (t.val % 4 * 8 + g) * 256 + 128 + j; omega))))

/-- The keys after the run are the reference's term of the arguments. -/
theorem final (c : Dev nD) : (dats m 0 c).arrAt 9 (cfgs 0).N = REF (aX m c) (aW m c) (aA m c) (aB m c) (aC m c) (aD m c) := by
  refine (dats m 0 c).arrAt_eq_of_covers 9 _ (by decide +kernel) fun t hf y => ?_
  blk_simp
  rw [after0_9]
  refine (out_at m c t y).trans ((point m c t (y 1) (y 2) (y 3)).trans ((ref_at _ _ _ _ _ _ _ _ _ _).symm.trans ?_))
  unfold bb ss
  blk_ext [idx t]

/-- The values after the run are the reference's term of the arguments. -/
theorem finalV (c : Dev nD) : (dats m 0 c).arrAt 10 (cfgs 0).N = REFV (aX m c) (aA m c) (aB m c) := by
  refine (dats m 0 c).arrAt_eq_of_covers 10 _ (by decide +kernel) fun t hf y => ?_
  blk_simp
  rw [after0_10]
  refine (outV_at m c t y).trans ((pointV m c t (y 1) (y 2) (y 3)).trans ((refV_at _ _ _ _ _ _ _).symm.trans ?_))
  unfold bb ss
  blk_ext [idx t]

end Cert.KvProjIdeal.KValue

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.WideValue
public import proofs.«01_k».proof.Proof.MergeValue
public import proofs.«01_k».proof.Proof.OutValue
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.Flash.Frame
public import proofs.«01_k».proof.Proof.Gen.FlashIdeal.Frame
public import proofs.«01_k».proof.Proof.Gen.FlashIdeal.Value
public import proofs.«01_k».proof.Proof.Gen.FlashRefIdeal.Run
public import proofs.«01_k».proof.Proof.FlashValue
public import proofs.«01_k».proof.Proof.LatentValue
public import proofs.«01_k».proof.Proof.NormValue
public import proofs.«01_k».proof.Proof.MemNormValue
public import proofs.«01_k».proof.Proof.MemKvValue
public import proofs.«01_k».proof.Proof.ConvValue
public import proofs.«01_k».proof.Proof.MemAttnValue
public import proofs.«01_k».proof.Proof.QProjValue
public import proofs.«01_k».proof.Proof.KvProjValue
public import proofs.«01_k».proof.Proof.Gen.Latent.Frame
public import proofs.«01_k».proof.Proof.Gen.LatentIdeal.Frame
public import proofs.«01_k».proof.Proof.Gen.LatentIdeal.Value
public import proofs.«01_k».proof.Proof.Gen.LatentRefIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.MemNorm.Frame
public import proofs.«01_k».proof.Proof.Gen.MemNormIdeal.Frame
public import proofs.«01_k».proof.Proof.Gen.MemNormIdeal.Value
public import proofs.«01_k».proof.Proof.Gen.MemNormRefIdeal.Run
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Run
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.MemAttn.Frame
public import proofs.«01_k».proof.Proof.Gen.MemAttnIdeal.Frame
public import proofs.«01_k».proof.Proof.Gen.MemAttnIdeal.Value
public import proofs.«01_k».proof.Proof.Gen.MemAttnRefIdeal.Run
public import proofs.«01_k».proof.Proof.Gen.QProj.Frame
public import proofs.«01_k».proof.Proof.Gen.QProjIdeal.Frame
public import proofs.«01_k».proof.Proof.Gen.QProjIdeal.Value
public import proofs.«01_k».proof.Proof.Gen.QProjRefIdeal.Run
public import proofs.«01_k».proof.Proof.Gen.KvProj.Frame
public import proofs.«01_k».proof.Proof.Gen.KvProjIdeal.Frame
public import proofs.«01_k».proof.Proof.Gen.KvProjIdeal.Value
public import proofs.«01_k».proof.Proof.Gen.KvProjRefIdeal.Run
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The wide input projection computes the reference's product over the extended reals. -/
theorem algebraic_wide : Cert.algebraic_KernelIdeal_ReferenceIdeal := by
  pair_intro
  · run_from Cert.KernelIdeal.Gen.run_main m g
  · run_from Cert.ReferenceIdeal.Value.run m' g'
    exact (Cert.KernelIdeal.WideValue.final m c).symm

/-- The gated merge computes the reference's sum of three gated products. -/
theorem algebraic_merge : Cert.algebraic_MergeIdeal_MergeRefIdeal := by
  pair_intro
  · run_from Cert.MergeIdeal.Gen.run_main m g
  · run_from Cert.MergeRefIdeal.Value.run m' g'
    exact (Cert.MergeIdeal.MergeValue.final m c).symm

/-- The output projection computes the residual plus the reference's product. -/
theorem algebraic_out : Cert.algebraic_OutProjIdeal_OutProjRefIdeal := by
  pair_intro
  · run_from Cert.OutProjIdeal.Gen.run_main m g
  · run_from Cert.OutProjRefIdeal.Value.run m' g'
    exact (Cert.OutProjIdeal.OutValue.final m c).symm

/-- The attention kernel computes the reference's attention, where the queries and the keys are real. -/
theorem algebraic_flash : @Cert.algebraic_FlashIdeal_FlashRefIdeal_pre_finite_qk Cert.FlashIdeal.Gen.facts Cert.FlashRefIdeal.Gen.facts
    Cert.FlashIdeal.FlashValue.preFacts := by
  pair_intro
  · run_from Cert.FlashIdeal.Gen.run_main m g
  · run_from Cert.FlashRefIdeal.Value.run m' g'
    refine Eq.trans ?_ (Cert.FlashIdeal.FlashValue.final m c
      (Cert.FlashIdeal.FlashValue.pre_q _ _ _ (hpre c).1) (Cert.FlashIdeal.FlashValue.pre_k _ _ _ (hpre c).2)).symm
    refine (Cert.FlashRefIdeal.At.res_eq m' c).trans ?_
    rw [(hagree c).1, (hagree c).2.1, (hagree c).2.2]

/-- The latent projection computes the reference's product, the rotated columns once more with their halves exchanged. -/
theorem algebraic_latent : Cert.algebraic_LatentIdeal_LatentRefIdeal := by
  pair_intro
  · run_from Cert.LatentIdeal.Gen.run_main m g
  · run_from Cert.LatentRefIdeal.Value.run m' g'
    exact (Cert.LatentIdeal.LatentValue.final m c).symm

/-- The first norm computes the reference's norm. -/
theorem algebraic_norm : Cert.algebraic_NormIdeal_NormRefIdeal := by
  pair_intro
  · run_from Cert.NormIdeal.Gen.run_main m g
  · run_from Cert.NormRefIdeal.Value.run m' g'
    exact (Cert.NormIdeal.NormValue.final m c).symm

/-- The norm of the memory computes the reference's norm. -/
theorem algebraic_mem_norm : Cert.algebraic_MemNormIdeal_MemNormRefIdeal := by
  pair_intro
  · run_from Cert.MemNormIdeal.Gen.run_main m g
  · run_from Cert.MemNormRefIdeal.Value.run m' g'
    exact (Cert.MemNormIdeal.MemNormValue.final m c).symm

/-- The keys and values of the memory are the reference's product. -/
theorem algebraic_mem_kv : Cert.algebraic_MemKvIdeal_MemKvRefIdeal := by
  pair_intro
  · run_from Cert.MemKvIdeal.Gen.run_main m g
  · run_from Cert.MemKvRefIdeal.Value.run m' g'
    exact (Cert.MemKvIdeal.MemKvValue.final m c).symm

/-- The gated short convolution computes the reference's three shifted products. -/
theorem algebraic_conv : Cert.algebraic_ConvIdeal_ConvRefIdeal := by
  pair_intro
  · run_from Cert.ConvIdeal.Gen.run_main m g
  · run_from Cert.ConvRefIdeal.Value.run m' g'
    exact (Cert.ConvIdeal.ConvValue.final m c).symm

/-- The attention over the memory computes the reference's, where the gains are real. -/
theorem algebraic_mem_attn : @Cert.algebraic_MemAttnIdeal_MemAttnRefIdeal_pre_finite_gains Cert.MemAttnIdeal.Gen.facts Cert.MemAttnRefIdeal.Gen.facts
    Cert.MemAttnIdeal.MemAttnValue.preFacts := by
  pair_intro
  · run_from Cert.MemAttnIdeal.Gen.run_main m g
  · run_from Cert.MemAttnRefIdeal.Value.run m' g'
    refine Eq.trans ?_ (Cert.MemAttnIdeal.MemAttnValue.final m c
      (Cert.MemAttnIdeal.MemAttnValue.pre_A _ _ _ _ (hpre c).1) (Cert.MemAttnIdeal.MemAttnValue.pre_B _ _ _ _ (hpre c).2)).symm
    refine (Cert.MemAttnRefIdeal.At.res_eq m' c).trans ?_
    rw [(hagree c).1, (hagree c).2.1, (hagree c).2.2.1, (hagree c).2.2.2]

/-- The queries are the reference's: normalized, projected, normalized by heads, rotated and scaled. -/
theorem algebraic_q_proj : Cert.algebraic_QProjIdeal_QProjRefIdeal := by
  pair_intro
  · run_from Cert.QProjIdeal.Gen.run_main m g
  · run_from Cert.QProjRefIdeal.Value.run m' g'
    refine Eq.trans ?_ (Cert.QProjIdeal.QValue.final m c).symm
    refine (Cert.QProjRefIdeal.QValue.res_eq m' c).trans ?_
    rw [(hagree c).1, (hagree c).2.1, (hagree c).2.2.1, (hagree c).2.2.2.1, (hagree c).2.2.2.2.1, (hagree c).2.2.2.2.2]

set_option maxHeartbeats 2000000 in
/-- The keys and the values are the reference's: normalized, projected, the keys normalized by heads, the shared key rotated. -/
theorem algebraic_kv_proj : Cert.algebraic_KvProjIdeal_KvProjRefIdeal := by
  pair_intro
  · run_from Cert.KvProjIdeal.Gen.run_main m g
  · run_from Cert.KvProjRefIdeal.Value.run m' g'
    · refine Eq.trans ?_ (Cert.KvProjIdeal.KValue.final m c).symm
      refine (Cert.KvProjRefIdeal.KValue.res_eq m' c).trans ?_
      rw [(hagree c).1, (hagree c).2.1, (hagree c).2.2.1, (hagree c).2.2.2.1, (hagree c).2.2.2.2.1, (hagree c).2.2.2.2.2]
    · refine Eq.trans ?_ (Cert.KvProjIdeal.KValue.finalV m c).symm
      rfl

theorem claim : Cert.Claim :=
  ⟨Cert.Kernel.Gen.facts, Cert.KernelIdeal.Gen.facts, Cert.ReferenceIdeal.Gen.facts,
    Cert.Merge.Gen.facts, Cert.MergeIdeal.Gen.facts, Cert.MergeRefIdeal.Gen.facts,
    Cert.OutProj.Gen.facts, Cert.OutProjIdeal.Gen.facts, Cert.OutProjRefIdeal.Gen.facts,
    Cert.Flash.Gen.facts, Cert.FlashIdeal.Gen.facts, Cert.FlashRefIdeal.Gen.facts,
    Cert.Latent.Gen.facts, Cert.LatentIdeal.Gen.facts, Cert.LatentRefIdeal.Gen.facts,
    Cert.Norm.Gen.facts, Cert.NormIdeal.Gen.facts, Cert.NormRefIdeal.Gen.facts,
    Cert.MemNorm.Gen.facts, Cert.MemNormIdeal.Gen.facts, Cert.MemNormRefIdeal.Gen.facts,
    Cert.MemKv.Gen.facts, Cert.MemKvIdeal.Gen.facts, Cert.MemKvRefIdeal.Gen.facts,
    Cert.Conv.Gen.facts, Cert.ConvIdeal.Gen.facts, Cert.ConvRefIdeal.Gen.facts,
    Cert.MemAttn.Gen.facts, Cert.MemAttnIdeal.Gen.facts, Cert.MemAttnRefIdeal.Gen.facts,
    Cert.QProj.Gen.facts, Cert.QProjIdeal.Gen.facts, Cert.QProjRefIdeal.Gen.facts,
    Cert.KvProj.Gen.facts, Cert.KvProjIdeal.Gen.facts, Cert.KvProjRefIdeal.Gen.facts,
    Cert.FlashIdeal.FlashValue.preFacts,
    Cert.MemAttnIdeal.MemAttnValue.preFacts,
    fun m ρ _ => Cert.Kernel.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩)
      (Cert.ReferenceIdeal.Value.run m ρ),
    fun m ρ _ => Cert.Merge.Gen.frame m ρ,
    fun m ρ _ => Cert.MergeIdeal.Gen.frame m ρ,
    fun m ρ _ => (θ_run Cert.MergeRefIdeal.defs _ _).mono
      (fun r h => ⟨fun c => (h c).2, sem_eq_zero_of_no_sems (by decide) r.2⟩)
      (Cert.MergeRefIdeal.Value.run m ρ),
    fun m ρ _ => Cert.OutProj.Gen.frame m ρ,
    fun m ρ _ => Cert.OutProjIdeal.Gen.frame m ρ,
    fun m ρ _ => (θ_run Cert.OutProjRefIdeal.defs _ _).mono
      (fun r h => ⟨fun c => (h c).2, sem_eq_zero_of_no_sems (by decide) r.2⟩)
      (Cert.OutProjRefIdeal.Value.run m ρ),
    fun m ρ _ => Cert.Flash.Gen.frame m ρ,
    fun m ρ _ => Cert.FlashIdeal.Gen.frame m ρ,
    fun m ρ _ => Cert.FlashIdeal.Gen.frame m ρ,
    fun m ρ _ => (θ_run Cert.FlashRefIdeal.defs _ _).mono
      (fun r h => ⟨fun c => (h c).2, sem_eq_zero_of_no_sems (by decide) r.2⟩)
      (Cert.FlashRefIdeal.Value.run m ρ),
    fun m ρ _ => (θ_run Cert.FlashRefIdeal.defs _ _).mono
      (fun r h => ⟨fun c => (h c).2, sem_eq_zero_of_no_sems (by decide) r.2⟩)
      (Cert.FlashRefIdeal.Value.run m ρ),
    fun m ρ _ => Cert.Latent.Gen.frame m ρ,
    fun m ρ _ => Cert.LatentIdeal.Gen.frame m ρ,
    fun m ρ _ => (θ_run Cert.LatentRefIdeal.defs _ _).mono
      (fun r h => ⟨fun c => (h c).2, sem_eq_zero_of_no_sems (by decide) r.2⟩)
      (Cert.LatentRefIdeal.Value.run m ρ),
    fun m ρ _ => Cert.Norm.Gen.frame m ρ,
    fun m ρ _ => Cert.NormIdeal.Gen.frame m ρ,
    fun m ρ _ => (θ_run Cert.NormRefIdeal.defs _ _).mono
      (fun r h => ⟨fun c => (h c).2, sem_eq_zero_of_no_sems (by decide) r.2⟩)
      (Cert.NormRefIdeal.Value.run m ρ),
    fun m ρ _ => Cert.MemNorm.Gen.frame m ρ,
    fun m ρ _ => Cert.MemNormIdeal.Gen.frame m ρ,
    fun m ρ _ => (θ_run Cert.MemNormRefIdeal.defs _ _).mono
      (fun r h => ⟨fun c => (h c).2, sem_eq_zero_of_no_sems (by decide) r.2⟩)
      (Cert.MemNormRefIdeal.Value.run m ρ),
    fun m ρ _ => Cert.MemKv.Gen.frame m ρ,
    fun m ρ _ => Cert.MemKvIdeal.Gen.frame m ρ,
    fun m ρ _ => (θ_run Cert.MemKvRefIdeal.defs _ _).mono
      (fun r h => ⟨fun c => (h c).2, sem_eq_zero_of_no_sems (by decide) r.2⟩)
      (Cert.MemKvRefIdeal.Value.run m ρ),
    fun m ρ _ => Cert.Conv.Gen.frame m ρ,
    fun m ρ _ => Cert.ConvIdeal.Gen.frame m ρ,
    fun m ρ _ => (θ_run Cert.ConvRefIdeal.defs _ _).mono
      (fun r h => ⟨fun c => (h c).2, sem_eq_zero_of_no_sems (by decide) r.2⟩)
      (Cert.ConvRefIdeal.Value.run m ρ),
    fun m ρ _ => Cert.MemAttn.Gen.frame m ρ,
    fun m ρ _ => Cert.MemAttnIdeal.Gen.frame m ρ,
    fun m ρ _ => Cert.MemAttnIdeal.Gen.frame m ρ,
    fun m ρ _ => (θ_run Cert.MemAttnRefIdeal.defs _ _).mono
      (fun r h => ⟨fun c => (h c).2, sem_eq_zero_of_no_sems (by decide) r.2⟩)
      (Cert.MemAttnRefIdeal.Value.run m ρ),
    fun m ρ _ => (θ_run Cert.MemAttnRefIdeal.defs _ _).mono
      (fun r h => ⟨fun c => (h c).2, sem_eq_zero_of_no_sems (by decide) r.2⟩)
      (Cert.MemAttnRefIdeal.Value.run m ρ),
    fun m ρ _ => Cert.QProj.Gen.frame m ρ,
    fun m ρ _ => Cert.QProjIdeal.Gen.frame m ρ,
    fun m ρ _ => (θ_run Cert.QProjRefIdeal.defs _ _).mono
      (fun r h => ⟨fun c => (h c).2, sem_eq_zero_of_no_sems (by decide) r.2⟩)
      (Cert.QProjRefIdeal.Value.run m ρ),
    fun m ρ _ => Cert.KvProj.Gen.frame m ρ,
    fun m ρ _ => Cert.KvProjIdeal.Gen.frame m ρ,
    fun m ρ _ => (θ_run Cert.KvProjRefIdeal.defs _ _).mono
      (fun r h => ⟨fun c => (h c).2.2, sem_eq_zero_of_no_sems (by decide) r.2⟩)
      (Cert.KvProjRefIdeal.Value.run m ρ),
    trivial, algebraic_wide, trivial, algebraic_merge, trivial, algebraic_out, trivial, algebraic_flash,
    trivial, algebraic_latent, trivial, algebraic_norm, trivial, algebraic_mem_norm, trivial, algebraic_mem_kv, trivial, algebraic_conv, trivial, algebraic_mem_attn,
    trivial, algebraic_q_proj, trivial, algebraic_kv_proj⟩

end Cert.Proof

end
